-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v35)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v35) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v47_0)) (v1 : (c : Dev Cert.Kernel2Ideal.nD) → Buf (Elt Ideal) ((c.tc : Thread Cert.Kernel2Ideal.nD Cert.Kernel2Ideal.τ).loc Cert.Kernel2Ideal.main_v47_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v47_0) = v0 c
          ∧ r.2.mem ((c.tc : Thread Cert.Kernel2Ideal.nD Cert.Kernel2Ideal.τ).loc Cert.Kernel2Ideal.main_v47_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v48) = v0 c
          ∧ r.2.mem ((c.tc : Thread Cert.Reference2Ideal.nD Cert.Reference2Ideal.τ).loc Cert.Reference2Ideal.main_v50) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)) →
    ∃ (v0 : (c : Dev Cert.Kernel3Ideal.nD) → Buf (Elt Ideal) ((c.tc : Thread Cert.Kernel3Ideal.nD Cert.Kernel3Ideal.τ).loc Cert.Kernel3Ideal.main_v15)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v15) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v21) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v9)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v9) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v257) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
-- ==== Pre_finite.lean ====
abbrev S2x8192x1024 : Shape := ⟨3, ![2, 8192, 1024]⟩
abbrev S2x8192x8 : Shape := ⟨3, ![2, 8192, 8]⟩
abbrev S2x8192x2056 : Shape := ⟨3, ![2, 8192, 2056]⟩
abbrev S_ : Shape := ⟨0, ![]⟩

class Facts : Prop where
  concatenates_S2x8192x1024_S2x8192x1024_S2x8192x8_S2x8192x2056_d2 : Shape.Concatenates [S2x8192x1024, S2x8192x1024, S2x8192x8] S2x8192x2056 2
  bcast_S_S2x8192x2056 : S_.BroadcastsInDim S2x8192x2056 (![] : Fin 0 → Fin S2x8192x2056.rank)

variable [Facts]

def fn {F : FTy → Type} [FloatOps F] (main_arg0 : FVec F S2x8192x1024 .f32) (main_arg1 : FVec F S2x8192x1024 .f32) (main_arg2 : FVec F S2x8192x1024 .f32) (main_arg3 : FVec F S2x8192x8 .f32) : IVec S2x8192x2056 1 :=
  let main_v0 : FVec F S2x8192x2056 .f32 := concatenate S2x8192x2056 2 [⟨S2x8192x1024, main_arg0⟩, ⟨S2x8192x1024, main_arg1⟩, ⟨S2x8192x8, main_arg3⟩] concatenates_S2x8192x1024_S2x8192x1024_S2x8192x8_S2x8192x2056_d2
  let main_v1 : FVec F S2x8192x2056 .f32 := Host.absf main_v0
  let main_cst : FVec F S_ .f32 := constant S_ .f32 0x7F800000#32
  let main_v2 : FVec F S2x8192x2056 .f32 := broadcastInDim S2x8192x2056 ![] bcast_S_S2x8192x2056 main_cst
  let main_v3 : IVec S2x8192x2056 1 := cmpf .olt main_v1 main_v2
  main_v3
-- ==== Kernel.lean ====
abbrev S2x8192x1024 : Shape := ⟨3, ![2, 8192, 1024]⟩
abbrev S2x8192x8 : Shape := ⟨3, ![2, 8192, 8]⟩
abbrev S_ : Shape := ⟨0, ![]⟩
abbrev S16384x7168 : Shape := ⟨2, ![16384, 7168]⟩
abbrev S16384x1024 : Shape := ⟨2, ![16384, 1024]⟩
abbrev S16384x1536 : Shape := ⟨2, ![16384, 1536]⟩
abbrev S16384x11776 : Shape := ⟨2, ![16384, 11776]⟩
abbrev S16384x8 : Shape := ⟨2, ![16384, 8]⟩
abbrev S16384x8x1 : Shape := ⟨3, ![16384, 8, 1]⟩
abbrev S16384x8x3 : Shape := ⟨3, ![16384, 8, 3]⟩
abbrev S16384x8x122 : Shape := ⟨3, ![16384, 8, 122]⟩
abbrev S16384x8x128 : Shape := ⟨3, ![16384, 8, 128]⟩
abbrev S8192x256 : Shape := ⟨2, ![8192, 256]⟩
abbrev S1024x256 : Shape := ⟨2, ![1024, 256]⟩
abbrev S2x8192x256 : Shape := ⟨3, ![2, 8192, 256]⟩
abbrev S2x8x256x1024 : Shape := ⟨4, ![2, 8, 256, 1024]⟩
abbrev S2x1x1024 : Shape := ⟨3, ![2, 1, 1024]⟩
abbrev S2x256x1024 : Shape := ⟨3, ![2, 256, 1024]⟩
abbrev S1024x128 : Shape := ⟨2, ![1024, 128]⟩
abbrev S1x1024x128 : Shape := ⟨3, ![1, 1024, 128]⟩
abbrev S128x1024 : Shape := ⟨2, ![128, 1024]⟩
abbrev S1x1x128x1024 : Shape := ⟨4, ![1, 1, 128, 1024]⟩
abbrev S1x1024x256 : Shape := ⟨3, ![1, 1024, 256]⟩
abbrev S1024x1024 : Shape := ⟨2, ![1024, 1024]⟩
abbrev S1x1x1024 : Shape := ⟨3, ![1, 1, 1024]⟩
abbrev S1x1024 : Shape := ⟨2, ![1, 1024]⟩
abbrev S1024 : Shape := ⟨1, ![1024]⟩
abbrev S1x256x1024 : Shape := ⟨3, ![1, 256, 1024]⟩
abbrev S256x1024 : Shape := ⟨2, ![256, 1024]⟩
abbrev S1x1x256x1024 : Shape := ⟨4, ![1, 1, 256, 1024]⟩
abbrev S1x512x256 : Shape := ⟨3, ![1, 512, 256]⟩
abbrev S512x256 : Shape := ⟨2, ![512, 256]⟩
abbrev S512x512 : Shape := ⟨2, ![512, 512]⟩
abbrev S1024x512 : Shape := ⟨2, ![1024, 512]⟩
abbrev S1x1x512 : Shape := ⟨3, ![1, 1, 512]⟩
abbrev S1x512 : Shape := ⟨2, ![1, 512]⟩
abbrev S512 : Shape := ⟨1, ![512]⟩
abbrev S1x256x512 : Shape := ⟨3, ![1, 256, 512]⟩
abbrev S256x512 : Shape := ⟨2, ![256, 512]⟩
abbrev S1x1x256x512 : Shape := ⟨4, ![1, 1, 256, 512]⟩

abbrev nBuf : Space → Nat
  | .hbm => 48
  | .vmem => 13
  | .smem => 0
  | _ => 0

abbrev bufTy : (tb : Table) → Fin (tcTables nBuf tb) → BufTy
  | .hbm, ⟨0, _⟩ => ⟨S2x8192x1024, .f32⟩
  | .hbm, ⟨1, _⟩ => ⟨S2x8192x1024, .f32⟩
  | .hbm, ⟨2, _⟩ => ⟨S2x8192x1024, .f32⟩
  | .hbm, ⟨3, _⟩ => ⟨S2x8192x8, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S16384x7168, .f32⟩
  | .hbm, ⟨14, _⟩ => ⟨S16384x1024, .f32⟩
  | .hbm, ⟨15, _⟩ => ⟨S_, .f32⟩
  | .hbm, ⟨16, _⟩ => ⟨S16384x1024, .f32⟩
  | .hbm, ⟨17, _⟩ => ⟨S16384x1024, .f32⟩
  | .hbm, ⟨18, _⟩ => ⟨S16384x1024, .f32⟩
  | .hbm, ⟨19, _⟩ => ⟨S16384x1024, .f32⟩
  | .hbm, ⟨20, _⟩ => ⟨S_, .f32⟩
  | .hbm, ⟨21, _⟩ => ⟨S16384x1536, .f32⟩
  | .hbm, ⟨22, _⟩ => ⟨S16384x11776, .f32⟩
  | .hbm, ⟨23, _⟩ => ⟨S16384x11776, .bf16⟩
  | .hbm, ⟨24, _⟩ => ⟨S16384x8, .f32⟩
  | .hbm, ⟨25, _⟩ => ⟨S16384x8, .f32⟩
  | .hbm, ⟨26, _⟩ => ⟨S16384x8, .f32⟩
  | .hbm, ⟨27, _⟩ => ⟨S16384x8, .bf16⟩
  | .hbm, ⟨28, _⟩ => ⟨S16384x8, .f32⟩
  | .hbm, ⟨29, _⟩ => ⟨S16384x8, .f32⟩
  | .hbm, ⟨30, _⟩ => ⟨S16384x8, .bf16⟩
  | .hbm, ⟨31, _⟩ => ⟨S16384x8, .f32⟩
  | .hbm, ⟨32, _⟩ => ⟨S16384x8, .f32⟩
  | .hbm, ⟨33, _⟩ => ⟨S16384x8, .bf16⟩
  | .hbm, ⟨34, _⟩ => ⟨S16384x8x1, .bf16⟩
  | .hbm, ⟨35, _⟩ => ⟨S16384x8x1, .bf16⟩
  | .hbm, ⟨36, _⟩ => ⟨S16384x8x1, .bf16⟩
  | .hbm, ⟨37, _⟩ => ⟨S16384x8x3, .bf16⟩
  | .hbm, ⟨38, _⟩ => ⟨S_, .bf16⟩
  | .hbm, ⟨39, _⟩ => ⟨S16384x8x3, .bf16⟩
  | .hbm, ⟨40, _⟩ => ⟨S_, .bf16⟩
  | .hbm, ⟨41, _⟩ => ⟨S16384x8x122, .bf16⟩
  | .hbm, ⟨42, _⟩ => ⟨S16384x8x128, .bf16⟩
  | .hbm, ⟨43, _⟩ => ⟨S16384x1024, .bf16⟩
  | .hbm, ⟨44, _⟩ => ⟨S16384x8x3, .bf16⟩
  | .hbm, ⟨45, _⟩ => ⟨S16384x8x128, .bf16⟩
  | .hbm, ⟨46, _⟩ => ⟨S16384x1024, .bf16⟩
  | .hbm, ⟨47, _⟩ => ⟨S16384x1024, .bf16⟩
  | .local _ .vmem, ⟨0, _⟩ => ⟨S8192x256, .bf16⟩
  | .local _ .vmem, ⟨1, _⟩ => ⟨S1024x256, .bf16⟩
  | .local _ .vmem, ⟨2, _⟩ => ⟨S1024x256, .bf16⟩
  | .local _ .vmem, ⟨3, _⟩ => ⟨S1024x256, .bf16⟩
  | .local _ .vmem, ⟨4, _⟩ => ⟨S1024x256, .bf16⟩
  | .local _ .vmem, ⟨5, _⟩ => ⟨S8192x256, .bf16⟩
  | .local _ .vmem, ⟨6, _⟩ => ⟨S8192x256, .bf16⟩
  | .local _ .vmem, ⟨7, _⟩ => ⟨S1024x256, .bf16⟩
  | .local _ .vmem, ⟨8, _⟩ => ⟨S1024x256, .bf16⟩
  | .local _ .vmem, ⟨9, _⟩ => ⟨S2x8192x256, .bf16⟩
  | .local _ .vmem, ⟨10, _⟩ => ⟨S2x8x256x1024, .bf16⟩
  | .local _ .vmem, ⟨11, _⟩ => ⟨S2x1x1024, .f32⟩
  | .local _ .vmem, ⟨12, _⟩ => ⟨S2x256x1024, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_cst_1 : Ref sig .tc := ⟨.hbm, 8, rfl⟩
abbrev main_v2 : Ref sig .tc := ⟨.hbm, 9, rfl⟩
abbrev main_cst_2 : Ref sig .tc := ⟨.hbm, 10, rfl⟩
abbrev main_v3 : Ref sig .tc := ⟨.hbm, 11, rfl⟩
abbrev main_cst_3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_4 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_5 : Ref sig .tc := ⟨.hbm, 38, rfl⟩
abbrev main_v28 : Ref sig .tc := ⟨.hbm, 39, rfl⟩
abbrev main_cst_6 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_scratch0 : Ref sig .tc := ⟨.vmem, 9, rfl⟩
abbrev cc0_scratch1 : Ref sig .tc := ⟨.vmem, 10, rfl⟩
abbrev cc0_scratch2 : Ref sig .tc := ⟨.vmem, 11, rfl⟩
abbrev cc0_scratch3 : Ref sig .tc := ⟨.vmem, 12, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨3, ![2, 4, 8], ![false, false, false]⟩

def k0_cond1 (i : grid0.Coords) : BitVec 1 :=
  let arg2 : BitVec 32 := BitVec.ofNat 32 (i 2).val
  let c0_i32 : BitVec 32 := 0#32
  let v0 : BitVec 1 := Scalar.cmpi .eq arg2 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_113 : BitVec 32 := 0#32
  let c8_i32 : BitVec 32 := 8#32
  let v196 : BitVec 32 := Scalar.addi c0_i32_113 c8_i32
  let c1_i32_114 : BitVec 32 := 1#32
  ⟨c0_i32_113, v196, c1_i32_114⟩
def k0_mult1 (k0_t1 : Fin k0_t1_loop.trips) : BitVec 32 :=
  let c0_i32_113 : BitVec 32 := 0#32
  let c1_i32_114 : BitVec 32 := 1#32
  let arg13 : BitVec 32 := Scf.iv c0_i32_113 c1_i32_114 k0_t1
  let c1024_i32_116 : BitVec 32 := 1024#32
  let v197 : BitVec 32 := Scalar.muli arg13 c1024_i32_116
  v197
def k0_off1 (k0_t1 : Fin k0_t1_loop.trips) : Fin 2 → Nat :=
  let c0_i32_113 : BitVec 32 := 0#32
  let c1_i32_114 : BitVec 32 := 1#32
  let arg13 : BitVec 32 := Scf.iv c0_i32_113 c1_i32_114 k0_t1
  let c1024_i32_116 : BitVec 32 := 1024#32
  let v197 : BitVec 32 := Scalar.muli arg13 c1024_i32_116
  let v198 : BitVec 32 := v197
  let v199 : Index := Scalar.indexCast v198
  let c0_117 : Index := 0#32
  ![v199.toNat, 0]
def k0_off2 (k0_t1 : Fin k0_t1_loop.trips) : Fin 3 → Nat :=
  let c0_118 : Index := 0#32
  let c0_i32_113 : BitVec 32 := 0#32
  let c1_i32_114 : BitVec 32 := 1#32
  let arg13 : BitVec 32 := Scf.iv c0_i32_113 c1_i32_114 k0_t1
  let c1024_i32_116 : BitVec 32 := 1024#32
  let v197 : BitVec 32 := Scalar.muli arg13 c1024_i32_116
  let v198 : BitVec 32 := v197
  let v202 : Index := Scalar.indexCast v198
  let c0_119 : Index := 0#32
  ![0, v202.toNat, 0]
def k0_off3 (k0_t1 : Fin k0_t1_loop.trips) : Fin 3 → Nat :=
  let c0_121 : Index := 0#32
  let c0_i32_113 : BitVec 32 := 0#32
  let c1_i32_114 : BitVec 32 := 1#32
  let arg13 : BitVec 32 := Scf.iv c0_i32_113 c1_i32_114 k0_t1
  let c1024_i32_116 : BitVec 32 := 1024#32
  let v197 : BitVec 32 := Scalar.muli arg13 c1024_i32_116
  let v198 : BitVec 32 := v197
  let v209 : Index := Scalar.indexCast v198
  let c128_122 : Index := 128#32
  ![0, v209.toNat, 128]
def k0_off4 (k0_t1 : Fin k0_t1_loop.trips) : Fin 4 → Nat :=
  let c0_124 : Index := 0#32
  let c0_i32_113 : BitVec 32 := 0#32
  let c1_i32_114 : BitVec 32 := 1#32
  let arg13 : BitVec 32 := Scf.iv c0_i32_113 c1_i32_114 k0_t1
  let v219 : Index := Scalar.indexCast arg13
  let c0_125 : Index := 0#32
  let c0_126 : Index := 0#32
  ![0, v219.toNat, 0, 0]
def k0_off5 (k0_t1 : Fin k0_t1_loop.trips) : Fin 4 → Nat :=
  let c0_128 : Index := 0#32
  let c0_i32_113 : BitVec 32 := 0#32
  let c1_i32_114 : BitVec 32 := 1#32
  let arg13 : BitVec 32 := Scf.iv c0_i32_113 c1_i32_114 k0_t1
  let v224 : Index := Scalar.indexCast arg13
  let c128_129 : Index := 128#32
  let c0_130 : Index := 0#32
  ![0, v224.toNat, 128, 0]
def k0_off6 (k0_t1 : Fin k0_t1_loop.trips) : Fin 2 → Nat :=
  let c0_i32_113 : BitVec 32 := 0#32
  let c1_i32_114 : BitVec 32 := 1#32
  let arg13 : BitVec 32 := Scf.iv c0_i32_113 c1_i32_114 k0_t1
  let c1024_i32_116 : BitVec 32 := 1024#32
  let v197 : BitVec 32 := Scalar.muli arg13 c1024_i32_116
  let v198 : BitVec 32 := v197
  let v228 : Index := Scalar.indexCast v198
  let c128_131 : Index := 128#32
  ![v228.toNat, 128]
def k0_off7 (k0_t1 : Fin k0_t1_loop.trips) : Fin 3 → Nat :=
  let c1_132 : Index := 1#32
  let c0_i32_113 : BitVec 32 := 0#32
  let c1_i32_114 : BitVec 32 := 1#32
  let arg13 : BitVec 32 := Scf.iv c0_i32_113 c1_i32_114 k0_t1
  let c1024_i32_116 : BitVec 32 := 1024#32
  let v197 : BitVec 32 := Scalar.muli arg13 c1024_i32_116
  let v198 : BitVec 32 := v197
  let v231 : Index := Scalar.indexCast v198
  let c0_133 : Index := 0#32
  ![1, v231.toNat, 0]
def k0_off8 (k0_t1 : Fin k0_t1_loop.trips) : Fin 3 → Nat :=
  let c1_135 : Index := 1#32
  let c0_i32_113 : BitVec 32 := 0#32
  let c1_i32_114 : BitVec 32 := 1#32
  let arg13 : BitVec 32 := Scf.iv c0_i32_113 c1_i32_114 k0_t1
  let c1024_i32_116 : BitVec 32 := 1024#32
  let v197 : BitVec 32 := Scalar.muli arg13 c1024_i32_116
  let v198 : BitVec 32 := v197
  let v238 : Index := Scalar.indexCast v198
  let c128_136 : Index := 128#32
  ![1, v238.toNat, 128]
def k0_off9 (k0_t1 : Fin k0_t1_loop.trips) : Fin 4 → Nat :=
  let c1_138 : Index := 1#32
  let c0_i32_113 : BitVec 32 := 0#32
  let c1_i32_114 : BitVec 32 := 1#32
  let arg13 : BitVec 32 := Scf.iv c0_i32_113 c1_i32_114 k0_t1
  let v248 : Index := Scalar.indexCast arg13
  let c0_139 : Index := 0#32
  let c0_140 : Index := 0#32
  ![1, v248.toNat, 0, 0]
def k0_off10 (k0_t1 : Fin k0_t1_loop.trips) : Fin 4 → Nat :=
  let c1_142 : Index := 1#32
  let c0_i32_113 : BitVec 32 := 0#32
  let c1_i32_114 : BitVec 32 := 1#32
  let arg13 : BitVec 32 := Scf.iv c0_i32_113 c1_i32_114 k0_t1
  let v253 : Index := Scalar.indexCast arg13
  let c128_143 : Index := 128#32
  let c0_144 : Index := 0#32
  ![1, v253.toNat, 128, 0]
@[reducible] def k0_t2_loop (i : grid0.Coords) : Scf.Loop 32 :=
  let c0_i32_15 : BitVec 32 := 0#32
  let arg2 : BitVec 32 := BitVec.ofNat 32 (i 2).val
  let v21 : BitVec 32 := Scalar.subi arg2 c0_i32_15
  let c1_i32 : BitVec 32 := 1#32
  let v23 : BitVec 32 := Scalar.divsi v21 c1_i32
  let v24 : BitVec 32 := Scalar.muli v23 c1_i32
  let v25 : BitVec 32 := Scalar.addi c0_i32_15 v24
  let c1_i32_16 : BitVec 32 := 1#32
  ⟨c0_i32_15, v25, c1_i32_16⟩
def k0_mult2 (i : grid0.Coords) (k0_t2 : Fin (k0_t2_loop i).trips) : BitVec 32 :=
  let c0_i32_15 : BitVec 32 := 0#32
  let c1_i32_16 : BitVec 32 := 1#32
  let arg13 : BitVec 32 := Scf.iv c0_i32_15 c1_i32_16 k0_t2
  let c1024_i32_113 : BitVec 32 := 1024#32
  let v196 : BitVec 32 := Scalar.muli arg13 c1024_i32_113
  v196
def k0_off11 (i : grid0.Coords) (k0_t2 : Fin (k0_t2_loop i).trips) : Fin 3 → Nat :=
  let c0_114 : Index := 0#32
  let c0_i32_15 : BitVec 32 := 0#32
  let c1_i32_16 : BitVec 32 := 1#32
  let arg13 : BitVec 32 := Scf.iv c0_i32_15 c1_i32_16 k0_t2
  let c1024_i32_113 : BitVec 32 := 1024#32
  let v196 : BitVec 32 := Scalar.muli arg13 c1024_i32_113
  let v197 : BitVec 32 := v196
  let v198 : Index := Scalar.indexCast v197
  let c0_115 : Index := 0#32
  ![0, v198.toNat, 0]
def k0_off12 (i : grid0.Coords) (k0_t2 : Fin (k0_t2_loop i).trips) : Fin 3 → Nat :=
  let c1_117 : Index := 1#32
  let c0_i32_15 : BitVec 32 := 0#32
  let c1_i32_16 : BitVec 32 := 1#32
  let arg13 : BitVec 32 := Scf.iv c0_i32_15 c1_i32_16 k0_t2
  let c1024_i32_113 : BitVec 32 := 1024#32
  let v196 : BitVec 32 := Scalar.muli arg13 c1024_i32_113
  let v197 : BitVec 32 := v196
  let v202 : Index := Scalar.indexCast v197
  let c0_118 : Index := 0#32
  ![1, v202.toNat, 0]
def k0_off13 (i : grid0.Coords) (k0_t2 : Fin (k0_t2_loop i).trips) : Fin 4 → Nat :=
  let c0_127 : Index := 0#32
  let c0_i32_15 : BitVec 32 := 0#32
  let c1_i32_16 : BitVec 32 := 1#32
  let arg13 : BitVec 32 := Scf.iv c0_i32_15 c1_i32_16 k0_t2
  let v221 : Index := Scalar.indexCast arg13
  let c0_128 : Index := 0#32
  let c0_129 : Index := 0#32
  ![0, v221.toNat, 0, 0]
def k0_off14 (i : grid0.Coords) (k0_t2 : Fin (k0_t2_loop i).trips) : Fin 4 → Nat :=
  let c1_144 : Index := 1#32
  let c0_i32_15 : BitVec 32 := 0#32
  let c1_i32_16 : BitVec 32 := 1#32
  let arg13 : BitVec 32 := Scf.iv c0_i32_15 c1_i32_16 k0_t2
  let v247 : Index := Scalar.indexCast arg13
  let c0_145 : Index := 0#32
  let c0_146 : Index := 0#32
  ![1, v247.toNat, 0, 0]
@[reducible] def k0_t3_loop (i : grid0.Coords) : Scf.Loop 32 :=
  let c0_i32_15 : BitVec 32 := 0#32
  let arg2 : BitVec 32 := BitVec.ofNat 32 (i 2).val
  let v21 : BitVec 32 := Scalar.subi arg2 c0_i32_15
  let c1_i32 : BitVec 32 := 1#32
  let v23 : BitVec 32 := Scalar.divsi v21 c1_i32
  let v24 : BitVec 32 := Scalar.muli v23 c1_i32
  let v25 : BitVec 32 := Scalar.addi c0_i32_15 v24
  let v22 : BitVec 32 := Scalar.addi c0_i32_15 v21
  let c1_i32_17 : BitVec 32 := 1#32
  ⟨v25, v22, c1_i32_17⟩
def k0_mult3 (i : grid0.Coords) (k0_t3 : Fin (k0_t3_loop i).trips) : BitVec 32 :=
  let c0_i32_15 : BitVec 32 := 0#32
  let arg2 : BitVec 32 := BitVec.ofNat 32 (i 2).val
  let v21 : BitVec 32 := Scalar.subi arg2 c0_i32_15
  let c1_i32 : BitVec 32 := 1#32
  let v23 : BitVec 32 := Scalar.divsi v21 c1_i32
  let v24 : BitVec 32 := Scalar.muli v23 c1_i32
  let v25 : BitVec 32 := Scalar.addi c0_i32_15 v24
  let c1_i32_17 : BitVec 32 := 1#32
  let arg13 : BitVec 32 := Scf.iv v25 c1_i32_17 k0_t3
  let c1024_i32_113 : BitVec 32 := 1024#32
  let v196 : BitVec 32 := Scalar.muli arg13 c1024_i32_113
  v196
def k0_off15 (i : grid0.Coords) (k0_t3 : Fin (k0_t3_loop i).trips) : Fin 3 → Nat :=
  let c0_114 : Index := 0#32
  let c0_i32_15 : BitVec 32 := 0#32
  let arg2 : BitVec 32 := BitVec.ofNat 32 (i 2).val
  let v21 : BitVec 32 := Scalar.subi arg2 c0_i32_15
  let c1_i32 : BitVec 32 := 1#32
  let v23 : BitVec 32 := Scalar.divsi v21 c1_i32
  let v24 : BitVec 32 := Scalar.muli v23 c1_i32
  let v25 : BitVec 32 := Scalar.addi c0_i32_15 v24
  let c1_i32_17 : BitVec 32 := 1#32
  let arg13 : BitVec 32 := Scf.iv v25 c1_i32_17 k0_t3
  let c1024_i32_113 : BitVec 32 := 1024#32
  let v196 : BitVec 32 := Scalar.muli arg13 c1024_i32_113
  let v197 : BitVec 32 := v196
  let v198 : Index := Scalar.indexCast v197
  let c0_115 : Index := 0#32
  ![0, v198.toNat, 0]
def k0_off16 (i : grid0.Coords) (k0_t3 : Fin (k0_t3_loop i).trips) : Fin 3 → Nat :=
  let c1_117 : Index := 1#32
  let c0_i32_15 : BitVec 32 := 0#32
  let arg2 : BitVec 32 := BitVec.ofNat 32 (i 2).val
  let v21 : BitVec 32 := Scalar.subi arg2 c0_i32_15
  let c1_i32 : BitVec 32 := 1#32
  let v23 : BitVec 32 := Scalar.divsi v21 c1_i32
  let v24 : BitVec 32 := Scalar.muli v23 c1_i32
  let v25 : BitVec 32 := Scalar.addi c0_i32_15 v24
  let c1_i32_17 : BitVec 32 := 1#32
  let arg13 : BitVec 32 := Scf.iv v25 c1_i32_17 k0_t3
  let c1024_i32_113 : BitVec 32 := 1024#32
  let v196 : BitVec 32 := Scalar.muli arg13 c1024_i32_113
  let v197 : BitVec 32 := v196
  let v202 : Index := Scalar.indexCast v197
  let c0_118 : Index := 0#32
  ![1, v202.toNat, 0]
def k0_off17 (i : grid0.Coords) (k0_t3 : Fin (k0_t3_loop i).trips) : Fin 4 → Nat :=
  let c0_127 : Index := 0#32
  let c0_i32_15 : BitVec 32 := 0#32
  let arg2 : BitVec 32 := BitVec.ofNat 32 (i 2).val
  let v21 : BitVec 32 := Scalar.subi arg2 c0_i32_15
  let c1_i32 : BitVec 32 := 1#32
  let v23 : BitVec 32 := Scalar.divsi v21 c1_i32
  let v24 : BitVec 32 := Scalar.muli v23 c1_i32
  let v25 : BitVec 32 := Scalar.addi c0_i32_15 v24
  let c1_i32_17 : BitVec 32 := 1#32
  let arg13 : BitVec 32 := Scf.iv v25 c1_i32_17 k0_t3
  let v221 : Index := Scalar.indexCast arg13
  let c0_128 : Index := 0#32
  let c0_129 : Index := 0#32
  ![0, v221.toNat, 0, 0]
def k0_off18 (i : grid0.Coords) (k0_t3 : Fin (k0_t3_loop i).trips) : Fin 4 → Nat :=
  let c1_144 : Index := 1#32
  let c0_i32_15 : BitVec 32 := 0#32
  let arg2 : BitVec 32 := BitVec.ofNat 32 (i 2).val
  let v21 : BitVec 32 := Scalar.subi arg2 c0_i32_15
  let c1_i32 : BitVec 32 := 1#32
  let v23 : BitVec 32 := Scalar.divsi v21 c1_i32
  let v24 : BitVec 32 := Scalar.muli v23 c1_i32
  let v25 : BitVec 32 := Scalar.addi c0_i32_15 v24
  let c1_i32_17 : BitVec 32 := 1#32
  let arg13 : BitVec 32 := Scf.iv v25 c1_i32_17 k0_t3
  let v247 : Index := Scalar.indexCast arg13
  let c0_145 : Index := 0#32
  let c0_146 : Index := 0#32
  ![1, v247.toNat, 0, 0]
def k0_mult4 (i : grid0.Coords) : BitVec 32 :=
  let arg2 : BitVec 32 := BitVec.ofNat 32 (i 2).val
  let c1024_i32 : BitVec 32 := 1024#32
  let v26 : BitVec 32 := Scalar.muli arg2 c1024_i32
  v26
def k0_off19 (i : grid0.Coords) : Fin 3 → Nat :=
  let c0_18 : Index := 0#32
  let arg2 : BitVec 32 := BitVec.ofNat 32 (i 2).val
  let c1024_i32 : BitVec 32 := 1024#32
  let v26 : BitVec 32 := Scalar.muli arg2 c1024_i32
  let v27 : BitVec 32 := v26
  let v28 : Index := Scalar.indexCast v27
  let c0_19 : Index := 0#32
  ![0, v28.toNat, 0]
def k0_off20 (i : grid0.Coords) : Fin 3 → Nat :=
  let c0_21 : Index := 0#32
  let arg2 : BitVec 32 := BitVec.ofNat 32 (i 2).val
  let c1024_i32 : BitVec 32 := 1024#32
  let v26 : BitVec 32 := Scalar.muli arg2 c1024_i32
  let v27 : BitVec 32 := v26
  let v33 : Index := Scalar.indexCast v27
  let c0_22 : Index := 0#32
  ![0, v33.toNat, 0]
def k0_off21 (i : grid0.Coords) : Fin 3 → Nat :=
  let c1 : Index := 1#32
  let arg2 : BitVec 32 := BitVec.ofNat 32 (i 2).val
  let c1024_i32 : BitVec 32 := 1024#32
  let v26 : BitVec 32 := Scalar.muli arg2 c1024_i32
  let v27 : BitVec 32 := v26
  let v38 : Index := Scalar.indexCast v27
  let c0_24 : Index := 0#32
  ![1, v38.toNat, 0]
def k0_off22 (i : grid0.Coords) : Fin 3 → Nat :=
  let c1_26 : Index := 1#32
  let arg2 : BitVec 32 := BitVec.ofNat 32 (i 2).val
  let c1024_i32 : BitVec 32 := 1024#32
  let v26 : BitVec 32 := Scalar.muli arg2 c1024_i32
  let v27 : BitVec 32 := v26
  let v43 : Index := Scalar.indexCast v27
  let c0_27 : Index := 0#32
  ![1, v43.toNat, 0]
def k0_off23 (i : grid0.Coords) : Fin 4 → Nat :=
  let c0_38 : Index := 0#32
  let arg2 : BitVec 32 := BitVec.ofNat 32 (i 2).val
  let v70 : Index := Scalar.indexCast arg2
  let c0_39 : Index := 0#32
  let c0_40 : Index := 0#32
  ![0, v70.toNat, 0, 0]
def k0_off24 (i : grid0.Coords) : Fin 4 → Nat :=
  let c0_55 : Index := 0#32
  let arg2 : BitVec 32 := BitVec.ofNat 32 (i 2).val
  let v103 : Index := Scalar.indexCast arg2
  let c0_56 : Index := 0#32
  let c0_57 : Index := 0#32
  ![0, v103.toNat, 0, 0]
def k0_off25 (i : grid0.Coords) : Fin 4 → Nat :=
  let c1_74 : Index := 1#32
  let arg2 : BitVec 32 := BitVec.ofNat 32 (i 2).val
  let v136 : Index := Scalar.indexCast arg2
  let c0_75 : Index := 0#32
  let c0_76 : Index := 0#32
  ![1, v136.toNat, 0, 0]
def k0_off26 (i : grid0.Coords) : Fin 4 → Nat :=
  let c1_93 : Index := 1#32
  let arg2 : BitVec 32 := BitVec.ofNat 32 (i 2).val
  let v169 : Index := Scalar.indexCast arg2
  let c0_94 : Index := 0#32
  let c0_95 : Index := 0#32
  ![1, v169.toNat, 0, 0]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.addi c32_i32 arg1
  let c0_i32 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c28_i32 : BitVec 32 := 28#32
  let v2 : BitVec 32 := Scalar.addi c28_i32 arg1
  let c0_i32 : BitVec 32 := 0#32
  ![v1.toNat, v2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  let v2 : BitVec 32 := Scalar.addi c0_i32 arg1
  let c0_i32_0 : BitVec 32 := 0#32
  ![v1.toNat, v2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg0.toNat, v0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c36_i32 : BitVec 32 := 36#32
  let v0 : BitVec 32 := Scalar.addi c36_i32 arg1
  let c0_i32 : BitVec 32 := 0#32
  ![arg0.toNat, v0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  let v2 : BitVec 32 := Scalar.addi c0_i32 arg1
  let c0_i32_0 : BitVec 32 := 0#32
  ![v1.toNat, v2.toNat]

abbrev stage0_0 : Fin 1 → Memref sig .tc .vmem S8192x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true, false]

abbrev stage0_1 : Fin 2 → Memref sig .tc .vmem S1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 1 → Memref sig .tc .vmem S8192x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true, false]

abbrev stage0_4 : Fin 1 → Memref sig .tc .vmem S8192x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true, false]

abbrev stage0_5 : Fin 2 → Memref sig .tc .vmem S1024x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== KernelIdeal.lean ====
variable {F : FTy → Type} [FloatOps F] [Named F]
def κ : String → Option EReal := fun
  | "mask" => some ⊥
  | _ => none
-- ==== ReferenceIdeal.lean ====
abbrev S2x8192x1024 : Shape := ⟨3, ![2, 8192, 1024]⟩
abbrev S2x8192x8 : Shape := ⟨3, ![2, 8192, 8]⟩
abbrev S2x8192x8x128 : Shape := ⟨4, ![2, 8192, 8, 128]⟩
abbrev S2x8x8192x128 : Shape := ⟨4, ![2, 8, 8192, 128]⟩
abbrev S2x8x8192 : Shape := ⟨3, ![2, 8, 8192]⟩
abbrev S8192 : Shape := ⟨1, ![8192]⟩
abbrev S2x8x8192x8192 : Shape := ⟨4, ![2, 8, 8192, 8192]⟩
abbrev S_ : Shape := ⟨0, ![]⟩
abbrev S2x8x8192x1 : Shape := ⟨4, ![2, 8, 8192, 1]⟩
abbrev S2x8x1x8192 : Shape := ⟨4, ![2, 8, 1, 8192]⟩
abbrev S1x8192 : Shape := ⟨2, ![1, 8192]⟩
abbrev S8192x1 : Shape := ⟨2, ![8192, 1]⟩
abbrev S8192x8192 : Shape := ⟨2, ![8192, 8192]⟩
abbrev S16384x1024 : Shape := ⟨2, ![16384, 1024]⟩

abbrev nBuf : Space → Nat
  | .hbm => 51
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S2x8192x1024, .f32⟩
  | .hbm, ⟨2, _⟩ => ⟨S2x8192x1024, .f32⟩
  | .hbm, ⟨3, _⟩ => ⟨S2x8192x8, .f32⟩
  | .hbm, ⟨4, _⟩ => ⟨S2x8192x8x128, .f32⟩
  | .hbm, ⟨5, _⟩ => ⟨S2x8x8192x128, .f32⟩
  | .hbm, ⟨6, _⟩ => ⟨S2x8192x8x128, .f32⟩
  | .hbm, ⟨7, _⟩ => ⟨S2x8x8192x128, .f32⟩
  | .hbm, ⟨8, _⟩ => ⟨S2x8192x8x128, .f32⟩
  | .hbm, ⟨9, _⟩ => ⟨S2x8x8192x128, .f32⟩
  | .hbm, ⟨10, _⟩ => ⟨S2x8x8192, .f32⟩
  | .hbm, ⟨11, _⟩ => ⟨S8192, .i32⟩
  | .hbm, ⟨12, _⟩ => ⟨S2x8x8192x8192, .f32⟩
  | .hbm, ⟨13, _⟩ => ⟨S_, .f32⟩
  | .hbm, ⟨14, _⟩ => ⟨S_, .f32⟩
  | .hbm, ⟨15, _⟩ => ⟨S2x8x8192x8192, .f32⟩
  | .hbm, ⟨16, _⟩ => ⟨S2x8x8192x8192, .f32⟩
  | .hbm, ⟨17, _⟩ => ⟨S2x8x8192x1, .f32⟩
  | .hbm, ⟨18, _⟩ => ⟨S2x8x8192x8192, .f32⟩
  | .hbm, ⟨19, _⟩ => ⟨S2x8x8192x8192, .f32⟩
  | .hbm, ⟨20, _⟩ => ⟨S2x8x1x8192, .f32⟩
  | .hbm, ⟨21, _⟩ => ⟨S2x8x8192x8192, .f32⟩
  | .hbm, ⟨22, _⟩ => ⟨S2x8x8192x8192, .f32⟩
  | .hbm, ⟨23, _⟩ => ⟨S1x8192, .i32⟩
  | .hbm, ⟨24, _⟩ => ⟨S8192x1, .i32⟩
  | .hbm, ⟨25, _⟩ => ⟨S8192x8192, .i32⟩
  | .hbm, ⟨26, _⟩ => ⟨S8192x8192, .i32⟩
  | .hbm, ⟨27, _⟩ => ⟨S8192x8192, .i1⟩
  | .hbm, ⟨28, _⟩ => ⟨S_, .f32⟩
  | .hbm, ⟨29, _⟩ => ⟨S_, .f32⟩
  | .hbm, ⟨30, _⟩ => ⟨S2x8x8192x8192, .i1⟩
  | .hbm, ⟨31, _⟩ => ⟨S2x8x8192x8192, .f32⟩
  | .hbm, ⟨32, _⟩ => ⟨S2x8x8192x8192, .f32⟩
  | .hbm, ⟨33, _⟩ => ⟨S_, .f32⟩
  | .hbm, ⟨34, _⟩ => ⟨S2x8x8192, .f32⟩
  | .hbm, ⟨35, _⟩ => ⟨S_, .f32⟩
  | .hbm, ⟨36, _⟩ => ⟨S2x8x8192, .f32⟩
  | .hbm, ⟨37, _⟩ => ⟨S2x8x8192, .f32⟩
  | .hbm, ⟨38, _⟩ => ⟨S2x8x8192x1, .f32⟩
  | .hbm, ⟨39, _⟩ => ⟨S2x8x8192x8192, .f32⟩
  | .hbm, ⟨40, _⟩ => ⟨S2x8x8192x8192, .f32⟩
  | .hbm, ⟨41, _⟩ => ⟨S2x8x8192x8192, .f32⟩
  | .hbm, ⟨42, _⟩ => ⟨S_, .f32⟩
  | .hbm, ⟨43, _⟩ => ⟨S2x8x8192, .f32⟩
  | .hbm, ⟨44, _⟩ => ⟨S2x8x8192x1, .f32⟩
  | .hbm, ⟨45, _⟩ => ⟨S2x8x8192x8192, .f32⟩
  | .hbm, ⟨46, _⟩ => ⟨S2x8x8192x8192, .f32⟩
  | .hbm, ⟨47, _⟩ => ⟨S2x8x8192x128, .f32⟩
  | .hbm, ⟨48, _⟩ => ⟨S2x8192x8x128, .f32⟩
  | .hbm, ⟨49, _⟩ => ⟨S16384x1024, .f32⟩
  | .hbm, ⟨50, _⟩ => ⟨S16384x1024, .bf16⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_cst_0 : Ref sig .tc := ⟨.hbm, 28, rfl⟩
abbrev main_call0_v0 : Ref sig .tc := ⟨.hbm, 29, rfl⟩
abbrev main_call0_v1 : Ref sig .tc := ⟨.hbm, 30, rfl⟩
abbrev main_call0_v2 : Ref sig .tc := ⟨.hbm, 31, rfl⟩
abbrev main_v23 : Ref sig .tc := ⟨.hbm, 32, rfl⟩
abbrev main_cst_1 : Ref sig .tc := ⟨.hbm, 33, rfl⟩
abbrev main_v24 : Ref sig .tc := ⟨.hbm, 34, rfl⟩
abbrev main_cst_2 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_3 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩

abbrev nD : Nat := 1
abbrev τ : Topo := Topo.v7x

variable {F : FTy → Type} [FloatOps F]
-- ==== Kernel2.lean ====
abbrev S2x8192x2048 : Shape := ⟨3, ![2, 8192, 2048]⟩
abbrev S2048 : Shape := ⟨1, ![2048]⟩
abbrev S2x1x2048 : Shape := ⟨3, ![2, 1, 2048]⟩
abbrev S2x2048x11800 : Shape := ⟨3, ![2, 2048, 11800]⟩
abbrev S2x11800 : Shape := ⟨2, ![2, 11800]⟩
abbrev S_ : Shape := ⟨0, ![]⟩
abbrev S2x2048x6144 : Shape := ⟨3, ![2, 2048, 6144]⟩
abbrev S2x2048x1024 : Shape := ⟨3, ![2, 2048, 1024]⟩
abbrev S2x2048x256 : Shape := ⟨3, ![2, 2048, 256]⟩
abbrev S2x2048x512 : Shape := ⟨3, ![2, 2048, 512]⟩
abbrev S2x2048x11776 : Shape := ⟨3, ![2, 2048, 11776]⟩
abbrev S2x6144 : Shape := ⟨2, ![2, 6144]⟩
abbrev S2x1024 : Shape := ⟨2, ![2, 1024]⟩
abbrev S2x256 : Shape := ⟨2, ![2, 256]⟩
abbrev S2x512 : Shape := ⟨2, ![2, 512]⟩
abbrev S2x11776 : Shape := ⟨2, ![2, 11776]⟩
abbrev S2x1x11776 : Shape := ⟨3, ![2, 1, 11776]⟩
abbrev S2x2048x104 : Shape := ⟨3, ![2, 2048, 104]⟩
abbrev S2x2048x8 : Shape := ⟨3, ![2, 2048, 8]⟩
abbrev S2x2048x16 : Shape := ⟨3, ![2, 2048, 16]⟩
abbrev S2x2048x128 : Shape := ⟨3, ![2, 2048, 128]⟩
abbrev S2x104 : Shape := ⟨2, ![2, 104]⟩
abbrev S2x8 : Shape := ⟨2, ![2, 8]⟩
abbrev S2x16 : Shape := ⟨2, ![2, 16]⟩
abbrev S2x128 : Shape := ⟨2, ![2, 128]⟩
abbrev S2x1x128 : Shape := ⟨3, ![2, 1, 128]⟩
abbrev S16384x2048 : Shape := ⟨2, ![16384, 2048]⟩
abbrev S1x2048 : Shape := ⟨2, ![1, 2048]⟩
abbrev S16384x11776 : Shape := ⟨2, ![16384, 11776]⟩
abbrev S16384x128 : Shape := ⟨2, ![16384, 128]⟩
abbrev S512x2048 : Shape := ⟨2, ![512, 2048]⟩
abbrev S1x1x2048 : Shape := ⟨3, ![1, 1, 2048]⟩
abbrev S1x2048x2944 : Shape := ⟨3, ![1, 2048, 2944]⟩
abbrev S1x1x2944 : Shape := ⟨3, ![1, 1, 2944]⟩
abbrev S1x2048x128 : Shape := ⟨3, ![1, 2048, 128]⟩
abbrev S1x1x128 : Shape := ⟨3, ![1, 1, 128]⟩
abbrev S512x2944 : Shape := ⟨2, ![512, 2944]⟩
abbrev S512x128 : Shape := ⟨2, ![512, 128]⟩
abbrev S512 : Shape := ⟨1, ![512]⟩
abbrev S512x1 : Shape := ⟨2, ![512, 1]⟩
abbrev S2048x128 : Shape := ⟨2, ![2048, 128]⟩
abbrev S1x128 : Shape := ⟨2, ![1, 128]⟩
abbrev S2048x2944 : Shape := ⟨2, ![2048, 2944]⟩
abbrev S1x2944 : Shape := ⟨2, ![1, 2944]⟩

abbrev nBuf : Space → Nat
  | .hbm => 63
  | .vmem => 18
  | .smem => 0
  | _ => 0

abbrev bufTy : (tb : Table) → Fin (tcTables nBuf tb) → BufTy
  | .hbm, ⟨0, _⟩ => ⟨S2x8192x2048, .f32⟩
  | .hbm, ⟨1, _⟩ => ⟨S2048, .f32⟩
  | .hbm, ⟨2, _⟩ => ⟨S2x1x2048, .f32⟩
  | .hbm, ⟨3, _⟩ => ⟨S2x1x2048, .f32⟩
  | .hbm, ⟨4, _⟩ => ⟨S2x2048x11800, .f32⟩
  | .hbm, ⟨5, _⟩ => ⟨S2x11800, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S2x2048x6144, .f32⟩
  | .hbm, ⟨16, _⟩ => ⟨S2x2048x1024, .f32⟩
  | .hbm, ⟨17, _⟩ => ⟨S2x2048x1024, .f32⟩
  | .hbm, ⟨18, _⟩ => ⟨S2x2048x1024, .f32⟩
  | .hbm, ⟨19, _⟩ => ⟨S2x2048x1024, .f32⟩
  | .hbm, ⟨20, _⟩ => ⟨S2x2048x1024, .f32⟩
  | .hbm, ⟨21, _⟩ => ⟨S2x2048x1024, .f32⟩
  | .hbm, ⟨22, _⟩ => ⟨S2x2048x256, .f32⟩
  | .hbm, ⟨23, _⟩ => ⟨S_, .f32⟩
  | .hbm, ⟨24, _⟩ => ⟨S2x2048x256, .f32⟩
  | .hbm, ⟨25, _⟩ => ⟨S2x2048x256, .f32⟩
  | .hbm, ⟨26, _⟩ => ⟨S2x2048x256, .f32⟩
  | .hbm, ⟨27, _⟩ => ⟨S2x2048x512, .f32⟩
  | .hbm, ⟨28, _⟩ => ⟨S2x2048x512, .f32⟩
  | .hbm, ⟨29, _⟩ => ⟨S2x2048x11776, .f32⟩
  | .hbm, ⟨30, _⟩ => ⟨S2x2048x11776, .bf16⟩
  | .hbm, ⟨31, _⟩ => ⟨S2x6144, .f32⟩
  | .hbm, ⟨32, _⟩ => ⟨S2x1024, .f32⟩
  | .hbm, ⟨33, _⟩ => ⟨S2x1024, .f32⟩
  | .hbm, ⟨34, _⟩ => ⟨S2x1024, .f32⟩
  | .hbm, ⟨35, _⟩ => ⟨S2x1024, .f32⟩
  | .hbm, ⟨36, _⟩ => ⟨S2x1024, .f32⟩
  | .hbm, ⟨37, _⟩ => ⟨S2x1024, .f32⟩
  | .hbm, ⟨38, _⟩ => ⟨S2x256, .f32⟩
  | .hbm, ⟨39, _⟩ => ⟨S_, .f32⟩
  | .hbm, ⟨40, _⟩ => ⟨S2x256, .f32⟩
  | .hbm, ⟨41, _⟩ => ⟨S2x256, .f32⟩
  | .hbm, ⟨42, _⟩ => ⟨S2x256, .f32⟩
  | .hbm, ⟨43, _⟩ => ⟨S2x512, .f32⟩
  | .hbm, ⟨44, _⟩ => ⟨S2x512, .f32⟩
  | .hbm, ⟨45, _⟩ => ⟨S2x11776, .f32⟩
  | .hbm, ⟨46, _⟩ => ⟨S2x1x11776, .f32⟩
  | .hbm, ⟨47, _⟩ => ⟨S_, .f32⟩
  | .hbm, ⟨48, _⟩ => ⟨S2x2048x104, .f32⟩
  | .hbm, ⟨49, _⟩ => ⟨S2x2048x8, .f32⟩
  | .hbm, ⟨50, _⟩ => ⟨S2x2048x16, .f32⟩
  | .hbm, ⟨51, _⟩ => ⟨S2x2048x128, .f32⟩
  | .hbm, ⟨52, _⟩ => ⟨S2x2048x128, .bf16⟩
  | .hbm, ⟨53, _⟩ => ⟨S_, .f32⟩
  | .hbm, ⟨54, _⟩ => ⟨S2x104, .f32⟩
  | .hbm, ⟨55, _⟩ => ⟨S2x8, .f32⟩
  | .hbm, ⟨56, _⟩ => ⟨S2x16, .f32⟩
  | .hbm, ⟨57, _⟩ => ⟨S2x128, .f32⟩
  | .hbm, ⟨58, _⟩ => ⟨S2x1x128, .f32⟩
  | .hbm, ⟨59, _⟩ => ⟨S16384x2048, .f32⟩
  | .hbm, ⟨60, _⟩ => ⟨S1x2048, .f32⟩
  | .hbm, ⟨61, _⟩ => ⟨S16384x11776, .bf16⟩
  | .hbm, ⟨62, _⟩ => ⟨S16384x128, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S1x1x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x1x2048, .f32⟩
  | .local _ .vmem, ⟨7, _⟩ => ⟨S1x2048x2944, .bf16⟩
  | .local _ .vmem, ⟨8, _⟩ => ⟨S1x2048x2944, .bf16⟩
  | .local _ .vmem, ⟨9, _⟩ => ⟨S1x1x2944, .f32⟩
  | .local _ .vmem, ⟨10, _⟩ => ⟨S1x1x2944, .f32⟩
  | .local _ .vmem, ⟨11, _⟩ => ⟨S1x2048x128, .bf16⟩
  | .local _ .vmem, ⟨12, _⟩ => ⟨S1x1x128, .f32⟩
  | .local _ .vmem, ⟨13, _⟩ => ⟨S512x2944, .bf16⟩
  | .local _ .vmem, ⟨14, _⟩ => ⟨S512x2944, .bf16⟩
  | .local _ .vmem, ⟨15, _⟩ => ⟨S512x128, .f32⟩
  | .local _ .vmem, ⟨16, _⟩ => ⟨S512x128, .f32⟩
  | .local _ .vmem, ⟨17, _⟩ => ⟨S512x2048, .bf16⟩
  | _, _ => ⟨S2x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_cst_0 : Ref sig .tc := ⟨.hbm, 8, rfl⟩
abbrev main_v1 : Ref sig .tc := ⟨.hbm, 9, rfl⟩
abbrev main_cst_1 : Ref sig .tc := ⟨.hbm, 10, rfl⟩
abbrev main_v2 : Ref sig .tc := ⟨.hbm, 11, rfl⟩
abbrev main_cst_2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_3 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_4 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_cst_5 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_cst_6 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47_0 : Ref sig .tc := ⟨.hbm, 61, rfl⟩
abbrev main_v47_1 : Ref sig .tc := ⟨.hbm, 62, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_scratch0 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem8_0 : DmaSem sig := 13
abbrev cc0_sem8_1 : DmaSem sig := 14
abbrev cc0_sem9_0 : DmaSem sig := 15
abbrev cc0_sem9_1 : DmaSem sig := 16

abbrev nD : Nat := 1
abbrev τ : Topo := Topo.v7x

variable {F : FTy → Type} [FloatOps F]

abbrev grid0 : Pipeline.Grid := ⟨2, ![32, 4], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x2048x2944 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x1x2944 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 1 → Memref sig .tc .vmem S1x2048x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S512x2944 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S512x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]
-- ==== Reference2Ideal.lean ====
abbrev S2x8192x2048 : Shape := ⟨3, ![2, 8192, 2048]⟩
abbrev S2048 : Shape := ⟨1, ![2048]⟩
abbrev S2x1x2048 : Shape := ⟨3, ![2, 1, 2048]⟩
abbrev S2x2048x11800 : Shape := ⟨3, ![2, 2048, 11800]⟩
abbrev S2x11800 : Shape := ⟨2, ![2, 11800]⟩
abbrev S_ : Shape := ⟨0, ![]⟩
abbrev S2x8192 : Shape := ⟨2, ![2, 8192]⟩
abbrev S2x8192x1 : Shape := ⟨3, ![2, 8192, 1]⟩
abbrev S1x1x2048 : Shape := ⟨3, ![1, 1, 2048]⟩
abbrev S1x2048x11800 : Shape := ⟨3, ![1, 2048, 11800]⟩
abbrev S2048x11800 : Shape := ⟨2, ![2048, 11800]⟩
abbrev S2x8192x11800 : Shape := ⟨3, ![2, 8192, 11800]⟩
abbrev S1x11800 : Shape := ⟨2, ![1, 11800]⟩
abbrev S11800 : Shape := ⟨1, ![11800]⟩
abbrev S1x1x11800 : Shape := ⟨3, ![1, 1, 11800]⟩
abbrev S16384x11800 : Shape := ⟨2, ![16384, 11800]⟩
abbrev S16384x1024 : Shape := ⟨2, ![16384, 1024]⟩
abbrev S16384x8 : Shape := ⟨2, ![16384, 8]⟩
abbrev S16384x256 : Shape := ⟨2, ![16384, 256]⟩
abbrev S16384x512 : Shape := ⟨2, ![16384, 512]⟩
abbrev S16384x16 : Shape := ⟨2, ![16384, 16]⟩
abbrev S16384x6144 : Shape := ⟨2, ![16384, 6144]⟩
abbrev S16384x11776 : Shape := ⟨2, ![16384, 11776]⟩
abbrev S16384x104 : Shape := ⟨2, ![16384, 104]⟩
abbrev S16384x128 : Shape := ⟨2, ![16384, 128]⟩

abbrev nBuf : Space → Nat
  | .hbm => 65
  | .vmem => 0
  | .smem => 0
  | _ => 0

abbrev bufTy : (tb : Table) → Fin (tcTables nBuf tb) → BufTy
  | .hbm, ⟨0, _⟩ => ⟨S2x8192x2048, .f32⟩
  | .hbm, ⟨1, _⟩ => ⟨S2048, .f32⟩
  | .hbm, ⟨2, _⟩ => ⟨S2x1x2048, .f32⟩
  | .hbm, ⟨3, _⟩ => ⟨S2x1x2048, .f32⟩
  | .hbm, ⟨4, _⟩ => ⟨S2x2048x11800, .f32⟩
  | .hbm, ⟨5, _⟩ => ⟨S2x11800, .f32⟩
  | .hbm, ⟨6, _⟩ => ⟨S2x8192x2048, .f32⟩
  | .hbm, ⟨7, _⟩ => ⟨S_, .f32⟩
  | .hbm, ⟨8, _⟩ => ⟨S2x8192, .f32⟩
  | .hbm, ⟨9, _⟩ => ⟨S2x8192x1, .f32⟩
  | .hbm, ⟨10, _⟩ => ⟨S_, .f32⟩
  | .hbm, ⟨11, _⟩ => ⟨S2x8192x1, .f32⟩
  | .hbm, ⟨12, _⟩ => ⟨S2x8192x1, .f32⟩
  | .hbm, ⟨13, _⟩ => ⟨S_, .f32⟩
  | .hbm, ⟨14, _⟩ => ⟨S2x8192x1, .f32⟩
  | .hbm, ⟨15, _⟩ => ⟨S2x8192x1, .f32⟩
  | .hbm, ⟨16, _⟩ => ⟨S2x8192x1, .f32⟩
  | .hbm, ⟨17, _⟩ => ⟨S2x8192x2048, .f32⟩
  | .hbm, ⟨18, _⟩ => ⟨S2x8192x2048, .f32⟩
  | .hbm, ⟨19, _⟩ => ⟨S1x1x2048, .f32⟩
  | .hbm, ⟨20, _⟩ => ⟨S2x8192x2048, .f32⟩
  | .hbm, ⟨21, _⟩ => ⟨S2x8192x2048, .f32⟩
  | .hbm, ⟨22, _⟩ => ⟨S_, .f32⟩
  | .hbm, ⟨23, _⟩ => ⟨S2x1x2048, .f32⟩
  | .hbm, ⟨24, _⟩ => ⟨S2x1x2048, .f32⟩
  | .hbm, ⟨25, _⟩ => ⟨S2x8192x2048, .f32⟩
  | .hbm, ⟨26, _⟩ => ⟨S2x8192x2048, .f32⟩
  | .hbm, ⟨27, _⟩ => ⟨S2x8192x2048, .f32⟩
  | .hbm, ⟨28, _⟩ => ⟨S2x8192x2048, .f32⟩
  | .hbm, ⟨29, _⟩ => ⟨S1x2048x11800, .f32⟩
  | .hbm, ⟨30, _⟩ => ⟨S2048x11800, .f32⟩
  | .hbm, ⟨31, _⟩ => ⟨S2x8192x11800, .f32⟩
  | .hbm, ⟨32, _⟩ => ⟨S1x11800, .f32⟩
  | .hbm, ⟨33, _⟩ => ⟨S11800, .f32⟩
  | .hbm, ⟨34, _⟩ => ⟨S1x1x11800, .f32⟩
  | .hbm, ⟨35, _⟩ => ⟨S2x8192x11800, .f32⟩
  | .hbm, ⟨36, _⟩ => ⟨S2x8192x11800, .f32⟩
  | .hbm, ⟨37, _⟩ => ⟨S16384x11800, .f32⟩
  | .hbm, ⟨38, _⟩ => ⟨S16384x1024, .f32⟩
  | .hbm, ⟨39, _⟩ => ⟨S16384x1024, .f32⟩
  | .hbm, ⟨40, _⟩ => ⟨S16384x1024, .f32⟩
  | .hbm, ⟨41, _⟩ => ⟨S16384x1024, .f32⟩
  | .hbm, ⟨42, _⟩ => ⟨S16384x8, .f32⟩
  | .hbm, ⟨43, _⟩ => ⟨S16384x256, .f32⟩
  | .hbm, ⟨44, _⟩ => ⟨S16384x256, .f32⟩
  | .hbm, ⟨45, _⟩ => ⟨S16384x512, .f32⟩
  | .hbm, ⟨46, _⟩ => ⟨S16384x512, .f32⟩
  | .hbm, ⟨47, _⟩ => ⟨S16384x16, .f32⟩
  | .hbm, ⟨48, _⟩ => ⟨S16384x6144, .f32⟩
  | .hbm, ⟨49, _⟩ => ⟨S_, .f32⟩
  | .hbm, ⟨50, _⟩ => ⟨S_, .f32⟩
  | .hbm, ⟨51, _⟩ => ⟨S16384x1024, .f32⟩
  | .hbm, ⟨52, _⟩ => ⟨S16384x1024, .f32⟩
  | .hbm, ⟨53, _⟩ => ⟨S_, .f32⟩
  | .hbm, ⟨54, _⟩ => ⟨S_, .f32⟩
  | .hbm, ⟨55, _⟩ => ⟨S16384x1024, .f32⟩
  | .hbm, ⟨56, _⟩ => ⟨S16384x1024, .f32⟩
  | .hbm, ⟨57, _⟩ => ⟨S_, .f32⟩
  | .hbm, ⟨58, _⟩ => ⟨S16384x256, .f32⟩
  | .hbm, ⟨59, _⟩ => ⟨S16384x256, .f32⟩
  | .hbm, ⟨60, _⟩ => ⟨S16384x11776, .f32⟩
  | .hbm, ⟨61, _⟩ => ⟨S16384x11776, .bf16⟩
  | .hbm, ⟨62, _⟩ => ⟨S_, .f32⟩
  | .hbm, ⟨63, _⟩ => ⟨S16384x104, .f32⟩
  | .hbm, ⟨64, _⟩ => ⟨S16384x128, .f32⟩
  | _, _ => ⟨S2x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_cst_3 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_cst_4 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_cst_5 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_cst_6 : Ref sig .tc := ⟨.hbm, 62, rfl⟩
abbrev main_v49 : Ref sig .tc := ⟨.hbm, 63, rfl⟩
abbrev main_v50 : Ref sig .tc := ⟨.hbm, 64, rfl⟩

abbrev nD : Nat := 1
abbrev τ : Topo := Topo.v7x

variable {F : FTy → Type} [FloatOps F]
-- ==== Kernel3.lean ====
abbrev S2x8192x2048 : Shape := ⟨3, ![2, 8192, 2048]⟩
abbrev S2x1x2048 : Shape := ⟨3, ![2, 1, 2048]⟩
abbrev S2x8192x512 : Shape := ⟨3, ![2, 8192, 512]⟩
abbrev S2x8192x1024 : Shape := ⟨3, ![2, 8192, 1024]⟩
abbrev S2x8192x6144 : Shape := ⟨3, ![2, 8192, 6144]⟩
abbrev S512x2048 : Shape := ⟨2, ![512, 2048]⟩
abbrev S1024x2048 : Shape := ⟨2, ![1024, 2048]⟩
abbrev S2048x2048 : Shape := ⟨2, ![2048, 2048]⟩
abbrev S16384x6144 : Shape := ⟨2, ![16384, 6144]⟩
abbrev S_ : Shape := ⟨0, ![]⟩
abbrev S16384x5632 : Shape := ⟨2, ![16384, 5632]⟩
abbrev S16384x11776 : Shape := ⟨2, ![16384, 11776]⟩
abbrev S16384x2048 : Shape := ⟨2, ![16384, 2048]⟩
abbrev S16384x512 : Shape := ⟨2, ![16384, 512]⟩
abbrev S16384x1024 : Shape := ⟨2, ![16384, 1024]⟩
abbrev S256x2048 : Shape := ⟨2, ![256, 2048]⟩
abbrev S1x1x2048 : Shape := ⟨3, ![1, 1, 2048]⟩
abbrev S256x512 : Shape := ⟨2, ![256, 512]⟩
abbrev S256x1024 : Shape := ⟨2, ![256, 1024]⟩
abbrev S1x2048 : Shape := ⟨2, ![1, 2048]⟩

abbrev nBuf : Space → Nat
  | .hbm => 27
  | .vmem => 22
  | .smem => 0
  | _ => 0

abbrev bufTy : (tb : Table) → Fin (tcTables nBuf tb) → BufTy
  | .hbm, ⟨0, _⟩ => ⟨S2x8192x2048, .f32⟩
  | .hbm, ⟨1, _⟩ => ⟨S2x1x2048, .f32⟩
  | .hbm, ⟨2, _⟩ => ⟨S2x8192x512, .f32⟩
  | .hbm, ⟨3, _⟩ => ⟨S2x8192x1024, .f32⟩
  | .hbm, ⟨4, _⟩ => ⟨S2x8192x512, .f32⟩
  | .hbm, ⟨5, _⟩ => ⟨S2x8192x6144, .f32⟩
  | .hbm, ⟨6, _⟩ => ⟨S512x2048, .f32⟩
  | .hbm, ⟨7, _⟩ => ⟨S1024x2048, .f32⟩
  | .hbm, ⟨8, _⟩ => ⟨S512x2048, .f32⟩
  | .hbm, ⟨9, _⟩ => ⟨S2048x2048, .f32⟩
  | .hbm, ⟨10, _⟩ => ⟨S16384x6144, .f32⟩
  | .hbm, ⟨11, _⟩ => ⟨S_, .f32⟩
  | .hbm, ⟨12, _⟩ => ⟨S16384x5632, .f32⟩
  | .hbm, ⟨13, _⟩ => ⟨S16384x11776, .f32⟩
  | .hbm, ⟨14, _⟩ => ⟨S16384x11776, .bf16⟩
  | .hbm, ⟨15, _⟩ => ⟨S16384x2048, .f32⟩
  | .hbm, ⟨16, _⟩ => ⟨S16384x512, .f32⟩
  | .hbm, ⟨17, _⟩ => ⟨S16384x512, .bf16⟩
  | .hbm, ⟨18, _⟩ => ⟨S16384x1024, .f32⟩
  | .hbm, ⟨19, _⟩ => ⟨S16384x1024, .bf16⟩
  | .hbm, ⟨20, _⟩ => ⟨S16384x512, .f32⟩
  | .hbm, ⟨21, _⟩ => ⟨S16384x512, .bf16⟩
  | .hbm, ⟨22, _⟩ => ⟨S512x2048, .bf16⟩
  | .hbm, ⟨23, _⟩ => ⟨S1024x2048, .bf16⟩
  | .hbm, ⟨24, _⟩ => ⟨S512x2048, .bf16⟩
  | .hbm, ⟨25, _⟩ => ⟨S2048x2048, .bf16⟩
  | .hbm, ⟨26, _⟩ => ⟨S16384x2048, .f32⟩
  | .local _ .vmem, ⟨0, _⟩ => ⟨S256x2048, .f32⟩
  | .local _ .vmem, ⟨1, _⟩ => ⟨S256x2048, .f32⟩
  | .local _ .vmem, ⟨2, _⟩ => ⟨S1x1x2048, .f32⟩
  | .local _ .vmem, ⟨3, _⟩ => ⟨S1x1x2048, .f32⟩
  | .local _ .vmem, ⟨4, _⟩ => ⟨S256x512, .bf16⟩
  | .local _ .vmem, ⟨5, _⟩ => ⟨S256x512, .bf16⟩
  | .local _ .vmem, ⟨6, _⟩ => ⟨S256x1024, .bf16⟩
  | .local _ .vmem, ⟨7, _⟩ => ⟨S256x1024, .bf16⟩
  | .local _ .vmem, ⟨8, _⟩ => ⟨S256x512, .bf16⟩
  | .local _ .vmem, ⟨9, _⟩ => ⟨S256x512, .bf16⟩
  | .local _ .vmem, ⟨10, _⟩ => ⟨S256x2048, .bf16⟩
  | .local _ .vmem, ⟨11, _⟩ => ⟨S256x2048, .bf16⟩
  | .local _ .vmem, ⟨12, _⟩ => ⟨S256x2048, .bf16⟩
  | .local _ .vmem, ⟨13, _⟩ => ⟨S256x2048, .bf16⟩
  | .local _ .vmem, ⟨14, _⟩ => ⟨S256x2048, .bf16⟩
  | .local _ .vmem, ⟨15, _⟩ => ⟨S256x2048, .bf16⟩
  | .local _ .vmem, ⟨16, _⟩ => ⟨S512x2048, .bf16⟩
  | .local _ .vmem, ⟨17, _⟩ => ⟨S1024x2048, .bf16⟩
  | .local _ .vmem, ⟨18, _⟩ => ⟨S512x2048, .bf16⟩
  | .local _ .vmem, ⟨19, _⟩ => ⟨S2048x2048, .bf16⟩
  | .local _ .vmem, ⟨20, _⟩ => ⟨S256x2048, .f32⟩
  | .local _ .vmem, ⟨21, _⟩ => ⟨S256x2048, .f32⟩
  | _, _ => ⟨S2x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_cst : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg12_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem11_0 : DmaSem sig := 19
abbrev cc0_sem12_0 : DmaSem sig := 20
abbrev cc0_sem12_1 : DmaSem sig := 21

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_7 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S512x2048 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x2048 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S512x2048 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S2048x2048 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S256x2048 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== Reference3Ideal.lean ====
abbrev S2x8192x2048 : Shape := ⟨3, ![2, 8192, 2048]⟩
abbrev S2x1x2048 : Shape := ⟨3, ![2, 1, 2048]⟩
abbrev S2x8192x512 : Shape := ⟨3, ![2, 8192, 512]⟩
abbrev S2x8192x1024 : Shape := ⟨3, ![2, 8192, 1024]⟩
abbrev S2x8192x6144 : Shape := ⟨3, ![2, 8192, 6144]⟩
abbrev S512x2048 : Shape := ⟨2, ![512, 2048]⟩
abbrev S1024x2048 : Shape := ⟨2, ![1024, 2048]⟩
abbrev S2048x2048 : Shape := ⟨2, ![2048, 2048]⟩
abbrev S_ : Shape := ⟨0, ![]⟩
abbrev S16384x2048 : Shape := ⟨2, ![16384, 2048]⟩

abbrev nBuf : Space → Nat
  | .hbm => 34
  | .vmem => 0
  | .smem => 0
  | _ => 0

abbrev bufTy : (tb : Table) → Fin (tcTables nBuf tb) → BufTy
  | .hbm, ⟨0, _⟩ => ⟨S2x8192x2048, .f32⟩
  | .hbm, ⟨1, _⟩ => ⟨S2x1x2048, .f32⟩
  | .hbm, ⟨2, _⟩ => ⟨S2x8192x512, .f32⟩
  | .hbm, ⟨3, _⟩ => ⟨S2x8192x1024, .f32⟩
  | .hbm, ⟨4, _⟩ => ⟨S2x8192x512, .f32⟩
  | .hbm, ⟨5, _⟩ => ⟨S2x8192x6144, .f32⟩
  | .hbm, ⟨6, _⟩ => ⟨S512x2048, .f32⟩
  | .hbm, ⟨7, _⟩ => ⟨S1024x2048, .f32⟩
  | .hbm, ⟨8, _⟩ => ⟨S512x2048, .f32⟩
  | .hbm, ⟨9, _⟩ => ⟨S2048x2048, .f32⟩
  | .hbm, ⟨10, _⟩ => ⟨S2x8192x6144, .f32⟩
  | .hbm, ⟨11, _⟩ => ⟨S2x8192x6144, .f32⟩
  | .hbm, ⟨12, _⟩ => ⟨S_, .f32⟩
  | .hbm, ⟨13, _⟩ => ⟨S2x8192x6144, .f32⟩
  | .hbm, ⟨14, _⟩ => ⟨S2x8192x6144, .f32⟩
  | .hbm, ⟨15, _⟩ => ⟨S_, .f32⟩
  | .hbm, ⟨16, _⟩ => ⟨S2x8192x6144, .f32⟩
  | .hbm, ⟨17, _⟩ => ⟨S2x8192x6144, .f32⟩
  | .hbm, ⟨18, _⟩ => ⟨S2x8192x2048, .f32⟩
  | .hbm, ⟨19, _⟩ => ⟨S2x8192x2048, .f32⟩
  | .hbm, ⟨20, _⟩ => ⟨S2x8192x2048, .f32⟩
  | .hbm, ⟨21, _⟩ => ⟨S2x8192x2048, .f32⟩
  | .hbm, ⟨22, _⟩ => ⟨S2x8192x2048, .f32⟩
  | .hbm, ⟨23, _⟩ => ⟨S2x8192x2048, .f32⟩
  | .hbm, ⟨24, _⟩ => ⟨S2x8192x2048, .f32⟩
  | .hbm, ⟨25, _⟩ => ⟨S2x8192x2048, .f32⟩
  | .hbm, ⟨26, _⟩ => ⟨S2x8192x2048, .f32⟩
  | .hbm, ⟨27, _⟩ => ⟨S2x8192x2048, .f32⟩
  | .hbm, ⟨28, _⟩ => ⟨S2x8192x2048, .f32⟩
  | .hbm, ⟨29, _⟩ => ⟨S2x8192x2048, .f32⟩
  | .hbm, ⟨30, _⟩ => ⟨S2x8192x2048, .f32⟩
  | .hbm, ⟨31, _⟩ => ⟨S2x8192x2048, .f32⟩
  | .hbm, ⟨32, _⟩ => ⟨S2x8192x2048, .f32⟩
  | .hbm, ⟨33, _⟩ => ⟨S16384x2048, .f32⟩
  | _, _ => ⟨S2x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_cst : Ref sig .tc := ⟨.hbm, 12, rfl⟩
abbrev main_v2 : Ref sig .tc := ⟨.hbm, 13, rfl⟩
abbrev main_v3 : Ref sig .tc := ⟨.hbm, 14, rfl⟩
abbrev main_cst_0 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩

abbrev nD : Nat := 1
abbrev τ : Topo := Topo.v7x

variable {F : FTy → Type} [FloatOps F]
-- ==== Kernel4.lean ====
abbrev S2x8192x1024 : Shape := ⟨3, ![2, 8192, 1024]⟩
abbrev S31x1x512 : Shape := ⟨3, ![31, 1, 512]⟩
abbrev S512 : Shape := ⟨1, ![512]⟩
abbrev S_ : Shape := ⟨0, ![]⟩
abbrev S16384x6144 : Shape := ⟨2, ![16384, 6144]⟩
abbrev S16384x1024 : Shape := ⟨2, ![16384, 1024]⟩
abbrev S16384x4608 : Shape := ⟨2, ![16384, 4608]⟩
abbrev S16384x11776 : Shape := ⟨2, ![16384, 11776]⟩
abbrev S31x512 : Shape := ⟨2, ![31, 512]⟩
abbrev S1x512 : Shape := ⟨2, ![1, 512]⟩
abbrev S16384x512 : Shape := ⟨2, ![16384, 512]⟩
abbrev S512x1024 : Shape := ⟨2, ![512, 1024]⟩
abbrev S512x512 : Shape := ⟨2, ![512, 512]⟩
abbrev S544x512 : Shape := ⟨2, ![544, 512]⟩
abbrev S7x536x512 : Shape := ⟨3, ![7, 536, 512]⟩
abbrev S32x512 : Shape := ⟨2, ![32, 512]⟩
abbrev S536x512 : Shape := ⟨2, ![536, 512]⟩
abbrev S1x536x512 : Shape := ⟨3, ![1, 536, 512]⟩
abbrev S1x512x512 : Shape := ⟨3, ![1, 512, 512]⟩
abbrev S512x1 : Shape := ⟨2, ![512, 1]⟩

abbrev nBuf : Space → Nat
  | .hbm => 17
  | .vmem => 10
  | .smem => 0
  | _ => 0

abbrev bufTy : (tb : Table) → Fin (tcTables nBuf tb) → BufTy
  | .hbm, ⟨0, _⟩ => ⟨S2x8192x1024, .f32⟩
  | .hbm, ⟨1, _⟩ => ⟨S31x1x512, .f32⟩
  | .hbm, ⟨2, _⟩ => ⟨S512, .f32⟩
  | .hbm, ⟨3, _⟩ => ⟨S512, .f32⟩
  | .hbm, ⟨4, _⟩ => ⟨S512, .f32⟩
  | .hbm, ⟨5, _⟩ => ⟨S_, .f32⟩
  | .hbm, ⟨6, _⟩ => ⟨S16384x6144, .f32⟩
  | .hbm, ⟨7, _⟩ => ⟨S16384x1024, .f32⟩
  | .hbm, ⟨8, _⟩ => ⟨S_, .f32⟩
  | .hbm, ⟨9, _⟩ => ⟨S16384x4608, .f32⟩
  | .hbm, ⟨10, _⟩ => ⟨S16384x11776, .f32⟩
  | .hbm, ⟨11, _⟩ => ⟨S16384x11776, .bf16⟩
  | .hbm, ⟨12, _⟩ => ⟨S31x512, .f32⟩
  | .hbm, ⟨13, _⟩ => ⟨S1x512, .f32⟩
  | .hbm, ⟨14, _⟩ => ⟨S1x512, .f32⟩
  | .hbm, ⟨15, _⟩ => ⟨S1x512, .f32⟩
  | .hbm, ⟨16, _⟩ => ⟨S16384x512, .bf16⟩
  | .local _ .vmem, ⟨0, _⟩ => ⟨S512x1024, .bf16⟩
  | .local _ .vmem, ⟨1, _⟩ => ⟨S512x1024, .bf16⟩
  | .local _ .vmem, ⟨2, _⟩ => ⟨S31x512, .f32⟩
  | .local _ .vmem, ⟨3, _⟩ => ⟨S1x512, .f32⟩
  | .local _ .vmem, ⟨4, _⟩ => ⟨S1x512, .f32⟩
  | .local _ .vmem, ⟨5, _⟩ => ⟨S1x512, .f32⟩
  | .local _ .vmem, ⟨6, _⟩ => ⟨S512x512, .bf16⟩
  | .local _ .vmem, ⟨7, _⟩ => ⟨S512x512, .bf16⟩
  | .local _ .vmem, ⟨8, _⟩ => ⟨S544x512, .f32⟩
  | .local _ .vmem, ⟨9, _⟩ => ⟨S7x536x512, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c6_i32 : BitVec 32 := 6#32
  let c0_i32 : BitVec 32 := 0#32
  ![v1.toNat, c6_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S31x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference4Ideal.lean ====
abbrev S2x8192x1024 : Shape := ⟨3, ![2, 8192, 1024]⟩
abbrev S31x1x512 : Shape := ⟨3, ![31, 1, 512]⟩
abbrev S512 : Shape := ⟨1, ![512]⟩
abbrev S2x8192x512 : Shape := ⟨3, ![2, 8192, 512]⟩
abbrev S_ : Shape := ⟨0, ![]⟩
abbrev S2x8222x512 : Shape := ⟨3, ![2, 8222, 512]⟩
abbrev S1x1x512 : Shape := ⟨3, ![1, 1, 512]⟩
abbrev S2x8192 : Shape := ⟨2, ![2, 8192]⟩
abbrev S2x8192x1 : Shape := ⟨3, ![2, 8192, 1]⟩
abbrev S16384x512 : Shape := ⟨2, ![16384, 512]⟩

abbrev nBuf : Space → Nat
  | .hbm => 281
  | .vmem => 0
  | .smem => 0
  | _ => 0

abbrev hbmTy0_0 (i : Nat) : BufTy := match i % 128 with
  | 0 => ⟨S2x8192x1024, .f32⟩
  | 1 => ⟨S31x1x512, .f32⟩
  | 2 => ⟨S512, .f32⟩
  | 3 => ⟨S512, .f32⟩
  | 4 => ⟨S512, .f32⟩
  | 5 => ⟨S2x8192x512, .f32⟩
  | 6 => ⟨S2x8192x512, .f32⟩
  | 7 => ⟨S2x8192x512, .f32⟩
  | 8 => ⟨S2x8192x512, .f32⟩
  | 9 => ⟨S_, .f32⟩
  | 10 => ⟨S2x8192x512, .f32⟩
  | 11 => ⟨S2x8192x512, .f32⟩
  | 12 => ⟨S_, .f32⟩
  | 13 => ⟨S2x8192x512, .f32⟩
  | 14 => ⟨S2x8192x512, .f32⟩
  | 15 => ⟨S2x8192x512, .f32⟩
  | 16 => ⟨S_, .i32⟩
  | 17 => ⟨S_, .f32⟩
  | 18 => ⟨S2x8222x512, .f32⟩
  | 19 => ⟨S1x1x512, .f32⟩
  | 20 => ⟨S512, .f32⟩
  | 21 => ⟨S2x8192x512, .f32⟩
  | 22 => ⟨S1x1x512, .f32⟩
  | 23 => ⟨S2x8192x512, .f32⟩
  | 24 => ⟨S2x8192x512, .f32⟩
  | 25 => ⟨S_, .f32⟩
  | 26 => ⟨S2x8192x512, .f32⟩
  | 27 => ⟨S2x8192x512, .f32⟩
  | 28 => ⟨S1x1x512, .f32⟩
  | 29 => ⟨S512, .f32⟩
  | 30 => ⟨S2x8192x512, .f32⟩
  | 31 => ⟨S1x1x512, .f32⟩
  | 32 => ⟨S2x8192x512, .f32⟩
  | 33 => ⟨S2x8192x512, .f32⟩
  | 34 => ⟨S2x8192x512, .f32⟩
  | 35 => ⟨S1x1x512, .f32⟩
  | 36 => ⟨S512, .f32⟩
  | 37 => ⟨S2x8192x512, .f32⟩
  | 38 => ⟨S1x1x512, .f32⟩
  | 39 => ⟨S2x8192x512, .f32⟩
  | 40 => ⟨S2x8192x512, .f32⟩
  | 41 => ⟨S2x8192x512, .f32⟩
  | 42 => ⟨S1x1x512, .f32⟩
  | 43 => ⟨S512, .f32⟩
  | 44 => ⟨S2x8192x512, .f32⟩
  | 45 => ⟨S1x1x512, .f32⟩
  | 46 => ⟨S2x8192x512, .f32⟩
  | 47 => ⟨S2x8192x512, .f32⟩
  | 48 => ⟨S2x8192x512, .f32⟩
  | 49 => ⟨S1x1x512, .f32⟩
  | 50 => ⟨S512, .f32⟩
  | 51 => ⟨S2x8192x512, .f32⟩
  | 52 => ⟨S1x1x512, .f32⟩
  | 53 => ⟨S2x8192x512, .f32⟩
  | 54 => ⟨S2x8192x512, .f32⟩
  | 55 => ⟨S2x8192x512, .f32⟩
  | 56 => ⟨S1x1x512, .f32⟩
  | 57 => ⟨S512, .f32⟩
  | 58 => ⟨S2x8192x512, .f32⟩
  | 59 => ⟨S1x1x512, .f32⟩
  | 60 => ⟨S2x8192x512, .f32⟩
  | 61 => ⟨S2x8192x512, .f32⟩
  | 62 => ⟨S2x8192x512, .f32⟩
  | 63 => ⟨S1x1x512, .f32⟩
  | 64 => ⟨S512, .f32⟩
  | 65 => ⟨S2x8192x512, .f32⟩
  | 66 => ⟨S1x1x512, .f32⟩
  | 67 => ⟨S2x8192x512, .f32⟩
  | 68 => ⟨S2x8192x512, .f32⟩
  | 69 => ⟨S2x8192x512, .f32⟩
  | 70 => ⟨S1x1x512, .f32⟩
  | 71 => ⟨S512, .f32⟩
  | 72 => ⟨S2x8192x512, .f32⟩
  | 73 => ⟨S1x1x512, .f32⟩
  | 74 => ⟨S2x8192x512, .f32⟩
  | 75 => ⟨S2x8192x512, .f32⟩
  | 76 => ⟨S2x8192x512, .f32⟩
  | 77 => ⟨S1x1x512, .f32⟩
  | 78 => ⟨S512, .f32⟩
  | 79 => ⟨S2x8192x512, .f32⟩
  | 80 => ⟨S1x1x512, .f32⟩
  | 81 => ⟨S2x8192x512, .f32⟩
  | 82 => ⟨S2x8192x512, .f32⟩
  | 83 => ⟨S2x8192x512, .f32⟩
  | 84 => ⟨S1x1x512, .f32⟩
  | 85 => ⟨S512, .f32⟩
  | 86 => ⟨S2x8192x512, .f32⟩
  | 87 => ⟨S1x1x512, .f32⟩
  | 88 => ⟨S2x8192x512, .f32⟩
  | 89 => ⟨S2x8192x512, .f32⟩
  | 90 => ⟨S2x8192x512, .f32⟩
  | 91 => ⟨S1x1x512, .f32⟩
  | 92 => ⟨S512, .f32⟩
  | 93 => ⟨S2x8192x512, .f32⟩
  | 94 => ⟨S1x1x512, .f32⟩
  | 95 => ⟨S2x8192x512, .f32⟩
  | 96 => ⟨S2x8192x512, .f32⟩
  | 97 => ⟨S2x8192x512, .f32⟩
  | 98 => ⟨S1x1x512, .f32⟩
  | 99 => ⟨S512, .f32⟩
  | 100 => ⟨S2x8192x512, .f32⟩
  | 101 => ⟨S1x1x512, .f32⟩
  | 102 => ⟨S2x8192x512, .f32⟩
  | 103 => ⟨S2x8192x512, .f32⟩
  | 104 => ⟨S2x8192x512, .f32⟩
  | 105 => ⟨S1x1x512, .f32⟩
  | 106 => ⟨S512, .f32⟩
  | 107 => ⟨S2x8192x512, .f32⟩
  | 108 => ⟨S1x1x512, .f32⟩
  | 109 => ⟨S2x8192x512, .f32⟩
  | 110 => ⟨S2x8192x512, .f32⟩
  | 111 => ⟨S2x8192x512, .f32⟩
  | 112 => ⟨S1x1x512, .f32⟩
  | 113 => ⟨S512, .f32⟩
  | 114 => ⟨S2x8192x512, .f32⟩
  | 115 => ⟨S1x1x512, .f32⟩
  | 116 => ⟨S2x8192x512, .f32⟩
  | 117 => ⟨S2x8192x512, .f32⟩
  | 118 => ⟨S2x8192x512, .f32⟩
  | 119 => ⟨S1x1x512, .f32⟩
  | 120 => ⟨S512, .f32⟩
  | 121 => ⟨S2x8192x512, .f32⟩
  | 122 => ⟨S1x1x512, .f32⟩
  | 123 => ⟨S2x8192x512, .f32⟩
  | 124 => ⟨S2x8192x512, .f32⟩
  | 125 => ⟨S2x8192x512, .f32⟩
  | 126 => ⟨S1x1x512, .f32⟩
  | 127 => ⟨S512, .f32⟩
  | _ => ⟨S2x8192x1024, .f32⟩

abbrev hbmTy0_1 (i : Nat) : BufTy := match i % 128 with
  | 0 => ⟨S2x8192x512, .f32⟩
  | 1 => ⟨S1x1x512, .f32⟩
  | 2 => ⟨S2x8192x512, .f32⟩
  | 3 => ⟨S2x8192x512, .f32⟩
  | 4 => ⟨S2x8192x512, .f32⟩
  | 5 => ⟨S1x1x512, .f32⟩
  | 6 => ⟨S512, .f32⟩
  | 7 => ⟨S2x8192x512, .f32⟩
  | 8 => ⟨S1x1x512, .f32⟩
  | 9 => ⟨S2x8192x512, .f32⟩
  | 10 => ⟨S2x8192x512, .f32⟩
  | 11 => ⟨S2x8192x512, .f32⟩
  | 12 => ⟨S1x1x512, .f32⟩
  | 13 => ⟨S512, .f32⟩
  | 14 => ⟨S2x8192x512, .f32⟩
  | 15 => ⟨S1x1x512, .f32⟩
  | 16 => ⟨S2x8192x512, .f32⟩
  | 17 => ⟨S2x8192x512, .f32⟩
  | 18 => ⟨S2x8192x512, .f32⟩
  | 19 => ⟨S1x1x512, .f32⟩
  | 20 => ⟨S512, .f32⟩
  | 21 => ⟨S2x8192x512, .f32⟩
  | 22 => ⟨S1x1x512, .f32⟩
  | 23 => ⟨S2x8192x512, .f32⟩
  | 24 => ⟨S2x8192x512, .f32⟩
  | 25 => ⟨S2x8192x512, .f32⟩
  | 26 => ⟨S1x1x512, .f32⟩
  | 27 => ⟨S512, .f32⟩
  | 28 => ⟨S2x8192x512, .f32⟩
  | 29 => ⟨S1x1x512, .f32⟩
  | 30 => ⟨S2x8192x512, .f32⟩
  | 31 => ⟨S2x8192x512, .f32⟩
  | 32 => ⟨S2x8192x512, .f32⟩
  | 33 => ⟨S1x1x512, .f32⟩
  | 34 => ⟨S512, .f32⟩
  | 35 => ⟨S2x8192x512, .f32⟩
  | 36 => ⟨S1x1x512, .f32⟩
  | 37 => ⟨S2x8192x512, .f32⟩
  | 38 => ⟨S2x8192x512, .f32⟩
  | 39 => ⟨S2x8192x512, .f32⟩
  | 40 => ⟨S1x1x512, .f32⟩
  | 41 => ⟨S512, .f32⟩
  | 42 => ⟨S2x8192x512, .f32⟩
  | 43 => ⟨S1x1x512, .f32⟩
  | 44 => ⟨S2x8192x512, .f32⟩
  | 45 => ⟨S2x8192x512, .f32⟩
  | 46 => ⟨S2x8192x512, .f32⟩
  | 47 => ⟨S1x1x512, .f32⟩
  | 48 => ⟨S512, .f32⟩
  | 49 => ⟨S2x8192x512, .f32⟩
  | 50 => ⟨S1x1x512, .f32⟩
  | 51 => ⟨S2x8192x512, .f32⟩
  | 52 => ⟨S2x8192x512, .f32⟩
  | 53 => ⟨S2x8192x512, .f32⟩
  | 54 => ⟨S1x1x512, .f32⟩
  | 55 => ⟨S512, .f32⟩
  | 56 => ⟨S2x8192x512, .f32⟩
  | 57 => ⟨S1x1x512, .f32⟩
  | 58 => ⟨S2x8192x512, .f32⟩
  | 59 => ⟨S2x8192x512, .f32⟩
  | 60 => ⟨S2x8192x512, .f32⟩
  | 61 => ⟨S1x1x512, .f32⟩
  | 62 => ⟨S512, .f32⟩
  | 63 => ⟨S2x8192x512, .f32⟩
  | 64 => ⟨S1x1x512, .f32⟩
  | 65 => ⟨S2x8192x512, .f32⟩
  | 66 => ⟨S2x8192x512, .f32⟩
  | 67 => ⟨S2x8192x512, .f32⟩
  | 68 => ⟨S1x1x512, .f32⟩
  | 69 => ⟨S512, .f32⟩
  | 70 => ⟨S2x8192x512, .f32⟩
  | 71 => ⟨S1x1x512, .f32⟩
  | 72 => ⟨S2x8192x512, .f32⟩
  | 73 => ⟨S2x8192x512, .f32⟩
  | 74 => ⟨S2x8192x512, .f32⟩
  | 75 => ⟨S1x1x512, .f32⟩
  | 76 => ⟨S512, .f32⟩
  | 77 => ⟨S2x8192x512, .f32⟩
  | 78 => ⟨S1x1x512, .f32⟩
  | 79 => ⟨S2x8192x512, .f32⟩
  | 80 => ⟨S2x8192x512, .f32⟩
  | 81 => ⟨S2x8192x512, .f32⟩
  | 82 => ⟨S1x1x512, .f32⟩
  | 83 => ⟨S512, .f32⟩
  | 84 => ⟨S2x8192x512, .f32⟩
  | 85 => ⟨S1x1x512, .f32⟩
  | 86 => ⟨S2x8192x512, .f32⟩
  | 87 => ⟨S2x8192x512, .f32⟩
  | 88 => ⟨S2x8192x512, .f32⟩
  | 89 => ⟨S1x1x512, .f32⟩
  | 90 => ⟨S512, .f32⟩
  | 91 => ⟨S2x8192x512, .f32⟩
  | 92 => ⟨S1x1x512, .f32⟩
  | 93 => ⟨S2x8192x512, .f32⟩
  | 94 => ⟨S2x8192x512, .f32⟩
  | 95 => ⟨S2x8192x512, .f32⟩
  | 96 => ⟨S1x1x512, .f32⟩
  | 97 => ⟨S512, .f32⟩
  | 98 => ⟨S2x8192x512, .f32⟩
  | 99 => ⟨S1x1x512, .f32⟩
  | 100 => ⟨S2x8192x512, .f32⟩
  | 101 => ⟨S2x8192x512, .f32⟩
  | 102 => ⟨S2x8192x512, .f32⟩
  | 103 => ⟨S1x1x512, .f32⟩
  | 104 => ⟨S512, .f32⟩
  | 105 => ⟨S2x8192x512, .f32⟩
  | 106 => ⟨S1x1x512, .f32⟩
  | 107 => ⟨S2x8192x512, .f32⟩
  | 108 => ⟨S2x8192x512, .f32⟩
  | 109 => ⟨S2x8192x512, .f32⟩
  | 110 => ⟨S1x1x512, .f32⟩
  | 111 => ⟨S2x8192x512, .f32⟩
  | 112 => ⟨S2x8192x512, .f32⟩
  | 113 => ⟨S_, .f32⟩
  | 114 => ⟨S2x8192, .f32⟩
  | 115 => ⟨S2x8192x1, .f32⟩
  | 116 => ⟨S_, .f32⟩
  | 117 => ⟨S2x8192x1, .f32⟩
  | 118 => ⟨S2x8192x1, .f32⟩
  | 119 => ⟨S2x8192x512, .f32⟩
  | 120 => ⟨S2x8192x512, .f32⟩
  | 121 => ⟨S2x8192x512, .f32⟩
  | 122 => ⟨S_, .f32⟩
  | 123 => ⟨S2x8192, .f32⟩
  | 124 => ⟨S2x8192x1, .f32⟩
  | 125 => ⟨S_, .f32⟩
  | 126 => ⟨S2x8192x1, .f32⟩
  | 127 => ⟨S2x8192x1, .f32⟩
  | _ => ⟨S2x8192x1024, .f32⟩

abbrev hbmTy0_2 (i : Nat) : BufTy := match i % 128 with
  | 0 => ⟨S2x8192x512, .f32⟩
  | 1 => ⟨S2x8192x512, .f32⟩
  | 2 => ⟨S_, .f32⟩
  | 3 => ⟨S2x8192x1, .f32⟩
  | 4 => ⟨S2x8192x1, .f32⟩
  | 5 => ⟨S2x8192x1, .f32⟩
  | 6 => ⟨S2x8192x512, .f32⟩
  | 7 => ⟨S2x8192x512, .f32⟩
  | 8 => ⟨S1x1x512, .f32⟩
  | 9 => ⟨S2x8192x512, .f32⟩
  | 10 => ⟨S2x8192x512, .f32⟩
  | 11 => ⟨S1x1x512, .f32⟩
  | 12 => ⟨S2x8192x512, .f32⟩
  | 13 => ⟨S2x8192x512, .f32⟩
  | 14 => ⟨S2x8192x512, .f32⟩
  | 15 => ⟨S2x8192x512, .f32⟩
  | 16 => ⟨S_, .f32⟩
  | 17 => ⟨S2x8192x512, .f32⟩
  | 18 => ⟨S2x8192x512, .f32⟩
  | 19 => ⟨S_, .f32⟩
  | 20 => ⟨S2x8192x512, .f32⟩
  | 21 => ⟨S2x8192x512, .f32⟩
  | 22 => ⟨S2x8192x512, .f32⟩
  | 23 => ⟨S16384x512, .f32⟩
  | 24 => ⟨S16384x512, .bf16⟩
  | _ => ⟨S2x8192x1024, .f32⟩

abbrev hbmTy (i : Nat) : BufTy := match i / 128 with
  | 0 => hbmTy0_0 i
  | 1 => hbmTy0_1 i
  | 2 => hbmTy0_2 i
  | _ => ⟨S2x8192x1024, .f32⟩

abbrev bufTy : (tb : Table) → Fin (tcTables nBuf tb) → BufTy
  | .hbm, ⟨i, _⟩ => hbmTy i
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_c : Ref sig .tc := ⟨.hbm, 16, rfl⟩
abbrev main_call0_v0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_1 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_v66 : Ref sig .tc := ⟨.hbm, 76, rfl⟩
abbrev main_v67 : Ref sig .tc := ⟨.hbm, 77, rfl⟩
abbrev main_v68 : Ref sig .tc := ⟨.hbm, 78, rfl⟩
abbrev main_v69 : Ref sig .tc := ⟨.hbm, 79, rfl⟩
abbrev main_v70 : Ref sig .tc := ⟨.hbm, 80, rfl⟩
abbrev main_v71 : Ref sig .tc := ⟨.hbm, 81, rfl⟩
abbrev main_v72 : Ref sig .tc := ⟨.hbm, 82, rfl⟩
abbrev main_v73 : Ref sig .tc := ⟨.hbm, 83, rfl⟩
abbrev main_v74 : Ref sig .tc := ⟨.hbm, 84, rfl⟩
abbrev main_v75 : Ref sig .tc := ⟨.hbm, 85, rfl⟩
abbrev main_v76 : Ref sig .tc := ⟨.hbm, 86, rfl⟩
abbrev main_v77 : Ref sig .tc := ⟨.hbm, 87, rfl⟩
abbrev main_v78 : Ref sig .tc := ⟨.hbm, 88, rfl⟩
abbrev main_v79 : Ref sig .tc := ⟨.hbm, 89, rfl⟩
abbrev main_v80 : Ref sig .tc := ⟨.hbm, 90, rfl⟩
abbrev main_v81 : Ref sig .tc := ⟨.hbm, 91, rfl⟩
abbrev main_v82 : Ref sig .tc := ⟨.hbm, 92, rfl⟩
abbrev main_v83 : Ref sig .tc := ⟨.hbm, 93, rfl⟩
abbrev main_v84 : Ref sig .tc := ⟨.hbm, 94, rfl⟩
abbrev main_v85 : Ref sig .tc := ⟨.hbm, 95, rfl⟩
abbrev main_v86 : Ref sig .tc := ⟨.hbm, 96, rfl⟩
abbrev main_v87 : Ref sig .tc := ⟨.hbm, 97, rfl⟩
abbrev main_v88 : Ref sig .tc := ⟨.hbm, 98, rfl⟩
abbrev main_v89 : Ref sig .tc := ⟨.hbm, 99, rfl⟩
abbrev main_v90 : Ref sig .tc := ⟨.hbm, 100, rfl⟩
abbrev main_v91 : Ref sig .tc := ⟨.hbm, 101, rfl⟩
abbrev main_v92 : Ref sig .tc := ⟨.hbm, 102, rfl⟩
abbrev main_v93 : Ref sig .tc := ⟨.hbm, 103, rfl⟩
abbrev main_v94 : Ref sig .tc := ⟨.hbm, 104, rfl⟩
abbrev main_v95 : Ref sig .tc := ⟨.hbm, 105, rfl⟩
abbrev main_v96 : Ref sig .tc := ⟨.hbm, 106, rfl⟩
abbrev main_v97 : Ref sig .tc := ⟨.hbm, 107, rfl⟩
abbrev main_v98 : Ref sig .tc := ⟨.hbm, 108, rfl⟩
abbrev main_v99 : Ref sig .tc := ⟨.hbm, 109, rfl⟩
abbrev main_v100 : Ref sig .tc := ⟨.hbm, 110, rfl⟩
abbrev main_v101 : Ref sig .tc := ⟨.hbm, 111, rfl⟩
abbrev main_v102 : Ref sig .tc := ⟨.hbm, 112, rfl⟩
abbrev main_v103 : Ref sig .tc := ⟨.hbm, 113, rfl⟩
abbrev main_v104 : Ref sig .tc := ⟨.hbm, 114, rfl⟩
abbrev main_v105 : Ref sig .tc := ⟨.hbm, 115, rfl⟩
abbrev main_v106 : Ref sig .tc := ⟨.hbm, 116, rfl⟩
abbrev main_v107 : Ref sig .tc := ⟨.hbm, 117, rfl⟩
abbrev main_v108 : Ref sig .tc := ⟨.hbm, 118, rfl⟩
abbrev main_v109 : Ref sig .tc := ⟨.hbm, 119, rfl⟩
abbrev main_v110 : Ref sig .tc := ⟨.hbm, 120, rfl⟩
abbrev main_v111 : Ref sig .tc := ⟨.hbm, 121, rfl⟩
abbrev main_v112 : Ref sig .tc := ⟨.hbm, 122, rfl⟩
abbrev main_v113 : Ref sig .tc := ⟨.hbm, 123, rfl⟩
abbrev main_v114 : Ref sig .tc := ⟨.hbm, 124, rfl⟩
abbrev main_v115 : Ref sig .tc := ⟨.hbm, 125, rfl⟩
abbrev main_v116 : Ref sig .tc := ⟨.hbm, 126, rfl⟩
abbrev main_v117 : Ref sig .tc := ⟨.hbm, 127, rfl⟩
abbrev main_v118 : Ref sig .tc := ⟨.hbm, 128, rfl⟩
abbrev main_v119 : Ref sig .tc := ⟨.hbm, 129, rfl⟩
abbrev main_v120 : Ref sig .tc := ⟨.hbm, 130, rfl⟩
abbrev main_v121 : Ref sig .tc := ⟨.hbm, 131, rfl⟩
abbrev main_v122 : Ref sig .tc := ⟨.hbm, 132, rfl⟩
abbrev main_v123 : Ref sig .tc := ⟨.hbm, 133, rfl⟩
abbrev main_v124 : Ref sig .tc := ⟨.hbm, 134, rfl⟩
abbrev main_v125 : Ref sig .tc := ⟨.hbm, 135, rfl⟩
abbrev main_v126 : Ref sig .tc := ⟨.hbm, 136, rfl⟩
abbrev main_v127 : Ref sig .tc := ⟨.hbm, 137, rfl⟩
abbrev main_v128 : Ref sig .tc := ⟨.hbm, 138, rfl⟩
abbrev main_v129 : Ref sig .tc := ⟨.hbm, 139, rfl⟩
abbrev main_v130 : Ref sig .tc := ⟨.hbm, 140, rfl⟩
abbrev main_v131 : Ref sig .tc := ⟨.hbm, 141, rfl⟩
abbrev main_v132 : Ref sig .tc := ⟨.hbm, 142, rfl⟩
abbrev main_v133 : Ref sig .tc := ⟨.hbm, 143, rfl⟩
abbrev main_v134 : Ref sig .tc := ⟨.hbm, 144, rfl⟩
abbrev main_v135 : Ref sig .tc := ⟨.hbm, 145, rfl⟩
abbrev main_v136 : Ref sig .tc := ⟨.hbm, 146, rfl⟩
abbrev main_v137 : Ref sig .tc := ⟨.hbm, 147, rfl⟩
abbrev main_v138 : Ref sig .tc := ⟨.hbm, 148, rfl⟩
abbrev main_v139 : Ref sig .tc := ⟨.hbm, 149, rfl⟩
abbrev main_v140 : Ref sig .tc := ⟨.hbm, 150, rfl⟩
abbrev main_v141 : Ref sig .tc := ⟨.hbm, 151, rfl⟩
abbrev main_v142 : Ref sig .tc := ⟨.hbm, 152, rfl⟩
abbrev main_v143 : Ref sig .tc := ⟨.hbm, 153, rfl⟩
abbrev main_v144 : Ref sig .tc := ⟨.hbm, 154, rfl⟩
abbrev main_v145 : Ref sig .tc := ⟨.hbm, 155, rfl⟩
abbrev main_v146 : Ref sig .tc := ⟨.hbm, 156, rfl⟩
abbrev main_v147 : Ref sig .tc := ⟨.hbm, 157, rfl⟩
abbrev main_v148 : Ref sig .tc := ⟨.hbm, 158, rfl⟩
abbrev main_v149 : Ref sig .tc := ⟨.hbm, 159, rfl⟩
abbrev main_v150 : Ref sig .tc := ⟨.hbm, 160, rfl⟩
abbrev main_v151 : Ref sig .tc := ⟨.hbm, 161, rfl⟩
abbrev main_v152 : Ref sig .tc := ⟨.hbm, 162, rfl⟩
abbrev main_v153 : Ref sig .tc := ⟨.hbm, 163, rfl⟩
abbrev main_v154 : Ref sig .tc := ⟨.hbm, 164, rfl⟩
abbrev main_v155 : Ref sig .tc := ⟨.hbm, 165, rfl⟩
abbrev main_v156 : Ref sig .tc := ⟨.hbm, 166, rfl⟩
abbrev main_v157 : Ref sig .tc := ⟨.hbm, 167, rfl⟩
abbrev main_v158 : Ref sig .tc := ⟨.hbm, 168, rfl⟩
abbrev main_v159 : Ref sig .tc := ⟨.hbm, 169, rfl⟩
abbrev main_v160 : Ref sig .tc := ⟨.hbm, 170, rfl⟩
abbrev main_v161 : Ref sig .tc := ⟨.hbm, 171, rfl⟩
abbrev main_v162 : Ref sig .tc := ⟨.hbm, 172, rfl⟩
abbrev main_v163 : Ref sig .tc := ⟨.hbm, 173, rfl⟩
abbrev main_v164 : Ref sig .tc := ⟨.hbm, 174, rfl⟩
abbrev main_v165 : Ref sig .tc := ⟨.hbm, 175, rfl⟩
abbrev main_v166 : Ref sig .tc := ⟨.hbm, 176, rfl⟩
abbrev main_v167 : Ref sig .tc := ⟨.hbm, 177, rfl⟩
abbrev main_v168 : Ref sig .tc := ⟨.hbm, 178, rfl⟩
abbrev main_v169 : Ref sig .tc := ⟨.hbm, 179, rfl⟩
abbrev main_v170 : Ref sig .tc := ⟨.hbm, 180, rfl⟩
abbrev main_v171 : Ref sig .tc := ⟨.hbm, 181, rfl⟩
abbrev main_v172 : Ref sig .tc := ⟨.hbm, 182, rfl⟩
abbrev main_v173 : Ref sig .tc := ⟨.hbm, 183, rfl⟩
abbrev main_v174 : Ref sig .tc := ⟨.hbm, 184, rfl⟩
abbrev main_v175 : Ref sig .tc := ⟨.hbm, 185, rfl⟩
abbrev main_v176 : Ref sig .tc := ⟨.hbm, 186, rfl⟩
abbrev main_v177 : Ref sig .tc := ⟨.hbm, 187, rfl⟩
abbrev main_v178 : Ref sig .tc := ⟨.hbm, 188, rfl⟩
abbrev main_v179 : Ref sig .tc := ⟨.hbm, 189, rfl⟩
abbrev main_v180 : Ref sig .tc := ⟨.hbm, 190, rfl⟩
abbrev main_v181 : Ref sig .tc := ⟨.hbm, 191, rfl⟩
abbrev main_v182 : Ref sig .tc := ⟨.hbm, 192, rfl⟩
abbrev main_v183 : Ref sig .tc := ⟨.hbm, 193, rfl⟩
abbrev main_v184 : Ref sig .tc := ⟨.hbm, 194, rfl⟩
abbrev main_v185 : Ref sig .tc := ⟨.hbm, 195, rfl⟩
abbrev main_v186 : Ref sig .tc := ⟨.hbm, 196, rfl⟩
abbrev main_v187 : Ref sig .tc := ⟨.hbm, 197, rfl⟩
abbrev main_v188 : Ref sig .tc := ⟨.hbm, 198, rfl⟩
abbrev main_v189 : Ref sig .tc := ⟨.hbm, 199, rfl⟩
abbrev main_v190 : Ref sig .tc := ⟨.hbm, 200, rfl⟩
abbrev main_v191 : Ref sig .tc := ⟨.hbm, 201, rfl⟩
abbrev main_v192 : Ref sig .tc := ⟨.hbm, 202, rfl⟩
abbrev main_v193 : Ref sig .tc := ⟨.hbm, 203, rfl⟩
abbrev main_v194 : Ref sig .tc := ⟨.hbm, 204, rfl⟩
abbrev main_v195 : Ref sig .tc := ⟨.hbm, 205, rfl⟩
abbrev main_v196 : Ref sig .tc := ⟨.hbm, 206, rfl⟩
abbrev main_v197 : Ref sig .tc := ⟨.hbm, 207, rfl⟩
abbrev main_v198 : Ref sig .tc := ⟨.hbm, 208, rfl⟩
abbrev main_v199 : Ref sig .tc := ⟨.hbm, 209, rfl⟩
abbrev main_v200 : Ref sig .tc := ⟨.hbm, 210, rfl⟩
abbrev main_v201 : Ref sig .tc := ⟨.hbm, 211, rfl⟩
abbrev main_v202 : Ref sig .tc := ⟨.hbm, 212, rfl⟩
abbrev main_v203 : Ref sig .tc := ⟨.hbm, 213, rfl⟩
abbrev main_v204 : Ref sig .tc := ⟨.hbm, 214, rfl⟩
abbrev main_v205 : Ref sig .tc := ⟨.hbm, 215, rfl⟩
abbrev main_v206 : Ref sig .tc := ⟨.hbm, 216, rfl⟩
abbrev main_v207 : Ref sig .tc := ⟨.hbm, 217, rfl⟩
abbrev main_v208 : Ref sig .tc := ⟨.hbm, 218, rfl⟩
abbrev main_v209 : Ref sig .tc := ⟨.hbm, 219, rfl⟩
abbrev main_v210 : Ref sig .tc := ⟨.hbm, 220, rfl⟩
abbrev main_v211 : Ref sig .tc := ⟨.hbm, 221, rfl⟩
abbrev main_v212 : Ref sig .tc := ⟨.hbm, 222, rfl⟩
abbrev main_v213 : Ref sig .tc := ⟨.hbm, 223, rfl⟩
abbrev main_v214 : Ref sig .tc := ⟨.hbm, 224, rfl⟩
abbrev main_v215 : Ref sig .tc := ⟨.hbm, 225, rfl⟩
abbrev main_v216 : Ref sig .tc := ⟨.hbm, 226, rfl⟩
abbrev main_v217 : Ref sig .tc := ⟨.hbm, 227, rfl⟩
abbrev main_v218 : Ref sig .tc := ⟨.hbm, 228, rfl⟩
abbrev main_v219 : Ref sig .tc := ⟨.hbm, 229, rfl⟩
abbrev main_v220 : Ref sig .tc := ⟨.hbm, 230, rfl⟩
abbrev main_v221 : Ref sig .tc := ⟨.hbm, 231, rfl⟩
abbrev main_v222 : Ref sig .tc := ⟨.hbm, 232, rfl⟩
abbrev main_v223 : Ref sig .tc := ⟨.hbm, 233, rfl⟩
abbrev main_v224 : Ref sig .tc := ⟨.hbm, 234, rfl⟩
abbrev main_v225 : Ref sig .tc := ⟨.hbm, 235, rfl⟩
abbrev main_v226 : Ref sig .tc := ⟨.hbm, 236, rfl⟩
abbrev main_v227 : Ref sig .tc := ⟨.hbm, 237, rfl⟩
abbrev main_v228 : Ref sig .tc := ⟨.hbm, 238, rfl⟩
abbrev main_v229 : Ref sig .tc := ⟨.hbm, 239, rfl⟩
abbrev main_v230 : Ref sig .tc := ⟨.hbm, 240, rfl⟩
abbrev main_cst_2 : Ref sig .tc := ⟨.hbm, 241, rfl⟩
abbrev main_v231 : Ref sig .tc := ⟨.hbm, 242, rfl⟩
abbrev main_v232 : Ref sig .tc := ⟨.hbm, 243, rfl⟩
abbrev main_cst_3 : Ref sig .tc := ⟨.hbm, 244, rfl⟩
abbrev main_v233 : Ref sig .tc := ⟨.hbm, 245, rfl⟩
abbrev main_v234 : Ref sig .tc := ⟨.hbm, 246, rfl⟩
abbrev main_v235 : Ref sig .tc := ⟨.hbm, 247, rfl⟩
abbrev main_v236 : Ref sig .tc := ⟨.hbm, 248, rfl⟩
abbrev main_v237 : Ref sig .tc := ⟨.hbm, 249, rfl⟩
abbrev main_cst_4 : Ref sig .tc := ⟨.hbm, 250, rfl⟩
abbrev main_v238 : Ref sig .tc := ⟨.hbm, 251, rfl⟩
abbrev main_v239 : Ref sig .tc := ⟨.hbm, 252, rfl⟩
abbrev main_cst_5 : Ref sig .tc := ⟨.hbm, 253, rfl⟩
abbrev main_v240 : Ref sig .tc := ⟨.hbm, 254, rfl⟩
abbrev main_v241 : Ref sig .tc := ⟨.hbm, 255, rfl⟩
abbrev main_v242 : Ref sig .tc := ⟨.hbm, 256, rfl⟩
abbrev main_v243 : Ref sig .tc := ⟨.hbm, 257, rfl⟩
abbrev main_cst_6 : Ref sig .tc := ⟨.hbm, 258, rfl⟩
abbrev main_v244 : Ref sig .tc := ⟨.hbm, 259, rfl⟩
abbrev main_v245 : Ref sig .tc := ⟨.hbm, 260, rfl⟩
abbrev main_v246 : Ref sig .tc := ⟨.hbm, 261, rfl⟩
abbrev main_v247 : Ref sig .tc := ⟨.hbm, 262, rfl⟩
abbrev main_v248 : Ref sig .tc := ⟨.hbm, 263, rfl⟩
abbrev main_v249 : Ref sig .tc := ⟨.hbm, 264, rfl⟩
abbrev main_v250 : Ref sig .tc := ⟨.hbm, 265, rfl⟩
abbrev main_v251 : Ref sig .tc := ⟨.hbm, 266, rfl⟩
abbrev main_v252 : Ref sig .tc := ⟨.hbm, 267, rfl⟩
abbrev main_v253 : Ref sig .tc := ⟨.hbm, 268, rfl⟩
abbrev main_v254 : Ref sig .tc := ⟨.hbm, 269, rfl⟩
abbrev main_call1_v0 : Ref sig .tc := ⟨.hbm, 270, rfl⟩
abbrev main_call1_v1 : Ref sig .tc := ⟨.hbm, 271, rfl⟩
abbrev main_call1_cst : Ref sig .tc := ⟨.hbm, 272, rfl⟩
abbrev main_call1_v2 : Ref sig .tc := ⟨.hbm, 273, rfl⟩
abbrev main_call1_v3 : Ref sig .tc := ⟨.hbm, 274, rfl⟩
abbrev main_call1_cst_0 : Ref sig .tc := ⟨.hbm, 275, rfl⟩
abbrev main_call1_v4 : Ref sig .tc := ⟨.hbm, 276, rfl⟩
abbrev main_call1_v5 : Ref sig .tc := ⟨.hbm, 277, rfl⟩
abbrev main_v255 : Ref sig .tc := ⟨.hbm, 278, rfl⟩
abbrev main_v256 : Ref sig .tc := ⟨.hbm, 279, rfl⟩
abbrev main_v257 : Ref sig .tc := ⟨.hbm, 280, rfl⟩

abbrev nD : Nat := 1
abbrev τ : Topo := Topo.v7x

variable {F : FTy → Type} [FloatOps F]
-- ==== Proof.Fox.Spec.lean ====
/-
  What one grid point of the attention kernel leaves behind, as plain functions of vectors: the staged keys and
  values of a pair of heads, the running maximum and accumulator after some key blocks, and the output block.
-/
module

public import proofs.«01_k».proof.Proof.Gen.KernelIdeal.Points
public import proofs.«01_k».proof.Proof.Gen.KernelIdeal.Skeleton
public import Idealize.ShloMosaic.Lib.VecWindow
public import Idealize.ShloMosaic.Lib.Pointwise

@[expose] public section

set_option maxRecDepth 16384

noncomputable section

namespace Cert.KernelIdeal.Fox

open Idealize.ShloMosaic Idealize.ShloMosaic.TcCoe
open Cert.KernelIdeal.Gen

variable {F : FTy → Type} [FloatOps F] [Named F]

/-- The running maximum and the running accumulator of the two heads of a pair. -/
abbrev MA (F : FTy → Type) : Type := Vec F S2x1x1024 .f32 × Vec F S2x256x1024 .f32

/-- Block `k` of a head's columns of a staged array. -/
def blkOf (x : Vec F S8192x256 .bf16) (h : Fin 2) (k : Fin 8) : Vec F S1024x128 .bf16 := fun z =>
  x (ix2 ⟨k.val * 1024 + (z 0).val, by have hz : (z 0).val < 1024 := (z 0).isLt; omega⟩
    ⟨h.val * 128 + (z 1).val, by have hz : (z 1).val < 128 := (z 1).isLt; omega⟩)

/-- The staged keys: columns below 128 are the head's keys, the others its auxiliary columns. -/
def KKof (xk xa : Vec F S8192x256 .bf16) : Vec F S2x8192x256 .bf16 := fun y =>
  if h : (y 2).val < 128 then
    k0_pay4 (blkOf xk (y 0) ⟨(y 1).val / 1024, by have h1 : (y 1).val < 8192 := (y 1).isLt; omega⟩) (ix3 0 ⟨(y 1).val % 1024, by omega⟩ ⟨(y 2).val, h⟩)
  else k0_pay4 (blkOf xa (y 0) ⟨(y 1).val / 1024, by have h1 : (y 1).val < 8192 := (y 1).isLt; omega⟩)
    (ix3 0 ⟨(y 1).val % 1024, by omega⟩ ⟨(y 2).val - 128, by have h2 : (y 2).val < 256 := (y 2).isLt; omega⟩)

/-- The staged values, transposed, block by block: rows below 128 are the head's values, the others hold the one. -/
def VTof (xv : Vec F S8192x256 .bf16) : Vec F S2x8x256x1024 .bf16 := fun y =>
  if h : (y 2).val < 128 then k0_pay6 (blkOf xv (y 0) (y 1)) (ix4 0 0 ⟨(y 2).val, h⟩ (y 3))
  else k0_pay7 (F := F) (ix4 0 0 ⟨(y 2).val - 128, by have h2 : (y 2).val < 256 := (y 2).isLt; omega⟩ (y 3))

/-- Key block `k` of head `h`. -/
def kkW (KK : Vec F S2x8192x256 .bf16) (h : Fin 2) (k : ℕ) : Vec F S1x1024x256 .bf16 := fun y =>
  KK (ix3 h ⟨(k % 8) * 1024 + (y 1).val, by have hy : (y 1).val < 1024 := (y 1).isLt; omega⟩ (y 2))

/-- The first half of key block `k` of head `h`. -/
def kkH (KK : Vec F S2x8192x256 .bf16) (h : Fin 2) (k : ℕ) : Vec F S1x512x256 .bf16 := fun y =>
  KK (ix3 h ⟨(k % 8) * 1024 + (y 1).val, by have hy : (y 1).val < 512 := (y 1).isLt; omega⟩ (y 2))

/-- Value block `k` of head `h`. -/
def vtW (VT : Vec F S2x8x256x1024 .bf16) (h : Fin 2) (k : ℕ) : Vec F S1x1x256x1024 .bf16 := fun y =>
  VT (ix4 h ⟨k % 8, by omega⟩ (y 2) (y 3))

/-- The first half of value block `k` of head `h`. -/
def vtH (VT : Vec F S2x8x256x1024 .bf16) (h : Fin 2) (k : ℕ) : Vec F S1x1x256x512 .bf16 := fun y =>
  VT (ix4 h ⟨k % 8, by omega⟩ (y 2) ⟨(y 3).val, by have hy : (y 3).val < 512 := (y 3).isLt; omega⟩)

/-- Head `h` of a vector of both. -/
def hd {α : Type} {a b : ℕ} (x : (⟨3, ![2, a, b]⟩ : Shape).Idx → α) (h : Fin 2) : (⟨3, ![1, a, b]⟩ : Shape).Idx → α := fun y =>
  x (ix3 h (y 1) (y 2))

/-- Head `h` of a vector of both, one half of the queries. -/
def hdq {α : Type} {a : ℕ} (x : (⟨3, ![2, a, 1024]⟩ : Shape).Idx → α) (h q : Fin 2) : (⟨3, ![1, a, 512]⟩ : Shape).Idx → α := fun y =>
  x (ix3 h (y 1) ⟨q.val * 512 + (y 2).val, by have hy : (y 2).val < 512 := (y 2).isLt; omega⟩)

/-- One key block below the diagonal: both heads. -/
def trip (v7 v12 : FVec F S1024x256 .bf16) (KK : Vec F S2x8192x256 .bf16) (VT : Vec F S2x8x256x1024 .bf16) (k : ℕ) (S : MA F) : MA F :=
  (fun y => if (y 0).val = 0 then k0_pay27 (k0_pay12 v7 (kkW KK 0 k) (hd S.1 0)) (ix3 0 (y 1) (y 2))
      else k0_pay31 (k0_pay10 v12 (kkW KK 1 k)) (hd S.1 1) (ix3 0 (y 1) (y 2)),
    fun y => if (y 0).val = 0 then k0_pay13 v7 (kkW KK 0 k) (hd S.1 0) (hd S.2 0) (vtW VT 0 k) (ix3 0 (y 1) (y 2))
      else k0_pay30 (k0_pay10 v12 (kkW KK 1 k)) (hd S.1 1) (hd S.2 1) (vtW VT 1 k) (ix3 0 (y 1) (y 2)))

/-- The state after the key blocks before `k`, from a first state. -/
def trips (v7 v12 : FVec F S1024x256 .bf16) (KK : Vec F S2x8192x256 .bf16) (VT : Vec F S2x8x256x1024 .bf16) (S0 : MA F) : ℕ → MA F
  | 0 => S0
  | k + 1 => trip v7 v12 KK VT k (trips v7 v12 KK VT S0 k)

/-- The staged keys after `j` blocks were copied over `G`. -/
def fillK (xk xa : Vec F S8192x256 .bf16) (G : Vec F S2x8192x256 .bf16) : ℕ → Vec F S2x8192x256 .bf16
  | 0 => G
  | j + 1 => fun y => if (y 1).val / 1024 = j then KKof xk xa y else fillK xk xa G j y

/-- The staged values after `j` blocks were copied over `G`. -/
def fillV (xv : Vec F S8192x256 .bf16) (G : Vec F S2x8x256x1024 .bf16) : ℕ → Vec F S2x8x256x1024 .bf16
  | 0 => G
  | j + 1 => fun y => if (y 1).val = j then VTof xv y else fillV xv G j y

theorem fillK_of (xk xa : Vec F S8192x256 .bf16) (G : Vec F S2x8192x256 .bf16) : ∀ (j : ℕ) (y : S2x8192x256.Idx),
    (y 1).val / 1024 < j → fillK xk xa G j y = KKof xk xa y
  | 0, y, h => absurd h (Nat.not_lt_zero _)
  | j + 1, y, h => by
    show (if (y 1).val / 1024 = j then KKof xk xa y else fillK xk xa G j y) = _
    split
    · rfl
    · exact fillK_of xk xa G j y (by omega)

theorem fillV_of (xv : Vec F S8192x256 .bf16) (G : Vec F S2x8x256x1024 .bf16) : ∀ (j : ℕ) (y : S2x8x256x1024.Idx),
    (y 1).val < j → fillV xv G j y = VTof xv y
  | 0, y, h => absurd h (Nat.not_lt_zero _)
  | j + 1, y, h => by
    show (if (y 1).val = j then VTof xv y else fillV xv G j y) = _
    split
    · rfl
    · exact fillV_of xv G j y (by omega)

/-- All eight blocks copied: nothing of `G` is left. -/
theorem fillK_full (xk xa : Vec F S8192x256 .bf16) (G : Vec F S2x8192x256 .bf16) : fillK xk xa G 8 = KKof xk xa :=
  funext fun y => fillK_of xk xa G 8 y (by have h : (y 1).val < 8192 := (y 1).isLt; omega)

theorem fillV_full (xv : Vec F S8192x256 .bf16) (G : Vec F S2x8x256x1024 .bf16) : fillV xv G 8 = VTof xv :=
  funext fun y => fillV_of xv G 8 y (by have h : (y 1).val < 8 := (y 1).isLt; omega)

/-- The four accumulator pieces of the diagonal block: head, and half of the queries. -/
def diagP (v7 v12 : FVec F S1024x256 .bf16) (KK : Vec F S2x8192x256 .bf16) (VT : Vec F S2x8x256x1024 .bf16) (k : ℕ) (S : MA F) :
    (h q : Fin 2) → Vec F S1x256x512 .f32
  | 0, 0 => k0_pay46 (k0_pay43 v7 (kkH KK 0 k) (hdq S.1 0 0)) (k0_pay44 (hdq S.2 0 0)) (k0_pay45 v7 (kkH KK 0 k) (hdq S.1 0 0)) (vtH VT 0 k)
  | 0, 1 => k0_pay53 (k0_pay51 (k0_pay37 v7 (kkW KK 0 k)) (hdq S.1 0 1)) (k0_pay52 (k0_pay37 v7 (kkW KK 0 k)) (hdq S.1 0 1) (hdq S.2 0 1)) (vtW VT 0 k)
  | 1, 0 => k0_pay59 (k0_pay58 (k0_pay38 v12 (kkH KK 1 k)) (hdq S.1 1 0) (hdq S.2 1 0) (vtH VT 1 k))
  | 1, 1 => k0_pay64 (k0_pay39 v12 (kkW KK 1 k)) (hdq S.1 1 1) (hdq S.2 1 1) (vtW VT 1 k)

/-- A head's accumulator after the diagonal block, from its two halves. -/
def halves (w0 w1 : Vec F S1x256x512 .f32) : Vec F S1x256x1024 .f32 := fun y =>
  if h : (y 2).val < 512 then w0 (ix3 0 (y 1) ⟨(y 2).val, h⟩)
  else w1 (ix3 0 (y 1) ⟨(y 2).val - 512, by have hy : (y 2).val < 1024 := (y 2).isLt; omega⟩)

/-- Left and right half of the columns. -/
def cols {α : Type} (w0 w1 : S1024x128.Idx → α) : S1024x256.Idx → α := fun y =>
  if h : (y 1).val < 128 then w0 (ix2 (y 0) ⟨(y 1).val, h⟩)
  else w1 (ix2 (y 0) ⟨(y 1).val - 128, by have hy : (y 1).val < 256 := (y 1).isLt; omega⟩)

/-- Head `h`'s columns of a block. -/
def colh {α : Type} (x : S1024x256.Idx → α) (h : Fin 2) : S1024x128.Idx → α := fun y =>
  x (ix2 (y 0) ⟨h.val * 128 + (y 1).val, by have hy : (y 1).val < 128 := (y 1).isLt; omega⟩)

/-- A head's queries beside their auxiliary columns. -/
abbrev q7 (xq xa : Vec F S1024x256 .bf16) : FVec F S1024x256 .bf16 := k0_pay23 (colh xq 0) (colh xa 0)

/-- The same of the second head. -/
abbrev q12 (xq xa : Vec F S1024x256 .bf16) : FVec F S1024x256 .bf16 := k0_pay24 (colh xq 1) (colh xa 1)

/-- The output block of query block `n`. -/
def OUT (n : ℕ) (KK : Vec F S2x8192x256 .bf16) (VT : Vec F S2x8x256x1024 .bf16) (xq xa : Vec F S1024x256 .bf16) : Vec F S1024x256 .bf16 :=
  let v7 := q7 xq xa
  let v12 := q12 xq xa
  let S := trips v7 v12 KK VT (k0_pay25, k0_pay26) n
  cols (k0_pay2 (halves (diagP v7 v12 KK VT n S 0 0) (diagP v7 v12 KK VT n S 0 1)))
    (k0_pay3 (halves (diagP v7 v12 KK VT n S 1 0) (diagP v7 v12 KK VT n S 1 1)))

end Cert.KernelIdeal.Fox

end
-- ==== Proof.Fox.Loops.lean ====
/-
  The three counted loops of the attention kernel's body, each by its invariant: the copy of the keys and values
  into scratch, the walk over the key blocks below the diagonal, and the walk's remainder, which makes no trip.
-/
module

public import proofs.«01_k».proof.Proof.Fox.Spec
public import proofs.«01_k».proof.Proof.Gen.KernelIdeal.Frame

@[expose] public section

set_option maxRecDepth 16384
set_option maxHeartbeats 1000000

noncomputable section

namespace Cert.KernelIdeal.Fox

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F] [Named F]

local notation "𝕄" => MT nD τ sig Unit (Elt F) ℕ (UR sig nD τ) ℕ

theorem trips1 : k0_t1_loop.trips = 8 := by decide +kernel

theorem trips2 (i : grid0.Coords) : (k0_t2_loop i).trips = (i 2).val := by
  have h : ∀ n : Fin 8, (Scf.Loop.mk (0#32) (Scalar.addi 0#32 (Scalar.muli (Scalar.divsi (Scalar.subi (BitVec.ofNat 32 n.val) 0#32) 1#32) 1#32)) 1#32 : Scf.Loop 32).trips = n.val := by decide +kernel
  exact h (i 2)

theorem trips3 (i : grid0.Coords) : (k0_t3_loop i).trips = 0 := by
  have h : ∀ n : Fin 8, (Scf.Loop.mk (Scalar.addi 0#32 (Scalar.muli (Scalar.divsi (Scalar.subi (BitVec.ofNat 32 n.val) 0#32) 1#32) 1#32)) (Scalar.addi 0#32 (Scalar.subi (BitVec.ofNat 32 n.val) 0#32)) 1#32 : Scf.Loop 32).trips = 0 := by decide +kernel
  exact h (i 2)

/-- The row a trip starts at, and the trip itself, as numbers. -/
theorem iv_row : ∀ k : Fin 8, (Scalar.indexCast (Scalar.muli (Scf.iv (0#32) (1#32) k.val) (1024#32))).toNat = k.val * 1024 := by decide +kernel
theorem iv_self : ∀ k : Fin 8, (Scalar.indexCast (Scf.iv (0#32) (1#32) k.val)).toNat = k.val := by decide +kernel

section
variable (i : grid0.Coords) (k : Fin (k0_t2_loop i).trips)
theorem lt2 : k.val < 8 := by have h := k.isLt; have h8 : (i 2).val < 8 := (i 2).isLt; have e := trips2 i; omega
theorem off11 : k0_off11 i k = ![0, k.val * 1024, 0] := by
  have h := iv_row ⟨k.val, lt2 i k⟩; unfold k0_off11; rw [← h]
theorem off12 : k0_off12 i k = ![1, k.val * 1024, 0] := by
  have h := iv_row ⟨k.val, lt2 i k⟩; unfold k0_off12; rw [← h]
theorem off13 : k0_off13 i k = ![0, k.val, 0, 0] := by
  have h := iv_self ⟨k.val, lt2 i k⟩; unfold k0_off13; dsimp only at h ⊢; rw [h]
theorem off14 : k0_off14 i k = ![1, k.val, 0, 0] := by
  have h := iv_self ⟨k.val, lt2 i k⟩; unfold k0_off14; dsimp only at h ⊢; rw [h]
end

/-- Two puts, one per head, over any vector. -/
theorem put_heads {α : Type} {a b : ℕ} (x : (⟨3, ![2, a, b]⟩ : Shape).Idx → α) (w0 w1 : (⟨3, ![1, a, b]⟩ : Shape).Idx → α) :
    VecWindow.put (VecWindow.put x ![0, 0, 0] ![1, a, b] w0) ![1, 0, 0] ![1, a, b] w1
      = fun y => if (y 0).val = 0 then w0 (ix3 0 (y 1) (y 2)) else w1 (ix3 0 (y 1) (y 2)) := by
  funext y
  have h0 : (y 0).val < 2 := (y 0).isLt
  have h1 : (y 1).val < a := (y 1).isLt
  have h2 : (y 2).val < b := (y 2).isLt
  by_cases h : (y 0).val = 0
  · have n1 : ¬ ∀ c, (![1, 0, 0] : Fin 3 → ℕ) c ≤ (y c).val ∧ (y c).val < (![1, 0, 0] : Fin 3 → ℕ) c + (![1, a, b] : Fin 3 → ℕ) c := fun hh => by
      have := (hh 0).1; simp at this; omega
    have p0 : ∀ c, (![0, 0, 0] : Fin 3 → ℕ) c ≤ (y c).val ∧ (y c).val < (![0, 0, 0] : Fin 3 → ℕ) c + (![1, a, b] : Fin 3 → ℕ) c := by
      intro c; fin_cases c
      · show 0 ≤ (y 0).val ∧ (y 0).val < 0 + 1; omega
      · show 0 ≤ (y 1).val ∧ (y 1).val < 0 + a; omega
      · show 0 ≤ (y 2).val ∧ (y 2).val < 0 + b; omega
    unfold VecWindow.put
    rw [dif_neg n1, dif_pos p0, if_pos h]
    exact congrArg w0 (funext fun c => by fin_cases c <;> apply Fin.ext <;> simp [Rect.unitLocal, ix3, h])
  · have p1 : ∀ c, (![1, 0, 0] : Fin 3 → ℕ) c ≤ (y c).val ∧ (y c).val < (![1, 0, 0] : Fin 3 → ℕ) c + (![1, a, b] : Fin 3 → ℕ) c := by
      intro c; fin_cases c
      · show 1 ≤ (y 0).val ∧ (y 0).val < 1 + 1; omega
      · show 0 ≤ (y 1).val ∧ (y 1).val < 0 + a; omega
      · show 0 ≤ (y 2).val ∧ (y 2).val < 0 + b; omega
    unfold VecWindow.put
    rw [dif_pos p1, if_neg h]
    exact congrArg w1 (funext fun c => by fin_cases c <;> apply Fin.ext <;> simp [Rect.unitLocal, ix3] <;> omega)

/-- A load of one head. -/
theorem load_hd {v : EltTy} {a b : ℕ} {κ : Kind} {sp : Space} (V : View sig κ sp ⟨3, ![2, a, b]⟩ v) (f : V.ty.Contents (Elt F)) (h : Fin 2)
    {off : Fin 3 → ℕ} (inb : ∀ c, off c + (![1, a, b] : Fin 3 → ℕ) c ≤ (⟨3, ![2, a, b]⟩ : Shape).size c) (hoff : off = ![h.val, 0, 0]) :
    V.readAt (Elt F) (Rect.unit (s := ⟨3, ![2, a, b]⟩) off ![1, a, b] inb).toLoadRect f = hd (V.read (Elt F) f) h := by
  subst hoff
  funext y
  have h0 : (y 0).val < 1 := (y 0).isLt
  exact congrArg (V.read (Elt F) f) (funext fun c => by
    fin_cases c <;> apply Fin.ext
    · show h.val + 1 * (y 0).val = h.val; omega
    · show 0 + 1 * (y 1).val = (y 1).val; omega
    · show 0 + 1 * (y 2).val = (y 2).val; omega)

/-- A load of a key block. -/
theorem load_kk {κ : Kind} {sp : Space} (V : View sig κ sp S2x8192x256 .bf16) (f : V.ty.Contents (Elt F)) (h : Fin 2) (k : ℕ) (hk : k < 8)
    {off : Fin 3 → ℕ} (inb : ∀ c, off c + S1x1024x256.size c ≤ S2x8192x256.size c) (hoff : off = ![h.val, k * 1024, 0]) :
    V.readAt (Elt F) (Rect.unit (s := S2x8192x256) off S1x1024x256.size inb).toLoadRect f = kkW (V.read (Elt F) f) h k := by
  subst hoff
  funext y
  have h0 : (y 0).val < 1 := (y 0).isLt
  exact congrArg (V.read (Elt F) f) (funext fun c => by
    fin_cases c <;> apply Fin.ext
    · show h.val + 1 * (y 0).val = h.val; omega
    · show k * 1024 + 1 * (y 1).val = (k % 8) * 1024 + (y 1).val; rw [Nat.mod_eq_of_lt hk]; omega
    · show 0 + 1 * (y 2).val = (y 2).val; omega)

/-- A load of the first half of a key block. -/
theorem load_kkH {κ : Kind} {sp : Space} (V : View sig κ sp S2x8192x256 .bf16) (f : V.ty.Contents (Elt F)) (h : Fin 2) (k : ℕ) (hk : k < 8)
    {off : Fin 3 → ℕ} (inb : ∀ c, off c + S1x512x256.size c ≤ S2x8192x256.size c) (hoff : off = ![h.val, k * 1024, 0]) :
    V.readAt (Elt F) (Rect.unit (s := S2x8192x256) off S1x512x256.size inb).toLoadRect f = kkH (V.read (Elt F) f) h k := by
  subst hoff
  funext y
  have h0 : (y 0).val < 1 := (y 0).isLt
  exact congrArg (V.read (Elt F) f) (funext fun c => by
    fin_cases c <;> apply Fin.ext
    · show h.val + 1 * (y 0).val = h.val; omega
    · show k * 1024 + 1 * (y 1).val = (k % 8) * 1024 + (y 1).val; rw [Nat.mod_eq_of_lt hk]; omega
    · show 0 + 1 * (y 2).val = (y 2).val; omega)

/-- A load of a value block. -/
theorem load_vt {κ : Kind} {sp : Space} (V : View sig κ sp S2x8x256x1024 .bf16) (f : V.ty.Contents (Elt F)) (h : Fin 2) (k : ℕ) (hk : k < 8)
    {off : Fin 4 → ℕ} (inb : ∀ c, off c + S1x1x256x1024.size c ≤ S2x8x256x1024.size c) (hoff : off = ![h.val, k, 0, 0]) :
    V.readAt (Elt F) (Rect.unit (s := S2x8x256x1024) off S1x1x256x1024.size inb).toLoadRect f = vtW (V.read (Elt F) f) h k := by
  subst hoff
  funext y
  have h0 : (y 0).val < 1 := (y 0).isLt
  have h1 : (y 1).val < 1 := (y 1).isLt
  exact congrArg (V.read (Elt F) f) (funext fun c => by
    fin_cases c <;> apply Fin.ext
    · show h.val + 1 * (y 0).val = h.val; omega
    · show k + 1 * (y 1).val = k % 8; rw [Nat.mod_eq_of_lt hk]; omega
    · show 0 + 1 * (y 2).val = (y 2).val; omega
    · show 0 + 1 * (y 3).val = (y 3).val; omega)

/-- A load of the first half of a value block. -/
theorem load_vtH {κ : Kind} {sp : Space} (V : View sig κ sp S2x8x256x1024 .bf16) (f : V.ty.Contents (Elt F)) (h : Fin 2) (k : ℕ) (hk : k < 8)
    {off : Fin 4 → ℕ} (inb : ∀ c, off c + S1x1x256x512.size c ≤ S2x8x256x1024.size c) (hoff : off = ![h.val, k, 0, 0]) :
    V.readAt (Elt F) (Rect.unit (s := S2x8x256x1024) off S1x1x256x512.size inb).toLoadRect f = vtH (V.read (Elt F) f) h k := by
  subst hoff
  funext y
  have h0 : (y 0).val < 1 := (y 0).isLt
  have h1 : (y 1).val < 1 := (y 1).isLt
  exact congrArg (V.read (Elt F) f) (funext fun c => by
    fin_cases c <;> apply Fin.ext
    · show h.val + 1 * (y 0).val = h.val; omega
    · show k + 1 * (y 1).val = k % 8; rw [Nat.mod_eq_of_lt hk]; omega
    · show 0 + 1 * (y 2).val = (y 2).val; omega
    · show 0 + 1 * (y 3).val = (y 3).val; omega)

/-- A put at an index, by coordinates. -/
theorem put3 {α : Type} {A B C : ℕ} (x : (⟨3, ![A, B, C]⟩ : Shape).Idx → α) (p q r P Q R : ℕ) (w : (⟨3, ![P, Q, R]⟩ : Shape).Idx → α) (y : (⟨3, ![A, B, C]⟩ : Shape).Idx) :
    VecWindow.put x ![p, q, r] ![P, Q, R] w y
      = if h : (p ≤ (y 0).val ∧ (y 0).val < p + P) ∧ (q ≤ (y 1).val ∧ (y 1).val < q + Q) ∧ (r ≤ (y 2).val ∧ (y 2).val < r + R)
        then w (ix3 ⟨(y 0).val - p, by omega⟩ ⟨(y 1).val - q, by omega⟩ ⟨(y 2).val - r, by omega⟩) else x y := by
  unfold VecWindow.put
  by_cases h : (p ≤ (y 0).val ∧ (y 0).val < p + P) ∧ (q ≤ (y 1).val ∧ (y 1).val < q + Q) ∧ (r ≤ (y 2).val ∧ (y 2).val < r + R)
  · have h' : ∀ c, (![p, q, r] : Fin 3 → ℕ) c ≤ (y c).val ∧ (y c).val < (![p, q, r] : Fin 3 → ℕ) c + (![P, Q, R] : Fin 3 → ℕ) c := by
      intro c; fin_cases c
      · exact h.1
      · exact h.2.1
      · exact h.2.2
    rw [dif_pos h, dif_pos h']
    exact congrArg w (funext fun c => by fin_cases c <;> rfl)
  · have h' : ¬ ∀ c, (![p, q, r] : Fin 3 → ℕ) c ≤ (y c).val ∧ (y c).val < (![p, q, r] : Fin 3 → ℕ) c + (![P, Q, R] : Fin 3 → ℕ) c :=
      fun hh => h ⟨hh 0, hh 1, hh 2⟩
    rw [dif_neg h, dif_neg h']

/-- The same at rank four. -/
theorem put4 {α : Type} {A B C D : ℕ} (x : (⟨4, ![A, B, C, D]⟩ : Shape).Idx → α) (p q r s P Q R S : ℕ) (w : (⟨4, ![P, Q, R, S]⟩ : Shape).Idx → α)
    (y : (⟨4, ![A, B, C, D]⟩ : Shape).Idx) :
    VecWindow.put x ![p, q, r, s] ![P, Q, R, S] w y
      = if h : (p ≤ (y 0).val ∧ (y 0).val < p + P) ∧ (q ≤ (y 1).val ∧ (y 1).val < q + Q) ∧ (r ≤ (y 2).val ∧ (y 2).val < r + R) ∧ (s ≤ (y 3).val ∧ (y 3).val < s + S)
        then w (ix4 ⟨(y 0).val - p, by omega⟩ ⟨(y 1).val - q, by omega⟩ ⟨(y 2).val - r, by omega⟩ ⟨(y 3).val - s, by omega⟩) else x y := by
  unfold VecWindow.put
  by_cases h : (p ≤ (y 0).val ∧ (y 0).val < p + P) ∧ (q ≤ (y 1).val ∧ (y 1).val < q + Q) ∧ (r ≤ (y 2).val ∧ (y 2).val < r + R) ∧ (s ≤ (y 3).val ∧ (y 3).val < s + S)
  · have h' : ∀ c, (![p, q, r, s] : Fin 4 → ℕ) c ≤ (y c).val ∧ (y c).val < (![p, q, r, s] : Fin 4 → ℕ) c + (![P, Q, R, S] : Fin 4 → ℕ) c := by
      intro c; fin_cases c
      · exact h.1
      · exact h.2.1
      · exact h.2.2.1
      · exact h.2.2.2
    rw [dif_pos h, dif_pos h']
    exact congrArg w (funext fun c => by fin_cases c <;> rfl)
  · have h' : ¬ ∀ c, (![p, q, r, s] : Fin 4 → ℕ) c ≤ (y c).val ∧ (y c).val < (![p, q, r, s] : Fin 4 → ℕ) c + (![P, Q, R, S] : Fin 4 → ℕ) c :=
      fun hh => h ⟨hh 0, hh 1, hh 2, hh 3⟩
    rw [dif_neg h, dif_neg h']

/-- The four pieces a trip of the copy stores among the keys. -/
theorem put_keys {α : Type} (x : S2x8192x256.Idx → α) (k : ℕ) (w0 w1 w2 w3 : S1x1024x128.Idx → α) (W : Fin 2 → Fin 2 → S1x1024x128.Idx → α)
    (h0 : w0 = W 0 0) (h1 : w1 = W 0 1) (h2 : w2 = W 1 0) (h3 : w3 = W 1 1) (y : S2x8192x256.Idx) :
    VecWindow.put (s := S2x8192x256) (VecWindow.put (s := S2x8192x256) (VecWindow.put (s := S2x8192x256) (VecWindow.put (s := S2x8192x256) x ![0, k * 1024, 0] ![1, 1024, 128] w0)
        ![0, k * 1024, 128] ![1, 1024, 128] w1) ![1, k * 1024, 0] ![1, 1024, 128] w2) ![1, k * 1024, 128] ![1, 1024, 128] w3 y
      = if (y 1).val / 1024 = k then
          (if h : (y 2).val < 128 then W (y 0) 0 (ix3 0 ⟨(y 1).val % 1024, by omega⟩ ⟨(y 2).val, h⟩)
            else W (y 0) 1 (ix3 0 ⟨(y 1).val % 1024, by omega⟩ ⟨(y 2).val - 128, by have h2 : (y 2).val < 256 := (y 2).isLt; omega⟩))
        else x y := by
  subst h0 h1 h2 h3
  revert y
  intro y
  have l0 : (y 0).val < 2 := (y 0).isLt
  have l1 : (y 1).val < 8192 := (y 1).isLt
  have l2 : (y 2).val < 256 := (y 2).isLt
  rw [put3, put3, put3, put3]
  have e0 : y 0 = (0 : Fin 2) ∨ y 0 = (1 : Fin 2) := by
    rcases (show (y 0).val = 0 ∨ (y 0).val = 1 by omega) with h | h
    · exact .inl (Fin.ext h)
    · exact .inr (Fin.ext h)
  have key : ∀ {a a' b : Fin 2} {i j : S1x1024x128.Idx}, a.val = a'.val → (i 1).val = (j 1).val → (i 2).val = (j 2).val → W a b i = W a' b j := by
    intro a a' b i j e0 e1 e2
    obtain rfl := Fin.ext e0
    refine congrArg _ (funext fun c => ?_)
    fin_cases c
    · apply Fin.ext; have a0 : (i 0).val < 1 := (i 0).isLt; have b0 : (j 0).val < 1 := (j 0).isLt; show (i 0).val = (j 0).val; omega
    · exact Fin.ext e1
    · exact Fin.ext e2
  by_cases hk : (y 1).val / 1024 = k
  · rw [if_pos hk]
    have hq : k * 1024 ≤ (y 1).val ∧ (y 1).val < k * 1024 + 1024 := by omega
    rcases e0 with e | e
    · have v0 : (y 0).val = 0 := congrArg Fin.val e
      rw [dif_neg (by omega), dif_neg (by omega)]
      by_cases h : (y 2).val < 128
      · rw [dif_neg (by omega), dif_pos (by omega), dif_pos h]
        exact key v0.symm (by show (y 1).val - k * 1024 = (y 1).val % 1024; omega) rfl
      · rw [dif_pos (by omega), dif_neg h]
        exact key v0.symm (by show (y 1).val - k * 1024 = (y 1).val % 1024; omega) rfl
    · have v0 : (y 0).val = 1 := congrArg Fin.val e
      by_cases h : (y 2).val < 128
      · rw [dif_neg (by omega), dif_pos (by omega), dif_pos h]
        exact key v0.symm (by show (y 1).val - k * 1024 = (y 1).val % 1024; omega) rfl
      · rw [dif_pos (by omega), dif_neg h]
        exact key v0.symm (by show (y 1).val - k * 1024 = (y 1).val % 1024; omega) rfl
  · rw [if_neg hk, dif_neg (by omega), dif_neg (by omega), dif_neg (by omega), dif_neg (by omega)]

/-- The four pieces a trip of the copy stores among the values. -/
theorem put_vals {α : Type} (x : S2x8x256x1024.Idx → α) (k : ℕ) (w0 w1 w2 w3 : S1x1x128x1024.Idx → α) (W : Fin 2 → Fin 2 → S1x1x128x1024.Idx → α)
    (h0 : w0 = W 0 0) (h1 : w1 = W 0 1) (h2 : w2 = W 1 0) (h3 : w3 = W 1 1) (y : S2x8x256x1024.Idx) :
    VecWindow.put (s := S2x8x256x1024) (VecWindow.put (s := S2x8x256x1024) (VecWindow.put (s := S2x8x256x1024) (VecWindow.put (s := S2x8x256x1024) x ![0, k, 0, 0] ![1, 1, 128, 1024] w0)
        ![0, k, 128, 0] ![1, 1, 128, 1024] w1) ![1, k, 0, 0] ![1, 1, 128, 1024] w2) ![1, k, 128, 0] ![1, 1, 128, 1024] w3 y
      = if (y 1).val = k then
          (if h : (y 2).val < 128 then W (y 0) 0 (ix4 0 0 ⟨(y 2).val, h⟩ (y 3))
            else W (y 0) 1 (ix4 0 0 ⟨(y 2).val - 128, by have h2 : (y 2).val < 256 := (y 2).isLt; omega⟩ (y 3)))
        else x y := by
  subst h0 h1 h2 h3
  have l0 : (y 0).val < 2 := (y 0).isLt
  have l1 : (y 1).val < 8 := (y 1).isLt
  have l2 : (y 2).val < 256 := (y 2).isLt
  have l3 : (y 3).val < 1024 := (y 3).isLt
  rw [put4, put4, put4, put4]
  have e0 : y 0 = (0 : Fin 2) ∨ y 0 = (1 : Fin 2) := by
    rcases (show (y 0).val = 0 ∨ (y 0).val = 1 by omega) with h | h
    · exact .inl (Fin.ext h)
    · exact .inr (Fin.ext h)
  have key : ∀ {a a' b : Fin 2} {i j : S1x1x128x1024.Idx}, a.val = a'.val → (i 2).val = (j 2).val → (i 3).val = (j 3).val → W a b i = W a' b j := by
    intro a a' b i j e0 e1 e2
    obtain rfl := Fin.ext e0
    refine congrArg _ (funext fun c => ?_)
    fin_cases c
    · apply Fin.ext; have a0 : (i 0).val < 1 := (i 0).isLt; have b0 : (j 0).val < 1 := (j 0).isLt; show (i 0).val = (j 0).val; omega
    · apply Fin.ext; have a0 : (i 1).val < 1 := (i 1).isLt; have b0 : (j 1).val < 1 := (j 1).isLt; show (i 1).val = (j 1).val; omega
    · exact Fin.ext e1
    · exact Fin.ext e2
  by_cases hk : (y 1).val = k
  · rw [if_pos hk]
    rcases e0 with e | e
    · have v0 : (y 0).val = 0 := congrArg Fin.val e
      rw [dif_neg (by omega), dif_neg (by omega)]
      by_cases h : (y 2).val < 128
      · rw [dif_neg (by omega), dif_pos (by omega), dif_pos h]
        exact key v0.symm rfl rfl
      · rw [dif_pos (by omega), dif_neg h]
        exact key v0.symm rfl rfl
    · have v0 : (y 0).val = 1 := congrArg Fin.val e
      by_cases h : (y 2).val < 128
      · rw [dif_neg (by omega), dif_pos (by omega), dif_pos h]
        exact key v0.symm rfl rfl
      · rw [dif_pos (by omega), dif_neg h]
        exact key v0.symm rfl rfl
  · rw [if_neg hk, dif_neg (by omega), dif_neg (by omega), dif_neg (by omega), dif_neg (by omega)]

section
variable (k : Fin k0_t1_loop.trips)
theorem lt1 : k.val < 8 := by have h := k.isLt; have e := trips1; omega
theorem off1 : k0_off1 k = ![k.val * 1024, 0] := by have h := iv_row ⟨k.val, lt1 k⟩; unfold k0_off1; rw [← h]
theorem off6 : k0_off6 k = ![k.val * 1024, 128] := by have h := iv_row ⟨k.val, lt1 k⟩; unfold k0_off6; rw [← h]
theorem off2 : k0_off2 k = ![0, k.val * 1024, 0] := by have h := iv_row ⟨k.val, lt1 k⟩; unfold k0_off2; rw [← h]
theorem off3 : k0_off3 k = ![0, k.val * 1024, 128] := by have h := iv_row ⟨k.val, lt1 k⟩; unfold k0_off3; rw [← h]
theorem off7 : k0_off7 k = ![1, k.val * 1024, 0] := by have h := iv_row ⟨k.val, lt1 k⟩; unfold k0_off7; rw [← h]
theorem off8 : k0_off8 k = ![1, k.val * 1024, 128] := by have h := iv_row ⟨k.val, lt1 k⟩; unfold k0_off8; rw [← h]
theorem off4 : k0_off4 k = ![0, k.val, 0, 0] := by have h := iv_self ⟨k.val, lt1 k⟩; unfold k0_off4; dsimp only at h ⊢; rw [h]
theorem off5 : k0_off5 k = ![0, k.val, 128, 0] := by have h := iv_self ⟨k.val, lt1 k⟩; unfold k0_off5; dsimp only at h ⊢; rw [h]
theorem off9 : k0_off9 k = ![1, k.val, 0, 0] := by have h := iv_self ⟨k.val, lt1 k⟩; unfold k0_off9; dsimp only at h ⊢; rw [h]
theorem off10 : k0_off10 k = ![1, k.val, 128, 0] := by have h := iv_self ⟨k.val, lt1 k⟩; unfold k0_off10; dsimp only at h ⊢; rw [h]
end

/-- A load of a block of one head's columns. -/
theorem load_blk {κ : Kind} {sp : Space} (V : View sig κ sp S8192x256 .bf16) (f : V.ty.Contents (Elt F)) (h : Fin 2) (k : Fin 8)
    {off : Fin 2 → ℕ} (inb : ∀ c, off c + S1024x128.size c ≤ S8192x256.size c) (hoff : off = ![k.val * 1024, h.val * 128]) :
    V.readAt (Elt F) (Rect.unit (s := S8192x256) off S1024x128.size inb).toLoadRect f = blkOf (V.read (Elt F) f) h k := by
  subst hoff
  funext y
  exact congrArg (V.read (Elt F) f) (funext fun c => by
    fin_cases c <;> apply Fin.ext
    · show k.val * 1024 + 1 * (y 0).val = k.val * 1024 + (y 0).val; omega
    · show h.val * 128 + 1 * (y 1).val = h.val * 128 + (y 1).val; omega)

set_option warn.classDefReducibility false in
/-- The copy into scratch: after `k` trips `k` blocks of keys and values are staged. -/
def inv1 (c : Dev nD) (i : grid0.Coords) (arg3 : Memref sig .tc .vmem S8192x256 .bf16) (harg3 : arg3.IsWhole) (arg4 : Memref sig .tc .vmem S1024x256 .bf16) (harg4 : arg4.IsWhole) (arg5 : Memref sig .tc .vmem S1024x256 .bf16) (harg5 : arg5.IsWhole) (arg6 : Memref sig .tc .vmem S8192x256 .bf16) (harg6 : arg6.IsWhole) (arg7 : Memref sig .tc .vmem S8192x256 .bf16) (harg7 : arg7.IsWhole) (arg8 : Memref sig .tc .vmem S1024x256 .bf16) (harg8 : arg8.IsWhole) (arg9 : Memref sig .tc .vmem S2x8192x256 .bf16) (harg9 : arg9.IsWhole) (arg10 : Memref sig .tc .vmem S2x8x256x1024 .bf16) (harg10 : arg10.IsWhole) (arg11 : Memref sig .tc .vmem S2x1x1024 .f32) (harg11 : arg11.IsWhole) (arg12 : Memref sig .tc .vmem S2x256x1024 .f32) (harg12 : arg12.IsWhole)

    (X3 : BufTy.Contents (Elt F) arg3.view.ty) (X6 : BufTy.Contents (Elt F) arg6.view.ty) (X7 : BufTy.Contents (Elt F) arg7.view.ty) (G9 : BufTy.Contents (Elt F) arg9.view.ty) (G10 : BufTy.Contents (Elt F) arg10.view.ty) :
    ℕ → Unit → sProp 𝕄 := fun k _ =>
  iprop((arg3.view.loc (c : Thread nD τ) ↦[arg3.view.set]{fullShare} X3) ∗ (arg6.view.loc (c : Thread nD τ) ↦[arg6.view.set]{fullShare} X6) ∗ (arg7.view.loc (c : Thread nD τ) ↦[arg7.view.set]{fullShare} X7)
    ∗ (∃ f, (arg9.view.loc (c : Thread nD τ) ↦[arg9.view.set]{fullShare} f)
        ∗ ⌜arg9.view.read (Elt F) f = fillK (arg3.view.read (Elt F) X3) (arg6.view.read (Elt F) X6) (arg9.view.read (Elt F) G9) k⌝)
    ∗ (∃ f, (arg10.view.loc (c : Thread nD τ) ↦[arg10.view.set]{fullShare} f)
        ∗ ⌜arg10.view.read (Elt F) f = fillV (arg7.view.read (Elt F) X7) (arg10.view.read (Elt F) G10) k⌝))

/-- One trip of the loop takes its invariant at `k` to its invariant at `k + 1`. -/
theorem step1 (𝒱 : Variants) (c : Dev nD) (bd : Option 𝒱.V) (E : Set ℕ) (i : grid0.Coords) (arg3 : Memref sig .tc .vmem S8192x256 .bf16) (harg3 : arg3.IsWhole) (arg4 : Memref sig .tc .vmem S1024x256 .bf16) (harg4 : arg4.IsWhole) (arg5 : Memref sig .tc .vmem S1024x256 .bf16) (harg5 : arg5.IsWhole) (arg6 : Memref sig .tc .vmem S8192x256 .bf16) (harg6 : arg6.IsWhole) (arg7 : Memref sig .tc .vmem S8192x256 .bf16) (harg7 : arg7.IsWhole) (arg8 : Memref sig .tc .vmem S1024x256 .bf16) (harg8 : arg8.IsWhole) (arg9 : Memref sig .tc .vmem S2x8192x256 .bf16) (harg9 : arg9.IsWhole) (arg10 : Memref sig .tc .vmem S2x8x256x1024 .bf16) (harg10 : arg10.IsWhole) (arg11 : Memref sig .tc .vmem S2x1x1024 .f32) (harg11 : arg11.IsWhole) (arg12 : Memref sig .tc .vmem S2x256x1024 .f32) (harg12 : arg12.IsWhole)
    (k0_h1 : k0_cond1 i = 1#1)
    (X3 : BufTy.Contents (Elt F) arg3.view.ty) (X6 : BufTy.Contents (Elt F) arg6.view.ty) (X7 : BufTy.Contents (Elt F) arg7.view.ty) (G9 : BufTy.Contents (Elt F) arg9.view.ty) (G10 : BufTy.Contents (Elt F) arg10.view.ty) :
    ∀ k acc, inv1 (F := F) c i arg3 harg3 arg4 harg4 arg5 harg5 arg6 harg6 arg7 harg7 arg8 harg8 arg9 harg9 arg10 harg10 arg11 harg11 arg12 harg12 X3 X6 X7 G9 G10 k.val acc ⊢ wp frame (wpE (defs₀ (F := F)) 𝒱 (c : Thread nD τ) bd) E
      (k0_t1_body (F := F) i arg3 harg3 arg4 harg4 arg5 harg5 arg6 harg6 arg7 harg7 arg8 harg8 arg9 harg9 arg10 harg10 arg11 harg11 arg12 harg12 k0_h1 k acc) (inv1 (F := F) c i arg3 harg3 arg4 harg4 arg5 harg5 arg6 harg6 arg7 harg7 arg8 harg8 arg9 harg9 arg10 harg10 arg11 harg11 arg12 harg12 X3 X6 X7 G9 G10 (k.val + 1)) := by
    intro k acc
    unfold inv1
    unfold k0_t1_body
    iintro ⟨H3, H6, H7, ⟨%f9, H9, %h9⟩, ⟨%f10, H10, %h10⟩⟩
    sl_exec
    sl_step
    isplitl [H3]; · iexact H3
    isplitl [H6]; · iexact H6
    isplitl [H7]; · iexact H7
    have a0 := load_blk arg3.view X3 0 ⟨k.val, lt1 k⟩ (k0_off1_inb i k k0_h1) (off1 k)
    have a1 := load_blk arg3.view X3 1 ⟨k.val, lt1 k⟩ (k0_off6_inb i k k0_h1) (off6 k)
    have b0 := load_blk arg6.view X6 0 ⟨k.val, lt1 k⟩ (k0_off1_inb i k k0_h1) (off1 k)
    have b1 := load_blk arg6.view X6 1 ⟨k.val, lt1 k⟩ (k0_off6_inb i k k0_h1) (off6 k)
    have c0 := load_blk arg7.view X7 0 ⟨k.val, lt1 k⟩ (k0_off1_inb i k k0_h1) (off1 k)
    have c1 := load_blk arg7.view X7 1 ⟨k.val, lt1 k⟩ (k0_off6_inb i k k0_h1) (off6 k)
    isplitl [H9]
    · iexists _; isplitl [H9]; · iexact H9
      ipureintro
      rw [View.read_writes_cons_put _ _ _ _ _ (off8 k), View.read_writes_cons_put _ _ _ _ _ (off7 k), View.read_writes_cons_put _ _ _ _ _ (off3 k), View.read_writes_cons_put _ _ _ _ _ (off2 k)]
      funext y
      refine (put_keys _ k.val _ _ _ _ (fun h p => k0_pay4 (blkOf (if p = 0 then arg3.view.read (Elt F) X3 else arg6.view.read (Elt F) X6) h ⟨k.val, lt1 k⟩)) ?_ ?_ ?_ ?_ y).trans ?_
      · exact congrArg k0_pay4 a0
      · exact congrArg k0_pay4 b0
      · exact congrArg k0_pay4 a1
      · exact congrArg k0_pay4 b1
      · show _ = (if (y 1).val / 1024 = k.val then KKof _ _ y else fillK _ _ _ k.val y)
        rw [View.writes_nil, h9]
        by_cases hk : (y 1).val / 1024 = k.val
        · rw [if_pos hk, if_pos hk]
          unfold KKof
          have e : (⟨(y 1).val / 1024, by have h1 : (y 1).val < 8192 := (y 1).isLt; omega⟩ : Fin 8) = ⟨k.val, lt1 k⟩ := Fin.ext hk
          rw [e]
          rfl
        · rw [if_neg hk, if_neg hk]
    iexists _; isplitl [H10]; · iexact H10
    ipureintro
    rw [View.read_writes_cons_put _ _ _ _ _ (off10 k), View.read_writes_cons_put _ _ _ _ _ (off9 k), View.read_writes_cons_put _ _ _ _ _ (off5 k), View.read_writes_cons_put _ _ _ _ _ (off4 k)]
    funext y
    refine (put_vals _ k.val _ _ _ _ (fun h p => if p = 0 then k0_pay6 (blkOf (arg7.view.read (Elt F) X7) h ⟨k.val, lt1 k⟩) else k0_pay7) ?_ ?_ ?_ ?_ y).trans ?_
    · exact congrArg k0_pay6 c0
    · rfl
    · exact congrArg k0_pay6 c1
    · rfl
    · show _ = (if (y 1).val = k.val then VTof _ y else fillV _ _ k.val y)
      rw [View.writes_nil, h10]
      by_cases hk : (y 1).val = k.val
      · rw [if_pos hk, if_pos hk]
        unfold VTof
        have e : y 1 = (⟨k.val, lt1 k⟩ : Fin 8) := Fin.ext hk
        rw [e]
        rfl
      · rw [if_neg hk, if_neg hk]

set_option warn.classDefReducibility false in
/-- The walk over the key blocks: after `k` trips the running maximum and accumulator are `trips … k` of the contents
    read at the start. -/
def inv2 (c : Dev nD) (i : grid0.Coords) (arg3 : Memref sig .tc .vmem S8192x256 .bf16) (harg3 : arg3.IsWhole) (arg4 : Memref sig .tc .vmem S1024x256 .bf16) (harg4 : arg4.IsWhole) (arg5 : Memref sig .tc .vmem S1024x256 .bf16) (harg5 : arg5.IsWhole) (arg6 : Memref sig .tc .vmem S8192x256 .bf16) (harg6 : arg6.IsWhole) (arg7 : Memref sig .tc .vmem S8192x256 .bf16) (harg7 : arg7.IsWhole) (arg8 : Memref sig .tc .vmem S1024x256 .bf16) (harg8 : arg8.IsWhole) (arg9 : Memref sig .tc .vmem S2x8192x256 .bf16) (harg9 : arg9.IsWhole) (arg10 : Memref sig .tc .vmem S2x8x256x1024 .bf16) (harg10 : arg10.IsWhole) (arg11 : Memref sig .tc .vmem S2x1x1024 .f32) (harg11 : arg11.IsWhole) (arg12 : Memref sig .tc .vmem S2x256x1024 .f32) (harg12 : arg12.IsWhole)
    (v3 : Vec F S1024x128 .bf16) (v5 : Vec F S1024x128 .bf16) (v8 : Vec F S1024x128 .bf16) (v10 : Vec F S1024x128 .bf16)
    (X9 : BufTy.Contents (Elt F) arg9.view.ty) (X10 : BufTy.Contents (Elt F) arg10.view.ty) (G11 : BufTy.Contents (Elt F) arg11.view.ty) (G12 : BufTy.Contents (Elt F) arg12.view.ty) :
    ℕ → Unit → sProp 𝕄 := fun k _ =>
  iprop((arg9.view.loc (c : Thread nD τ) ↦[arg9.view.set]{fullShare} X9) ∗ (arg10.view.loc (c : Thread nD τ) ↦[arg10.view.set]{fullShare} X10)
    ∗ (∃ f, (arg11.view.loc (c : Thread nD τ) ↦[arg11.view.set]{fullShare} f)
        ∗ ⌜arg11.view.read (Elt F) f = (trips (k0_pay23 v3 v5) (k0_pay24 v8 v10) (arg9.view.read (Elt F) X9) (arg10.view.read (Elt F) X10) (arg11.view.read (Elt F) G11, arg12.view.read (Elt F) G12) k).1⌝)
    ∗ (∃ f, (arg12.view.loc (c : Thread nD τ) ↦[arg12.view.set]{fullShare} f)
        ∗ ⌜arg12.view.read (Elt F) f = (trips (k0_pay23 v3 v5) (k0_pay24 v8 v10) (arg9.view.read (Elt F) X9) (arg10.view.read (Elt F) X10) (arg11.view.read (Elt F) G11, arg12.view.read (Elt F) G12) k).2⌝))

/-- One trip of the loop takes its invariant at `k` to its invariant at `k + 1`. -/
theorem step2 (𝒱 : Variants) (c : Dev nD) (bd : Option 𝒱.V) (E : Set ℕ) (i : grid0.Coords) (arg3 : Memref sig .tc .vmem S8192x256 .bf16) (harg3 : arg3.IsWhole) (arg4 : Memref sig .tc .vmem S1024x256 .bf16) (harg4 : arg4.IsWhole) (arg5 : Memref sig .tc .vmem S1024x256 .bf16) (harg5 : arg5.IsWhole) (arg6 : Memref sig .tc .vmem S8192x256 .bf16) (harg6 : arg6.IsWhole) (arg7 : Memref sig .tc .vmem S8192x256 .bf16) (harg7 : arg7.IsWhole) (arg8 : Memref sig .tc .vmem S1024x256 .bf16) (harg8 : arg8.IsWhole) (arg9 : Memref sig .tc .vmem S2x8192x256 .bf16) (harg9 : arg9.IsWhole) (arg10 : Memref sig .tc .vmem S2x8x256x1024 .bf16) (harg10 : arg10.IsWhole) (arg11 : Memref sig .tc .vmem S2x1x1024 .f32) (harg11 : arg11.IsWhole) (arg12 : Memref sig .tc .vmem S2x256x1024 .f32) (harg12 : arg12.IsWhole)
    (v3 : Vec F S1024x128 .bf16) (v5 : Vec F S1024x128 .bf16) (v8 : Vec F S1024x128 .bf16) (v10 : Vec F S1024x128 .bf16)
    (X9 : BufTy.Contents (Elt F) arg9.view.ty) (X10 : BufTy.Contents (Elt F) arg10.view.ty) (G11 : BufTy.Contents (Elt F) arg11.view.ty) (G12 : BufTy.Contents (Elt F) arg12.view.ty) :
    ∀ k acc, inv2 (F := F) c i arg3 harg3 arg4 harg4 arg5 harg5 arg6 harg6 arg7 harg7 arg8 harg8 arg9 harg9 arg10 harg10 arg11 harg11 arg12 harg12 v3 v5 v8 v10 X9 X10 G11 G12 k.val acc ⊢ wp frame (wpE (defs₀ (F := F)) 𝒱 (c : Thread nD τ) bd) E
      (k0_t2_body (F := F) i arg3 harg3 arg4 harg4 arg5 harg5 arg6 harg6 arg7 harg7 arg8 harg8 arg9 harg9 arg10 harg10 arg11 harg11 arg12 harg12 v3 v5 v8 v10 k acc) (inv2 (F := F) c i arg3 harg3 arg4 harg4 arg5 harg5 arg6 harg6 arg7 harg7 arg8 harg8 arg9 harg9 arg10 harg10 arg11 harg11 arg12 harg12 v3 v5 v8 v10 X9 X10 G11 G12 (k.val + 1)) := by
    intro k acc
    unfold inv2
    unfold k0_t2_body
    iintro ⟨H9, H10, ⟨%f11, H11, %h11⟩, ⟨%f12, H12, %h12⟩⟩
    sl_exec
    sl_step
    isplitl [H9]; · iexact H9
    isplitl [H10]; · iexact H10
    have e199 := load_kk arg9.view X9 0 k.val (lt2 i k) (k0_off11_inb i k) (off11 i k)
    have e203 := load_kk arg9.view X9 1 k.val (lt2 i k) (k0_off12_inb i k) (off12 i k)
    have e222 := load_vt arg10.view X10 0 k.val (lt2 i k) (k0_off13_inb i k) (off13 i k)
    have e248 := load_vt arg10.view X10 1 k.val (lt2 i k) (k0_off14_inb i k) (off14 i k)
    have e206 := load_hd arg11.view f11 0 inb_S2x1x1024_S1x1x1024_0_0_0 rfl
    have e232 := load_hd arg11.view f11 1 inb_S2x1x1024_S1x1x1024_1_0_0 rfl
    have e215 := load_hd arg12.view f12 0 inb_S2x256x1024_S1x256x1024_0_0_0 rfl
    have e241 := load_hd arg12.view f12 1 inb_S2x256x1024_S1x256x1024_1_0_0 rfl
    rw [h11] at e206 e232
    rw [h12] at e215 e241
    isplitl [H11]
    · iexists _; isplitl [H11]; · iexact H11
      ipureintro
      rw [View.read_writes_cons_put _ _ _ _ _ rfl, View.read_writes_cons_put _ _ _ _ _ rfl]
      refine (put_heads _ _ _).trans ?_
      funext y
      show _ = (trip (k0_pay23 v3 v5) (k0_pay24 v8 v10) _ _ k.val _).1 y
      unfold trip
      rw [← e199, ← e203, ← e206, ← e232]
      rfl
    iexists _; isplitl [H12]; · iexact H12
    ipureintro
    rw [View.read_writes_cons_put _ _ _ _ _ rfl, View.read_writes_cons_put _ _ _ _ _ rfl]
    refine (put_heads _ _ _).trans ?_
    funext y
    show _ = (trip (k0_pay23 v3 v5) (k0_pay24 v8 v10) _ _ k.val _).2 y
    unfold trip
    rw [← e199, ← e203, ← e206, ← e232, ← e215, ← e241, ← e222, ← e248]
    rfl

set_option warn.classDefReducibility false in
/-- The walk's remainder: no trip. -/
@[sl_loop] def loop3 (𝒱 : Variants) (c : Dev nD) (bd : Option 𝒱.V) (E : Set ℕ) (i : grid0.Coords) (arg3 : Memref sig .tc .vmem S8192x256 .bf16) (harg3 : arg3.IsWhole) (arg4 : Memref sig .tc .vmem S1024x256 .bf16) (harg4 : arg4.IsWhole) (arg5 : Memref sig .tc .vmem S1024x256 .bf16) (harg5 : arg5.IsWhole) (arg6 : Memref sig .tc .vmem S8192x256 .bf16) (harg6 : arg6.IsWhole) (arg7 : Memref sig .tc .vmem S8192x256 .bf16) (harg7 : arg7.IsWhole) (arg8 : Memref sig .tc .vmem S1024x256 .bf16) (harg8 : arg8.IsWhole) (arg9 : Memref sig .tc .vmem S2x8192x256 .bf16) (harg9 : arg9.IsWhole) (arg10 : Memref sig .tc .vmem S2x8x256x1024 .bf16) (harg10 : arg10.IsWhole) (arg11 : Memref sig .tc .vmem S2x1x1024 .f32) (harg11 : arg11.IsWhole) (arg12 : Memref sig .tc .vmem S2x256x1024 .f32) (harg12 : arg12.IsWhole)
    (v3 : Vec F S1024x128 .bf16) (v5 : Vec F S1024x128 .bf16) (v8 : Vec F S1024x128 .bf16) (v10 : Vec F S1024x128 .bf16) (v25 : BitVec 32) :
    Idealize.ShloMosaic.LoopInv (M := 𝕄) Idealize.ShloMosaic.frame (wpE (defs₀ (F := F)) 𝒱 (c : Thread nD τ) bd) E
      (k0_t3_loop i).lb (k0_t3_loop i).ub (k0_t3_loop i).st (k0_t3_ok i) () (k0_t3_body (F := F) i arg3 harg3 arg4 harg4 arg5 harg5 arg6 harg6 arg7 harg7 arg8 harg8 arg9 harg9 arg10 harg10 arg11 harg11 arg12 harg12 v3 v5 v8 v10 v25) where
  inv k _ := iprop(emp)
  step k acc := absurd k.isLt (by have e := trips3 i; unfold Scf.Loop.trips at e; omega)

end Cert.KernelIdeal.Fox

end
-- ==== Proof.Fox.Cov.lean ====
/-
  What the attention kernel's loads and stores of halves read.
-/
module

public import proofs.«01_k».proof.Proof.Fox.Loops

@[expose] public section

set_option maxRecDepth 16384
set_option maxHeartbeats 1000000

noncomputable section

namespace Cert.KernelIdeal.Fox

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F] [Named F]

local notation "𝕄" => MT nD τ sig Unit (Elt F) ℕ (UR sig nD τ) ℕ

/-- One cell of a vector of two axes with a window replaced. -/
theorem put2 {α : Type} {A B : ℕ} (x : (⟨2, ![A, B]⟩ : Shape).Idx → α) (p q P Q : ℕ) (w : (⟨2, ![P, Q]⟩ : Shape).Idx → α) (y : (⟨2, ![A, B]⟩ : Shape).Idx) :
    VecWindow.put x ![p, q] ![P, Q] w y
      = if h : (p ≤ (y 0).val ∧ (y 0).val < p + P) ∧ (q ≤ (y 1).val ∧ (y 1).val < q + Q)
        then w (ix2 ⟨(y 0).val - p, by omega⟩ ⟨(y 1).val - q, by omega⟩) else x y := by
  unfold VecWindow.put
  by_cases h : (p ≤ (y 0).val ∧ (y 0).val < p + P) ∧ (q ≤ (y 1).val ∧ (y 1).val < q + Q)
  · have h' : ∀ c, (![p, q] : Fin 2 → ℕ) c ≤ (y c).val ∧ (y c).val < (![p, q] : Fin 2 → ℕ) c + (![P, Q] : Fin 2 → ℕ) c := by
      intro c; fin_cases c
      · exact h.1
      · exact h.2
    rw [dif_pos h', dif_pos h]
    exact congrArg w (funext fun c => by fin_cases c <;> rfl)
  · rw [dif_neg h, dif_neg (fun h' => h ⟨h' 0, h' 1⟩)]

/-- Half of a head's scratch loaded. -/
theorem load_hdq {v : EltTy} {a : ℕ} {κ : Kind} {sp : Space} (V : View sig κ sp ⟨3, ![2, a, 1024]⟩ v) (f : V.ty.Contents (Elt F)) (h q : Fin 2)
    {off : Fin 3 → ℕ} (inb : ∀ c, off c + (![1, a, 512] : Fin 3 → ℕ) c ≤ (⟨3, ![2, a, 1024]⟩ : Shape).size c) (hoff : off = ![h.val, 0, q.val * 512]) :
    V.readAt (Elt F) (Rect.unit (s := ⟨3, ![2, a, 1024]⟩) off ![1, a, 512] inb).toLoadRect f = hdq (V.read (Elt F) f) h q := by
  subst hoff
  funext y
  have h0 : (y 0).val < 1 := (y 0).isLt
  exact congrArg (V.read (Elt F) f) (funext fun c => by
    fin_cases c <;> apply Fin.ext
    · show h.val + 1 * (y 0).val = h.val; omega
    · show 0 + 1 * (y 1).val = (y 1).val; omega
    · show q.val * 512 + 1 * (y 2).val = q.val * 512 + (y 2).val; omega)

/-- A head's accumulator read back after its two halves were stored. -/
theorem cov_heads {κ : Kind} {sp : Space} (V : View sig κ sp S2x256x1024 .f32) (w00 w01 w10 w11 : Vec F S1x256x512 .f32) (h : Fin 2)
    (i00 i01 i10 i11) {off : Fin 3 → ℕ} (inb : ∀ c, off c + (![1, 256, 1024] : Fin 3 → ℕ) c ≤ S2x256x1024.size c) (hoff : off = ![h.val, 0, 0]) :
    V.readCov (Val := Elt F) [⟨Rect.unit ![1, 0, 512] ![1, 256, 512] i11, w11⟩, ⟨Rect.unit ![1, 0, 0] ![1, 256, 512] i10, w10⟩,
        ⟨Rect.unit ![0, 0, 512] ![1, 256, 512] i01, w01⟩, ⟨Rect.unit ![0, 0, 0] ![1, 256, 512] i00, w00⟩]
      (Rect.unit (s := S2x256x1024) off ![1, 256, 1024] inb).toLoadRect = halves (if h = 0 then w00 else w10) (if h = 0 then w01 else w11) := by
  unfold View.readCov
  rw [load_hd V _ h inb hoff, View.read_writes_cons_put _ _ _ _ _ rfl, View.read_writes_cons_put _ _ _ _ _ rfl,
    View.read_writes_cons_put _ _ _ _ _ rfl, View.read_writes_cons_put _ _ _ _ _ rfl]
  funext y
  unfold hd halves
  have h1 : (y 1).val < 256 := (y 1).isLt
  have h2 : (y 2).val < 1024 := (y 2).isLt
  fin_cases h
  · dsimp only
    refine (put3 _ _ _ _ _ _ _ _ _).trans ?_
    rw [dif_neg (by rintro ⟨h, -⟩; revert h; show ¬ (1 ≤ 0 ∧ _); omega)]
    refine (put3 _ _ _ _ _ _ _ _ _).trans ?_
    rw [dif_neg (by rintro ⟨h, -⟩; revert h; show ¬ (1 ≤ 0 ∧ _); omega)]
    refine (put3 _ _ _ _ _ _ _ _ _).trans ?_
    by_cases h : (y 2).val < 512
    · rw [dif_neg (by rintro ⟨-, -, h', -⟩; revert h'; show ¬ (512 ≤ (y 2).val); omega)]
      refine (put3 _ _ _ _ _ _ _ _ _).trans ?_
      rw [dif_pos ⟨⟨Nat.le_refl _, by show 0 < 0 + 1; omega⟩, ⟨Nat.zero_le _, by show (y 1).val < 0 + 256; omega⟩, ⟨Nat.zero_le _, by show (y 2).val < 0 + 512; omega⟩⟩, dif_pos h]
      rfl
    · rw [dif_pos ⟨⟨Nat.le_refl _, by show 0 < 0 + 1; omega⟩, ⟨Nat.zero_le _, by show (y 1).val < 0 + 256; omega⟩, ⟨by show 512 ≤ (y 2).val; omega, by show (y 2).val < 512 + 512; omega⟩⟩, dif_neg h]
      rfl
  · dsimp only
    refine (put3 _ _ _ _ _ _ _ _ _).trans ?_
    by_cases h : (y 2).val < 512
    · rw [dif_neg (by rintro ⟨-, -, h', -⟩; revert h'; show ¬ (512 ≤ (y 2).val); omega)]
      refine (put3 _ _ _ _ _ _ _ _ _).trans ?_
      rw [dif_pos ⟨⟨Nat.le_refl _, by show 1 < 1 + 1; omega⟩, ⟨Nat.zero_le _, by show (y 1).val < 0 + 256; omega⟩, ⟨Nat.zero_le _, by show (y 2).val < 0 + 512; omega⟩⟩, dif_pos h]
      rfl
    · rw [dif_pos ⟨⟨Nat.le_refl _, by show 1 < 1 + 1; omega⟩, ⟨Nat.zero_le _, by show (y 1).val < 0 + 256; omega⟩, ⟨by show 512 ≤ (y 2).val; omega, by show (y 2).val < 512 + 512; omega⟩⟩, dif_neg h]
      rfl

/-- The output block once its two column halves were stored. -/
theorem read_cols {κ : Kind} {sp : Space} (V : View sig κ sp S1024x256 .bf16) (f : V.ty.Contents (Elt F)) (w0 w1 : Vec F S1024x128 .bf16) (i0 i1) :
    V.read (Elt F) (V.writes (Elt F) f [⟨Rect.unit ![0, 128] ![1024, 128] i1, w1⟩, ⟨Rect.unit ![0, 0] ![1024, 128] i0, w0⟩]) = cols w0 w1 := by
  rw [View.read_writes_cons_put _ _ _ _ _ rfl, View.read_writes_cons_put _ _ _ _ _ rfl]
  funext y
  have h0 : (y 0).val < 1024 := (y 0).isLt
  have h1 : (y 1).val < 256 := (y 1).isLt
  unfold cols
  refine (put2 _ _ _ _ _ _ _).trans ?_
  by_cases h : (y 1).val < 128
  · rw [dif_neg (by rintro ⟨-, h', -⟩; omega)]
    refine (put2 _ _ _ _ _ _ _).trans ?_
    rw [dif_pos ⟨⟨Nat.zero_le _, by omega⟩, ⟨Nat.zero_le _, by omega⟩⟩, dif_pos h]
    rfl
  · rw [dif_pos ⟨⟨Nat.zero_le _, by omega⟩, ⟨by omega, by omega⟩⟩, dif_neg h]
    rfl

/-- A block's left or right columns loaded. -/
theorem load_col {κ : Kind} {sp : Space} (V : View sig κ sp S1024x256 .bf16) (f : V.ty.Contents (Elt F)) (h : Fin 2)
    {off : Fin 2 → ℕ} (inb : ∀ c, off c + (![1024, 128] : Fin 2 → ℕ) c ≤ S1024x256.size c) (hoff : off = ![0, h.val * 128]) :
    V.readAt (Elt F) (Rect.unit (s := S1024x256) off ![1024, 128] inb).toLoadRect f = colh (V.read (Elt F) f) h := by
  subst hoff
  funext y
  exact congrArg (V.read (Elt F) f) (funext fun c => by
    fin_cases c <;> apply Fin.ext
    · show 0 + 1 * (y 0).val = (y 0).val; omega
    · show h.val * 128 + 1 * (y 1).val = h.val * 128 + (y 1).val; omega)

theorem pt_row : ∀ k : Fin 8, (Scalar.indexCast (Scalar.muli (BitVec.ofNat 32 k.val) (1024#32))).toNat = k.val * 1024 := by decide +kernel
theorem pt_self : ∀ k : Fin 8, (Scalar.indexCast (BitVec.ofNat 32 k.val)).toNat = k.val := by decide +kernel

section
variable (i : grid0.Coords)
theorem lt8 : (i 2).val < 8 := (i 2).isLt
theorem off19 : k0_off19 i = ![0, (i 2).val * 1024, 0] := by
  have h := pt_row ⟨(i 2).val, lt8 i⟩; unfold k0_off19; dsimp only at h ⊢; rw [h]
theorem off20 : k0_off20 i = ![0, (i 2).val * 1024, 0] := by
  have h := pt_row ⟨(i 2).val, lt8 i⟩; unfold k0_off20; dsimp only at h ⊢; rw [h]
theorem off21 : k0_off21 i = ![1, (i 2).val * 1024, 0] := by
  have h := pt_row ⟨(i 2).val, lt8 i⟩; unfold k0_off21; dsimp only at h ⊢; rw [h]
theorem off22 : k0_off22 i = ![1, (i 2).val * 1024, 0] := by
  have h := pt_row ⟨(i 2).val, lt8 i⟩; unfold k0_off22; dsimp only at h ⊢; rw [h]
theorem off23 : k0_off23 i = ![0, (i 2).val, 0, 0] := by
  have h := pt_self ⟨(i 2).val, lt8 i⟩; unfold k0_off23; dsimp only at h ⊢; rw [h]
theorem off24 : k0_off24 i = ![0, (i 2).val, 0, 0] := by
  have h := pt_self ⟨(i 2).val, lt8 i⟩; unfold k0_off24; dsimp only at h ⊢; rw [h]
theorem off25 : k0_off25 i = ![1, (i 2).val, 0, 0] := by
  have h := pt_self ⟨(i 2).val, lt8 i⟩; unfold k0_off25; dsimp only at h ⊢; rw [h]
theorem off26 : k0_off26 i = ![1, (i 2).val, 0, 0] := by
  have h := pt_self ⟨(i 2).val, lt8 i⟩; unfold k0_off26; dsimp only at h ⊢; rw [h]
end

end Cert.KernelIdeal.Fox

end
-- ==== Proof.Fox.Body.lean ====
/-
  The attention kernel's body at one grid point, run: what it is handed and what it leaves.
-/
module

public import proofs.«01_k».proof.Proof.Fox.Cov

@[expose] public section

set_option maxRecDepth 16384
set_option maxHeartbeats 1000000

noncomputable section

namespace Cert.KernelIdeal.Fox

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F] [Named F]

local notation "𝕄" => MT nD τ sig Unit (Elt F) ℕ (UR sig nD τ) ℕ

/-- A buffer held at any contents reads as some vector. -/
theorem forget {sp : Space} {s : Shape} {e : EltTy} (c : Dev nD) (a : Memref sig .tc sp s e) (f : Buf (Elt F) (a.view.loc (c : Thread nD τ))) :
    (a.view.loc (c : Thread nD τ) ↦[a.view.set]{fullShare} f : sProp 𝕄)
      ⊢ iprop(∃ d, ∃ g, ⌜a.view.read (Elt F) g = d⌝ ∗ (a.view.loc (c : Thread nD τ) ↦[a.view.set]{fullShare} g)) := by
  iintro H
  iexists (a.view.read (Elt F) f)
  iexists f
  isplitr
  · ipureintro; rfl
  iexact H

theorem runB (c : Dev nD) (i : grid0.Coords) (arg3 : Memref sig .tc .vmem S8192x256 .bf16) (harg3 : arg3.IsWhole) (arg4 : Memref sig .tc .vmem S1024x256 .bf16) (harg4 : arg4.IsWhole) (arg5 : Memref sig .tc .vmem S1024x256 .bf16) (harg5 : arg5.IsWhole) (arg6 : Memref sig .tc .vmem S8192x256 .bf16) (harg6 : arg6.IsWhole) (arg7 : Memref sig .tc .vmem S8192x256 .bf16) (harg7 : arg7.IsWhole) (arg8 : Memref sig .tc .vmem S1024x256 .bf16) (harg8 : arg8.IsWhole) (arg9 : Memref sig .tc .vmem S2x8192x256 .bf16) (harg9 : arg9.IsWhole) (arg10 : Memref sig .tc .vmem S2x8x256x1024 .bf16) (harg10 : arg10.IsWhole) (arg11 : Memref sig .tc .vmem S2x1x1024 .f32) (harg11 : arg11.IsWhole) (arg12 : Memref sig .tc .vmem S2x256x1024 .f32) (harg12 : arg12.IsWhole)
    (hc0 : ¬ k0_cond1 i = 1#1)
    (x0 : Vec F S8192x256 .bf16) (x1 x2 : Vec F S1024x256 .bf16) (x3 x4 : Vec F S8192x256 .bf16)
    (KK : Vec F S2x8192x256 .bf16) (VT : Vec F S2x8x256x1024 .bf16) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4
        ∗ (∃ d, owns (c : Thread nD τ) arg8 fullShare d) ∗ owns (c : Thread nD τ) arg9 fullShare KK ∗ owns (c : Thread nD τ) arg10 fullShare VT ∗ (∃ d, owns (c : Thread nD τ) arg11 fullShare d) ∗ (∃ d, owns (c : Thread nD τ) arg12 fullShare d)
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4
            ∗ owns (c : Thread nD τ) arg8 fullShare (OUT (i 2).val KK VT x1 x2) ∗ owns (c : Thread nD τ) arg9 fullShare KK ∗ owns (c : Thread nD τ) arg10 fullShare VT ∗ (∃ d, owns (c : Thread nD τ) arg11 fullShare d) ∗ (∃ d, owns (c : Thread nD τ) arg12 fullShare d)) -∗ K ⟨⟩))
      ⊢ wp frame (wpE (defs₀ (F := F)) Variants.none c none) E (cc0_fox i arg3 harg3 arg4 harg4 arg5 harg5 arg6 harg6 arg7 harg7 arg8 harg8 arg9 harg9 arg10 harg10 arg11 harg11 arg12 harg12) K := by
  simp only [cc0_fox_eq_skeleton]; unfold cc0_fox_skel
  simp only [k0_part4_eq_skeleton, k0_part5_eq_skeleton, k0_part6_eq_skeleton, k0_part7_eq_skeleton, k0_part8_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, ⟨%fs1, %hfs1, HS1⟩, ⟨%ds2, %fs2, -, HS2⟩, ⟨%ds3, %fs3, -, HS3⟩, Hk⟩
  sl_exec (disch := first | sl_exact hc0)
  ihave H11 : iprop(∃ g, (arg11.view.loc (c : Thread nD τ) ↦[arg11.view.set]{fullShare} g) ∗ ⌜arg11.view.read (Elt F) g = k0_pay25⌝) $$ [HS2]
  · iexists _; isplitl [HS2]; · iexact HS2
    ipureintro; exact View.read_writes_full _ _ _ _ []
  icases H11 with ⟨%g11, HS2, %hg11⟩
  ihave H12 : iprop(∃ g, (arg12.view.loc (c : Thread nD τ) ↦[arg12.view.set]{fullShare} g) ∗ ⌜arg12.view.read (Elt F) g = k0_pay26⌝) $$ [HS3]
  · iexists _; isplitl [HS3]; · iexact HS3
    ipureintro; exact View.read_writes_full _ _ _ _ []
  icases H12 with ⟨%g12, HS3, %hg12⟩
  sl_for (inv2 (F := F) c i arg3 harg3 arg4 harg4 arg5 harg5 arg6 harg6 arg7 harg7 arg8 harg8 arg9 harg9 arg10 harg10 arg11 harg11 arg12 harg12 (View.readAt (Elt F) arg4.view (Rect.unit (s := S1024x256) ![0, 0] S1024x128.size inb_S1024x256_S1024x128_0_0).toLoadRect f1) (View.readAt (Elt F) arg5.view (Rect.unit (s := S1024x256) ![0, 0] S1024x128.size inb_S1024x256_S1024x128_0_0).toLoadRect f2) (View.readAt (Elt F) arg4.view (Rect.unit (s := S1024x256) ![0, 128] S1024x128.size inb_S1024x256_S1024x128_0_128).toLoadRect f1) (View.readAt (Elt F) arg5.view (Rect.unit (s := S1024x256) ![0, 128] S1024x128.size inb_S1024x256_S1024x128_0_128).toLoadRect f2) fs0 fs1 g11 g12) $$ [HS0 HS1 HS2 HS3]
  case region => exact (step2 (F := F) Variants.none c none E i arg3 harg3 arg4 harg4 arg5 harg5 arg6 harg6 arg7 harg7 arg8 harg8 arg9 harg9 arg10 harg10 arg11 harg11 arg12 harg12 (View.readAt (Elt F) arg4.view (Rect.unit (s := S1024x256) ![0, 0] S1024x128.size inb_S1024x256_S1024x128_0_0).toLoadRect f1) (View.readAt (Elt F) arg5.view (Rect.unit (s := S1024x256) ![0, 0] S1024x128.size inb_S1024x256_S1024x128_0_0).toLoadRect f2) (View.readAt (Elt F) arg4.view (Rect.unit (s := S1024x256) ![0, 128] S1024x128.size inb_S1024x256_S1024x128_0_128).toLoadRect f1) (View.readAt (Elt F) arg5.view (Rect.unit (s := S1024x256) ![0, 128] S1024x128.size inb_S1024x256_S1024x128_0_128).toLoadRect f2) fs0 fs1 g11 g12)
  ·
    unfold inv2
    isplitl [HS0]; · iexact HS0
    isplitl [HS1]; · iexact HS1
    isplitl [HS2]
    · iexists _; isplitl [HS2]; · iexact HS2
      ipureintro; rfl
    iexists _; isplitl [HS3]; · iexact HS3
    ipureintro; rfl
  unfold inv2
  iintro %_ ⟨HS0, HS1, ⟨%p11, HS2, %hp11⟩, ⟨%p12, HS3, %hp12⟩⟩
  rw [show Scf.trips (k0_t2_loop i).lb (k0_t2_loop i).ub (k0_t2_loop i).st = (i 2).val from trips2 i] at hp11 hp12
  sl_exec
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr
    rotate_left
    · iexact H5
    · ipureintro
      have c4_0 : (View.readAt (Elt F) arg4.view (Rect.unit (s := S1024x256) ![0, 0] S1024x128.size inb_S1024x256_S1024x128_0_0).toLoadRect f1) = colh x1 0 := (hf1) ▸ load_col arg4.view f1 0 _ rfl
      have c4_1 : (View.readAt (Elt F) arg4.view (Rect.unit (s := S1024x256) ![0, 128] S1024x128.size inb_S1024x256_S1024x128_0_128).toLoadRect f1) = colh x1 1 := (hf1) ▸ load_col arg4.view f1 1 _ rfl
      have c5_0 : (View.readAt (Elt F) arg5.view (Rect.unit (s := S1024x256) ![0, 0] S1024x128.size inb_S1024x256_S1024x128_0_0).toLoadRect f2) = colh x2 0 := (hf2) ▸ load_col arg5.view f2 0 _ rfl
      have c5_1 : (View.readAt (Elt F) arg5.view (Rect.unit (s := S1024x256) ![0, 128] S1024x128.size inb_S1024x256_S1024x128_0_128).toLoadRect f2) = colh x2 1 := (hf2) ▸ load_col arg5.view f2 1 _ rfl
      rw [c4_0, c4_1, c5_0, c5_1, hfs0, hfs1, hg11, hg12] at hp11 hp12
      have e11_00 : View.readAt (Elt F) arg11.view (Rect.unit (s := S2x1x1024) ![0, 0, 0] S1x1x512.size inb_S2x1x1024_S1x1x512_0_0_0).toLoadRect p11 = hdq (arg11.view.read (Elt F) p11) 0 0 := load_hdq arg11.view p11 0 0 _ rfl
      have e11_01 : View.readAt (Elt F) arg11.view (Rect.unit (s := S2x1x1024) ![0, 0, 512] S1x1x512.size inb_S2x1x1024_S1x1x512_0_0_512).toLoadRect p11 = hdq (arg11.view.read (Elt F) p11) 0 1 := load_hdq arg11.view p11 0 1 _ rfl
      have e11_10 : View.readAt (Elt F) arg11.view (Rect.unit (s := S2x1x1024) ![1, 0, 0] S1x1x512.size inb_S2x1x1024_S1x1x512_1_0_0).toLoadRect p11 = hdq (arg11.view.read (Elt F) p11) 1 0 := load_hdq arg11.view p11 1 0 _ rfl
      have e11_11 : View.readAt (Elt F) arg11.view (Rect.unit (s := S2x1x1024) ![1, 0, 512] S1x1x512.size inb_S2x1x1024_S1x1x512_1_0_512).toLoadRect p11 = hdq (arg11.view.read (Elt F) p11) 1 1 := load_hdq arg11.view p11 1 1 _ rfl
      have e12_00 : View.readAt (Elt F) arg12.view (Rect.unit (s := S2x256x1024) ![0, 0, 0] S1x256x512.size inb_S2x256x1024_S1x256x512_0_0_0).toLoadRect p12 = hdq (arg12.view.read (Elt F) p12) 0 0 := load_hdq arg12.view p12 0 0 _ rfl
      have e12_01 : View.readAt (Elt F) arg12.view (Rect.unit (s := S2x256x1024) ![0, 0, 512] S1x256x512.size inb_S2x256x1024_S1x256x512_0_0_512).toLoadRect p12 = hdq (arg12.view.read (Elt F) p12) 0 1 := load_hdq arg12.view p12 0 1 _ rfl
      have e12_10 : View.readAt (Elt F) arg12.view (Rect.unit (s := S2x256x1024) ![1, 0, 0] S1x256x512.size inb_S2x256x1024_S1x256x512_1_0_0).toLoadRect p12 = hdq (arg12.view.read (Elt F) p12) 1 0 := load_hdq arg12.view p12 1 0 _ rfl
      have e12_11 : View.readAt (Elt F) arg12.view (Rect.unit (s := S2x256x1024) ![1, 0, 512] S1x256x512.size inb_S2x256x1024_S1x256x512_1_0_512).toLoadRect p12 = hdq (arg12.view.read (Elt F) p12) 1 1 := load_hdq arg12.view p12 1 1 _ rfl
      rw [hp11] at e11_00 e11_01 e11_10 e11_11
      rw [hp12] at e12_00 e12_01 e12_10 e12_11
      have k19 := load_kkH arg9.view fs0 0 (i 2).val (lt8 i) (k0_off19_inb i) (off19 i)
      have k20 := load_kk arg9.view fs0 0 (i 2).val (lt8 i) (k0_off20_inb i) (off20 i)
      have k21 := load_kkH arg9.view fs0 1 (i 2).val (lt8 i) (k0_off21_inb i) (off21 i)
      have k22 := load_kk arg9.view fs0 1 (i 2).val (lt8 i) (k0_off22_inb i) (off22 i)
      have k23 := load_vtH arg10.view fs1 0 (i 2).val (lt8 i) (k0_off23_inb i) (off23 i)
      have k24 := load_vt arg10.view fs1 0 (i 2).val (lt8 i) (k0_off24_inb i) (off24 i)
      have k25 := load_vtH arg10.view fs1 1 (i 2).val (lt8 i) (k0_off25_inb i) (off25 i)
      have k26 := load_vt arg10.view fs1 1 (i 2).val (lt8 i) (k0_off26_inb i) (off26 i)
      rw [hfs0] at k19 k20 k21 k22
      rw [hfs1] at k23 k24 k25 k26
      unfold runB.sl.v180 runB.sl.v188 runB.sl.HS3_4
      refine (read_cols _ _ _ _ _ _).trans ?_
      unfold OUT
      refine congrArg₂ cols (congrArg k0_pay2 ?_) (congrArg k0_pay3 ?_)
      · refine (cov_heads _ _ _ _ _ 0 _ _ _ _ _ rfl).trans ?_
        rw [if_pos rfl, if_pos rfl]
        unfold runB.sl.r_6 runB.sl.r_7 runB.sl.r_8 runB.sl.r_10 runB.sl.r_11 runB.sl.r_2 runB.sl.v88 runB.sl.v97 runB.sl.r
        rw [c4_0, c5_0, k19, k20, k23, k24, e11_00, e11_01, e12_00, e12_01]
        rfl
      · refine (cov_heads _ _ _ _ _ 1 _ _ _ _ _ rfl).trans ?_
        rw [if_neg (by decide), if_neg (by decide)]
        unfold runB.sl.r_15 runB.sl.r_13 runB.sl.r_3 runB.sl.r_4 runB.sl.v121 runB.sl.v130 runB.sl.v154 runB.sl.v163 runB.sl.r_1
        rw [c4_1, c5_1, k21, k22, k25, k26, e11_10, e11_11, e12_10, e12_11]
        rfl
  isplitl [HS0]
  · iexists _; isplitr; · ipureintro; exact hfs0
    iexact HS0
  isplitl [HS1]
  · iexists _; isplitr; · ipureintro; exact hfs1
    iexact HS1
  isplitl [HS2]
  · iapply (forget c arg11 _); iexact HS2
  iapply (forget c arg12 _); iexact HS3

end Cert.KernelIdeal.Fox

end
-- ==== Proof.Fox.BodyA.lean ====
/-
  The attention kernel's body at the first grid point of a head pair, run: what it is handed and what it leaves.
-/
module

public import proofs.«01_k».proof.Proof.Fox.Body

@[expose] public section

set_option maxRecDepth 16384
set_option maxHeartbeats 1000000

noncomputable section

namespace Cert.KernelIdeal.Fox

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F] [Named F]

local notation "𝕄" => MT nD τ sig Unit (Elt F) ℕ (UR sig nD τ) ℕ

theorem runA (c : Dev nD) (i : grid0.Coords) (arg3 : Memref sig .tc .vmem S8192x256 .bf16) (harg3 : arg3.IsWhole) (arg4 : Memref sig .tc .vmem S1024x256 .bf16) (harg4 : arg4.IsWhole) (arg5 : Memref sig .tc .vmem S1024x256 .bf16) (harg5 : arg5.IsWhole) (arg6 : Memref sig .tc .vmem S8192x256 .bf16) (harg6 : arg6.IsWhole) (arg7 : Memref sig .tc .vmem S8192x256 .bf16) (harg7 : arg7.IsWhole) (arg8 : Memref sig .tc .vmem S1024x256 .bf16) (harg8 : arg8.IsWhole) (arg9 : Memref sig .tc .vmem S2x8192x256 .bf16) (harg9 : arg9.IsWhole) (arg10 : Memref sig .tc .vmem S2x8x256x1024 .bf16) (harg10 : arg10.IsWhole) (arg11 : Memref sig .tc .vmem S2x1x1024 .f32) (harg11 : arg11.IsWhole) (arg12 : Memref sig .tc .vmem S2x256x1024 .f32) (harg12 : arg12.IsWhole)
    (hc0 : k0_cond1 i = 1#1)
    (x0 : Vec F S8192x256 .bf16) (x1 x2 : Vec F S1024x256 .bf16) (x3 x4 : Vec F S8192x256 .bf16)
    (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4
        ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4
            ∗ owns (c : Thread nD τ) arg8 fullShare (OUT (i 2).val (KKof x0 x3) (VTof x4) x1 x2) ∗ owns (c : Thread nD τ) arg9 fullShare (KKof x0 x3) ∗ owns (c : Thread nD τ) arg10 fullShare (VTof x4) ∗ (∃ d, owns (c : Thread nD τ) arg11 fullShare d) ∗ (∃ d, owns (c : Thread nD τ) arg12 fullShare d)) -∗ K ⟨⟩))
      ⊢ wp frame (wpE (defs₀ (F := F)) Variants.none c none) E (cc0_fox i arg3 harg3 arg4 harg4 arg5 harg5 arg6 harg6 arg7 harg7 arg8 harg8 arg9 harg9 arg10 harg10 arg11 harg11 arg12 harg12) K := by
  simp only [cc0_fox_eq_skeleton]; unfold cc0_fox_skel
  simp only [k0_part4_eq_skeleton, k0_part5_eq_skeleton, k0_part6_eq_skeleton, k0_part7_eq_skeleton, k0_part8_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%ds0, %fz0, -, HS0⟩, ⟨%ds1, %fz1, -, HS1⟩, ⟨%ds2, %fs2, -, HS2⟩, ⟨%ds3, %fs3, -, HS3⟩, Hk⟩
  sl_exec (disch := first | sl_exact hc0)
  sl_for (inv1 (F := F) c i arg3 harg3 arg4 harg4 arg5 harg5 arg6 harg6 arg7 harg7 arg8 harg8 arg9 harg9 arg10 harg10 arg11 harg11 arg12 harg12 f0 f3 f4 fz0 fz1) $$ [H0 H3 H4 HS0 HS1]
  case region => exact (step1 (F := F) Variants.none c none E i arg3 harg3 arg4 harg4 arg5 harg5 arg6 harg6 arg7 harg7 arg8 harg8 arg9 harg9 arg10 harg10 arg11 harg11 arg12 harg12 hc0 f0 f3 f4 fz0 fz1)
  · unfold inv1
    isplitl [H0]; · iexact H0
    isplitl [H3]; · iexact H3
    isplitl [H4]; · iexact H4
    isplitl [HS0]
    · iexists _; isplitl [HS0]; · iexact HS0
      ipureintro; rfl
    iexists _; isplitl [HS1]; · iexact HS1
    ipureintro; rfl
  unfold inv1
  iintro %_ ⟨H0, H3, H4, ⟨%fs0, HS0, %hfs0⟩, ⟨%fs1, HS1, %hfs1⟩⟩
  rw [show Scf.trips k0_t1_loop.lb k0_t1_loop.ub k0_t1_loop.st = 8 from trips1, fillK_full, hf0, hf3] at hfs0
  rw [show Scf.trips k0_t1_loop.lb k0_t1_loop.ub k0_t1_loop.st = 8 from trips1, fillV_full, hf4] at hfs1
  sl_exec
  ihave H11 : iprop(∃ g, (arg11.view.loc (c : Thread nD τ) ↦[arg11.view.set]{fullShare} g) ∗ ⌜arg11.view.read (Elt F) g = k0_pay25⌝) $$ [HS2]
  · iexists _; isplitl [HS2]; · iexact HS2
    ipureintro; exact View.read_writes_full _ _ _ _ []
  icases H11 with ⟨%g11, HS2, %hg11⟩
  ihave H12 : iprop(∃ g, (arg12.view.loc (c : Thread nD τ) ↦[arg12.view.set]{fullShare} g) ∗ ⌜arg12.view.read (Elt F) g = k0_pay26⌝) $$ [HS3]
  · iexists _; isplitl [HS3]; · iexact HS3
    ipureintro; exact View.read_writes_full _ _ _ _ []
  icases H12 with ⟨%g12, HS3, %hg12⟩
  sl_for (inv2 (F := F) c i arg3 harg3 arg4 harg4 arg5 harg5 arg6 harg6 arg7 harg7 arg8 harg8 arg9 harg9 arg10 harg10 arg11 harg11 arg12 harg12 (View.readAt (Elt F) arg4.view (Rect.unit (s := S1024x256) ![0, 0] S1024x128.size inb_S1024x256_S1024x128_0_0).toLoadRect f1) (View.readAt (Elt F) arg5.view (Rect.unit (s := S1024x256) ![0, 0] S1024x128.size inb_S1024x256_S1024x128_0_0).toLoadRect f2) (View.readAt (Elt F) arg4.view (Rect.unit (s := S1024x256) ![0, 128] S1024x128.size inb_S1024x256_S1024x128_0_128).toLoadRect f1) (View.readAt (Elt F) arg5.view (Rect.unit (s := S1024x256) ![0, 128] S1024x128.size inb_S1024x256_S1024x128_0_128).toLoadRect f2) fs0 fs1 g11 g12) $$ [HS0 HS1 HS2 HS3]
  case region => exact (step2 (F := F) Variants.none c none E i arg3 harg3 arg4 harg4 arg5 harg5 arg6 harg6 arg7 harg7 arg8 harg8 arg9 harg9 arg10 harg10 arg11 harg11 arg12 harg12 (View.readAt (Elt F) arg4.view (Rect.unit (s := S1024x256) ![0, 0] S1024x128.size inb_S1024x256_S1024x128_0_0).toLoadRect f1) (View.readAt (Elt F) arg5.view (Rect.unit (s := S1024x256) ![0, 0] S1024x128.size inb_S1024x256_S1024x128_0_0).toLoadRect f2) (View.readAt (Elt F) arg4.view (Rect.unit (s := S1024x256) ![0, 128] S1024x128.size inb_S1024x256_S1024x128_0_128).toLoadRect f1) (View.readAt (Elt F) arg5.view (Rect.unit (s := S1024x256) ![0, 128] S1024x128.size inb_S1024x256_S1024x128_0_128).toLoadRect f2) fs0 fs1 g11 g12)
  ·
    unfold inv2
    isplitl [HS0]; · iexact HS0
    isplitl [HS1]; · iexact HS1
    isplitl [HS2]
    · iexists _; isplitl [HS2]; · iexact HS2
      ipureintro; rfl
    iexists _; isplitl [HS3]; · iexact HS3
    ipureintro; rfl
  unfold inv2
  iintro %_ ⟨HS0, HS1, ⟨%p11, HS2, %hp11⟩, ⟨%p12, HS3, %hp12⟩⟩
  rw [show Scf.trips (k0_t2_loop i).lb (k0_t2_loop i).ub (k0_t2_loop i).st = (i 2).val from trips2 i] at hp11 hp12
  sl_exec
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr
    rotate_left
    · iexact H5
    · ipureintro
      have c4_0 : (View.readAt (Elt F) arg4.view (Rect.unit (s := S1024x256) ![0, 0] S1024x128.size inb_S1024x256_S1024x128_0_0).toLoadRect f1) = colh x1 0 := (hf1) ▸ load_col arg4.view f1 0 _ rfl
      have c4_1 : (View.readAt (Elt F) arg4.view (Rect.unit (s := S1024x256) ![0, 128] S1024x128.size inb_S1024x256_S1024x128_0_128).toLoadRect f1) = colh x1 1 := (hf1) ▸ load_col arg4.view f1 1 _ rfl
      have c5_0 : (View.readAt (Elt F) arg5.view (Rect.unit (s := S1024x256) ![0, 0] S1024x128.size inb_S1024x256_S1024x128_0_0).toLoadRect f2) = colh x2 0 := (hf2) ▸ load_col arg5.view f2 0 _ rfl
      have c5_1 : (View.readAt (Elt F) arg5.view (Rect.unit (s := S1024x256) ![0, 128] S1024x128.size inb_S1024x256_S1024x128_0_128).toLoadRect f2) = colh x2 1 := (hf2) ▸ load_col arg5.view f2 1 _ rfl
      rw [c4_0, c4_1, c5_0, c5_1, hfs0, hfs1, hg11, hg12] at hp11 hp12
      have e11_00 : View.readAt (Elt F) arg11.view (Rect.unit (s := S2x1x1024) ![0, 0, 0] S1x1x512.size inb_S2x1x1024_S1x1x512_0_0_0).toLoadRect p11 = hdq (arg11.view.read (Elt F) p11) 0 0 := load_hdq arg11.view p11 0 0 _ rfl
      have e11_01 : View.readAt (Elt F) arg11.view (Rect.unit (s := S2x1x1024) ![0, 0, 512] S1x1x512.size inb_S2x1x1024_S1x1x512_0_0_512).toLoadRect p11 = hdq (arg11.view.read (Elt F) p11) 0 1 := load_hdq arg11.view p11 0 1 _ rfl
      have e11_10 : View.readAt (Elt F) arg11.view (Rect.unit (s := S2x1x1024) ![1, 0, 0] S1x1x512.size inb_S2x1x1024_S1x1x512_1_0_0).toLoadRect p11 = hdq (arg11.view.read (Elt F) p11) 1 0 := load_hdq arg11.view p11 1 0 _ rfl
      have e11_11 : View.readAt (Elt F) arg11.view (Rect.unit (s := S2x1x1024) ![1, 0, 512] S1x1x512.size inb_S2x1x1024_S1x1x512_1_0_512).toLoadRect p11 = hdq (arg11.view.read (Elt F) p11) 1 1 := load_hdq arg11.view p11 1 1 _ rfl
      have e12_00 : View.readAt (Elt F) arg12.view (Rect.unit (s := S2x256x1024) ![0, 0, 0] S1x256x512.size inb_S2x256x1024_S1x256x512_0_0_0).toLoadRect p12 = hdq (arg12.view.read (Elt F) p12) 0 0 := load_hdq arg12.view p12 0 0 _ rfl
      have e12_01 : View.readAt (Elt F) arg12.view (Rect.unit (s := S2x256x1024) ![0, 0, 512] S1x256x512.size inb_S2x256x1024_S1x256x512_0_0_512).toLoadRect p12 = hdq (arg12.view.read (Elt F) p12) 0 1 := load_hdq arg12.view p12 0 1 _ rfl
      have e12_10 : View.readAt (Elt F) arg12.view (Rect.unit (s := S2x256x1024) ![1, 0, 0] S1x256x512.size inb_S2x256x1024_S1x256x512_1_0_0).toLoadRect p12 = hdq (arg12.view.read (Elt F) p12) 1 0 := load_hdq arg12.view p12 1 0 _ rfl
      have e12_11 : View.readAt (Elt F) arg12.view (Rect.unit (s := S2x256x1024) ![1, 0, 512] S1x256x512.size inb_S2x256x1024_S1x256x512_1_0_512).toLoadRect p12 = hdq (arg12.view.read (Elt F) p12) 1 1 := load_hdq arg12.view p12 1 1 _ rfl
      rw [hp11] at e11_00 e11_01 e11_10 e11_11
      rw [hp12] at e12_00 e12_01 e12_10 e12_11
      have k19 := load_kkH arg9.view fs0 0 (i 2).val (lt8 i) (k0_off19_inb i) (off19 i)
      have k20 := load_kk arg9.view fs0 0 (i 2).val (lt8 i) (k0_off20_inb i) (off20 i)
      have k21 := load_kkH arg9.view fs0 1 (i 2).val (lt8 i) (k0_off21_inb i) (off21 i)
      have k22 := load_kk arg9.view fs0 1 (i 2).val (lt8 i) (k0_off22_inb i) (off22 i)
      have k23 := load_vtH arg10.view fs1 0 (i 2).val (lt8 i) (k0_off23_inb i) (off23 i)
      have k24 := load_vt arg10.view fs1 0 (i 2).val (lt8 i) (k0_off24_inb i) (off24 i)
      have k25 := load_vtH arg10.view fs1 1 (i 2).val (lt8 i) (k0_off25_inb i) (off25 i)
      have k26 := load_vt arg10.view fs1 1 (i 2).val (lt8 i) (k0_off26_inb i) (off26 i)
      rw [hfs0] at k19 k20 k21 k22
      rw [hfs1] at k23 k24 k25 k26
      unfold runA.sl.v180 runA.sl.v188 runA.sl.HS3_4
      refine (read_cols _ _ _ _ _ _).trans ?_
      unfold OUT
      refine congrArg₂ cols (congrArg k0_pay2 ?_) (congrArg k0_pay3 ?_)
      · refine (cov_heads _ _ _ _ _ 0 _ _ _ _ _ rfl).trans ?_
        rw [if_pos rfl, if_pos rfl]
        unfold runA.sl.r_6 runA.sl.r_7 runA.sl.r_8 runA.sl.r_10 runA.sl.r_11 runA.sl.r_2 runA.sl.v88 runA.sl.v97 runA.sl.r
        rw [c4_0, c5_0, k19, k20, k23, k24, e11_00, e11_01, e12_00, e12_01]
        rfl
      · refine (cov_heads _ _ _ _ _ 1 _ _ _ _ _ rfl).trans ?_
        rw [if_neg (by decide), if_neg (by decide)]
        unfold runA.sl.r_15 runA.sl.r_13 runA.sl.r_3 runA.sl.r_4 runA.sl.v121 runA.sl.v130 runA.sl.v154 runA.sl.v163 runA.sl.r_1
        rw [c4_1, c5_1, k21, k22, k25, k26, e11_10, e11_11, e12_10, e12_11]
        rfl
  isplitl [HS0]
  · iexists _; isplitr; · ipureintro; exact hfs0
    iexact HS0
  isplitl [HS1]
  · iexists _; isplitr; · ipureintro; exact hfs1
    iexact HS1
  isplitl [HS2]
  · iapply (forget c arg11 _); iexact HS2
  iapply (forget c arg12 _); iexact HS3

end Cert.KernelIdeal.Fox

end
-- ==== Proof.Fox.Run.lean ====
/-
  The attention kernel run over its grid: what each point leaves, and the launch.
-/
module

public import proofs.«01_k».proof.Proof.Fox.BodyA
public import proofs.«01_k».proof.Proof.Gen.KernelIdeal.Frame
public import Idealize.ShloMosaic.Lib.Claim

@[expose] public section

set_option maxRecDepth 16384

noncomputable section

namespace Cert.KernelIdeal.Fox

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The grid point's third coordinate is its number modulo eight. -/
theorem coord2 (t : Fin cfg0.N) : (grid0.coords t 2).val = t.val % 8 := by
  have h : (grid0.coords t 2).val = t.val / 1 % 8 := Pipeline.Grid.coords_val t 2 (by decide) rfl
  omega

/-- The copy into scratch runs at the points divisible by eight. -/
theorem copies : ∀ t : Fin cfg0.N, k0_cond1 (grid0.coords t) = 1#1 ↔ t.val % 8 = 0 :=
  (fun t => by
    have ht : t.val < 64 := Nat.lt_of_lt_of_eq t.isLt N_0
    have e2 : (grid0.coords t 2).val = t.val / 1 % 8 := Pipeline.Grid.coords_val t 2 (by decide) rfl
    simp only [k0_cond1, e2]
    word_cmp
   : ∀ t : Fin grid0.N, k0_cond1 (grid0.coords t) = 1#1 ↔ t.val % 8 = 0)

/-- The staging memrefs at a point. -/
abbrev st0 (t : Fin cfg0.N) : Memref sig .tc .vmem S8192x256 .bf16 := win0_0.stage (cfg0.slots t 0)
abbrev ht0 (t : Fin cfg0.N) : (st0 t).IsWhole := hstage0_0 ((cfg0.slots t 0).cast nbuf0_0)
abbrev st1 (t : Fin cfg0.N) : Memref sig .tc .vmem S1024x256 .bf16 := win0_1.stage (cfg0.slots t 1)
abbrev ht1 (t : Fin cfg0.N) : (st1 t).IsWhole := hstage0_1 ((cfg0.slots t 1).cast nbuf0_1)
abbrev st2 (t : Fin cfg0.N) : Memref sig .tc .vmem S1024x256 .bf16 := win0_2.stage (cfg0.slots t 2)
abbrev ht2 (t : Fin cfg0.N) : (st2 t).IsWhole := hstage0_2 ((cfg0.slots t 2).cast nbuf0_2)
abbrev st3 (t : Fin cfg0.N) : Memref sig .tc .vmem S8192x256 .bf16 := win0_3.stage (cfg0.slots t 3)
abbrev ht3 (t : Fin cfg0.N) : (st3 t).IsWhole := hstage0_3 ((cfg0.slots t 3).cast nbuf0_3)
abbrev st4 (t : Fin cfg0.N) : Memref sig .tc .vmem S8192x256 .bf16 := win0_4.stage (cfg0.slots t 4)
abbrev ht4 (t : Fin cfg0.N) : (st4 t).IsWhole := hstage0_4 ((cfg0.slots t 4).cast nbuf0_4)
abbrev st5 (t : Fin cfg0.N) : Memref sig .tc .vmem S1024x256 .bf16 := win0_5.stage (cfg0.slots t 5)
abbrev ht5 (t : Fin cfg0.N) : (st5 t).IsWhole := hstage0_5 ((cfg0.slots t 5).cast nbuf0_5)
abbrev sc0 : Memref sig .tc .vmem S2x8192x256 .bf16 := Memref.whole cc0_scratch0
abbrev sc1 : Memref sig .tc .vmem S2x8x256x1024 .bf16 := Memref.whole cc0_scratch1
abbrev sc2 : Memref sig .tc .vmem S2x1x1024 .f32 := Memref.whole cc0_scratch2
abbrev sc3 : Memref sig .tc .vmem S2x256x1024 .f32 := Memref.whole cc0_scratch3

/-- The launch's invariant with the scratch as memrefs owned at some contents. -/
theorem PhiA_eq (c : Dev nD) :
    (Pipeline.ΦA spec0 c : sProp 𝕄)
      = iprop(iprop((∃ d, owns (c : Thread nD τ) sc0 fullShare d) ∗ (∃ d, owns (c : Thread nD τ) sc1 fullShare d) ∗ (∃ d, owns (c : Thread nD τ) sc2 fullShare d) ∗ (∃ d, owns (c : Thread nD τ) sc3 fullShare d)) ∗ (∃ r, prngReg c r)) := by
  unfold Pipeline.ΦA; rw [scopedRest0_eq]; simp only [sc0, sc1, sc2, sc3, owns_whole]; try rfl

/-- The first point of the run of eight a point lies in. -/
def base (t : Fin cfg0.N) : Fin cfg0.N := ⟨t.val / 8 * 8, by have h := t.isLt; omega⟩

/-- What the two carried scratch buffers hold after a point: the keys and values of its head pair. -/
def KKat (c : Dev nD) (t : Fin cfg0.N) : Vec F S2x8192x256 .bf16 := KKof (iblk m c 0 (base t)) (iblk m c 3 (base t))
def VTat (c : Dev nD) (t : Fin cfg0.N) : Vec F S2x8x256x1024 .bf16 := VTof (iblk m c 4 (base t))

/-- The output block of a point. -/
def OUTat (c : Dev nD) (t : Fin cfg0.N) : Vec F S1024x256 .bf16 :=
  OUT (grid0.coords t 2).val (KKat m c t) (VTat m c t) (iblk m c 1 t) (iblk m c 2 t)

theorem base_first (t : Fin cfg0.N) (h : t.val % 8 = 0) : base t = t := Fin.ext (by show t.val / 8 * 8 = t.val; omega)
theorem base_pred (t : Fin cfg0.N) (h : ¬ t.val % 8 = 0) (hp : t.val - 1 < cfg0.N) : base ⟨t.val - 1, hp⟩ = base t :=
  Fin.ext (by show (t.val - 1) / 8 * 8 = t.val / 8 * 8; omega)

/-- The invariant before point `n`. -/
def PhiS (c : Dev nD) : (n : ℕ) → n ≤ cfg0.N → sProp 𝕄
  | 0, _ => Pipeline.ΦA spec0 c
  | n + 1, h => iprop(iprop(owns (c : Thread nD τ) sc0 fullShare (KKat m c ⟨n, by omega⟩) ∗ owns (c : Thread nD τ) sc1 fullShare (VTat m c ⟨n, by omega⟩) ∗ (∃ d, owns (c : Thread nD τ) sc2 fullShare d) ∗ (∃ d, owns (c : Thread nD τ) sc3 fullShare d)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (h : n + 1 ≤ cfg0.N) : PhiS m c (n + 1) h = iprop(iprop(owns (c : Thread nD τ) sc0 fullShare (KKat m c ⟨n, by omega⟩) ∗ owns (c : Thread nD τ) sc1 fullShare (VTat m c ⟨n, by omega⟩) ∗ (∃ d, owns (c : Thread nD τ) sc2 fullShare d) ∗ (∃ d, owns (c : Thread nD τ) sc3 fullShare d)) ∗ (∃ r, prngReg c r)) := rfl

theorem PhiS_pos (c : Dev nD) (n : ℕ) (h : n ≤ cfg0.N) (hz : n ≠ 0) : PhiS m c n h = iprop(iprop(owns (c : Thread nD τ) sc0 fullShare (KKat m c ⟨n - 1, by omega⟩) ∗ owns (c : Thread nD τ) sc1 fullShare (VTat m c ⟨n - 1, by omega⟩) ∗ (∃ d, owns (c : Thread nD τ) sc2 fullShare d) ∗ (∃ d, owns (c : Thread nD τ) sc3 fullShare d)) ∗ (∃ r, prngReg c r)) := by
  cases n with
  | zero => exact absurd rfl hz
  | succ n => rfl

/-- The proof data: inputs keep their blocks, the output window holds the block named. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => OUTat m c t
  Φ t := PhiS m c t.val (Nat.le_of_lt_succ t.isLt)
  q w := Pipeline.shareOf spec0 w
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = OUTat m c t := by dsimp only [dats]
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d

/-- What the body is called with at a point. -/
def bodyPre (c : Dev nD) (t : Fin cfg0.N) : sProp 𝕄 :=
  iprop((dats m 0 c).Φ t.castSucc ∗ (dats m 0 c).owesAt () t.castSucc
    ∗ (∃ d, owns (c : Thread nD τ) (st0 t) fullShare ((dats m 0 c).before 0 t d))
    ∗ (∃ d, owns (c : Thread nD τ) (st1 t) fullShare ((dats m 0 c).before 1 t d))
    ∗ (∃ d, owns (c : Thread nD τ) (st2 t) fullShare ((dats m 0 c).before 2 t d))
    ∗ (∃ d, owns (c : Thread nD τ) (st3 t) fullShare ((dats m 0 c).before 3 t d))
    ∗ (∃ d, owns (c : Thread nD τ) (st4 t) fullShare ((dats m 0 c).before 4 t d))
    ∗ (∃ d, owns (c : Thread nD τ) (st5 t) fullShare ((dats m 0 c).before 5 t d)))

/-- What it returns. -/
def bodyPost (c : Dev nD) (t : Fin cfg0.N) : sProp 𝕄 :=
  iprop((dats m 0 c).Φ t.succ ∗ (dats m 0 c).owesAt () t.succ
    ∗ owns (c : Thread nD τ) (st0 t) fullShare ((dats m 0 c).after 0 t)
    ∗ owns (c : Thread nD τ) (st1 t) fullShare ((dats m 0 c).after 1 t)
    ∗ owns (c : Thread nD τ) (st2 t) fullShare ((dats m 0 c).after 2 t)
    ∗ owns (c : Thread nD τ) (st3 t) fullShare ((dats m 0 c).after 3 t)
    ∗ owns (c : Thread nD τ) (st4 t) fullShare ((dats m 0 c).after 4 t)
    ∗ owns (c : Thread nD τ) (st5 t) fullShare ((dats m 0 c).after 5 t))

set_option maxHeartbeats 6400000 in
/-- The body at any point of the grid. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4]
  rw [show (dats m 0 c).owesAt () t.succ = (dats m 0 c).owesAt () t.castSucc from rfl,
    after_0, after_1, after_2, after_3, after_4, after_5]
  rw [show (dats m 0 c).Φ t.succ = PhiS m c (t.val + 1) t.isLt from rfl, PhiS_succ]
  have hN : t.val < 64 := lt_of_lt_of_eq t.isLt (show cfg0.N = 64 from N_0)
  by_cases h0 : t.val % 8 = 0
  · have eK : KKat m c t = KKof (iblk m c 0 t) (iblk m c 3 t) := by unfold KKat; rw [base_first t h0]
    have eV : VTat m c t = VTof (iblk m c 4 t) := by unfold VTat; rw [base_first t h0]
    unfold OUTat
    rw [show (⟨t.val, by omega⟩ : Fin cfg0.N) = t from rfl, eK, eV]
    by_cases hz : t.val = 0
    · rw [PhiS_castSucc m c t, PhiS_zero m c _ _ hz, PhiA_eq]
      iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩⟩
      iapply (runA c (grid0.coords t) _ _ _ _ _ _ _ _ _ _ _ _ _ _ _ _ _ _ _ _ ((copies t).mpr h0) (iblk m c 0 t) (iblk m c 1 t) (iblk m c 2 t) (iblk m c 3 t) (iblk m c 4 t) Set.univ _)
      isplitl [H0]; · iexact H0
      isplitl [H1]; · iexact H1
      isplitl [H2]; · iexact H2
      isplitl [H3]; · iexact H3
      isplitl [H4]; · iexact H4
      isplitl [H5]; · iexists _; iexact H5
      isplitl [HS0]; · iexact HS0
      isplitl [HS1]; · iexact HS1
      isplitl [HS2]; · iexact HS2
      isplitl [HS3]; · iexact HS3
      iintro ⟨H0, H1, H2, H3, H4, H5, HS0, HS1, HS2, HS3⟩
      isplitl [HS0 HS1 HS2 HS3 Hg]
      · isplitl [HS0 HS1 HS2 HS3]
        · isplitl [HS0]; · iexact HS0
          isplitl [HS1]; · iexact HS1
          isplitl [HS2]; · iexact HS2
          iexact HS3
        iexact Hg
      isplitl [Ho]; · iexact Ho
      isplitl [H0]; · iexact H0
      isplitl [H1]; · iexact H1
      isplitl [H2]; · iexact H2
      isplitl [H3]; · iexact H3
      isplitl [H4]; · iexact H4
      iexact H5
    · rw [PhiS_castSucc m c t, PhiS_pos m c _ _ hz]
      iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩⟩
      iapply (runA c (grid0.coords t) _ _ _ _ _ _ _ _ _ _ _ _ _ _ _ _ _ _ _ _ ((copies t).mpr h0) (iblk m c 0 t) (iblk m c 1 t) (iblk m c 2 t) (iblk m c 3 t) (iblk m c 4 t) Set.univ _)
      isplitl [H0]; · iexact H0
      isplitl [H1]; · iexact H1
      isplitl [H2]; · iexact H2
      isplitl [H3]; · iexact H3
      isplitl [H4]; · iexact H4
      isplitl [H5]; · iexists _; iexact H5
      isplitl [HS0]; · iexists _; iexact HS0
      isplitl [HS1]; · iexists _; iexact HS1
      isplitl [HS2]; · iexact HS2
      isplitl [HS3]; · iexact HS3
      iintro ⟨H0, H1, H2, H3, H4, H5, HS0, HS1, HS2, HS3⟩
      isplitl [HS0 HS1 HS2 HS3 Hg]
      · isplitl [HS0 HS1 HS2 HS3]
        · isplitl [HS0]; · iexact HS0
          isplitl [HS1]; · iexact HS1
          isplitl [HS2]; · iexact HS2
          iexact HS3
        iexact Hg
      isplitl [Ho]; · iexact Ho
      isplitl [H0]; · iexact H0
      isplitl [H1]; · iexact H1
      isplitl [H2]; · iexact H2
      isplitl [H3]; · iexact H3
      isplitl [H4]; · iexact H4
      iexact H5
  · have hz : t.val ≠ 0 := by omega
    rw [PhiS_castSucc m c t, PhiS_pos m c _ _ hz]
    have eK : KKat m c ⟨t.val - 1, by omega⟩ = KKat m c t := by unfold KKat; rw [base_pred t h0]
    have eV : VTat m c ⟨t.val - 1, by omega⟩ = VTat m c t := by unfold VTat; rw [base_pred t h0]
    unfold OUTat
    rw [show (⟨t.val, by omega⟩ : Fin cfg0.N) = t from rfl, eK, eV]
    iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩⟩
    iapply (runB c (grid0.coords t) _ _ _ _ _ _ _ _ _ _ _ _ _ _ _ _ _ _ _ _ (fun h => h0 ((copies t).mp h)) (iblk m c 0 t) (iblk m c 1 t) (iblk m c 2 t) (iblk m c 3 t) (iblk m c 4 t) (KKat m c t) (VTat m c t) Set.univ _)
    isplitl [H0]; · iexact H0
    isplitl [H1]; · iexact H1
    isplitl [H2]; · iexact H2
    isplitl [H3]; · iexact H3
    isplitl [H4]; · iexact H4
    isplitl [H5]; · iexists _; iexact H5
    isplitl [HS0]; · iexact HS0
    isplitl [HS1]; · iexact HS1
    isplitl [HS2]; · iexact HS2
    isplitl [HS3]; · iexact HS3
    iintro ⟨H0, H1, H2, H3, H4, H5, HS0, HS1, HS2, HS3⟩
    isplitl [HS0 HS1 HS2 HS3 Hg]
    · isplitl [HS0 HS1 HS2 HS3]
      · isplitl [HS0]; · iexact HS0
        isplitl [HS1]; · iexact HS1
        isplitl [HS2]; · iexact HS2
        iexact HS3
      iexact Hg
    isplitl [Ho]; · iexact Ho
    isplitl [H0]; · iexact H0
    isplitl [H1]; · iexact H1
    isplitl [H2]; · iexact H2
    isplitl [H3]; · iexact H3
    isplitl [H4]; · iexact H4
    iexact H5

theorem defs₀_row (t : Fin cfg0.N) :
    defs₀ (F := F) .tc cfg0.body (cfg0.bodyArgs t (cfg0.slots t)) = bodyAt0 t := by
  unfold defs₀; rw [Defs.onTc_tc]

/-- The body obligation at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = PhiS m c 0 (Nat.zero_le _) from rfl, PhiS_zero m c 0 _ rfl]

theorem hout (c : Dev nD) : (dats m 0 c).Φ (Fin.last cfg0.N) ⊢ Pipeline.ΦA spec0 c := by
  have hN : cfg0.N = 64 := N_0
  rw [show (dats m 0 c).Φ (Fin.last cfg0.N) = PhiS m c cfg0.N le_rfl from rfl, PhiS_pos m c _ _ (by omega), PhiA_eq]
  iintro ⟨⟨HS0, HS1, HS2, HS3⟩, Hg⟩
  isplitl [HS0 HS1 HS2 HS3]
  · isplitl [HS0]
    · iexists _; iexact HS0
    isplitl [HS1]
    · iexists _; iexact HS1
    isplitl [HS2]
    · iexact HS2
    iexact HS3
  iexact Hg

set_option backward.isDefEq.respectTransparency.types false in
/-- The launch: every final state holds the proof data's arrays, every counter zero. -/
theorem run_main : θ_run defs (onTc (τ := τ) (main (F := F))) (s₀ m ρ)
    (fun r => Pipeline.FramePost cfgs (dats m) 0 (V m) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

/-- The kernel leaves its arguments as they were and every counter zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) ((θ_run defs _ _).mono (fun _ h => h.1) (run_main m ρ)))
    ((θ_run defs _ _).mono (fun _ h => h.2) (run_main m ρ))

end Cert.KernelIdeal.Fox

end
-- ==== Proof.Fox.Pay.lean ====
/-
  The kernel's vector arithmetic read at an index, over the extended reals.
-/
module

public import proofs.«01_k».proof.Proof.Fox.Spec
public import Idealize.ShloMosaic.PureOps.Ideal
public import Idealize.ShloMosaic.Lib.WordCmp

@[expose] public section

set_option maxRecDepth 16384
set_option maxHeartbeats 1000000

noncomputable section

namespace Cert.KernelIdeal.Fox

open Idealize.ShloMosaic Idealize.ShloMosaic.TcCoe Idealize.ShloMosaic.WordCmp
open Cert.KernelIdeal.Gen

local notation "I" => Idealize.ShloMosaic.Ideal

/-- The float word of −∞ denotes −∞. -/
theorem ninf : Ideal.ofBits .f32 0xFF800000#32 = ⊥ := by
  simp [Ideal.ofBits, Ideal.ieee]

/-- The mask of the first half of a diagonal block. -/
theorem sel0 (j q : Fin 512) (x : EReal) : (Scalar.select (IntOp.cmpi CmpIPredicate.sle (BitVec.ofNat 32 ↑j) (IntOp.addi (BitVec.ofNat 32 ↑q) 0#32)) x
      (Named.named κ "mask" 0xF149F2CA#32 : Idealize.ShloMosaic.Ideal .f32)) =
    if j.val ≤ q.val then x else ⊥ := by
  have e : IntOp.addi (BitVec.ofNat 32 q.val) 0#32 = BitVec.ofNat 32 q.val := BitVec.add_zero _
  rw [e, cmpi_sle_ofNat (by omega) (by omega)]
  by_cases h : j.val ≤ q.val <;> simp [h, Scalar.select]
  rfl

/-- The mask of the second half. -/
theorem sel512 (j : Fin 1024) (q : Fin 512) (x : EReal) : (Scalar.select (IntOp.cmpi CmpIPredicate.sle (BitVec.ofNat 32 ↑j) (IntOp.addi (BitVec.ofNat 32 ↑q) 512#32)) x
      (Named.named κ "mask" 0xF149F2CA#32 : Idealize.ShloMosaic.Ideal .f32)) =
    if j.val ≤ 512 + q.val then x else ⊥ := by
  have e : IntOp.addi (BitVec.ofNat 32 q.val) 512#32 = BitVec.ofNat 32 (512 + q.val) := by
    apply BitVec.eq_of_toNat_eq
    simp [IntOp.addi, BitVec.toNat_add]
    omega
  rw [e, cmpi_sle_ofNat (by omega) (by omega)]
  by_cases h : j.val ≤ 512 + q.val <;> simp [h, Scalar.select]
  rfl
theorem pay9_apply (v7 : FVec I S1024x256 .bf16) (w : Vec I S1x1024x256 .bf16) (j q : Fin 1024) :
    k0_pay9 v7 w (ix2 j q) = ∑ c : Fin 256, w (ix3 0 j c) * v7 (ix2 q c) := by
  pointwise [k0_pay9]

theorem pay29_apply (s : FVec I S1024x1024 .f32) (m : Vec I S1x1x1024 .f32) (q : Fin 1024) :
    k0_pay29 s m (ix2 0 q) = max (m (ix3 0 0 q)) ((Finset.univ : Finset (Fin 1024)).fold max ⊥ fun k => s (ix2 k q)) := by
  pointwise [k0_pay29, k0_pay28]
  rw [ninf]

theorem pay31_apply (s : FVec I S1024x1024 .f32) (m : Vec I S1x1x1024 .f32) (q : Fin 1024) :
    k0_pay31 s m (ix3 0 0 q) = max (m (ix3 0 0 q)) ((Finset.univ : Finset (Fin 1024)).fold max ⊥ fun k => s (ix2 k q)) := by
  rw [← pay29_apply]
  pointwise [k0_pay31]

theorem pay30_apply (s : FVec I S1024x1024 .f32) (m : Vec I S1x1x1024 .f32) (a : Vec I S1x256x1024 .f32) (v : Vec I S1x1x256x1024 .bf16)
    (d : Fin 256) (q : Fin 1024) :
    k0_pay30 s m a v (ix3 0 d q) = a (ix3 0 d q) * Ideal.exp2 (m (ix3 0 0 q) - k0_pay29 s m (ix2 0 q))
      + ∑ k : Fin 1024, v (ix4 0 0 d k) * Ideal.exp2 (s (ix2 k q) - k0_pay29 s m (ix2 0 q)) := by
  pointwise [k0_pay30, k0_pay28]
  rfl

theorem pay38_apply (v12 : FVec I S1024x256 .bf16) (w : Vec I S1x512x256 .bf16) (j q : Fin 512) :
    k0_pay38 v12 w (ix2 j q) = ∑ c : Fin 256, w (ix3 0 j c) * v12 (ix2 ⟨q.val, by omega⟩ c) := by
  pointwise [k0_pay38]

theorem pay39_apply (v12 : FVec I S1024x256 .bf16) (w : Vec I S1x1024x256 .bf16) (j : Fin 1024) (q : Fin 512) :
    k0_pay39 v12 w (ix2 j q) = ∑ c : Fin 256, w (ix3 0 j c) * v12 (ix2 ⟨512 + q.val, by omega⟩ c) := by
  pointwise [k0_pay39]

theorem pay55_apply (s : FVec I S512x512 .f32) (j q : Fin 512) :
    k0_pay55 s (ix2 j q) = if j.val ≤ q.val then s (ix2 j q) else ⊥ := by
  pointwise [k0_pay55]
  exact sel0 j q _

theorem pay61_apply (s : FVec I S1024x512 .f32) (j : Fin 1024) (q : Fin 512) :
    k0_pay61 s (ix2 j q) = if j.val ≤ 512 + q.val then s (ix2 j q) else ⊥ := by
  pointwise [k0_pay61]
  exact sel512 j q _

theorem pay57_apply (s : FVec I S512x512 .f32) (m : Vec I S1x1x512 .f32) (q : Fin 512) :
    k0_pay57 s m (ix2 0 q) = max (m (ix3 0 0 q)) ((Finset.univ : Finset (Fin 512)).fold max ⊥ fun k => k0_pay55 s (ix2 k q)) := by
  pointwise [k0_pay57, k0_pay56]
  rw [ninf]

theorem pay63_apply (s : FVec I S1024x512 .f32) (m : Vec I S1x1x512 .f32) (q : Fin 512) :
    k0_pay63 s m (ix2 0 q) = max (m (ix3 0 0 q)) ((Finset.univ : Finset (Fin 1024)).fold max ⊥ fun k => k0_pay61 s (ix2 k q)) := by
  pointwise [k0_pay63, k0_pay62]
  rw [ninf]

theorem pay59_apply (s : FVec I S512x512 .f32) (m : Vec I S1x1x512 .f32) (a : Vec I S1x256x512 .f32) (v : Vec I S1x1x256x512 .bf16)
    (d : Fin 256) (q : Fin 512) :
    k0_pay59 (k0_pay58 s m a v) (ix3 0 d q) = a (ix3 0 d q) * Ideal.exp2 (m (ix3 0 0 q) - k0_pay57 s m (ix2 0 q))
      + ∑ k : Fin 512, v (ix4 0 0 d k) * Ideal.exp2 (k0_pay55 s (ix2 k q) - k0_pay57 s m (ix2 0 q)) := by
  pointwise [k0_pay59, k0_pay58, k0_pay56]
  rfl

theorem pay64_apply (s : FVec I S1024x512 .f32) (m : Vec I S1x1x512 .f32) (a : Vec I S1x256x512 .f32) (v : Vec I S1x1x256x1024 .bf16)
    (d : Fin 256) (q : Fin 512) :
    k0_pay64 s m a v (ix3 0 d q) = a (ix3 0 d q) * Ideal.exp2 (m (ix3 0 0 q) - k0_pay63 s m (ix2 0 q))
      + ∑ k : Fin 1024, v (ix4 0 0 d k) * Ideal.exp2 (k0_pay61 s (ix2 k q) - k0_pay63 s m (ix2 0 q)) := by
  pointwise [k0_pay64, k0_pay62]
  rfl

theorem pay2_apply (a : Vec I S1x256x1024 .f32) (q : Fin 1024) (d : Fin 128) :
    k0_pay2 a (ix2 q d) = Ideal.div (a (ix3 0 ⟨d.val, by omega⟩ q)) (a (ix3 0 ⟨128 + d.val, by omega⟩ q)) := by
  pointwise [k0_pay2]

theorem pay4_apply (x : Vec I S1024x128 .bf16) (j : Fin 1024) (d : Fin 128) : k0_pay4 x (ix3 0 j d) = x (ix2 j d) := by
  pointwise [k0_pay4]

theorem pay6_apply (x : Vec I S1024x128 .bf16) (d : Fin 128) (j : Fin 1024) : k0_pay6 x (ix4 0 0 d j) = x (ix2 j d) := by
  pointwise [k0_pay6]

theorem pay7_apply (d : Fin 128) (j : Fin 1024) : k0_pay7 (F := I) (ix4 0 0 d j) = 1 := by
  pointwise [k0_pay7]

theorem pay23_apply (x y : Vec I S1024x128 .bf16) (q : Fin 1024) (c : Fin 256) :
    k0_pay23 x y (ix2 q c) = if h : c.val < 128 then x (ix2 q ⟨c.val, h⟩) else y (ix2 q ⟨c.val - 128, by omega⟩) := by
  pointwise [k0_pay23]

theorem pay24_apply (x y : Vec I S1024x128 .bf16) (q : Fin 1024) (c : Fin 256) :
    k0_pay24 x y (ix2 q c) = if h : c.val < 128 then x (ix2 q ⟨c.val, h⟩) else y (ix2 q ⟨c.val - 128, by omega⟩) := by
  pointwise [k0_pay24]

theorem pay25_apply (h : Fin 2) (q : Fin 1024) : k0_pay25 (F := I) (ix3 h 0 q) = ⊥ := by
  pointwise [k0_pay25]
  rfl

theorem pay26_apply (h : Fin 2) (d : Fin 256) (q : Fin 1024) : k0_pay26 (F := I) (ix3 h d q) = 0 := by
  pointwise [k0_pay26]

/-! The first head's expressions and the second's are the same functions. -/

theorem pay10_eq : k0_pay10 (F := I) = k0_pay9 := by unfold k0_pay10 k0_pay9; rfl
theorem pay37_eq : k0_pay37 (F := I) = k0_pay39 := by unfold k0_pay37 k0_pay39; rfl
theorem pay3_eq : k0_pay3 (F := I) = k0_pay2 := by unfold k0_pay3 k0_pay2; rfl
theorem pay12_eq (v7 : FVec I S1024x256 .bf16) (w : Vec I S1x1024x256 .bf16) (m : Vec I S1x1x1024 .f32) : k0_pay12 v7 w m = k0_pay29 (k0_pay9 v7 w) m := by
  unfold k0_pay12 k0_pay29 k0_pay28 k0_pay11; rfl
theorem pay27_eq (v7 : FVec I S1024x256 .bf16) (w : Vec I S1x1024x256 .bf16) (m : Vec I S1x1x1024 .f32) :
    k0_pay27 (k0_pay12 v7 w m) = k0_pay31 (k0_pay9 v7 w) m := by
  rw [pay12_eq]; unfold k0_pay27 k0_pay31; rfl
theorem pay13_eq (v7 : FVec I S1024x256 .bf16) (w : Vec I S1x1024x256 .bf16) (m : Vec I S1x1x1024 .f32) (a : Vec I S1x256x1024 .f32) (v : Vec I S1x1x256x1024 .bf16) :
    k0_pay13 v7 w m a v = k0_pay30 (k0_pay9 v7 w) m a v := by
  unfold k0_pay13 k0_pay30; rw [pay12_eq]; unfold k0_pay11 k0_pay28; rfl
theorem pay46_eq (v7 : FVec I S1024x256 .bf16) (w : Vec I S1x512x256 .bf16) (m : Vec I S1x1x512 .f32) (a : Vec I S1x256x512 .f32) (v : Vec I S1x1x256x512 .bf16) :
    k0_pay46 (k0_pay43 v7 w m) (k0_pay44 a) (k0_pay45 v7 w m) v = k0_pay59 (k0_pay58 (k0_pay38 v7 w) m a v) := by
  have e1 : k0_pay40 v7 w = k0_pay55 (k0_pay38 v7 w) := by unfold k0_pay40 k0_pay55 k0_pay38; rfl
  have e2 : k0_pay42 v7 w m = k0_pay57 (k0_pay38 v7 w) m := by unfold k0_pay42 k0_pay57 k0_pay41 k0_pay56; rw [e1]
  unfold k0_pay46 k0_pay43 k0_pay44 k0_pay45 k0_pay59 k0_pay58 k0_pay41 k0_pay56
  rw [e1, e2]
theorem pay53_eq (s : FVec I S1024x512 .f32) (m : Vec I S1x1x512 .f32) (a : Vec I S1x256x512 .f32) (v : Vec I S1x1x256x1024 .bf16) :
    k0_pay53 (k0_pay51 s m) (k0_pay52 s m a) v = k0_pay64 s m a v := by
  unfold k0_pay53 k0_pay51 k0_pay52 k0_pay64; rfl

end Cert.KernelIdeal.Fox

end
-- ==== Proof.Fox.Alg.lean ====
/-
  The running softmax over the extended reals: the running maximum and the running weighted sum taken block by
  block are those of all keys at once, and their quotient is the softmax's weighted sum.
-/
module

public import Idealize.ShloMosaic.PureOps.Ideal

@[expose] public section

noncomputable section

namespace Cert.Fox

open Idealize.ShloMosaic

/-- The running maximum of the first `n` scores. -/
def mx (s : ℕ → EReal) (n : ℕ) : EReal := (Finset.range n).sup s

/-- The running weighted sum of the first `n` values. -/
def ac (s v : ℕ → EReal) (n : ℕ) : EReal := ∑ j ∈ Finset.range n, v j * Ideal.exp2 (s j - mx s n)

theorem mx_zero (s : ℕ → EReal) : mx s 0 = ⊥ := rfl
theorem ac_zero (s v : ℕ → EReal) : ac s v 0 = 0 := rfl

theorem mx_ne_top {s : ℕ → EReal} (hs : ∀ j, s j ≠ ⊤) (n : ℕ) : mx s n ≠ ⊤ :=
  ((Finset.sup_lt_iff bot_lt_top).2 fun j _ => lt_top_iff_ne_top.2 (hs j)).ne

theorem mx_ne_bot {s : ℕ → EReal} (h0 : s 0 ≠ ⊥) {n : ℕ} (hn : 0 < n) : mx s n ≠ ⊥ := fun h =>
  h0 (le_bot_iff.1 (h ▸ Finset.le_sup (f := s) (Finset.mem_range.2 hn)))

/-- The maximum of a block, as a fold over its places. -/
theorem fold_eq_sup {b : ℕ} (f : Fin b → EReal) : (Finset.univ : Finset (Fin b)).fold max ⊥ f = Finset.univ.sup f := rfl

theorem mx_add (s : ℕ → EReal) (n b : ℕ) :
    mx s (n + b) = max (mx s n) ((Finset.univ : Finset (Fin b)).fold max ⊥ fun k => s (n + k.val)) := by
  rw [fold_eq_sup]
  apply le_antisymm
  · refine Finset.sup_le fun j hj => ?_
    have hj := Finset.mem_range.1 hj
    rcases lt_or_ge j n with h | h
    · exact le_max_of_le_left (Finset.le_sup (f := s) (Finset.mem_range.2 h))
    · refine le_max_of_le_right ?_
      have := Finset.le_sup (f := fun k : Fin b => s (n + k.val)) (Finset.mem_univ ⟨j - n, by omega⟩)
      have e : n + (j - n) = j := by omega
      simpa [e] using this
  · refine max_le ?_ ?_
    · exact Finset.sup_mono (Finset.range_subset_range.2 (by omega))
    · exact Finset.sup_le fun k _ => Finset.le_sup (f := s) (Finset.mem_range.2 (by omega))

theorem exp2_nonneg (x : EReal) : 0 ≤ Ideal.exp2 x := by
  induction x with
  | bot => simp
  | top => simp
  | coe r => rw [Ideal.exp2_coe]; exact_mod_cast Real.rpow_nonneg (by norm_num) r

theorem exp2_shift {x M N : EReal} (hx : x ≠ ⊤) (hM : M ≠ ⊤) (hM' : M ≠ ⊥) (hN : N ≠ ⊤) (hN' : N ≠ ⊥) :
    Ideal.exp2 (x - M) * Ideal.exp2 (M - N) = Ideal.exp2 (x - N) := by
  induction M with
  | bot => exact absurd rfl hM'
  | top => exact absurd rfl hM
  | coe M =>
    induction N with
    | bot => exact absurd rfl hN'
    | top => exact absurd rfl hN
    | coe N =>
      induction x with
      | top => exact absurd rfl hx
      | bot => simp
      | coe x =>
        rw [← EReal.coe_sub, ← EReal.coe_sub, ← EReal.coe_sub, Ideal.exp2_coe, Ideal.exp2_coe, Ideal.exp2_coe, ← EReal.coe_mul]
        congr 1
        show (2 : ℝ) ^ (x - M) * (2 : ℝ) ^ (M - N) = (2 : ℝ) ^ (x - N)
        rw [← Real.rpow_add (by norm_num)]
        congr 1; ring

/-- A sum times a nonnegative real is the sum of the products, whatever the terms are. -/
theorem sum_mul_coe {ι : Type} (S : Finset ι) (f : ι → EReal) {r : ℝ} (hr : 0 ≤ r) :
    (∑ j ∈ S, f j) * (r : EReal) = ∑ j ∈ S, f j * (r : EReal) := by
  classical
  induction S using Finset.induction_on with
  | empty => simp
  | insert a S ha ih =>
    rw [Finset.sum_insert ha, Finset.sum_insert ha, ← ih]
    exact EReal.right_distrib_of_nonneg_of_ne_top (by exact_mod_cast hr) (EReal.coe_ne_top r) _ _

/-- One block of the walk: the old sum is rescaled, the block's terms are added. -/
theorem ac_add {s : ℕ → EReal} (hs : ∀ j, s j ≠ ⊤) (h0 : s 0 ≠ ⊥) (v : ℕ → EReal) (n b : ℕ) (hb : 0 < n + b) :
    ac s v (n + b) = ac s v n * Ideal.exp2 (mx s n - mx s (n + b))
      + ∑ k : Fin b, v (n + k.val) * Ideal.exp2 (s (n + k.val) - mx s (n + b)) := by
  have hN := mx_ne_top hs (n + b)
  have hN' := mx_ne_bot h0 hb
  show ∑ j ∈ Finset.range (n + b), _ = _
  rw [Finset.sum_range_add, Finset.sum_range fun k => v (n + k) * Ideal.exp2 (s (n + k) - mx s (n + b))]
  congr 1
  rcases Nat.eq_zero_or_pos n with rfl | hn
  · simp [ac_zero]
  have hM := mx_ne_top hs n
  have hM' := mx_ne_bot h0 hn
  have hr : ∃ r : ℝ, 0 ≤ r ∧ Ideal.exp2 (mx s n - mx s (n + b)) = (r : EReal) := by
    generalize mx s n = M at *
    generalize mx s (n + b) = N at *
    induction M with
    | bot => exact absurd rfl hM'
    | top => exact absurd rfl hM
    | coe M =>
      induction N with
      | bot => exact absurd rfl hN'
      | top => exact absurd rfl hN
      | coe N => exact ⟨(2 : ℝ) ^ (M - N), Real.rpow_nonneg (by norm_num) (M - N), by rw [← EReal.coe_sub, Ideal.exp2_coe]; rfl⟩
  obtain ⟨r, hr, e⟩ := hr
  rw [ac, e, sum_mul_coe _ _ hr]
  refine Finset.sum_congr rfl fun j _ => ?_
  rw [← e, mul_assoc, exp2_shift (hs j) hM hM' hN hN']

/-- Keys whose score is −∞ change no maximum. -/
theorem mx_mask {s : ℕ → EReal} {n N : ℕ} (h : n ≤ N) (hm : ∀ j, n ≤ j → j < N → s j = ⊥) : mx s N = mx s n := by
  apply le_antisymm
  · refine Finset.sup_le fun j hj => ?_
    rcases lt_or_ge j n with h' | h'
    · exact Finset.le_sup (f := s) (Finset.mem_range.2 h')
    · rw [hm j h' (Finset.mem_range.1 hj)]; exact bot_le
  · exact Finset.sup_mono (Finset.range_subset_range.2 h)

/-- Keys whose score is −∞ add nothing. -/
theorem ac_mask {s : ℕ → EReal} (v : ℕ → EReal) {n N : ℕ} (h : n ≤ N) (hm : ∀ j, n ≤ j → j < N → s j = ⊥) : ac s v N = ac s v n := by
  obtain ⟨b, rfl⟩ := Nat.exists_eq_add_of_le h
  unfold ac
  rw [mx_mask h hm, Finset.sum_range_add]
  rw [Finset.sum_eq_zero (s := Finset.range b), add_zero]
  intro k hk
  have hk := Finset.mem_range.1 hk
  rw [hm (n + k) (by omega) (by omega), sub_eq_add_neg, EReal.bot_add, Ideal.exp2_bot, mul_zero]

/-- A power of two is an exponential of the scaled exponent. -/
theorem exp2_eq_exp {x M : EReal} (hM : M ≠ ⊤) (hM' : M ≠ ⊥) (hx : x ≠ ⊤) :
    Ideal.exp2 (x * (((Real.log 2)⁻¹ : ℝ) : EReal) - M * (((Real.log 2)⁻¹ : ℝ) : EReal)) = Ideal.exp (x - M) := by
  have hl : 0 < Real.log 2 := Real.log_pos (by norm_num)
  induction M with
  | bot => exact absurd rfl hM'
  | top => exact absurd rfl hM
  | coe M =>
    induction x with
    | top => exact absurd rfl hx
    | bot => rw [EReal.bot_mul_coe_of_pos (by positivity)]; simp
    | coe x =>
      rw [← EReal.coe_mul, ← EReal.coe_mul, ← EReal.coe_sub, ← EReal.coe_sub, Ideal.exp2_coe, Ideal.exp_coe]
      congr 1
      show (2 : ℝ) ^ (x * (Real.log 2)⁻¹ - M * (Real.log 2)⁻¹) = Real.exp (x - M)
      rw [Real.rpow_def_of_pos (by norm_num)]
      congr 1
      field_simp

/-- Scaling every score by a positive real scales the maximum. -/
theorem mx_scale (s : ℕ → EReal) {c : ℝ} (hc : 0 < c) (n : ℕ) : mx (fun j => s j * (c : EReal)) n = mx s n * (c : EReal) := by
  have hm : Monotone fun x : EReal => x * (c : EReal) := fun x y h => mul_le_mul_of_nonneg_right h (by exact_mod_cast hc.le)
  exact (Finset.comp_sup_eq_sup_comp_of_is_total _ hm (EReal.bot_mul_coe_of_pos hc)).symm

theorem exp_coe_of_ne_top {x : EReal} (hx : x ≠ ⊤) : ∃ r : ℝ, 0 ≤ r ∧ Ideal.exp x = (r : EReal) := by
  induction x with
  | top => exact absurd rfl hx
  | bot => exact ⟨0, le_rfl, by simp⟩
  | coe x => exact ⟨_, (Real.exp_pos x).le, Ideal.exp_coe x⟩

/-- The running quotient, at scores scaled for powers of two, is the softmax's weighted sum. -/
theorem quot_eq {s : ℕ → EReal} (hs : ∀ j, s j ≠ ⊤) (h0 : s 0 ≠ ⊥) (v : ℕ → EReal) {n : ℕ} (hn : 0 < n) :
    Ideal.div (ac (fun j => s j * (((Real.log 2)⁻¹ : ℝ) : EReal)) v n) (ac (fun j => s j * (((Real.log 2)⁻¹ : ℝ) : EReal)) (fun _ => 1) n)
      = ∑ j ∈ Finset.range n, Ideal.div (Ideal.exp (s j - mx s n)) (∑ i ∈ Finset.range n, Ideal.exp (s i - mx s n)) * v j := by
  have hl : 0 < (Real.log 2)⁻¹ := inv_pos.2 (Real.log_pos (by norm_num))
  have hM := mx_ne_top hs n
  have hM' := mx_ne_bot h0 hn
  have e : ∀ w : ℕ → EReal, ac (fun j => s j * (((Real.log 2)⁻¹ : ℝ) : EReal)) w n = ∑ j ∈ Finset.range n, w j * Ideal.exp (s j - mx s n) := fun w => by
    unfold ac
    rw [mx_scale s hl]
    exact Finset.sum_congr rfl fun j _ => by rw [exp2_eq_exp hM hM' (hs j)]
  rw [e, e]
  simp only [one_mul]
  have hx : ∀ j, s j - mx s n ≠ ⊤ := fun j => by
    have := hs j
    generalize s j = x at *
    generalize mx s n = M at *
    induction M with
    | bot => exact absurd rfl hM'
    | top => exact absurd rfl hM
    | coe M =>
      induction x with
      | top => exact absurd rfl this
      | bot => simp
      | coe x => rw [← EReal.coe_sub]; exact EReal.coe_ne_top _
  choose E hE0 hE using fun j => exp_coe_of_ne_top (hx j)
  simp only [hE]
  have hsum : (∑ i ∈ Finset.range n, (E i : EReal)) = ((∑ i ∈ Finset.range n, E i : ℝ) : EReal) := by
    induction Finset.range n using Finset.induction_on with
    | empty => simp
    | insert a S ha ih => rw [Finset.sum_insert ha, Finset.sum_insert ha, ih, EReal.coe_add]
  have hpos : 0 < ∑ i ∈ Finset.range n, E i := by
    refine Finset.sum_pos' (fun i _ => hE0 i) ⟨0, Finset.mem_range.2 hn, ?_⟩
    have h1 := hE 0
    have hx0 := hx 0
    have hb : s 0 - mx s n ≠ ⊥ := by
      have h2 := hs 0
      generalize s 0 = x at *
      generalize mx s n = M at *
      induction M with
      | bot => exact absurd rfl hM'
      | top => exact absurd rfl hM
      | coe M =>
        induction x with
        | top => exact absurd rfl h2
        | bot => exact absurd rfl h0
        | coe x => rw [← EReal.coe_sub]; exact EReal.coe_ne_bot _
    generalize s 0 - mx s n = d at h1 hx0 hb
    induction d with
    | top => exact absurd rfl hx0
    | bot => exact absurd rfl hb
    | coe d =>
      rw [Ideal.exp_coe] at h1
      have : Real.exp d = E 0 := by exact_mod_cast h1
      rw [← this]; exact Real.exp_pos d
  rw [hsum, Ideal.div_coe hpos.ne', sum_mul_coe _ _ (by positivity)]
  refine Finset.sum_congr rfl fun j _ => ?_
  rw [Ideal.div_coe hpos.ne', mul_assoc, mul_comm (v j)]

end Cert.Fox

end
-- ==== Proof.Fox.Val.lean ====
/-
  The value of one grid point's output block over the extended reals: the walk over the key blocks is the running
  softmax of the masked scores.
-/
module

public import proofs.«01_k».proof.Proof.Fox.Pay
public import proofs.«01_k».proof.Proof.Fox.Alg

@[expose] public section

set_option maxRecDepth 16384
set_option maxHeartbeats 1000000

noncomputable section

namespace Cert.KernelIdeal.Fox

open Idealize.ShloMosaic Idealize.ShloMosaic.TcCoe
open Cert.KernelIdeal.Gen Cert.Fox

local notation "I" => Idealize.ShloMosaic.Ideal

section
variable (v7 v12 : FVec I S1024x256 .bf16) (KK : Vec I S2x8192x256 .bf16) (VT : Vec I S2x8x256x1024 .bf16)

/-- A head's queries beside their auxiliary columns. -/
def qv (h : Fin 2) : FVec I S1024x256 .bf16 := if h = 0 then v7 else v12

/-- The unmasked score of query `q` of the block with key `j`. -/
def raw (h : Fin 2) (q : Fin 1024) (j : ℕ) : EReal :=
  ∑ c : Fin 256, KK (ix3 h ⟨j % 8192, by omega⟩ c) * qv v7 v12 h (ix2 q c)

/-- Row `d` of the staged values at key `j`. -/
def vrow (h : Fin 2) (d : Fin 256) (j : ℕ) : EReal := VT (ix4 h ⟨j / 1024 % 8, by omega⟩ d ⟨j % 1024, by omega⟩)

/-- The scores of query `q` of query block `n`, −∞ at the keys after it. -/
def msk (n : ℕ) (h : Fin 2) (q : Fin 1024) (j : ℕ) : EReal := if j ≤ n * 1024 + q.val then raw v7 v12 KK h q j else ⊥

theorem score_W (h : Fin 2) (k : ℕ) (hk : k < 8) (j q : Fin 1024) :
    k0_pay9 (qv v7 v12 h) (kkW KK h k) (ix2 j q) = raw v7 v12 KK h q (k * 1024 + j.val) := by
  rw [pay9_apply]
  refine Finset.sum_congr rfl fun c _ => ?_
  congr 1
  show KK (ix3 h _ c) = KK (ix3 h _ c)
  congr 2
  exact Fin.ext (by show k % 8 * 1024 + j.val = (k * 1024 + j.val) % 8192; omega)

theorem score_H0 (h : Fin 2) (k : ℕ) (hk : k < 8) (j q : Fin 512) :
    k0_pay38 (qv v7 v12 h) (kkH KK h k) (ix2 j q) = raw v7 v12 KK h ⟨q.val, by omega⟩ (k * 1024 + j.val) := by
  rw [pay38_apply]
  refine Finset.sum_congr rfl fun c _ => ?_
  congr 1
  show KK (ix3 h _ c) = KK (ix3 h _ c)
  congr 2
  exact Fin.ext (by show k % 8 * 1024 + j.val = (k * 1024 + j.val) % 8192; omega)

theorem score_H1 (h : Fin 2) (k : ℕ) (hk : k < 8) (j : Fin 1024) (q : Fin 512) :
    k0_pay39 (qv v7 v12 h) (kkW KK h k) (ix2 j q) = raw v7 v12 KK h ⟨512 + q.val, by omega⟩ (k * 1024 + j.val) := by
  rw [pay39_apply]
  refine Finset.sum_congr rfl fun c _ => ?_
  congr 1
  show KK (ix3 h _ c) = KK (ix3 h _ c)
  congr 2
  exact Fin.ext (by show k % 8 * 1024 + j.val = (k * 1024 + j.val) % 8192; omega)

theorem vt_W (h : Fin 2) (k : ℕ) (hk : k < 8) (d : Fin 256) (j : Fin 1024) :
    vtW VT h k (ix4 0 0 d j) = vrow VT h d (k * 1024 + j.val) := by
  show VT (ix4 h _ d j) = VT (ix4 h _ d _)
  congr 2
  · exact Fin.ext (by show k % 8 = (k * 1024 + j.val) / 1024 % 8; omega)
  · exact Fin.ext (by show j.val = (k * 1024 + j.val) % 1024; omega)

theorem vt_H (h : Fin 2) (k : ℕ) (hk : k < 8) (d : Fin 256) (j : Fin 512) :
    vtH VT h k (ix4 0 0 d j) = vrow VT h d (k * 1024 + j.val) := by
  show VT (ix4 h _ d _) = VT (ix4 h _ d _)
  congr 2
  · exact Fin.ext (by show k % 8 = (k * 1024 + j.val) / 1024 % 8; omega)
  · exact Fin.ext (by show j.val = (k * 1024 + j.val) % 1024; omega)

theorem trip_fst (k : ℕ) (S : MA I) (h : Fin 2) (q : Fin 1024) :
    (trip v7 v12 KK VT k S).1 (ix3 h 0 q) = k0_pay31 (k0_pay9 (qv v7 v12 h) (kkW KK h k)) (hd S.1 h) (ix3 0 0 q) := by
  fin_cases h
  · exact congrFun (pay27_eq v7 (kkW KK 0 k) (hd S.1 0)) (ix3 0 0 q)
  · show k0_pay31 (k0_pay10 v12 (kkW KK 1 k)) (hd S.1 1) (ix3 0 0 q) = _
    rw [pay10_eq]; rfl

theorem trip_snd (k : ℕ) (S : MA I) (h : Fin 2) (d : Fin 256) (q : Fin 1024) :
    (trip v7 v12 KK VT k S).2 (ix3 h d q)
      = k0_pay30 (k0_pay9 (qv v7 v12 h) (kkW KK h k)) (hd S.1 h) (hd S.2 h) (vtW VT h k) (ix3 0 d q) := by
  fin_cases h
  · exact congrFun (pay13_eq v7 (kkW KK 0 k) (hd S.1 0) (hd S.2 0) (vtW VT 0 k)) (ix3 0 d q)
  · show k0_pay30 (k0_pay10 v12 (kkW KK 1 k)) (hd S.1 1) (hd S.2 1) (vtW VT 1 k) (ix3 0 d q) = _
    rw [pay10_eq]; rfl

variable (hs : ∀ h q j, raw v7 v12 KK h q j ≠ ⊤) (h0 : ∀ h q, raw v7 v12 KK h q 0 ≠ ⊥)
include hs h0

/-- After `k` blocks the state is the running maximum and the running weighted sum of the first `1024 k` keys. -/
theorem trips_eq (k : ℕ) (hk : k ≤ 8) (h : Fin 2) (q : Fin 1024) :
    (trips v7 v12 KK VT (k0_pay25 (F := I), k0_pay26 (F := I)) k).1 (ix3 h 0 q) = mx (raw v7 v12 KK h q) (k * 1024)
    ∧ ∀ d : Fin 256, (trips v7 v12 KK VT (k0_pay25 (F := I), k0_pay26 (F := I)) k).2 (ix3 h d q) = ac (raw v7 v12 KK h q) (vrow VT h d) (k * 1024) := by
  induction k with
  | zero =>
    rw [Nat.zero_mul, mx_zero]
    refine ⟨pay25_apply h q, fun d => ?_⟩
    rw [ac_zero]
    exact pay26_apply h d q
  | succ k ih =>
    obtain ⟨i1, i2⟩ := ih (by omega)
    have e1 : hd (trips v7 v12 KK VT (k0_pay25 (F := I), k0_pay26 (F := I)) k).1 h (ix3 0 0 q) = mx (raw v7 v12 KK h q) (k * 1024) := i1
    have e2 : ∀ d, hd (trips v7 v12 KK VT (k0_pay25 (F := I), k0_pay26 (F := I)) k).2 h (ix3 0 d q) = ac (raw v7 v12 KK h q) (vrow VT h d) (k * 1024) := i2
    have em : max (hd (trips v7 v12 KK VT (k0_pay25 (F := I), k0_pay26 (F := I)) k).1 h (ix3 0 0 q))
        ((Finset.univ : Finset (Fin 1024)).fold max ⊥ fun j => k0_pay9 (qv v7 v12 h) (kkW KK h k) (ix2 j q))
        = mx (raw v7 v12 KK h q) (k * 1024 + 1024) := by
      rw [mx_add, e1]
      simp only [score_W v7 v12 KK h k (by omega)]
    have eN : (k + 1) * 1024 = k * 1024 + 1024 := by omega
    rw [eN]
    refine ⟨?_, fun d => ?_⟩
    · show (trip v7 v12 KK VT k _).1 (ix3 h 0 q) = _
      rw [trip_fst, pay31_apply, em]
    · show (trip v7 v12 KK VT k _).2 (ix3 h d q) = _
      rw [trip_snd, pay30_apply, pay29_apply, em, e1, e2, ac_add (hs h q) (h0 h q) _ _ _ (by omega)]
      simp only [score_W v7 v12 KK h k (by omega), vt_W VT h k (by omega)]

omit hs h0 in
theorem diag_0 (k : ℕ) (S : MA I) (h : Fin 2) :
    diagP v7 v12 KK VT k S h 0 = k0_pay59 (k0_pay58 (k0_pay38 (qv v7 v12 h) (kkH KK h k)) (hdq S.1 h 0) (hdq S.2 h 0) (vtH VT h k)) := by
  fin_cases h
  · exact pay46_eq v7 (kkH KK 0 k) (hdq S.1 0 0) (hdq S.2 0 0) (vtH VT 0 k)
  · rfl

omit hs h0 in
theorem diag_1 (k : ℕ) (S : MA I) (h : Fin 2) :
    diagP v7 v12 KK VT k S h 1 = k0_pay64 (k0_pay39 (qv v7 v12 h) (kkW KK h k)) (hdq S.1 h 1) (hdq S.2 h 1) (vtW VT h k) := by
  fin_cases h
  · show k0_pay53 (k0_pay51 (k0_pay37 v7 (kkW KK 0 k)) (hdq S.1 0 1)) (k0_pay52 (k0_pay37 v7 (kkW KK 0 k)) (hdq S.1 0 1) (hdq S.2 0 1)) (vtW VT 0 k) = _
    rw [pay53_eq, pay37_eq]; rfl
  · rfl

omit hs h0 in
theorem mx_msk (n : ℕ) (h : Fin 2) (q : Fin 1024) : mx (msk v7 v12 KK n h q) (n * 1024) = mx (raw v7 v12 KK h q) (n * 1024) :=
  Finset.sup_congr rfl fun j hj => if_pos (by have := Finset.mem_range.1 hj; omega)

omit hs h0 in
theorem ac_msk (n : ℕ) (h : Fin 2) (q : Fin 1024) (v : ℕ → EReal) :
    ac (msk v7 v12 KK n h q) v (n * 1024) = ac (raw v7 v12 KK h q) v (n * 1024) := by
  unfold ac
  rw [mx_msk]
  refine Finset.sum_congr rfl fun j hj => ?_
  rw [msk, if_pos (by have := Finset.mem_range.1 hj; omega)]

/-- Beyond the query's own key every score is −∞, so the sums may run over all the keys. -/
theorem halves_eq (n : ℕ) (hn : n < 8) (h : Fin 2) (d : Fin 256) (q : Fin 1024) :
    halves (diagP v7 v12 KK VT n (trips v7 v12 KK VT (k0_pay25 (F := I), k0_pay26 (F := I)) n) h 0)
        (diagP v7 v12 KK VT n (trips v7 v12 KK VT (k0_pay25 (F := I), k0_pay26 (F := I)) n) h 1) (ix3 0 d q)
      = ac (msk v7 v12 KK n h q) (vrow VT h d) 8192 := by
  have hms : ∀ j, msk v7 v12 KK n h q j ≠ ⊤ := fun j => by
    unfold msk; split
    · exact hs h q j
    · exact bot_ne_top
  have hm0 : msk v7 v12 KK n h q 0 ≠ ⊥ := by
    rw [msk, if_pos (Nat.zero_le _)]; exact h0 h q
  have T := trips_eq v7 v12 KK VT hs h0 n (by omega) h q
  obtain ⟨t1, t2⟩ := T
  generalize trips v7 v12 KK VT (k0_pay25 (F := I), k0_pay26 (F := I)) n = S at t1 t2
  unfold halves
  by_cases hq : q.val < 512
  · rw [dif_pos (show ((ix3 (0 : Fin 1) d q : S1x256x1024.Idx) 2).val < 512 from hq)]
    show diagP v7 v12 KK VT n S h 0 (ix3 0 d ⟨q.val, hq⟩) = _
    have e1 : hdq S.1 h 0 (ix3 0 0 ⟨q.val, hq⟩) = mx (msk v7 v12 KK n h q) (n * 1024) := by
      rw [mx_msk, ← t1]
      exact congrArg (fun z => S.1 (ix3 h 0 z)) (Fin.ext (by show 0 * 512 + q.val = q.val; omega))
    have e2 : hdq S.2 h 0 (ix3 0 d ⟨q.val, hq⟩) = ac (msk v7 v12 KK n h q) (vrow VT h d) (n * 1024) := by
      rw [ac_msk, ← t2]
      exact congrArg (fun z => S.2 (ix3 h d z)) (Fin.ext (by show 0 * 512 + q.val = q.val; omega))
    have es : ∀ j : Fin 512, k0_pay55 (k0_pay38 (qv v7 v12 h) (kkH KK h n)) (ix2 j ⟨q.val, hq⟩) = msk v7 v12 KK n h q (n * 1024 + j.val) := fun j => by
      rw [pay55_apply, score_H0 v7 v12 KK h n hn]
      unfold msk
      exact if_congr (by show j.val ≤ q.val ↔ n * 1024 + j.val ≤ n * 1024 + q.val; omega) rfl rfl
    rw [diag_0, pay59_apply, pay57_apply, e1, e2]
    simp only [es, vt_H VT h n hn]
    rw [← mx_add, ← ac_add hms hm0 _ _ _ (by omega)]
    refine (ac_mask _ (by omega) fun j hj _ => if_neg ?_).symm
    omega
  · rw [dif_neg (show ¬ ((ix3 (0 : Fin 1) d q : S1x256x1024.Idx) 2).val < 512 from hq)]
    show diagP v7 v12 KK VT n S h 1 (ix3 0 d ⟨q.val - 512, _⟩) = _
    have hq2 : q.val - 512 < 512 := by omega
    have e1 : hdq S.1 h 1 (ix3 0 0 ⟨q.val - 512, hq2⟩) = mx (msk v7 v12 KK n h q) (n * 1024) := by
      rw [mx_msk, ← t1]
      exact congrArg (fun z => S.1 (ix3 h 0 z)) (Fin.ext (by show 1 * 512 + (q.val - 512) = q.val; omega))
    have e2 : hdq S.2 h 1 (ix3 0 d ⟨q.val - 512, hq2⟩) = ac (msk v7 v12 KK n h q) (vrow VT h d) (n * 1024) := by
      rw [ac_msk, ← t2]
      exact congrArg (fun z => S.2 (ix3 h d z)) (Fin.ext (by show 1 * 512 + (q.val - 512) = q.val; omega))
    have eq : (⟨512 + (q.val - 512), by omega⟩ : Fin 1024) = q := Fin.ext (by show 512 + (q.val - 512) = q.val; omega)
    have es : ∀ j : Fin 1024, k0_pay61 (k0_pay39 (qv v7 v12 h) (kkW KK h n)) (ix2 j ⟨q.val - 512, hq2⟩) = msk v7 v12 KK n h q (n * 1024 + j.val) := fun j => by
      rw [pay61_apply, score_H1 v7 v12 KK h n hn]
      unfold msk
      dsimp only
      rw [eq]
      exact if_congr (by omega) rfl rfl
    rw [diag_1, pay64_apply, pay63_apply, e1, e2]
    simp only [es, vt_W VT h n hn]
    rw [← mx_add, ← ac_add hms hm0 _ _ _ (by omega)]
    refine (ac_mask _ (by omega) fun j hj _ => if_neg ?_).symm
    omega

end

/-- Two heads' columns side by side, read at a head's column. -/
theorem cols_at {α : Type} (w0 w1 : S1024x128.Idx → α) (q : Fin 1024) (h : Fin 2) (d : Fin 128) :
    cols w0 w1 (ix2 q ⟨h.val * 128 + d.val, by omega⟩) = if h = 0 then w0 (ix2 q d) else w1 (ix2 q d) := by
  obtain rfl | rfl : h = 0 ∨ h = 1 := by omega
  · rw [if_pos rfl]
    exact (dif_pos (show (0 : Fin 2).val * 128 + d.val < 128 by have := d.isLt; show 0 * 128 + d.val < 128; omega)).trans
      (congrArg (fun z => w0 (ix2 q z)) (Fin.ext (by show 0 * 128 + d.val = d.val; omega)))
  · rw [if_neg (by decide)]
    exact (dif_neg (show ¬ (1 : Fin 2).val * 128 + d.val < 128 by show ¬ 1 * 128 + d.val < 128; omega)).trans
      (congrArg (fun z => w1 (ix2 q z)) (Fin.ext (by show 1 * 128 + d.val - 128 = d.val; omega)))

/-- The output block of query block `n`: the quotient of the two running sums, at each query and column. -/
theorem OUT_apply (n : ℕ) (hn : n < 8) (KK : Vec I S2x8192x256 .bf16) (VT : Vec I S2x8x256x1024 .bf16) (xq xa : Vec I S1024x256 .bf16)
    (hs : ∀ h q j, raw (q7 xq xa) (q12 xq xa) KK h q j ≠ ⊤) (h0 : ∀ h q, raw (q7 xq xa) (q12 xq xa) KK h q 0 ≠ ⊥)
    (q : Fin 1024) (h : Fin 2) (d : Fin 128) :
    OUT n KK VT xq xa (ix2 q ⟨h.val * 128 + d.val, by omega⟩)
      = Ideal.div (ac (msk (q7 xq xa) (q12 xq xa) KK n h q) (vrow VT h ⟨d.val, by omega⟩) 8192)
          (ac (msk (q7 xq xa) (q12 xq xa) KK n h q) (vrow VT h ⟨128 + d.val, by omega⟩) 8192) := by
  rw [← halves_eq _ _ KK VT hs h0 n hn, ← halves_eq _ _ KK VT hs h0 n hn]
  unfold OUT
  refine (cols_at _ _ q h d).trans ?_
  obtain rfl | rfl : h = 0 ∨ h = 1 := by omega
  · rw [if_pos rfl]
    exact pay2_apply _ q d
  · rw [if_neg (by decide), pay3_eq]
    exact pay2_apply _ q d

end Cert.KernelIdeal.Fox

end
-- ==== Proof.Fox.Math.lean ====
/-
  Masked softmax attention with cumulated log gates, as a function of indices over the extended reals.
-/
module

public import proofs.«01_k».proof.Proof.Fox.Alg
public import Idealize.ShloMosaic.Lib.Pointwise

@[expose] public section

noncomputable section

namespace Cert.Fox

open Idealize.ShloMosaic

/-- Rows by columns of the queries, keys and values, and of the cumulated log gates. -/
abbrev SQ : Shape := ⟨3, ![2, 8192, 1024]⟩
abbrev SC : Shape := ⟨3, ![2, 8192, 8]⟩

/-- Column `d` of head `h`. -/
def cl (h : Fin 8) (d : Fin 128) : Fin 1024 := ⟨h.val * 128 + d.val, by omega⟩

/-- A key's number as a row. -/
def rw' (j : ℕ) : Fin 8192 := ⟨j % 8192, by omega⟩

/-- The score of query `i` with key `j`: the scaled product and the gates between them, −∞ after the query. -/
def sc (Q K : SQ.Idx → EReal) (C : SC.Idx → EReal) (b : Fin 2) (h : Fin 8) (i : Fin 8192) (j : ℕ) : EReal :=
  if j ≤ i.val then (∑ d : Fin 128, Q (ix3 b i (cl h d)) * K (ix3 b (rw' j) (cl h d))) * ((1 / Real.sqrt 128 : ℝ) : EReal)
      + C (ix3 b i h) - C (ix3 b (rw' j) h)
    else ⊥

/-- Column `d` of the values at key `j`. -/
def vl (V : SQ.Idx → EReal) (b : Fin 2) (h : Fin 8) (d : Fin 128) (j : ℕ) : EReal := V (ix3 b (rw' j) (cl h d))

/-- The attention's output. -/
def att (Q K V : SQ.Idx → EReal) (C : SC.Idx → EReal) (b : Fin 2) (h : Fin 8) (i : Fin 8192) (d : Fin 128) : EReal :=
  ∑ j ∈ Finset.range 8192, Ideal.div (Ideal.exp (sc Q K C b h i j - mx (sc Q K C b h i) 8192))
    (∑ k ∈ Finset.range 8192, Ideal.exp (sc Q K C b h i k - mx (sc Q K C b h i) 8192)) * vl V b h d j

/-- Every element is a real number. -/
def Fin' {s : Shape} (X : s.Idx → EReal) : Prop := ∃ x : s.Idx → ℝ, X = fun i => (x i : EReal)

theorem coe_sum {ι : Type} (S : Finset ι) (f : ι → ℝ) : (∑ i ∈ S, (f i : EReal)) = ((∑ i ∈ S, f i : ℝ) : EReal) := by
  classical
  induction S using Finset.induction_on with
  | empty => simp
  | insert a S ha ih => rw [Finset.sum_insert ha, Finset.sum_insert ha, ih, EReal.coe_add]

/-- Of finite operands the score is a real number up to the query's own key. -/
theorem sc_coe (q k : SQ.Idx → ℝ) (c : SC.Idx → ℝ) (b : Fin 2) (h : Fin 8) (i : Fin 8192) (j : ℕ) (hj : j ≤ i.val) :
    sc (fun x => (q x : EReal)) (fun x => (k x : EReal)) (fun x => (c x : EReal)) b h i j
      = (((∑ d : Fin 128, q (ix3 b i (cl h d)) * k (ix3 b (rw' j) (cl h d))) * (1 / Real.sqrt 128) + c (ix3 b i h) - c (ix3 b (rw' j) h) : ℝ) : EReal) := by
  rw [sc, if_pos hj]
  simp only [← EReal.coe_mul]
  rw [coe_sum, ← EReal.coe_mul, ← EReal.coe_add, ← EReal.coe_sub]

theorem sc_ne_top {Q K : SQ.Idx → EReal} {C : SC.Idx → EReal} (hQ : Fin' Q) (hK : Fin' K) (hC : Fin' C) (b : Fin 2) (h : Fin 8) (i : Fin 8192) (j : ℕ) :
    sc Q K C b h i j ≠ ⊤ := by
  obtain ⟨q, rfl⟩ := hQ; obtain ⟨k, rfl⟩ := hK; obtain ⟨c, rfl⟩ := hC
  by_cases hj : j ≤ i.val
  · rw [sc_coe q k c b h i j hj]; exact EReal.coe_ne_top _
  · rw [sc, if_neg hj]; exact bot_ne_top

theorem sc_zero_ne_bot {Q K : SQ.Idx → EReal} {C : SC.Idx → EReal} (hQ : Fin' Q) (hK : Fin' K) (hC : Fin' C) (b : Fin 2) (h : Fin 8) (i : Fin 8192) :
    sc Q K C b h i 0 ≠ ⊥ := by
  obtain ⟨q, rfl⟩ := hQ; obtain ⟨k, rfl⟩ := hK; obtain ⟨c, rfl⟩ := hC
  rw [sc_coe q k c b h i 0 (Nat.zero_le _)]; exact EReal.coe_ne_bot _

/-- The word 0x43000000 is 128, and the root of it. -/
theorem ofBits_128 : Ideal.ofBits .f32 0x43000000#32 = ((128 : ℝ) : EReal) := by
  simp [Ideal.ofBits, Ideal.ieee]
  rw [← EReal.coe_mul]
  norm_num

/-- The word 0x40000000 is 2. -/
theorem ofBits_2 : Ideal.ofBits .f32 0x40000000#32 = ((2 : ℝ) : EReal) := by
  simp [Ideal.ofBits, Ideal.ieee]
  rw [← EReal.coe_mul]
  norm_num

/-- The word of −∞ denotes −∞. -/
theorem ofBits_ninf : Ideal.ofBits .f32 0xFF800000#32 = ⊥ := by
  simp [Ideal.ofBits, Ideal.ieee]

/-- The word of ∞ denotes ∞. -/
theorem ofBits_inf : Ideal.ofBits .f32 0x7F800000#32 = ⊤ := by
  simp [Ideal.ofBits, Ideal.ieee]

theorem sqrt_128 : Ideal.sqrt ((128 : ℝ) : EReal) = ((Real.sqrt 128 : ℝ) : EReal) := by
  rw [Ideal.sqrt_coe, if_neg (by norm_num)]

end Cert.Fox

end
-- ==== Proof.Fox.Host.lean ====
/-
  The arrays the call's operands hold, read at an index: the scaled queries, keys and values in the columns of the
  combined projection, and the auxiliary columns that carry the cumulated log gates.
-/
module

public import proofs.«01_k».proof.Proof.Gen.KernelIdeal.Frame
public import proofs.«01_k».proof.Proof.Fox.Math
public import Idealize.ShloMosaic.Lib.StableHlo.ReadAt

@[expose] public section

set_option maxRecDepth 16384
set_option maxHeartbeats 1000000

noncomputable section

namespace Cert.KernelIdeal.Fox

open Idealize.ShloMosaic Idealize.ShloMosaic.TcCoe Idealize.SL.Sem
open Cert.KernelIdeal.Gen Cert.Fox

local notation "I" => Idealize.ShloMosaic.Ideal

variable (m : (ℓ : Loc nD τ sig) → Buf (Elt I) ℓ) (c : Dev nD)

/-- The arguments. -/
abbrev aQ : SQ.Idx → EReal := m ((c.tc : Thread nD τ).loc main_arg0)
abbrev aK : SQ.Idx → EReal := m ((c.tc : Thread nD τ).loc main_arg1)
abbrev aV : SQ.Idx → EReal := m ((c.tc : Thread nD τ).loc main_arg2)
abbrev aC : SC.Idx → EReal := m ((c.tc : Thread nD τ).loc main_arg3)

/-- The scale of the scores. -/
theorem inv_sqrt : Ideal.div 1 (Ideal.sqrt (Ideal.ofBits FTy.f32 1124073472#32)) = ((1 / Real.sqrt 128 : ℝ) : EReal) := by
  rw [ofBits_128, sqrt_128, Ideal.div_coe (by positivity), one_mul]

/-- The factor between the natural and the binary exponent. -/
theorem inv_log : Ideal.div 1 (Ideal.log (Ideal.ofBits FTy.f32 1073741824#32)) = (((Real.log 2)⁻¹ : ℝ) : EReal) := by
  rw [ofBits_2, Ideal.log_coe, if_neg (by norm_num), Ideal.div_coe (Real.log_pos (by norm_num)).ne', one_mul, one_div]

/-- The columns of the keys. -/
theorem z_k (r : Fin 16384) (a : Fin 1024) :
    (V m c main_v13 : S16384x11776.Idx → EReal) (ix2 r ⟨8192 + a.val, by omega⟩) = aK m c (ix3 ⟨r.val / 8192, by omega⟩ ⟨r.val % 8192, by omega⟩ a) := by
  unfold V
  after_reads_at
  rw [dif_neg (by omega), dif_neg (by omega), dif_pos (by omega)]
  after_reads_at
  exact congrArg (fun z => aK m c (ix3 _ _ z)) (Fin.ext (by show 8192 + a.val - 7168 - 1024 = a.val; omega))

/-- The columns of the values. -/
theorem z_v (r : Fin 16384) (a : Fin 1024) :
    (V m c main_v13 : S16384x11776.Idx → EReal) (ix2 r ⟨9216 + a.val, by omega⟩) = aV m c (ix3 ⟨r.val / 8192, by omega⟩ ⟨r.val % 8192, by omega⟩ a) := by
  unfold V
  after_reads_at
  rw [dif_neg (by omega), dif_neg (by omega), dif_neg (by omega), dif_pos (by omega)]
  after_reads_at
  exact congrArg (fun z => aV m c (ix3 _ _ z)) (Fin.ext (by show 9216 + a.val - 7168 - 1024 - 1024 = a.val; omega))

/-- The columns of the queries. -/
theorem z_q (r : Fin 16384) (a : Fin 1024) :
    (V m c main_v13 : S16384x11776.Idx → EReal) (ix2 r ⟨7168 + a.val, by omega⟩)
      = aQ m c (ix3 ⟨r.val / 8192, by omega⟩ ⟨r.val % 8192, by omega⟩ a) * (((1 / Real.sqrt 128) * (Real.log 2)⁻¹ : ℝ) : EReal) := by
  unfold V
  after_reads_at
  after_reads_at
  rw [inv_sqrt, inv_log, EReal.coe_mul]

/-- The auxiliary columns of the queries: the gate in three parts, of which the first is all of it, and three ones. -/
theorem aq_at (r : Fin 16384) (h : Fin 8) (e : Fin 128) (x : ℝ) (hx : aC m c (ix3 ⟨r.val / 8192, by omega⟩ ⟨r.val % 8192, by omega⟩ h) = (x : EReal)) :
    (V m c main_v31 : S16384x1024.Idx → EReal) (ix2 r ⟨h.val * 128 + e.val, by omega⟩)
      = ((if e.val = 0 then x * (Real.log 2)⁻¹ else if e.val < 3 then 0 else if e.val < 6 then 1 else 0 : ℝ) : EReal) := by
  have hx' : (m (c, Proc.tc.devRef main_arg3) (ix3 (⟨r.val / 8192, by omega⟩ : Fin 2) (⟨r.val % 8192, by omega⟩ : Fin 8192) h) : EReal) = (x : EReal) := hx
  unfold V
  after_reads_at
  by_cases h3 : e.val < 3
  · rw [dif_pos h3]
    after_reads_at
    after_reads_at
    rw [inv_log, hx', ← EReal.coe_mul, ← EReal.coe_sub, ← EReal.coe_sub, sub_self, sub_self]
    by_cases h1 : e.val < 1
    · rw [dif_pos h1, if_pos (by omega)]
    · rw [dif_neg h1, if_neg (by omega), if_pos (by omega), dite_eq_ite, ite_self]
  by_cases h6 : e.val - 3 < 3
  · rw [dif_neg h3, dif_pos h6]
    after_reads_at
    rw [if_neg (by omega), if_neg (by omega), if_pos (by omega), EReal.coe_one]
  · rw [dif_neg h3, dif_neg h6]
    after_reads_at
    rw [if_neg (by omega), if_neg (by omega), if_neg (by omega), EReal.coe_zero]

/-- The auxiliary columns of the keys: three ones, and the gate's parts negated. -/
theorem ak_at (r : Fin 16384) (h : Fin 8) (e : Fin 128) (x : ℝ) (hx : aC m c (ix3 ⟨r.val / 8192, by omega⟩ ⟨r.val % 8192, by omega⟩ h) = (x : EReal)) :
    (V m c main_v34 : S16384x1024.Idx → EReal) (ix2 r ⟨h.val * 128 + e.val, by omega⟩)
      = ((if e.val < 3 then 1 else if e.val = 3 then -(x * (Real.log 2)⁻¹) else 0 : ℝ) : EReal) := by
  have hx' : (m (c, Proc.tc.devRef main_arg3) (ix3 (⟨r.val / 8192, by omega⟩ : Fin 2) (⟨r.val % 8192, by omega⟩ : Fin 8192) h) : EReal) = (x : EReal) := hx
  unfold V
  after_reads_at
  by_cases h3 : e.val < 3
  · rw [dif_pos h3]
    after_reads_at
    rw [if_pos (by omega), EReal.coe_one]
  by_cases h6 : e.val - 3 < 3
  · rw [dif_neg h3, dif_pos h6]
    after_reads_at
    after_reads_at
    rw [inv_log, hx', ← EReal.coe_mul, ← EReal.coe_sub, ← EReal.coe_sub, sub_self, sub_self]
    by_cases h1 : e.val - 3 < 1
    · rw [dif_pos h1, if_neg (by omega), if_pos (by omega), EReal.coe_neg]
    · rw [dif_neg h1, if_neg (by omega), if_neg (by omega), dite_eq_ite, ite_self, EReal.coe_zero, neg_zero]
  · rw [dif_neg h3, dif_neg h6]
    after_reads_at
    rw [if_neg (by omega), if_neg (by omega), EReal.coe_zero]

end Cert.KernelIdeal.Fox

end
-- ==== Proof.Fox.Score.lean ====
/-
  The scores the kernel forms: at the keys up to the query they are the attention's scores times the factor between the
  natural and the binary exponent.
-/
module

public import proofs.«01_k».proof.Proof.Fox.Val
public import proofs.«01_k».proof.Proof.Fox.Host
public import proofs.«01_k».proof.Proof.Fox.Run

@[expose] public section

set_option maxRecDepth 16384
set_option maxHeartbeats 1000000

noncomputable section

namespace Cert.KernelIdeal.Fox

open Idealize.ShloMosaic Idealize.ShloMosaic.TcCoe Idealize.SL.Sem
open Cert.KernelIdeal.Gen Cert.Fox

local notation "I" => Idealize.ShloMosaic.Ideal

/-- A head's queries beside its auxiliary columns, read at a column. -/
theorem qv_lo (xq xa : Vec I S1024x256 .bf16) (h : Fin 2) (q : Fin 1024) (d : Fin 128) :
    qv (q7 xq xa) (q12 xq xa) h (ix2 q ⟨d.val, by omega⟩) = xq (ix2 q ⟨h.val * 128 + d.val, by omega⟩) := by
  obtain rfl | rfl : h = 0 ∨ h = 1 := by omega
  · exact (pay23_apply _ _ q _).trans (dif_pos d.isLt)
  · exact (pay24_apply _ _ q _).trans (dif_pos d.isLt)

theorem qv_hi (xq xa : Vec I S1024x256 .bf16) (h : Fin 2) (q : Fin 1024) (e : Fin 128) :
    qv (q7 xq xa) (q12 xq xa) h (ix2 q ⟨128 + e.val, by omega⟩) = xa (ix2 q ⟨h.val * 128 + e.val, by omega⟩) := by
  obtain rfl | rfl : h = 0 ∨ h = 1 := by omega
  · refine ((pay23_apply _ _ q _).trans (dif_neg (show ¬ 128 + e.val < 128 by omega))).trans ?_
    exact congrArg (fun z => xa (ix2 q z)) (Fin.ext (by show 0 * 128 + (128 + e.val - 128) = 0 * 128 + e.val; omega))
  · refine ((pay24_apply _ _ q _).trans (dif_neg (show ¬ 128 + e.val < 128 by omega))).trans ?_
    exact congrArg (fun z => xa (ix2 q z)) (Fin.ext (by show 1 * 128 + (128 + e.val - 128) = 1 * 128 + e.val; omega))

theorem blkOf_at (x : Vec I S8192x256 .bf16) (h : Fin 2) (j : Fin 8192) (d : Fin 128) (hk : j.val / 1024 < 8) (hj : j.val % 1024 < 1024) :
    blkOf x h ⟨j.val / 1024, hk⟩ (ix2 ⟨j.val % 1024, hj⟩ d) = x (ix2 j ⟨h.val * 128 + d.val, by omega⟩) :=
  congrArg (fun z => x (ix2 z _)) (Fin.ext (by show j.val / 1024 * 1024 + j.val % 1024 = j.val; omega))

theorem KKof_lo (xk xa : Vec I S8192x256 .bf16) (h : Fin 2) (j : Fin 8192) (d : Fin 128) :
    KKof xk xa (ix3 h j ⟨d.val, by omega⟩) = xk (ix2 j ⟨h.val * 128 + d.val, by omega⟩) :=
  ((dif_pos d.isLt).trans (pay4_apply _ _ _)).trans (blkOf_at xk h j d _ _)

theorem KKof_hi (xk xa : Vec I S8192x256 .bf16) (h : Fin 2) (j : Fin 8192) (e : Fin 128) :
    KKof xk xa (ix3 h j ⟨128 + e.val, by omega⟩) = xa (ix2 j ⟨h.val * 128 + e.val, by omega⟩) := by
  refine ((dif_neg (show ¬ 128 + e.val < 128 by omega)).trans (pay4_apply _ _ _)).trans ?_
  refine (blkOf_at xa h j ⟨128 + e.val - 128, by omega⟩ _ _).trans ?_
  exact congrArg (fun z => xa (ix2 j z)) (Fin.ext (by show h.val * 128 + (128 + e.val - 128) = h.val * 128 + e.val; omega))

/-- A score as the product of queries and keys and the product of the auxiliary columns. -/
theorem raw_eq (xq xa : Vec I S1024x256 .bf16) (xk xb : Vec I S8192x256 .bf16) (h : Fin 2) (q : Fin 1024) (j : ℕ) :
    raw (q7 xq xa) (q12 xq xa) (KKof xk xb) h q j
      = (∑ d : Fin 128, (xk (ix2 (rw' j) ⟨h.val * 128 + d.val, by omega⟩) : EReal) * xq (ix2 q ⟨h.val * 128 + d.val, by omega⟩))
        + ∑ e : Fin 128, (xb (ix2 (rw' j) ⟨h.val * 128 + e.val, by omega⟩) : EReal) * xa (ix2 q ⟨h.val * 128 + e.val, by omega⟩) := by
  unfold raw
  rw [Fin.sum_univ_add (a := 128) (b := 128)]
  congr 1
  · refine Finset.sum_congr rfl fun d _ => ?_
    exact congrArg₂ (· * ·) (KKof_lo xk xb h (rw' j) d) (qv_lo xq xa h q d)
  · refine Finset.sum_congr rfl fun e _ => ?_
    exact congrArg₂ (· * ·) (KKof_hi xk xb h (rw' j) e) (qv_hi xq xa h q e)

theorem vrow_lo (xv : Vec I S8192x256 .bf16) (h : Fin 2) (d : Fin 128) (j : ℕ) :
    vrow (VTof xv) h ⟨d.val, by omega⟩ j = xv (ix2 (rw' j) ⟨h.val * 128 + d.val, by omega⟩) := by
  refine ((dif_pos d.isLt).trans (pay6_apply _ _ _)).trans ?_
  exact congrArg (fun z => xv (ix2 z _)) (Fin.ext (by show j / 1024 % 8 * 1024 + j % 1024 = j % 8192; omega))

theorem vrow_hi (xv : Vec I S8192x256 .bf16) (h : Fin 2) (d : Fin 128) (j : ℕ) :
    vrow (VTof xv) h ⟨128 + d.val, by omega⟩ j = 1 :=
  (dif_neg (show ¬ 128 + d.val < 128 by omega)).trans (pay7_apply _ _)

/-- The auxiliary columns' product is the difference of the gates. -/
theorem aux_sum (x y : ℝ) :
    (∑ e : Fin 128, (if e.val < 3 then 1 else if e.val = 3 then -y else 0) * (if e.val = 0 then x else if e.val < 3 then 0 else if e.val < 6 then 1 else 0) : ℝ)
      = x - y := by
  have h : ∀ e : Fin 128, ((if e.val < 3 then 1 else if e.val = 3 then -y else 0) * (if e.val = 0 then x else if e.val < 3 then 0 else if e.val < 6 then 1 else 0) : ℝ)
      = (if e = 0 then x else 0) + (if e = 3 then -y else 0) := fun e => by
    by_cases e0 : e = 0
    · subst e0; simp
    by_cases e3 : e = 3
    · subst e3; simp
    have n0 : e.val ≠ 0 := fun h => e0 (Fin.ext h)
    have n3 : e.val ≠ 3 := fun h => e3 (Fin.ext h)
    rw [if_neg e0, if_neg e3, if_neg n0, if_neg n3, add_zero]
    by_cases l : e.val < 3
    · rw [if_pos l, if_pos l, mul_zero]
    · rw [if_neg l, zero_mul]
  simp only [h]
  rw [Finset.sum_add_distrib, Finset.sum_ite_eq', Finset.sum_ite_eq', if_pos (Finset.mem_univ _), if_pos (Finset.mem_univ _)]
  ring

/-- The columns a block of the combined projection holds, read in its array: the block at block row `a` and block
    column `b` of a window whose blocks are `n` rows by 256 columns. -/
theorem coords_at (t : Fin cfg0.N) : (grid0.coords t 0).val = t.val / 32 ∧ (grid0.coords t 1).val = t.val / 8 % 4 ∧ (grid0.coords t 2).val = t.val % 8 := by
  have ht : t.val < 64 := Nat.lt_of_lt_of_eq t.isLt N_0
  have e0 : (grid0.coords t 0).val = t.val / 32 % 2 := Pipeline.Grid.coords_val t 0 (by decide) rfl
  have e1 : (grid0.coords t 1).val = t.val / 8 % 4 := Pipeline.Grid.coords_val t 1 (by decide) rfl
  have e2 : (grid0.coords t 2).val = t.val / 1 % 8 := Pipeline.Grid.coords_val t 2 (by decide) rfl
  refine ⟨?_, ?_, ?_⟩ <;> omega

end Cert.KernelIdeal.Fox

end
-- ==== Proof.Fox.Blk.lean ====
/-
  The blocks the windows bring in, read in the arrays they are blocks of.
-/
module

public import proofs.«01_k».proof.Proof.Fox.Run

@[expose] public section

set_option maxRecDepth 16384
set_option maxHeartbeats 1000000

noncomputable section

namespace Cert.KernelIdeal.Fox

open Idealize.ShloMosaic Idealize.ShloMosaic.TcCoe Idealize.SL.Sem
open Cert.KernelIdeal.Gen

variable {F : FTy → Type} [FloatOps F] (m : (ℓ : Loc nD τ sig) → Buf (Elt F) ℓ)

theorem index_0 : ∀ t : Fin cfg0.N, win0_0.index t 0 = t.val / 32 ∧ win0_0.index t 1 = 32 + t.val / 8 % 4 := by decide +kernel
theorem index_1 : ∀ t : Fin cfg0.N, win0_1.index t 0 = t.val / 32 * 8 + t.val % 8 ∧ win0_1.index t 1 = 28 + t.val / 8 % 4 := by decide +kernel
theorem index_2 : ∀ t : Fin cfg0.N, win0_2.index t 0 = t.val / 32 * 8 + t.val % 8 ∧ win0_2.index t 1 = t.val / 8 % 4 := by decide +kernel
theorem index_3 : ∀ t : Fin cfg0.N, win0_3.index t 0 = t.val / 32 ∧ win0_3.index t 1 = t.val / 8 % 4 := by decide +kernel
theorem index_4 : ∀ t : Fin cfg0.N, win0_4.index t 0 = t.val / 32 ∧ win0_4.index t 1 = 36 + t.val / 8 % 4 := by decide +kernel
theorem index_5 : ∀ t : Fin cfg0.N, win0_5.index t 0 = t.val / 32 * 8 + t.val % 8 ∧ win0_5.index t 1 = t.val / 8 % 4 := by decide +kernel

/-- A point of the grid is below sixty-four. -/
theorem lt_64 (t : Fin cfg0.N) : t.val < 64 := Nat.lt_of_lt_of_eq t.isLt N_0

/-- The keys' block. -/
theorem iblk_0 (c : Dev nD) (t : Fin cfg0.N) (r : Fin 8192) (a : Fin 256) :
    (iblk m c 0 t : Vec F S8192x256 .bf16) (ix2 r a)
      = (V m c main_v13 : Vec F S16384x11776 .bf16)
          (ix2 ⟨t.val / 32 * 8192 + r.val, by have := lt_64 t; omega⟩ ⟨(32 + t.val / 8 % 4) * 256 + a.val, by omega⟩) := by
  have hi := index_0 t
  unfold iblk
  rw [View.read_apply]
  show (V m c main_v13 : Vec F S16384x11776 .bf16) _ = _
  congr 1
  funext x
  apply Fin.ext
  match x with
  | ⟨0, _⟩ => show win0_0.index t 0 * 8192 + 1 * r.val = _; rw [hi.1, Nat.one_mul]; rfl
  | ⟨1, _⟩ => show win0_0.index t 1 * 256 + 1 * a.val = _; rw [hi.2, Nat.one_mul]; rfl

/-- The queries' block. -/
theorem iblk_1 (c : Dev nD) (t : Fin cfg0.N) (r : Fin 1024) (a : Fin 256) :
    (iblk m c 1 t : Vec F S1024x256 .bf16) (ix2 r a)
      = (V m c main_v13 : Vec F S16384x11776 .bf16)
          (ix2 ⟨(t.val / 32 * 8 + t.val % 8) * 1024 + r.val, by have := lt_64 t; omega⟩ ⟨(28 + t.val / 8 % 4) * 256 + a.val, by omega⟩) := by
  have hi := index_1 t
  unfold iblk
  rw [View.read_apply]
  show (V m c main_v13 : Vec F S16384x11776 .bf16) _ = _
  congr 1
  funext x
  apply Fin.ext
  match x with
  | ⟨0, _⟩ => show win0_1.index t 0 * 1024 + 1 * r.val = _; rw [hi.1, Nat.one_mul]; rfl
  | ⟨1, _⟩ => show win0_1.index t 1 * 256 + 1 * a.val = _; rw [hi.2, Nat.one_mul]; rfl

/-- The block of the queries' auxiliary columns. -/
theorem iblk_2 (c : Dev nD) (t : Fin cfg0.N) (r : Fin 1024) (a : Fin 256) :
    (iblk m c 2 t : Vec F S1024x256 .bf16) (ix2 r a)
      = (V m c main_v31 : Vec F S16384x1024 .bf16)
          (ix2 ⟨(t.val / 32 * 8 + t.val % 8) * 1024 + r.val, by have := lt_64 t; omega⟩ ⟨t.val / 8 % 4 * 256 + a.val, by omega⟩) := by
  have hi := index_2 t
  unfold iblk
  rw [View.read_apply]
  show (V m c main_v31 : Vec F S16384x1024 .bf16) _ = _
  congr 1
  funext x
  apply Fin.ext
  match x with
  | ⟨0, _⟩ => show win0_2.index t 0 * 1024 + 1 * r.val = _; rw [hi.1, Nat.one_mul]; rfl
  | ⟨1, _⟩ => show win0_2.index t 1 * 256 + 1 * a.val = _; rw [hi.2, Nat.one_mul]; rfl

/-- The block of the keys' auxiliary columns. -/
theorem iblk_3 (c : Dev nD) (t : Fin cfg0.N) (r : Fin 8192) (a : Fin 256) :
    (iblk m c 3 t : Vec F S8192x256 .bf16) (ix2 r a)
      = (V m c main_v34 : Vec F S16384x1024 .bf16)
          (ix2 ⟨t.val / 32 * 8192 + r.val, by have := lt_64 t; omega⟩ ⟨t.val / 8 % 4 * 256 + a.val, by omega⟩) := by
  have hi := index_3 t
  unfold iblk
  rw [View.read_apply]
  show (V m c main_v34 : Vec F S16384x1024 .bf16) _ = _
  congr 1
  funext x
  apply Fin.ext
  match x with
  | ⟨0, _⟩ => show win0_3.index t 0 * 8192 + 1 * r.val = _; rw [hi.1, Nat.one_mul]; rfl
  | ⟨1, _⟩ => show win0_3.index t 1 * 256 + 1 * a.val = _; rw [hi.2, Nat.one_mul]; rfl

/-- The values' block. -/
theorem iblk_4 (c : Dev nD) (t : Fin cfg0.N) (r : Fin 8192) (a : Fin 256) :
    (iblk m c 4 t : Vec F S8192x256 .bf16) (ix2 r a)
      = (V m c main_v13 : Vec F S16384x11776 .bf16)
          (ix2 ⟨t.val / 32 * 8192 + r.val, by have := lt_64 t; omega⟩ ⟨(36 + t.val / 8 % 4) * 256 + a.val, by omega⟩) := by
  have hi := index_4 t
  unfold iblk
  rw [View.read_apply]
  show (V m c main_v13 : Vec F S16384x11776 .bf16) _ = _
  congr 1
  funext x
  apply Fin.ext
  match x with
  | ⟨0, _⟩ => show win0_4.index t 0 * 8192 + 1 * r.val = _; rw [hi.1, Nat.one_mul]; rfl
  | ⟨1, _⟩ => show win0_4.index t 1 * 256 + 1 * a.val = _; rw [hi.2, Nat.one_mul]; rfl

/-- The result's block, read in a result array. -/
theorem oblk (G : Vec F S16384x1024 .bf16) (t : Fin cfg0.N) (r : Fin 1024) (a : Fin 256) :
    ((win0_5.blk t).view.read (Elt F) G : Vec F S1024x256 .bf16) (ix2 r a)
      = G (ix2 ⟨(t.val / 32 * 8 + t.val % 8) * 1024 + r.val, by have := lt_64 t; omega⟩ ⟨t.val / 8 % 4 * 256 + a.val, by omega⟩) := by
  have hi := index_5 t
  rw [View.read_apply]
  show G _ = _
  congr 1
  funext x
  apply Fin.ext
  match x with
  | ⟨0, _⟩ => show win0_5.index t 0 * 1024 + 1 * r.val = _; rw [hi.1, Nat.one_mul]; rfl
  | ⟨1, _⟩ => show win0_5.index t 1 * 256 + 1 * a.val = _; rw [hi.2, Nat.one_mul]; rfl

/-- An entry of the result lies in a point's block when its coordinates do. -/
theorem mem_blk (t : Fin cfg0.N) (i : S16384x1024.Idx) :
    i ∈ ((cfg0.win 5).blk t).view.set
      ↔ (t.val / 32 * 8 + t.val % 8 = (i 0).val / 1024 ∧ t.val / 8 % 4 = (i 1).val / 256) := by
  show i ∈ ((View.whole main_v35).slice (win0_5.rect t)).set ↔ _
  rw [View.set_slice_whole, Rect.mem_set_unit]
  have hi := index_5 t
  have h0 : win0_5.index t 0 * win0_5.size 0 = (t.val / 32 * 8 + t.val % 8) * 1024 := by rw [hi.1]; rfl
  have h1 : win0_5.index t 1 * win0_5.size 1 = t.val / 8 % 4 * 256 := by rw [hi.2]; rfl
  have x0 : ∀ t : Fin cfg0.N, win0_5.xsize (grid0.coords t) 0 = 1024 := by decide +kernel
  have x1 : ∀ t : Fin cfg0.N, win0_5.xsize (grid0.coords t) 1 = 256 := by decide +kernel
  constructor
  · intro h
    have a0 : win0_5.index t 0 * win0_5.size 0 ≤ (i 0).val ∧ (i 0).val < win0_5.index t 0 * win0_5.size 0 + win0_5.xsize (grid0.coords t) 0 := h 0
    have a1 : win0_5.index t 1 * win0_5.size 1 ≤ (i 1).val ∧ (i 1).val < win0_5.index t 1 * win0_5.size 1 + win0_5.xsize (grid0.coords t) 1 := h 1
    rw [h0, x0] at a0; rw [h1, x1] at a1
    constructor <;> omega
  · intro h a
    match a with
    | ⟨0, _⟩ =>
      show win0_5.index t 0 * win0_5.size 0 ≤ (i 0).val ∧ (i 0).val < win0_5.index t 0 * win0_5.size 0 + win0_5.xsize (grid0.coords t) 0
      rw [h0, x0]; omega
    | ⟨1, _⟩ =>
      show win0_5.index t 1 * win0_5.size 1 ≤ (i 1).val ∧ (i 1).val < win0_5.index t 1 * win0_5.size 1 + win0_5.xsize (grid0.coords t) 1
      rw [h1, x1]; omega

/-- Every entry of the result is in a block written back. -/
theorem cover (i : S16384x1024.Idx) : ∃ t, (cfg0.win 5).flush t = true ∧ i ∈ ((cfg0.win 5).blk t).view.set := by
  have r : (i 0).val < 16384 := (i 0).isLt
  have c : (i 1).val < 1024 := (i 1).isLt
  refine ⟨⟨(i 0).val / 8192 * 32 + (i 1).val / 256 * 8 + (i 0).val / 1024 % 8, by rw [N_0]; omega⟩, flush0_5 _, (mem_blk _ i).2 ?_⟩
  constructor <;> dsimp only <;> omega

end Cert.KernelIdeal.Fox

end
-- ==== Proof.Fox.Arr.lean ====
/-
  The array the kernel leaves: the attention of its arguments.
-/
module

public import proofs.«01_k».proof.Proof.Fox.Score
public import proofs.«01_k».proof.Proof.Fox.Blk
public import proofs.«01_k».proof.Proof.Fox.Alg

@[expose] public section

set_option maxRecDepth 16384
set_option maxHeartbeats 1000000

noncomputable section

namespace Cert.KernelIdeal.Fox

open Idealize.ShloMosaic Idealize.ShloMosaic.TcCoe Idealize.SL.Sem
open Cert.KernelIdeal.Gen Cert.Fox

local notation "I" => Idealize.ShloMosaic.Ideal

variable (m : (ℓ : Loc nD τ sig) → Buf (Elt I) ℓ) (ρ : Dev nD → PrngReg) (c : Dev nD)

/-- The sequence, the head and the query of a point's block. -/
def bt (t : Fin cfg0.N) : Fin 2 := ⟨t.val / 32, by have := lt_64 t; omega⟩
def hdt (t : Fin cfg0.N) (h : Fin 2) : Fin 8 := ⟨t.val / 8 % 4 * 2 + h.val, by omega⟩
def qr (t : Fin cfg0.N) (q : Fin 1024) : Fin 8192 := ⟨t.val % 8 * 1024 + q.val, by omega⟩

theorem bt_base (t : Fin cfg0.N) : bt (base t) = bt t := Fin.ext (by show t.val / 8 * 8 / 32 = t.val / 32; omega)
theorem hdt_base (t : Fin cfg0.N) (h : Fin 2) : hdt (base t) h = hdt t h :=
  Fin.ext (by show t.val / 8 * 8 / 8 % 4 * 2 + h.val = t.val / 8 % 4 * 2 + h.val; omega)

/-- A query's entry in its block. -/
theorem q_at (t : Fin cfg0.N) (q : Fin 1024) (h : Fin 2) (d : Fin 128) :
    (iblk m c 1 t : Vec I S1024x256 .bf16) (ix2 q ⟨h.val * 128 + d.val, by omega⟩)
      = aQ m c (ix3 (bt t) (qr t q) (cl (hdt t h) d)) * (((1 / Real.sqrt 128) * (Real.log 2)⁻¹ : ℝ) : EReal) := by
  have ht := lt_64 t
  refine (iblk_1 m c t q _).trans (Eq.trans (congrArg (V m c main_v13 : S16384x11776.Idx → EReal) ?_)
    ((z_q m c ⟨(t.val / 32 * 8 + t.val % 8) * 1024 + q.val, by omega⟩ (cl (hdt t h) d)).trans ?_))
  · exact congrArg (ix2 _) (Fin.ext (by show (28 + t.val / 8 % 4) * 256 + (h.val * 128 + d.val) = 7168 + ((t.val / 8 % 4 * 2 + h.val) * 128 + d.val); omega))
  · refine congrArg (fun z => aQ m c z * _) (congrArg₂ (fun x y => ix3 x y _) (Fin.ext ?_) (Fin.ext ?_))
    · show ((t.val / 32 * 8 + t.val % 8) * 1024 + q.val) / 8192 = t.val / 32; omega
    · show ((t.val / 32 * 8 + t.val % 8) * 1024 + q.val) % 8192 = t.val % 8 * 1024 + q.val; omega

/-- A key's entry in its block. -/
theorem k_at (t : Fin cfg0.N) (j : Fin 8192) (h : Fin 2) (d : Fin 128) :
    (iblk m c 0 t : Vec I S8192x256 .bf16) (ix2 j ⟨h.val * 128 + d.val, by omega⟩)
      = aK m c (ix3 (bt t) j (cl (hdt t h) d)) := by
  have ht := lt_64 t
  refine (iblk_0 m c t j _).trans (Eq.trans (congrArg (V m c main_v13 : S16384x11776.Idx → EReal) ?_)
    ((z_k m c ⟨t.val / 32 * 8192 + j.val, by omega⟩ (cl (hdt t h) d)).trans ?_))
  · exact congrArg (ix2 _) (Fin.ext (by show (32 + t.val / 8 % 4) * 256 + (h.val * 128 + d.val) = 8192 + ((t.val / 8 % 4 * 2 + h.val) * 128 + d.val); omega))
  · refine congrArg (aK m c) (congrArg₂ (fun x y => ix3 x y _) (Fin.ext ?_) (Fin.ext ?_))
    · show (t.val / 32 * 8192 + j.val) / 8192 = t.val / 32; omega
    · show (t.val / 32 * 8192 + j.val) % 8192 = j.val; omega

/-- A value's entry in its block. -/
theorem v_at (t : Fin cfg0.N) (j : Fin 8192) (h : Fin 2) (d : Fin 128) :
    (iblk m c 4 t : Vec I S8192x256 .bf16) (ix2 j ⟨h.val * 128 + d.val, by omega⟩)
      = aV m c (ix3 (bt t) j (cl (hdt t h) d)) := by
  have ht := lt_64 t
  refine (iblk_4 m c t j _).trans (Eq.trans (congrArg (V m c main_v13 : S16384x11776.Idx → EReal) ?_)
    ((z_v m c ⟨t.val / 32 * 8192 + j.val, by omega⟩ (cl (hdt t h) d)).trans ?_))
  · exact congrArg (ix2 _) (Fin.ext (by show (36 + t.val / 8 % 4) * 256 + (h.val * 128 + d.val) = 9216 + ((t.val / 8 % 4 * 2 + h.val) * 128 + d.val); omega))
  · refine congrArg (aV m c) (congrArg₂ (fun x y => ix3 x y _) (Fin.ext ?_) (Fin.ext ?_))
    · show (t.val / 32 * 8192 + j.val) / 8192 = t.val / 32; omega
    · show (t.val / 32 * 8192 + j.val) % 8192 = j.val; omega

/-- A query's auxiliary entry in its block. -/
theorem xq_at (t : Fin cfg0.N) (q : Fin 1024) (h : Fin 2) (e : Fin 128) (x : ℝ)
    (hx : aC m c (ix3 (bt t) (qr t q) (hdt t h)) = (x : EReal)) :
    (iblk m c 2 t : Vec I S1024x256 .bf16) (ix2 q ⟨h.val * 128 + e.val, by omega⟩)
      = ((if e.val = 0 then x * (Real.log 2)⁻¹ else if e.val < 3 then 0 else if e.val < 6 then 1 else 0 : ℝ) : EReal) := by
  have ht := lt_64 t
  have hr : (ix3 ⟨((t.val / 32 * 8 + t.val % 8) * 1024 + q.val) / 8192, by omega⟩ ⟨((t.val / 32 * 8 + t.val % 8) * 1024 + q.val) % 8192, by omega⟩ (hdt t h) : SC.Idx)
      = ix3 (bt t) (qr t q) (hdt t h) :=
    congrArg₂ (fun x y => ix3 x y _) (Fin.ext (by show ((t.val / 32 * 8 + t.val % 8) * 1024 + q.val) / 8192 = t.val / 32; omega))
      (Fin.ext (by show ((t.val / 32 * 8 + t.val % 8) * 1024 + q.val) % 8192 = t.val % 8 * 1024 + q.val; omega))
  refine (iblk_2 m c t q _).trans (Eq.trans (congrArg (V m c main_v31 : S16384x1024.Idx → EReal) ?_)
    (aq_at m c ⟨(t.val / 32 * 8 + t.val % 8) * 1024 + q.val, by omega⟩ (hdt t h) e x ((congrArg (aC m c) hr).trans hx)))
  exact congrArg (ix2 _) (Fin.ext (by show t.val / 8 % 4 * 256 + (h.val * 128 + e.val) = (t.val / 8 % 4 * 2 + h.val) * 128 + e.val; omega))

/-- A key's auxiliary entry in its block. -/
theorem xk_at (t : Fin cfg0.N) (j : Fin 8192) (h : Fin 2) (e : Fin 128) (x : ℝ)
    (hx : aC m c (ix3 (bt t) j (hdt t h)) = (x : EReal)) :
    (iblk m c 3 t : Vec I S8192x256 .bf16) (ix2 j ⟨h.val * 128 + e.val, by omega⟩)
      = ((if e.val < 3 then 1 else if e.val = 3 then -(x * (Real.log 2)⁻¹) else 0 : ℝ) : EReal) := by
  have ht := lt_64 t
  have hr : (ix3 ⟨(t.val / 32 * 8192 + j.val) / 8192, by omega⟩ ⟨(t.val / 32 * 8192 + j.val) % 8192, by omega⟩ (hdt t h) : SC.Idx)
      = ix3 (bt t) j (hdt t h) :=
    congrArg₂ (fun x y => ix3 x y _) (Fin.ext (by show (t.val / 32 * 8192 + j.val) / 8192 = t.val / 32; omega))
      (Fin.ext (by show (t.val / 32 * 8192 + j.val) % 8192 = j.val; omega))
  refine (iblk_3 m c t j _).trans (Eq.trans (congrArg (V m c main_v34 : S16384x1024.Idx → EReal) ?_)
    (ak_at m c ⟨t.val / 32 * 8192 + j.val, by omega⟩ (hdt t h) e x ((congrArg (aC m c) hr).trans hx)))
  exact congrArg (ix2 _) (Fin.ext (by show t.val / 8 % 4 * 256 + (h.val * 128 + e.val) = (t.val / 8 % 4 * 2 + h.val) * 128 + e.val; omega))

/-- The score a point forms, for real arguments: the product and the gates, times the factor of the exponents. -/
theorem raw_coe (t : Fin cfg0.N) (h : Fin 2) (q : Fin 1024) (j : ℕ) (xq xk : SQ.Idx → ℝ) (xc : SC.Idx → ℝ)
    (hQ : aQ m c = fun i => (xq i : EReal)) (hK : aK m c = fun i => (xk i : EReal)) (hC : aC m c = fun i => (xc i : EReal)) :
    raw (q7 (iblk m c 1 t) (iblk m c 2 t)) (q12 (iblk m c 1 t) (iblk m c 2 t)) (KKat m c t) h q j
      = ((((∑ d : Fin 128, xq (ix3 (bt t) (qr t q) (cl (hdt t h) d)) * xk (ix3 (bt t) (rw' j) (cl (hdt t h) d))) * (1 / Real.sqrt 128)
          + xc (ix3 (bt t) (qr t q) (hdt t h)) - xc (ix3 (bt t) (rw' j) (hdt t h))) * (Real.log 2)⁻¹ : ℝ) : EReal) := by
  refine (raw_eq _ _ _ _ h q j).trans ?_
  have e1 : (∑ d : Fin 128, @HMul.hMul EReal EReal EReal _ ((iblk m c 0 (base t) : Vec I S8192x256 .bf16) (ix2 (rw' j) ⟨h.val * 128 + d.val, by omega⟩))
        ((iblk m c 1 t : Vec I S1024x256 .bf16) (ix2 q ⟨h.val * 128 + d.val, by omega⟩)))
      = ((∑ d : Fin 128, xk (ix3 (bt t) (rw' j) (cl (hdt t h) d)) * (xq (ix3 (bt t) (qr t q) (cl (hdt t h) d)) * ((1 / Real.sqrt 128) * (Real.log 2)⁻¹)) : ℝ) : EReal) := by
    rw [← coe_sum]
    refine Finset.sum_congr rfl fun d _ => ?_
    rw [k_at m c (base t) (rw' j) h d, q_at m c t q h d, hQ, hK, bt_base, hdt_base, ← EReal.coe_mul, ← EReal.coe_mul]
  have e2 : (∑ e : Fin 128, @HMul.hMul EReal EReal EReal _ ((iblk m c 3 (base t) : Vec I S8192x256 .bf16) (ix2 (rw' j) ⟨h.val * 128 + e.val, by omega⟩))
        ((iblk m c 2 t : Vec I S1024x256 .bf16) (ix2 q ⟨h.val * 128 + e.val, by omega⟩)))
      = ((xc (ix3 (bt t) (qr t q) (hdt t h)) * (Real.log 2)⁻¹ - xc (ix3 (bt t) (rw' j) (hdt t h)) * (Real.log 2)⁻¹ : ℝ) : EReal) := by
    rw [← aux_sum, ← coe_sum]
    refine Finset.sum_congr rfl fun e _ => ?_
    rw [xk_at m c (base t) (rw' j) h e (xc (ix3 (bt t) (rw' j) (hdt t h))) (by rw [hC, bt_base, hdt_base]),
      xq_at m c t q h e (xc (ix3 (bt t) (qr t q) (hdt t h))) (by rw [hC]), ← EReal.coe_mul]
  refine (congrArg₂ (· + ·) e1 e2).trans ?_
  rw [← EReal.coe_add]
  refine congrArg _ ?_
  rw [Finset.sum_congr rfl fun d _ => show xk (ix3 (bt t) (rw' j) (cl (hdt t h) d)) * (xq (ix3 (bt t) (qr t q) (cl (hdt t h) d)) * ((1 / Real.sqrt 128) * (Real.log 2)⁻¹))
    = (xq (ix3 (bt t) (qr t q) (cl (hdt t h) d)) * xk (ix3 (bt t) (rw' j) (cl (hdt t h) d))) * ((1 / Real.sqrt 128) * (Real.log 2)⁻¹) by ring, ← Finset.sum_mul]
  ring

variable (hQ : Fin' (aQ m c)) (hK : Fin' (aK m c)) (hC : Fin' (aC m c))
include hQ hK hC

/-- The masked score is the attention's times the factor of the exponents. -/
theorem msk_eq (t : Fin cfg0.N) (h : Fin 2) (q : Fin 1024) :
    msk (q7 (iblk m c 1 t) (iblk m c 2 t)) (q12 (iblk m c 1 t) (iblk m c 2 t)) (KKat m c t) (grid0.coords t 2).val h q
      = fun j => sc (aQ m c) (aK m c) (aC m c) (bt t) (hdt t h) (qr t q) j * (((Real.log 2)⁻¹ : ℝ) : EReal) := by
  obtain ⟨xq, hQ⟩ := hQ; obtain ⟨xk, hK⟩ := hK; obtain ⟨xc, hC⟩ := hC
  funext j
  unfold msk
  rw [raw_coe m c t h q j xq xk xc hQ hK hC, coord2 t, hQ, hK, hC]
  by_cases hj : j ≤ t.val % 8 * 1024 + q.val
  · rw [if_pos hj, sc_coe xq xk xc _ _ _ j hj, ← EReal.coe_mul]
  · rw [if_neg hj, sc, if_neg (show ¬ j ≤ (qr t q).val from hj), EReal.bot_mul_coe_of_pos (inv_pos.2 (Real.log_pos (by norm_num)))]

/-- What a point leaves in the result's block is the attention's output at its queries and heads. -/
theorem OUTat_at (t : Fin cfg0.N) (q : Fin 1024) (h : Fin 2) (d : Fin 128) :
    (OUTat m c t : Vec I S1024x256 .bf16) (ix2 q ⟨h.val * 128 + d.val, by omega⟩)
      = att (aQ m c) (aK m c) (aV m c) (aC m c) (bt t) (hdt t h) (qr t q) d := by
  have hn : (grid0.coords t 2).val < 8 := by rw [coord2 t]; omega
  have hr : ∀ h q j, raw (q7 (iblk m c 1 t) (iblk m c 2 t)) (q12 (iblk m c 1 t) (iblk m c 2 t)) (KKat m c t) h q j ≠ ⊤
      ∧ raw (q7 (iblk m c 1 t) (iblk m c 2 t)) (q12 (iblk m c 1 t) (iblk m c 2 t)) (KKat m c t) h q j ≠ ⊥ := fun h q j => by
    obtain ⟨xq, hQ⟩ := hQ; obtain ⟨xk, hK⟩ := hK; obtain ⟨xc, hC⟩ := hC
    rw [raw_coe m c t h q j xq xk xc hQ hK hC]
    exact ⟨EReal.coe_ne_top _, EReal.coe_ne_bot _⟩
  refine (OUT_apply _ hn _ _ _ _ (fun h q j => (hr h q j).1) (fun h q => (hr h q 0).2) q h d).trans ?_
  rw [msk_eq m c hQ hK hC t h q]
  have v1 : vrow (VTat m c t) h ⟨d.val, by omega⟩ = vl (aV m c) (bt t) (hdt t h) d := funext fun j =>
    (vrow_lo _ h d j).trans (by rw [v_at m c (base t) (rw' j) h d, bt_base, hdt_base]; rfl)
  have v2 : vrow (VTat m c t) h ⟨128 + d.val, by omega⟩ = fun _ => 1 := funext fun j => vrow_hi _ h d j
  rw [v1, v2]
  exact quot_eq (fun j => sc_ne_top hQ hK hC _ _ _ j) (sc_zero_ne_bot hQ hK hC _ _ _) _ (by norm_num)

/-- The result array, given as an array whose entries are the attention's. -/
theorem final (G : Vec I S16384x1024 .bf16)
    (hG : ∀ (b : Fin 2) (i : Fin 8192) (h : Fin 8) (d : Fin 128),
      G (ix2 ⟨b.val * 8192 + i.val, by omega⟩ (cl h d)) = att (aQ m c) (aK m c) (aV m c) (aC m c) b h i d) :
    (dats m 0 c).arrAt 5 cfg0.N = G := by
  refine (dats m 0 c).arrAt_eq_of_cover 5 G (fun t _ => ?_) cover
  show (cfg0.win 5).cut (grid0.coords t) ((dats m 0 c).after 5 t) = _
  rw [after_5]
  have key : (OUTat m c t : Vec I S1024x256 .bf16) = ((win0_5.blk t).view.read (Elt I) G : Vec I S1024x256 .bf16) := by
    funext y
    have ht := lt_64 t
    obtain ⟨q, a, rfl⟩ : ∃ (q : Fin 1024) (a : Fin 256), y = ix2 q a := ⟨y 0, y 1, by funext x; match x with | ⟨0, _⟩ => rfl | ⟨1, _⟩ => rfl⟩
    have ha : a = ⟨(⟨a.val / 128, by omega⟩ : Fin 2).val * 128 + (⟨a.val % 128, by omega⟩ : Fin 128).val, by dsimp only; omega⟩ :=
      Fin.ext (by dsimp only; omega)
    rw [oblk G t q a, ha]
    refine (OUTat_at m c hQ hK hC t q ⟨a.val / 128, by omega⟩ ⟨a.val % 128, by omega⟩).trans ((hG _ _ _ _).symm.trans (congrArg G (congrArg₂ ix2 (Fin.ext ?_) (Fin.ext ?_))))
    · show t.val / 32 * 8192 + (t.val % 8 * 1024 + q.val) = (t.val / 32 * 8 + t.val % 8) * 1024 + q.val; omega
    · show (t.val / 8 % 4 * 2 + a.val / 128) * 128 + a.val % 128 = t.val / 8 % 4 * 256 + (a.val / 128 * 128 + a.val % 128); omega
  exact key

end Cert.KernelIdeal.Fox

end
-- ==== Proof.Fox.Ref.lean ====
/-
  The reference program's result over the extended reals is the attention of its arguments.
-/
module

public import proofs.«01_k».proof.Proof.Gen.ReferenceIdeal.Read
public import proofs.«01_k».proof.Proof.Fox.Math
public import Idealize.ShloMosaic.Lib.Pointwise
public import Idealize.ShloMosaic.Lib.WordCmp

@[expose] public section

set_option maxRecDepth 16384
set_option maxHeartbeats 1000000

noncomputable section

namespace Cert.ReferenceIdeal.Fox

open Idealize.ShloMosaic Idealize.ShloMosaic.TcCoe Idealize.ShloMosaic.WordCmp
open Cert.ReferenceIdeal.Gen Cert.ReferenceIdeal.Read Cert.Fox

local notation "I" => Idealize.ShloMosaic.Ideal

variable (Q K V : (⟨S2x8192x1024, .f32⟩ : BufTy).Contents (Elt I)) (C : (⟨S2x8192x8, .f32⟩ : BufTy).Contents (Elt I))

theorem ix3_eq {n0 n1 n2 : ℕ} (f : (⟨3, ![n0, n1, n2]⟩ : Shape).Idx) (a : Fin n0) (b : Fin n1) (c : Fin n2)
    (h0 : (f 0).val = a.val) (h1 : (f 1).val = b.val) (h2 : (f 2).val = c.val) : f = ix3 a b c :=
  funext fun i => match i with
    | ⟨0, _⟩ => Fin.ext h0
    | ⟨1, _⟩ => Fin.ext h1
    | ⟨2, _⟩ => Fin.ext h2

theorem ix4_eq {n0 n1 n2 n3 : ℕ} (f : (⟨4, ![n0, n1, n2, n3]⟩ : Shape).Idx) (a : Fin n0) (b : Fin n1) (c : Fin n2) (d : Fin n3)
    (h0 : (f 0).val = a.val) (h1 : (f 1).val = b.val) (h2 : (f 2).val = c.val) (h3 : (f 3).val = d.val) : f = ix4 a b c d :=
  funext fun i => match i with
    | ⟨0, _⟩ => Fin.ext h0
    | ⟨1, _⟩ => Fin.ext h1
    | ⟨2, _⟩ => Fin.ext h2
    | ⟨3, _⟩ => Fin.ext h3

/-- Splitting the columns into heads: row `i` of head `h`, column `d`. -/
theorem heads_idx (b : Fin 2) (h : Fin 8) (i : Fin 8192) (d : Fin 128) :
    (((b.val * 8192 + i.val) * 8 + h.val) * 128 + d.val) / 8388608 = b.val
    ∧ (((b.val * 8192 + i.val) * 8 + h.val) * 128 + d.val) / 1024 % 8192 = i.val
    ∧ (((b.val * 8192 + i.val) * 8 + h.val) * 128 + d.val) % 1024 = h.val * 128 + d.val := by
  refine ⟨?_, ?_, ?_⟩ <;> omega

theorem v1_at (b : Fin 2) (h : Fin 8) (i : Fin 8192) (d : Fin 128) : val_main_v1 (F := I) Q (ix4 b h i d) = Q (ix3 b i (cl h d)) := by
  rw [val_main_v1_apply, val_main_v0_apply]
  obtain ⟨e0, e1, e2⟩ := heads_idx b h i d
  exact congrArg Q (ix3_eq _ _ _ _ e0 e1 e2)

theorem v3_at (b : Fin 2) (h : Fin 8) (i : Fin 8192) (d : Fin 128) : val_main_v3 (F := I) K (ix4 b h i d) = K (ix3 b i (cl h d)) := by
  rw [val_main_v3_apply, val_main_v2_apply]
  obtain ⟨e0, e1, e2⟩ := heads_idx b h i d
  exact congrArg K (ix3_eq _ _ _ _ e0 e1 e2)

theorem v5_at (b : Fin 2) (h : Fin 8) (i : Fin 8192) (d : Fin 128) : val_main_v5 (F := I) V (ix4 b h i d) = V (ix3 b i (cl h d)) := by
  rw [val_main_v5_apply, val_main_v4_apply]
  obtain ⟨e0, e1, e2⟩ := heads_idx b h i d
  exact congrArg V (ix3_eq _ _ _ _ e0 e1 e2)

/-- The unmasked score. -/
theorem v17_at (b : Fin 2) (h : Fin 8) (i j : Fin 8192) :
    val_main_v17 (F := I) Q K C (ix4 b h i j)
      = (∑ d : Fin 128, Q (ix3 b i (cl h d)) * K (ix3 b j (cl h d))) * ((1 / Real.sqrt 128 : ℝ) : EReal) + C (ix3 b i h) - C (ix3 b j h) := by
  rw [val_main_v17_apply, val_main_v14_apply, val_main_v11_apply, val_main_v8_apply, val_main_v10_apply, val_main_v9_apply, val_main_cst_apply,
    val_main_v13_apply, val_main_v12_apply, val_main_v6_apply, val_main_v16_apply, val_main_v15_apply, val_main_v6_apply]
  rw [Ideal.hostUnary_sqrt_def, Ideal.ofBits_def, ofBits_128, sqrt_128, Ideal.hostDivf_def, Ideal.div_coe (by positivity), Ideal.addf_def, Ideal.subf_def]
  congr 1
  · congr 1
    · congr 1
      refine Finset.sum_congr rfl fun d _ => ?_
      rw [ix4_eq (lidx_main_v8 (ix4 b h i j) d) b h i d rfl rfl rfl rfl, ix4_eq (ridx_main_v8 (ix4 b h i j) d) b h j d rfl rfl rfl rfl, v1_at, v3_at]
    · exact congrArg C (ix3_eq _ _ _ _ rfl rfl rfl)
  · exact congrArg C (ix3_eq _ _ _ _ rfl rfl rfl)

/-- The masked score. -/
theorem v23_at (b : Fin 2) (h : Fin 8) (i j : Fin 8192) : val_main_v23 (F := I) Q K C (ix4 b h i j) = sc Q K C b h i j.val := by
  rw [val_main_v23_apply, val_main_call0_v1_apply, val_main_v22_apply, val_main_v20_apply, val_main_v18_apply, val_main_v7_apply,
    val_main_v21_apply, val_main_v19_apply, val_main_v7_apply, val_main_call0_v2_apply, val_main_call0_v0_apply, val_main_cst_0_apply,
    v17_at, Ideal.ofBits_def, ofBits_ninf]
  have e : rw' j.val = j := Fin.ext (by show j.val % 8192 = j.val; omega)
  have w : IntOp.cmpi .sle (BitVec.ofNat 32 j.val) (BitVec.ofNat 32 i.val) = BitVec.ofBool (decide (j.val ≤ i.val)) :=
    cmpi_sle_ofNat (by have := j.isLt; omega) (by have := i.isLt; omega)
  have s : ∀ x y : EReal, Scalar.select (BitVec.ofBool (decide (j.val ≤ i.val))) x y = if j.val ≤ i.val then x else y := fun x y => by
    by_cases hj : j.val ≤ i.val <;> simp [hj, Scalar.select]
  unfold sc
  rw [e]
  refine Eq.trans ?_ (s _ _)
  rw [← w]
  rfl

/-- The largest score of a row. -/
theorem v24_at (b : Fin 2) (h : Fin 8) (i : Fin 8192) : val_main_v24 (F := I) Q K C (ix3 b h i) = mx (sc Q K C b h i) 8192 := by
  have e : mx (sc Q K C b h i) 8192 = (Finset.univ : Finset (Fin 8192)).fold max ⊥ fun j => val_main_v23 (F := I) Q K C (ix4 b h i j) := by
    have := mx_add (sc Q K C b h i) 0 8192
    rw [mx_zero, Nat.zero_add, max_eq_right bot_le] at this
    rw [this]
    simp only [v23_at, Nat.zero_add]
  rw [e]
  have c : ∀ x, val_main_cst_1 (F := I) x = ⊥ := fun x => by rw [val_main_cst_1_apply, Ideal.ofBits_def, ofBits_ninf]
  unfold val_main_v24
  generalize val_main_v23 (F := I) Q K C = y
  generalize val_main_cst_1 (F := I) = z at c
  pointwise []
  rw [c]

theorem v28_at (b : Fin 2) (h : Fin 8) (i j : Fin 8192) : val_main_v28 (F := I) Q K C (ix4 b h i j) = mx (sc Q K C b h i) 8192 := by
  rw [val_main_v28_apply, val_main_v27_apply, val_main_v26_apply, val_main_v25_apply, val_main_cst_2_apply, Ideal.ofBits_def, ofBits_ninf,
    ix3_eq (idx_main_v27 (idx_main_v28 (ix4 b h i j))) b h i rfl rfl rfl, v24_at, Ideal.maximumf_def, max_eq_right bot_le]

theorem v30_at (b : Fin 2) (h : Fin 8) (i j : Fin 8192) :
    val_main_v30 (F := I) Q K C (ix4 b h i j) = Ideal.exp (sc Q K C b h i j.val - mx (sc Q K C b h i) 8192) := by
  rw [val_main_v30_apply, val_main_v29_apply, v23_at, v28_at, Ideal.hostUnary_exp_def, Ideal.subf_def]

theorem v33_at (b : Fin 2) (h : Fin 8) (i j : Fin 8192) :
    val_main_v33 (F := I) Q K C (ix4 b h i j) = ∑ k ∈ Finset.range 8192, Ideal.exp (sc Q K C b h i k - mx (sc Q K C b h i) 8192) := by
  rw [val_main_v33_apply, val_main_v32_apply, val_main_v31_apply, val_main_cst_3_apply, Ideal.ofBits_def, Ideal.ofBits_zero_f32, zero_add, Finset.sum_range]
  refine Finset.sum_congr rfl fun k _ => ?_
  rw [ix4_eq (idx_main_v31 (idx_main_v32 (idx_main_v33 (ix4 b h i j))) k) b h i k rfl rfl rfl rfl, v30_at]

/-- The reference's result at row `r` and column `d` of head `h`. -/
theorem v38_at (b : Fin 2) (h : Fin 8) (i : Fin 8192) (d : Fin 128) :
    val_main_v38 (F := I) Q K V C (ix2 ⟨b.val * 8192 + i.val, by omega⟩ (cl h d)) = att Q K V C b h i d := by
  rw [val_main_v38_apply, Ideal.truncf_def, val_main_v37_apply, val_main_v36_apply]
  rw [ix4_eq (idx_main_v36 (idx_main_v37 (ix2 (⟨b.val * 8192 + i.val, by omega⟩ : Fin 16384) (cl h d)))) b h i d
    (by show ((b.val * 8192 + i.val) * 1024 + (h.val * 128 + d.val)) / 8388608 = b.val; omega)
    (by show ((b.val * 8192 + i.val) * 1024 + (h.val * 128 + d.val)) / 128 % 8 = h.val; omega)
    (by show ((b.val * 8192 + i.val) * 1024 + (h.val * 128 + d.val)) / 1024 % 8192 = i.val; omega)
    (by show ((b.val * 8192 + i.val) * 1024 + (h.val * 128 + d.val)) % 128 = d.val; omega)]
  rw [val_main_v35_apply, att, Finset.sum_range]
  refine Finset.sum_congr rfl fun j _ => ?_
  rw [ix4_eq (lidx_main_v35 (ix4 b h i d) j) b h i j rfl rfl rfl rfl, ix4_eq (ridx_main_v35 (ix4 b h i d) j) b h j d rfl rfl rfl rfl,
    val_main_v34_apply, v30_at, v33_at, v5_at, Ideal.hostDivf_def, vl]
  have e : rw' j.val = j := Fin.ext (by show j.val % 8192 = j.val; omega)
  rw [e]

end Cert.ReferenceIdeal.Fox

end
-- ==== Proof.Fox.Pre.lean ====
/-
  What the precondition says: the queries, the keys and the cumulated log gates are real numbers.
-/
module

public import proofs.«01_k».proof.Proof.Gen.Pre_finite
public import proofs.«01_k».proof.Proof.Fox.Math
public import Idealize.ShloMosaic.Lib.Pointwise

@[expose] public section

set_option maxRecDepth 16384
set_option maxHeartbeats 1000000

noncomputable section

namespace Cert.Pre_finite.Fox

open Idealize.ShloMosaic Cert.Fox Cert.Pre_finite Facts

local notation "I" => Idealize.ShloMosaic.Ideal

/-- An extended real whose absolute value compares below ∞ is a real number. -/
theorem real_of_lt {x : EReal} (h : max x (-x) < ⊤) : ∃ r : ℝ, x = r := by
  induction x using EReal.rec with
  | bot => simp at h
  | coe r => exact ⟨r, rfl⟩
  | top => simp at h

theorem real_of_cmp {x : EReal} (h : Ideal.cmp .olt (max x (-x)) ⊤ = 1#1) : ∃ r : ℝ, x = r := by
  refine real_of_lt ?_
  by_contra hn
  simp [Ideal.cmp, hn] at h

variable [Facts] (Q K V : SQ.Idx → EReal) (C : SC.Idx → EReal)

theorem fn_at (b : Fin 2) (i : Fin 8192) (a : Fin 2056) :
    fn (F := I) Q K V C (ix3 b i a)
      = Ideal.cmp .olt (max (if h : a.val < 1024 then Q (ix3 b i ⟨a.val, h⟩) else if h : a.val < 2048 then K (ix3 b i ⟨a.val - 1024, by omega⟩) else C (ix3 b i ⟨a.val - 2048, by omega⟩))
          (-(if h : a.val < 1024 then Q (ix3 b i ⟨a.val, h⟩) else if h : a.val < 2048 then K (ix3 b i ⟨a.val - 1024, by omega⟩) else C (ix3 b i ⟨a.val - 2048, by omega⟩)))) ⊤ := by
  rw [← ofBits_inf]
  pointwise [fn]
  have e : (if h : a.val < 1024 then Q (ix3 b i ⟨a.val, h⟩) else if h : a.val - 1024 < 1024 then K (ix3 b i ⟨a.val - 1024, h⟩) else C (ix3 b i ⟨a.val - 1024 - 1024, by omega⟩))
      = (if h : a.val < 1024 then Q (ix3 b i ⟨a.val, h⟩) else if h : a.val < 2048 then K (ix3 b i ⟨a.val - 1024, by omega⟩) else C (ix3 b i ⟨a.val - 2048, by omega⟩)) := by
    by_cases h1 : a.val < 1024
    · rw [dif_pos h1, dif_pos h1]
    by_cases h2 : a.val < 2048
    · rw [dif_neg h1, dif_neg h1, dif_pos (by omega), dif_pos h2]
    · rw [dif_neg h1, dif_neg h1, dif_neg (by omega), dif_neg h2]
      exact congrArg (fun z => C (ix3 b i z)) (Fin.ext (by dsimp only; omega))
  rw [← e]
  rfl

/-- Under the precondition the queries, the keys and the gates are real. -/
theorem reals (h : fn (F := I) Q K V C = fun _ => 1#1) : Fin' Q ∧ Fin' K ∧ Fin' C := by
  have hx : ∀ (b : Fin 2) (i : Fin 8192) (a : Fin 2056), _ := fun b i a =>
    real_of_cmp ((fn_at Q K V C b i a).symm.trans (congrFun h (ix3 b i a)))
  have mk : ∀ {n : ℕ} (X : (⟨3, ![2, 8192, n]⟩ : Shape).Idx → EReal), (∀ (b : Fin 2) (i : Fin 8192) (a : Fin n), ∃ r : ℝ, X (ix3 b i a) = r) → Fin' X :=
    fun X hX => by
      choose f hf using hX
      refine ⟨fun z => f (z 0) (z 1) (z 2), funext fun z => ?_⟩
      have hz : z = ix3 (z 0) (z 1) (z 2) := by funext x; match x with | ⟨0, _⟩ => rfl | ⟨1, _⟩ => rfl | ⟨2, _⟩ => rfl
      exact (congrArg X hz).trans (hf _ _ _)
  refine ⟨mk Q fun b i a => ?_, mk K fun b i a => ?_, mk C fun b i a => ?_⟩
  · obtain ⟨r, hr⟩ := hx b i ⟨a.val, by omega⟩
    exact ⟨r, by rw [← hr, dif_pos a.isLt]⟩
  · obtain ⟨r, hr⟩ := hx b i ⟨1024 + a.val, by omega⟩
    refine ⟨r, ?_⟩
    rw [← hr, dif_neg (by dsimp only; omega), dif_pos (by dsimp only; omega)]
    exact congrArg (fun z => K (ix3 b i z)) (Fin.ext (by dsimp only; omega))
  · obtain ⟨r, hr⟩ := hx b i ⟨2048 + a.val, by omega⟩
    refine ⟨r, ?_⟩
    rw [← hr, dif_neg (by dsimp only; omega), dif_neg (by dsimp only; omega)]
    exact congrArg (fun z => C (ix3 b i z)) (Fin.ext (by dsimp only; omega))

end Cert.Pre_finite.Fox

end
-- ==== Proof.Inproj.Body.lean ====
/-
  The combined projection's body, run at the first point of a row block and at the others.
-/
module

public import proofs.«01_k».proof.Proof.Gen.Kernel2Ideal.Frame
public import proofs.«01_k».proof.Proof.Gen.Kernel2Ideal.Skeleton
public import Idealize.ShloMosaic.Lib.Exec
public import Idealize.ShloMosaic.Lib.VecWindow

@[expose] public section

set_option maxRecDepth 16384
set_option maxHeartbeats 1000000

noncomputable section

namespace Cert.Kernel2Ideal.Inproj

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel2Ideal.Gen

variable {F : FTy → Type} [FloatOps F]

local notation "𝕄" => MT nD τ sig Unit (Elt F) ℕ (UR sig nD τ) ℕ

/-- A load of a whole buffer reads what is in it. -/
theorem ld {s : Shape} {e : EltTy} (a : Memref sig .tc .vmem s e) (h : a.IsWhole) (x : s.Idx → Elt F e) {off : Fin s.rank → ℕ} (inb : ∀ k, off k + s.size k ≤ s.size k) :
    a.view.readAt (Elt F) (Rect.unit off s.size inb).toLoadRect (h.unread x) = x :=
  (View.readAt_full _ _ inb).trans (h.read_unread _)

theorem pay1_congr {a a' b b' : FVec F S512x128 .f32} (ha : a = a') (hb : b = b') : k0_pay1 a b = k0_pay1 a' b' := by rw [ha, hb]
theorem pay2_congr {a a' : Vec F S512x2048 .bf16} {b b' : Vec F S1x2048x2944 .bf16} {d d' : Vec F S1x1x2944 .f32} (ha : a = a') (hb : b = b') (hd : d = d') :
    k0_pay2 a b d = k0_pay2 a' b' d' := by rw [ha, hb, hd]
theorem pay4_congr {a a' : Vec F S512x2048 .f32} {b b' : Vec F S1x2048 .f32} {d d' e e' : Vec F S1x1x2048 .f32} (ha : a = a') (hb : b = b') (hd : d = d') (he : e = e') :
    k0_pay4 a b d e = k0_pay4 a' b' d' e' := by rw [ha, hb, hd, he]
theorem pay5_congr {a a' : Vec F S512x2048 .f32} {b b' : Vec F S1x2048 .f32} {d d' e e' : Vec F S1x1x2048 .f32} {w w' : Vec F S1x2048x128 .bf16} (ha : a = a') (hb : b = b') (hd : d = d') (he : e = e') (hw : w = w') :
    k0_pay5 a b d e w = k0_pay5 a' b' d' e' w' := by rw [ha, hb, hd, he, hw]

/-- At the first point of a row block: the modulated norm goes to the scratch, the narrow projection to its window. -/
theorem runA (c : Dev nD) (i : grid0.Coords) (arg2 : Memref sig .tc .vmem S512x2048 .f32) (harg2 : arg2.IsWhole) (arg3 : Memref sig .tc .vmem S1x2048 .f32) (harg3 : arg3.IsWhole) (arg4 : Memref sig .tc .vmem S1x1x2048 .f32) (harg4 : arg4.IsWhole) (arg5 : Memref sig .tc .vmem S1x1x2048 .f32) (harg5 : arg5.IsWhole) (arg6 : Memref sig .tc .vmem S1x2048x2944 .bf16) (harg6 : arg6.IsWhole) (arg7 : Memref sig .tc .vmem S1x1x2944 .f32) (harg7 : arg7.IsWhole) (arg8 : Memref sig .tc .vmem S1x2048x128 .bf16) (harg8 : arg8.IsWhole) (arg9 : Memref sig .tc .vmem S1x1x128 .f32) (harg9 : arg9.IsWhole) (arg10 : Memref sig .tc .vmem S512x2944 .bf16) (harg10 : arg10.IsWhole) (arg11 : Memref sig .tc .vmem S512x128 .f32) (harg11 : arg11.IsWhole) (arg12 : Memref sig .tc .vmem S512x2048 .bf16) (harg12 : arg12.IsWhole) (hc0 : k0_cond1 i = 1#1)
    (x0 : Vec F S512x2048 .f32) (x1 : Vec F S1x2048 .f32) (x2 : Vec F S1x1x2048 .f32) (x3 : Vec F S1x1x2048 .f32) (x4 : Vec F S1x2048x2944 .bf16) (x5 : Vec F S1x1x2944 .f32) (x6 : Vec F S1x2048x128 .bf16) (x7 : Vec F S1x1x128 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ (∃ d, owns (c : Thread nD τ) arg11 fullShare d) ∗ (∃ d, owns (c : Thread nD τ) arg12 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare (k0_pay2 (k0_pay4 x0 x1 x2 x3) x4 x5) ∗ owns (c : Thread nD τ) arg11 fullShare (k0_pay1 (k0_pay5 x0 x1 x2 x3 x6) (k0_pay6 x7)) ∗ owns (c : Thread nD τ) arg12 fullShare (k0_pay4 x0 x1 x2 x3)) -∗ K ⟨⟩))
      ⊢ wp frame (wpE (defs₀ (F := F)) Variants.none c none) E (cc0_inproj i arg2 harg2 arg3 harg3 arg4 harg4 arg5 harg5 arg6 harg6 arg7 harg7 arg8 harg8 arg9 harg9 arg10 harg10 arg11 harg11 arg12 harg12) K := by
  simp only [cc0_inproj_eq_skeleton]; unfold cc0_inproj_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, Hk⟩
  obtain rfl := harg2.eq_unread hf0
  obtain rfl := harg3.eq_unread hf1
  obtain rfl := harg4.eq_unread hf2
  obtain rfl := harg5.eq_unread hf3
  obtain rfl := harg6.eq_unread hf4
  obtain rfl := harg7.eq_unread hf5
  obtain rfl := harg8.eq_unread hf6
  obtain rfl := harg9.eq_unread hf7
  sl_exec (disch := first | sl_exact hc0)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [H8]
  · iexists _; isplitr; swap; · iexact H8
    ipureintro; refine (View.read_writes_full _ _ _ _ []).trans (pay2_congr ((View.readAt_writes_full _ _ _ _ _ _).trans (pay4_congr (ld arg2 harg2 _ _) (ld arg3 harg3 _ _) (ld arg4 harg4 _ _) (ld arg5 harg5 _ _))) (ld arg6 harg6 _ _) (ld arg7 harg7 _ _))
  isplitl [H9]
  · iexists _; isplitr; swap; · iexact H9
    ipureintro; refine (View.read_writes_full _ _ _ _ []).trans (pay1_congr (pay5_congr (ld arg2 harg2 _ _) (ld arg3 harg3 _ _) (ld arg4 harg4 _ _) (ld arg5 harg5 _ _) (ld arg8 harg8 _ _)) (congrArg k0_pay6 (ld arg9 harg9 _ _)))
  iexists _; isplitr; swap; · iexact H10
  ipureintro; refine (View.read_writes_full _ _ _ _ []).trans (pay4_congr (ld arg2 harg2 _ _) (ld arg3 harg3 _ _) (ld arg4 harg4 _ _) (ld arg5 harg5 _ _))

/-- At the other points: only the wide window is stored, from the scratch as it stands. -/
theorem runB (c : Dev nD) (i : grid0.Coords) (arg2 : Memref sig .tc .vmem S512x2048 .f32) (harg2 : arg2.IsWhole) (arg3 : Memref sig .tc .vmem S1x2048 .f32) (harg3 : arg3.IsWhole) (arg4 : Memref sig .tc .vmem S1x1x2048 .f32) (harg4 : arg4.IsWhole) (arg5 : Memref sig .tc .vmem S1x1x2048 .f32) (harg5 : arg5.IsWhole) (arg6 : Memref sig .tc .vmem S1x2048x2944 .bf16) (harg6 : arg6.IsWhole) (arg7 : Memref sig .tc .vmem S1x1x2944 .f32) (harg7 : arg7.IsWhole) (arg8 : Memref sig .tc .vmem S1x2048x128 .bf16) (harg8 : arg8.IsWhole) (arg9 : Memref sig .tc .vmem S1x1x128 .f32) (harg9 : arg9.IsWhole) (arg10 : Memref sig .tc .vmem S512x2944 .bf16) (harg10 : arg10.IsWhole) (arg11 : Memref sig .tc .vmem S512x128 .f32) (harg11 : arg11.IsWhole) (arg12 : Memref sig .tc .vmem S512x2048 .bf16) (harg12 : arg12.IsWhole) (hc0 : ¬ k0_cond1 i = 1#1)
    (x0 : Vec F S512x2048 .f32) (x1 : Vec F S1x2048 .f32) (x2 : Vec F S1x1x2048 .f32) (x3 : Vec F S1x1x2048 .f32) (x4 : Vec F S1x2048x2944 .bf16) (x5 : Vec F S1x1x2944 .f32) (x6 : Vec F S1x2048x128 .bf16) (x7 : Vec F S1x1x128 .f32) (z : Vec F S512x128 .f32) (h : Vec F S512x2048 .bf16) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ owns (c : Thread nD τ) arg11 fullShare z ∗ owns (c : Thread nD τ) arg12 fullShare h
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare (k0_pay2 h x4 x5) ∗ owns (c : Thread nD τ) arg11 fullShare z ∗ owns (c : Thread nD τ) arg12 fullShare h) -∗ K ⟨⟩))
      ⊢ wp frame (wpE (defs₀ (F := F)) Variants.none c none) E (cc0_inproj i arg2 harg2 arg3 harg3 arg4 harg4 arg5 harg5 arg6 harg6 arg7 harg7 arg8 harg8 arg9 harg9 arg10 harg10 arg11 harg11 arg12 harg12) K := by
  simp only [cc0_inproj_eq_skeleton]; unfold cc0_inproj_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%f9, %hf9, H9⟩, ⟨%f10, %hf10, H10⟩, Hk⟩
  obtain rfl := harg2.eq_unread hf0
  obtain rfl := harg3.eq_unread hf1
  obtain rfl := harg4.eq_unread hf2
  obtain rfl := harg5.eq_unread hf3
  obtain rfl := harg6.eq_unread hf4
  obtain rfl := harg7.eq_unread hf5
  obtain rfl := harg8.eq_unread hf6
  obtain rfl := harg9.eq_unread hf7
  obtain rfl := harg11.eq_unread hf9
  obtain rfl := harg12.eq_unread hf10
  sl_exec (disch := first | sl_exact hc0)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [H8]
  · iexists _; isplitr; swap; · iexact H8
    ipureintro; refine (View.read_writes_full _ _ _ _ []).trans (pay2_congr (ld arg12 harg12 _ _) (ld arg6 harg6 _ _) (ld arg7 harg7 _ _))
  isplitl [H9]
  · iexists _; isplitr; · ipureintro; exact harg11.read_unread _
    iexact H9
  iexists _; isplitr; · ipureintro; exact harg12.read_unread _
  iexact H10

end Cert.Kernel2Ideal.Inproj

end
-- ==== Proof.Inproj.Run.lean ====
/-
  The combined projection run over its grid: what each point leaves, and the launch.
-/
module

public import proofs.«01_k».proof.Proof.Inproj.Body
public import Idealize.ShloMosaic.Lib.Claim

@[expose] public section

set_option maxRecDepth 16384

noncomputable section

namespace Cert.Kernel2Ideal.Inproj

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel2Ideal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The norm runs at the points divisible by four. -/
theorem firsts : ∀ t : Fin cfg0.N, k0_cond1 (grid0.coords t) = 1#1 ↔ t.val % 4 = 0 :=
  (fun t => by
    have ht : t.val < 128 := Nat.lt_of_lt_of_eq t.isLt N_0
    have e1 : (grid0.coords t 1).val = t.val / 1 % 4 := Pipeline.Grid.coords_val t 1 (by decide) rfl
    simp only [k0_cond1, e1]
    word_cmp
   : ∀ t : Fin grid0.N, k0_cond1 (grid0.coords t) = 1#1 ↔ t.val % 4 = 0)

abbrev st0 (t : Fin cfg0.N) : Memref sig .tc .vmem S512x2048 .f32 := win0_0.stage (cfg0.slots t 0)
abbrev ht0 (t : Fin cfg0.N) : (st0 t).IsWhole := hstage0_0 ((cfg0.slots t 0).cast nbuf0_0)
abbrev st1 (t : Fin cfg0.N) : Memref sig .tc .vmem S1x2048 .f32 := win0_1.stage (cfg0.slots t 1)
abbrev ht1 (t : Fin cfg0.N) : (st1 t).IsWhole := hstage0_1 ((cfg0.slots t 1).cast nbuf0_1)
abbrev st2 (t : Fin cfg0.N) : Memref sig .tc .vmem S1x1x2048 .f32 := win0_2.stage (cfg0.slots t 2)
abbrev ht2 (t : Fin cfg0.N) : (st2 t).IsWhole := hstage0_2 ((cfg0.slots t 2).cast nbuf0_2)
abbrev st3 (t : Fin cfg0.N) : Memref sig .tc .vmem S1x1x2048 .f32 := win0_3.stage (cfg0.slots t 3)
abbrev ht3 (t : Fin cfg0.N) : (st3 t).IsWhole := hstage0_3 ((cfg0.slots t 3).cast nbuf0_3)
abbrev st4 (t : Fin cfg0.N) : Memref sig .tc .vmem S1x2048x2944 .bf16 := win0_4.stage (cfg0.slots t 4)
abbrev ht4 (t : Fin cfg0.N) : (st4 t).IsWhole := hstage0_4 ((cfg0.slots t 4).cast nbuf0_4)
abbrev st5 (t : Fin cfg0.N) : Memref sig .tc .vmem S1x1x2944 .f32 := win0_5.stage (cfg0.slots t 5)
abbrev ht5 (t : Fin cfg0.N) : (st5 t).IsWhole := hstage0_5 ((cfg0.slots t 5).cast nbuf0_5)
abbrev st6 (t : Fin cfg0.N) : Memref sig .tc .vmem S1x2048x128 .bf16 := win0_6.stage (cfg0.slots t 6)
abbrev ht6 (t : Fin cfg0.N) : (st6 t).IsWhole := hstage0_6 ((cfg0.slots t 6).cast nbuf0_6)
abbrev st7 (t : Fin cfg0.N) : Memref sig .tc .vmem S1x1x128 .f32 := win0_7.stage (cfg0.slots t 7)
abbrev ht7 (t : Fin cfg0.N) : (st7 t).IsWhole := hstage0_7 ((cfg0.slots t 7).cast nbuf0_7)
abbrev st8 (t : Fin cfg0.N) : Memref sig .tc .vmem S512x2944 .bf16 := win0_8.stage (cfg0.slots t 8)
abbrev ht8 (t : Fin cfg0.N) : (st8 t).IsWhole := hstage0_8 ((cfg0.slots t 8).cast nbuf0_8)
abbrev st9 (t : Fin cfg0.N) : Memref sig .tc .vmem S512x128 .f32 := win0_9.stage (cfg0.slots t 9)
abbrev ht9 (t : Fin cfg0.N) : (st9 t).IsWhole := hstage0_9 ((cfg0.slots t 9).cast nbuf0_9)
abbrev sc0 : Memref sig .tc .vmem S512x2048 .bf16 := Memref.whole cc0_scratch0

/-- The launch's invariant with the scratch as a memref owned at some contents. -/
theorem PhiA_eq (c : Dev nD) :
    (Pipeline.ΦA spec0 c : sProp 𝕄) = iprop((∃ d, owns (c : Thread nD τ) sc0 fullShare d) ∗ (∃ r, prngReg c r)) := by
  unfold Pipeline.ΦA; rw [scopedRest0_eq]; simp only [sc0, owns_whole]; try rfl

/-- The first point of the row block a point lies in. -/
def base (t : Fin cfg0.N) : Fin cfg0.N := ⟨t.val / 4 * 4, by have h := t.isLt; omega⟩

/-- The modulated norm of a point's row block. -/
def Hat (c : Dev nD) (t : Fin cfg0.N) : Vec F S512x2048 .bf16 :=
  k0_pay4 (iblk m c 0 (base t)) (iblk m c 1 (base t)) (iblk m c 2 (base t)) (iblk m c 3 (base t))

/-- The wide window after a point. -/
def Zat (c : Dev nD) (t : Fin cfg0.N) : Vec F S512x2944 .bf16 := k0_pay2 (Hat m c t) (iblk m c 4 t) (iblk m c 5 t)

/-- The narrow window after a point. -/
def Sat (c : Dev nD) (t : Fin cfg0.N) : Vec F S512x128 .f32 :=
  k0_pay1 (k0_pay5 (iblk m c 0 (base t)) (iblk m c 1 (base t)) (iblk m c 2 (base t)) (iblk m c 3 (base t)) (iblk m c 6 (base t))) (k0_pay6 (iblk m c 7 (base t)))

theorem base_first (t : Fin cfg0.N) (h : t.val % 4 = 0) : base t = t := Fin.ext (by show t.val / 4 * 4 = t.val; omega)
theorem base_pred (t : Fin cfg0.N) (h : ¬ t.val % 4 = 0) (hp : t.val - 1 < cfg0.N) : base ⟨t.val - 1, hp⟩ = base t :=
  Fin.ext (by show (t.val - 1) / 4 * 4 = t.val / 4 * 4; omega)

/-- The invariant before point `n`. -/
def PhiS (c : Dev nD) : (n : ℕ) → n ≤ cfg0.N → sProp 𝕄
  | 0, _ => Pipeline.ΦA spec0 c
  | n + 1, h => iprop(owns (c : Thread nD τ) sc0 fullShare (Hat m c ⟨n, by omega⟩) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (h : n + 1 ≤ cfg0.N) : PhiS m c (n + 1) h = iprop(owns (c : Thread nD τ) sc0 fullShare (Hat m c ⟨n, by omega⟩) ∗ (∃ r, prngReg c r)) := rfl

theorem PhiS_pos (c : Dev nD) (n : ℕ) (h : n ≤ cfg0.N) (hz : n ≠ 0) : PhiS m c n h = iprop(owns (c : Thread nD τ) sc0 fullShare (Hat m c ⟨n - 1, by omega⟩) ∗ (∃ r, prngReg c r)) := by
  cases n with
  | zero => exact absurd rfl hz
  | succ n => rfl

/-- The proof data: inputs keep their blocks, the output windows hold what is named. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => Zat m c t
    | ⟨9, _⟩ => Sat m c t
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = Zat m c t := by dsimp only [dats]
theorem after_9 (c : Dev nD) (t : Fin cfg0.N) : (dats m 0 c).after 9 t = Sat m c t := by dsimp only [dats]
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d
theorem before_7 (c : Dev nD) (t : Fin cfg0.N) (d) : (dats m 0 c).before 7 t d = iblk m c 7 t :=
  before0_7_of m (dats m 0 c) (A_eq m c 7) (after_7 m c) t d

theorem idle9 (t : Fin cfg0.N) : cfg0.idle 9 (cfg0.grid.coords t) = !(k0_cond1 (grid0.coords t) == 1#1) := rfl

theorem idle9_first (t : Fin cfg0.N) (h : t.val % 4 = 0) : cfg0.idle 9 (cfg0.grid.coords t) = false := by
  rw [idle9, (firsts t).mpr h]; rfl

theorem idle9_later (t : Fin cfg0.N) (h : ¬ t.val % 4 = 0) : cfg0.idle 9 (cfg0.grid.coords t) = true := by
  rw [idle9, beq_eq_false_iff_ne.mpr (fun e => h ((firsts t).mp e))]; rfl

theorem flush9_false (t : Fin cfg0.N) (h : ¬ t.val % 4 = 3) : (cfg0.win 9).flush t = false :=
  Bool.eq_false_iff.mpr fun hf => h ((flush0_9 t).mp hf)

/-- Off the first point of a row block the narrow window still holds what the first point left. -/
theorem before_9_aux (c : Dev nD) : ∀ (n : ℕ) (hn : n < cfg0.N) (_ : ¬ n % 4 = 0) (d), (dats m 0 c).before 9 ⟨n, hn⟩ d = Sat m c ⟨n, hn⟩
  | 0, _, h, _ => absurd rfl h
  | n + 1, hn, h, d => by
    have hp : n < cfg0.N := Nat.lt_of_succ_lt hn
    have eS : Sat m c ⟨n, hp⟩ = Sat m c ⟨n + 1, hn⟩ := by
      unfold Sat; rw [show base ⟨n, hp⟩ = base ⟨n + 1, hn⟩ from base_pred ⟨n + 1, hn⟩ h hp]
    rw [(dats m 0 c).before_of_pos 9 ⟨n + 1, hn⟩ (Nat.succ_ne_zero n) ((cfg0.win 9).fetch_out rfl _) d]
    rw [show (⟨(⟨n + 1, hn⟩ : Fin cfg0.N).val - 1, Nat.lt_of_le_of_lt (Nat.sub_le _ _) hn⟩ : Fin cfg0.N) = ⟨n, hp⟩ from rfl,
      flush9_false ⟨n, hp⟩ (by show ¬ n % 4 = 3; omega), if_neg Bool.false_ne_true]
    unfold Dat.left
    by_cases h0 : n % 4 = 0
    · rw [idle9_first ⟨n, hp⟩ h0]
      show (dats m 0 c).kept 9 ⟨n, hp⟩ d = _
      unfold Dat.kept
      rw [Pipeline.fill_of_clip_none 9 _ (fun _ => rfl) d ((dats m 0 c).after 9 _), Window.fill_cut, after_9, eS]
    · rw [idle9_later ⟨n, hp⟩ h0]
      show (dats m 0 c).before 9 ⟨n, hp⟩ d = _
      rw [before_9_aux c n hp h0 d, eS]

theorem before_9 (c : Dev nD) (t : Fin cfg0.N) (h : ¬ t.val % 4 = 0) (d) : (dats m 0 c).before 9 t d = Sat m c t :=
  before_9_aux m c t.val t.isLt h d

/-- The narrow window at what it holds is what the loop asks of it after a point. -/
theorem leaves_9 (c : Dev nD) (t : Fin cfg0.N) :
    (owns (c : Thread nD τ) (st9 t) fullShare (Sat m c t) : sProp 𝕄) ⊢ (dats m 0 c).leavesExact 9 t := by
  by_cases h : t.val % 4 = 0
  · unfold Dat.leavesExact
    rw [idle9_first t h]
    show _ ⊢ owns (c : Thread nD τ) (st9 t) fullShare ((dats m 0 c).after 9 t)
    rw [after_9]
  · by_cases h3 : t.val % 4 = 3
    · unfold Dat.leavesExact
      rw [idle9_later t h, (flush0_9 t).mpr h3]
      show _ ⊢ owns (c : Thread nD τ) (st9 t) fullShare ((dats m 0 c).after 9 t)
      rw [after_9]
    · rw [(dats m 0 c).leavesExact_idle 9 t (idle9_later t h) (flush9_false t h3)]
      iintro H
      iexists (Sat m c t)
      rw [before_9 m c t h]
      iexact H

/-- What the body is called with at a point. -/
def bodyPre (c : Dev nD) (t : Fin cfg0.N) : sProp 𝕄 :=
  iprop((dats m 0 c).Φ t.castSucc ∗ (dats m 0 c).owesAt () t.castSucc
    ∗ (∃ d, owns (c : Thread nD τ) (st0 t) fullShare ((dats m 0 c).before 0 t d))
    ∗ (∃ d, owns (c : Thread nD τ) (st1 t) fullShare ((dats m 0 c).before 1 t d))
    ∗ (∃ d, owns (c : Thread nD τ) (st2 t) fullShare ((dats m 0 c).before 2 t d))
    ∗ (∃ d, owns (c : Thread nD τ) (st3 t) fullShare ((dats m 0 c).before 3 t d))
    ∗ (∃ d, owns (c : Thread nD τ) (st4 t) fullShare ((dats m 0 c).before 4 t d))
    ∗ (∃ d, owns (c : Thread nD τ) (st5 t) fullShare ((dats m 0 c).before 5 t d))
    ∗ (∃ d, owns (c : Thread nD τ) (st6 t) fullShare ((dats m 0 c).before 6 t d))
    ∗ (∃ d, owns (c : Thread nD τ) (st7 t) fullShare ((dats m 0 c).before 7 t d))
    ∗ (∃ d, owns (c : Thread nD τ) (st8 t) fullShare ((dats m 0 c).before 8 t d))
    ∗ (∃ d, owns (c : Thread nD τ) (st9 t) fullShare ((dats m 0 c).before 9 t d)))

/-- What it returns. -/
def bodyPost (c : Dev nD) (t : Fin cfg0.N) : sProp 𝕄 :=
  iprop((dats m 0 c).Φ t.succ ∗ (dats m 0 c).owesAt () t.succ
    ∗ owns (c : Thread nD τ) (st0 t) fullShare ((dats m 0 c).after 0 t)
    ∗ owns (c : Thread nD τ) (st1 t) fullShare ((dats m 0 c).after 1 t)
    ∗ owns (c : Thread nD τ) (st2 t) fullShare ((dats m 0 c).after 2 t)
    ∗ owns (c : Thread nD τ) (st3 t) fullShare ((dats m 0 c).after 3 t)
    ∗ owns (c : Thread nD τ) (st4 t) fullShare ((dats m 0 c).after 4 t)
    ∗ owns (c : Thread nD τ) (st5 t) fullShare ((dats m 0 c).after 5 t)
    ∗ owns (c : Thread nD τ) (st6 t) fullShare ((dats m 0 c).after 6 t)
    ∗ owns (c : Thread nD τ) (st7 t) fullShare ((dats m 0 c).after 7 t)
    ∗ owns (c : Thread nD τ) (st8 t) fullShare ((dats m 0 c).after 8 t)
    ∗ (dats m 0 c).leavesExact 9 t)

set_option maxHeartbeats 6400000 in
/-- The body at any point of the grid. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7]
  rw [show (dats m 0 c).owesAt () t.succ = (dats m 0 c).owesAt () t.castSucc from rfl,
    after_0, after_1, after_2, after_3, after_4, after_5, after_6, after_7, after_8]
  rw [show (dats m 0 c).Φ t.succ = PhiS m c (t.val + 1) t.isLt from rfl, PhiS_succ]
  rw [show (⟨t.val, by omega⟩ : Fin cfg0.N) = t from rfl]
  have hN : t.val < 128 := lt_of_lt_of_eq t.isLt (show cfg0.N = 128 from N_0)
  by_cases h0 : t.val % 4 = 0
  · have eH : Hat m c t = k0_pay4 (iblk m c 0 t) (iblk m c 1 t) (iblk m c 2 t) (iblk m c 3 t) := by unfold Hat; rw [base_first t h0]
    have eS : Sat m c t = k0_pay1 (k0_pay5 (iblk m c 0 t) (iblk m c 1 t) (iblk m c 2 t) (iblk m c 3 t) (iblk m c 6 t)) (k0_pay6 (iblk m c 7 t)) := by unfold Sat; rw [base_first t h0]
    have fin9 := leaves_9 m c t
    unfold Zat
    rw [eS] at fin9
    rw [eH]
    by_cases hz : t.val = 0
    · rw [PhiS_castSucc m c t, PhiS_zero m c _ _ hz, PhiA_eq]
      iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply (runA c (grid0.coords t) _ _ _ _ _ _ _ _ _ _ _ _ _ _ _ _ _ _ _ _ _ _ ((firsts t).mpr h0) (iblk m c 0 t) (iblk m c 1 t) (iblk m c 2 t) (iblk m c 3 t) (iblk m c 4 t) (iblk m c 5 t) (iblk m c 6 t) (iblk m c 7 t) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [H9]; · iexists _; iexact H9
      isplitl [HS]; · iexact HS
      iintro ⟨H0, H1, H2, H3, H4, H5, H6, H7, H8, H9, HS⟩
      isplitl [HS Hg]
      · isplitl [HS]; · iexact HS
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      iapply fin9
      iexact H9
    · rw [PhiS_castSucc m c t, PhiS_pos m c _ _ hz]
      iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply (runA c (grid0.coords t) _ _ _ _ _ _ _ _ _ _ _ _ _ _ _ _ _ _ _ _ _ _ ((firsts t).mpr h0) (iblk m c 0 t) (iblk m c 1 t) (iblk m c 2 t) (iblk m c 3 t) (iblk m c 4 t) (iblk m c 5 t) (iblk m c 6 t) (iblk m c 7 t) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [H9]; · iexists _; iexact H9
      isplitl [HS]; · iexists _; iexact HS
      iintro ⟨H0, H1, H2, H3, H4, H5, H6, H7, H8, H9, HS⟩
      isplitl [HS Hg]
      · isplitl [HS]; · iexact HS
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      iapply fin9
      iexact H9
  · have hz : t.val ≠ 0 := by omega
    rw [PhiS_castSucc m c t, PhiS_pos m c _ _ hz]
    have eH : Hat m c ⟨t.val - 1, by omega⟩ = Hat m c t := by unfold Hat; rw [base_pred t h0]
    have fin9 := leaves_9 m c t
    unfold Zat
    rw [eH]
    simp only [before_9 m c t h0]
    iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply (runB c (grid0.coords t) _ _ _ _ _ _ _ _ _ _ _ _ _ _ _ _ _ _ _ _ _ _ (fun h => h0 ((firsts t).mp h)) (iblk m c 0 t) (iblk m c 1 t) (iblk m c 2 t) (iblk m c 3 t) (iblk m c 4 t) (iblk m c 5 t) (iblk m c 6 t) (iblk m c 7 t) (Sat m c t) (Hat m c t) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexact H9
    isplitl [HS]; · iexact HS
    iintro ⟨H0, H1, H2, H3, H4, H5, H6, H7, H8, H9, HS⟩
    isplitl [HS Hg]
    · isplitl [HS]; · iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iapply fin9
    iexact H9

theorem defs₀_row (t : Fin cfg0.N) :
    defs₀ (F := F) .tc cfg0.body (cfg0.bodyArgs t (cfg0.slots t)) = bodyAt0 t := by
  unfold defs₀; rw [Defs.onTc_tc]

/-- The body obligation at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = PhiS m c 0 (Nat.zero_le _) from rfl, PhiS_zero m c 0 _ rfl]

theorem hout (c : Dev nD) : (dats m 0 c).Φ (Fin.last cfg0.N) ⊢ Pipeline.ΦA spec0 c := by
  have hN : cfg0.N = 128 := N_0
  rw [show (dats m 0 c).Φ (Fin.last cfg0.N) = PhiS m c cfg0.N le_rfl from rfl, PhiS_pos m c _ _ (by omega), PhiA_eq]
  iintro ⟨HS, Hg⟩
  isplitl [HS]
  · iexists _; iexact HS
  iexact Hg

set_option backward.isDefEq.respectTransparency.types false in
/-- The launch: every final state holds the proof data's arrays, every counter zero. -/
theorem run_main : θ_run defs (onTc (τ := τ) (main (F := F))) (s₀ m ρ)
    (fun r => Pipeline.FramePost cfgs (dats m) 0 (V m) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The kernel leaves its arguments as they were and every counter zero. -/
theorem frame : θ_run defs (onTc (τ := τ) (main (F := F))) ⟨m, fun _ => 0, ρ⟩ (fun r => (∀ c : Dev nD,
r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (frame_of m ρ (dats m) (A_eq m) ((θ_run defs _ _).mono (fun _ h => h.1) (run_main m ρ)))
    ((θ_run defs _ _).mono (fun _ h => h.2) (run_main m ρ))

end Cert.Kernel2Ideal.Inproj

end
-- ==== Proof.Inproj.Blk.lean ====
/-
  The combined projection's blocks, read in the arrays they are blocks of.
-/
module

public import proofs.«01_k».proof.Proof.Gen.Kernel2Ideal.Frame
public import Idealize.ShloMosaic.Lib.Pointwise
public import Idealize.ShloMosaic.Lib.VecWindow

@[expose] public section

set_option maxRecDepth 16384
set_option maxHeartbeats 1000000

noncomputable section

namespace Cert.Kernel2Ideal.Inproj

open Idealize.ShloMosaic Idealize.ShloMosaic.TcCoe Idealize.SL.Sem
open Cert.Kernel2Ideal.Gen

variable {F : FTy → Type} [FloatOps F] (m : (ℓ : Loc nD τ sig) → Buf (Elt F) ℓ)

/-- A point of the grid is below a hundred and twenty-eight. -/
theorem lt_128 (t : Fin cfg0.N) : t.val < 128 := Nat.lt_of_lt_of_eq t.isLt N_0

theorem index_0 : ∀ t : Fin cfg0.N, win0_0.index t 0 = t.val / 4 ∧ win0_0.index t 1 = 0 := by decide +kernel

theorem iblk_0 (c : Dev nD) (t : Fin cfg0.N) (r : Fin 512) (n : Fin 2048) :
    (iblk m c 0 t : Vec F S512x2048 .f32) (ix2 r n) = (V m c main_v45 : Vec F S16384x2048 .f32) (ix2 ⟨t.val / 4 * 512 + r.val, by have := lt_128 t; omega⟩ n) := by
  have hi := index_0 t
  unfold iblk
  rw [View.read_apply]
  show (V m c main_v45 : Vec F S16384x2048 .f32) _ = _
  congr 1
  funext x
  apply Fin.ext
  match x with
  | ⟨0, _⟩ => show win0_0.index t 0 * 512 + 1 * r.val = t.val / 4 * 512 + r.val; rw [hi.1] <;> omega
  | ⟨1, _⟩ => show win0_0.index t 1 * 2048 + 1 * n.val = n.val; rw [hi.2] <;> omega

theorem index_1 : ∀ t : Fin cfg0.N, win0_1.index t 0 = 0 ∧ win0_1.index t 1 = 0 := by decide +kernel

theorem iblk_1 (c : Dev nD) (t : Fin cfg0.N) (n : Fin 2048) :
    (iblk m c 1 t : Vec F S1x2048 .f32) (ix2 0 n) = (V m c main_v46 : Vec F S1x2048 .f32) (ix2 0 n) := by
  have hi := index_1 t
  unfold iblk
  rw [View.read_apply]
  show (V m c main_v46 : Vec F S1x2048 .f32) _ = _
  congr 1
  funext x
  apply Fin.ext
  match x with
  | ⟨0, _⟩ => show win0_1.index t 0 * 1 + 1 * 0 = 0; rw [hi.1] <;> omega
  | ⟨1, _⟩ => show win0_1.index t 1 * 2048 + 1 * n.val = n.val; rw [hi.2] <;> omega

theorem index_2 : ∀ t : Fin cfg0.N, win0_2.index t 0 = t.val / 64 ∧ win0_2.index t 1 = 0 ∧ win0_2.index t 2 = 0 := by decide +kernel

theorem iblk_2 (c : Dev nD) (t : Fin cfg0.N) (n : Fin 2048) :
    (iblk m c 2 t : Vec F S1x1x2048 .f32) (ix3 0 0 n) = (V m c main_arg2 : Vec F S2x1x2048 .f32) (ix3 ⟨t.val / 64, by have := lt_128 t; omega⟩ 0 n) := by
  have hi := index_2 t
  unfold iblk
  rw [View.read_apply]
  show (V m c main_arg2 : Vec F S2x1x2048 .f32) _ = _
  congr 1
  funext x
  apply Fin.ext
  match x with
  | ⟨0, _⟩ => show win0_2.index t 0 * 1 + 1 * 0 = t.val / 64; rw [hi.1] <;> omega
  | ⟨1, _⟩ => show win0_2.index t 1 * 1 + 1 * 0 = 0; rw [hi.2.1] <;> omega
  | ⟨2, _⟩ => show win0_2.index t 2 * 2048 + 1 * n.val = n.val; rw [hi.2.2] <;> omega

theorem index_3 : ∀ t : Fin cfg0.N, win0_3.index t 0 = t.val / 64 ∧ win0_3.index t 1 = 0 ∧ win0_3.index t 2 = 0 := by decide +kernel

theorem iblk_3 (c : Dev nD) (t : Fin cfg0.N) (n : Fin 2048) :
    (iblk m c 3 t : Vec F S1x1x2048 .f32) (ix3 0 0 n) = (V m c main_arg3 : Vec F S2x1x2048 .f32) (ix3 ⟨t.val / 64, by have := lt_128 t; omega⟩ 0 n) := by
  have hi := index_3 t
  unfold iblk
  rw [View.read_apply]
  show (V m c main_arg3 : Vec F S2x1x2048 .f32) _ = _
  congr 1
  funext x
  apply Fin.ext
  match x with
  | ⟨0, _⟩ => show win0_3.index t 0 * 1 + 1 * 0 = t.val / 64; rw [hi.1] <;> omega
  | ⟨1, _⟩ => show win0_3.index t 1 * 1 + 1 * 0 = 0; rw [hi.2.1] <;> omega
  | ⟨2, _⟩ => show win0_3.index t 2 * 2048 + 1 * n.val = n.val; rw [hi.2.2] <;> omega

theorem index_4 : ∀ t : Fin cfg0.N, win0_4.index t 0 = 0 ∧ win0_4.index t 1 = 0 ∧ win0_4.index t 2 = t.val % 4 := by decide +kernel

theorem iblk_4 (c : Dev nD) (t : Fin cfg0.N) (k : Fin 2048) (n : Fin 2944) :
    (iblk m c 4 t : Vec F S1x2048x2944 .bf16) (ix3 0 k n) = (V m c main_v19 : Vec F S2x2048x11776 .bf16) (ix3 0 k ⟨t.val % 4 * 2944 + n.val, by have := lt_128 t; omega⟩) := by
  have hi := index_4 t
  unfold iblk
  rw [View.read_apply]
  show (V m c main_v19 : Vec F S2x2048x11776 .bf16) _ = _
  congr 1
  funext x
  apply Fin.ext
  match x with
  | ⟨0, _⟩ => show win0_4.index t 0 * 1 + 1 * 0 = 0; rw [hi.1] <;> omega
  | ⟨1, _⟩ => show win0_4.index t 1 * 2048 + 1 * k.val = k.val; rw [hi.2.1] <;> omega
  | ⟨2, _⟩ => show win0_4.index t 2 * 2944 + 1 * n.val = t.val % 4 * 2944 + n.val; rw [hi.2.2] <;> omega

theorem index_5 : ∀ t : Fin cfg0.N, win0_5.index t 0 = 0 ∧ win0_5.index t 1 = 0 ∧ win0_5.index t 2 = t.val % 4 := by decide +kernel

theorem iblk_5 (c : Dev nD) (t : Fin cfg0.N) (n : Fin 2944) :
    (iblk m c 5 t : Vec F S1x1x2944 .f32) (ix3 0 0 n) = (V m c main_v34 : Vec F S2x1x11776 .f32) (ix3 0 0 ⟨t.val % 4 * 2944 + n.val, by have := lt_128 t; omega⟩) := by
  have hi := index_5 t
  unfold iblk
  rw [View.read_apply]
  show (V m c main_v34 : Vec F S2x1x11776 .f32) _ = _
  congr 1
  funext x
  apply Fin.ext
  match x with
  | ⟨0, _⟩ => show win0_5.index t 0 * 1 + 1 * 0 = 0; rw [hi.1] <;> omega
  | ⟨1, _⟩ => show win0_5.index t 1 * 1 + 1 * 0 = 0; rw [hi.2.1] <;> omega
  | ⟨2, _⟩ => show win0_5.index t 2 * 2944 + 1 * n.val = t.val % 4 * 2944 + n.val; rw [hi.2.2] <;> omega

theorem index_6 : ∀ t : Fin cfg0.N, win0_6.index t 0 = 0 ∧ win0_6.index t 1 = 0 ∧ win0_6.index t 2 = 0 := by decide +kernel

theorem iblk_6 (c : Dev nD) (t : Fin cfg0.N) (k : Fin 2048) (n : Fin 128) :
    (iblk m c 6 t : Vec F S1x2048x128 .bf16) (ix3 0 k n) = (V m c main_v39 : Vec F S2x2048x128 .bf16) (ix3 0 k n) := by
  have hi := index_6 t
  unfold iblk
  rw [View.read_apply]
  show (V m c main_v39 : Vec F S2x2048x128 .bf16) _ = _
  congr 1
  funext x
  apply Fin.ext
  match x with
  | ⟨0, _⟩ => show win0_6.index t 0 * 1 + 1 * 0 = 0; rw [hi.1] <;> omega
  | ⟨1, _⟩ => show win0_6.index t 1 * 2048 + 1 * k.val = k.val; rw [hi.2.1] <;> omega
  | ⟨2, _⟩ => show win0_6.index t 2 * 128 + 1 * n.val = n.val; rw [hi.2.2] <;> omega

theorem index_7 : ∀ t : Fin cfg0.N, win0_7.index t 0 = 0 ∧ win0_7.index t 1 = 0 ∧ win0_7.index t 2 = 0 := by decide +kernel

theorem iblk_7 (c : Dev nD) (t : Fin cfg0.N) (n : Fin 128) :
    (iblk m c 7 t : Vec F S1x1x128 .f32) (ix3 0 0 n) = (V m c main_v44 : Vec F S2x1x128 .f32) (ix3 0 0 n) := by
  have hi := index_7 t
  unfold iblk
  rw [View.read_apply]
  show (V m c main_v44 : Vec F S2x1x128 .f32) _ = _
  congr 1
  funext x
  apply Fin.ext
  match x with
  | ⟨0, _⟩ => show win0_7.index t 0 * 1 + 1 * 0 = 0; rw [hi.1] <;> omega
  | ⟨1, _⟩ => show win0_7.index t 1 * 1 + 1 * 0 = 0; rw [hi.2.1] <;> omega
  | ⟨2, _⟩ => show win0_7.index t 2 * 128 + 1 * n.val = n.val; rw [hi.2.2] <;> omega

theorem index_8 : ∀ t : Fin cfg0.N, win0_8.index t 0 = t.val / 4 ∧ win0_8.index t 1 = t.val % 4 := by decide +kernel

theorem oblk_8 (G : Vec F S16384x11776 .bf16) (t : Fin cfg0.N) (r : Fin 512) (n : Fin 2944) :
    ((win0_8.blk t).view.read (Elt F) G : Vec F S512x2944 .bf16) (ix2 r n) = G (ix2 ⟨t.val / 4 * 512 + r.val, by have := lt_128 t; omega⟩ ⟨t.val % 4 * 2944 + n.val, by have := lt_128 t; omega⟩) := by
  have hi := index_8 t
  rw [View.read_apply]
  show G _ = _
  congr 1
  funext x
  apply Fin.ext
  match x with
  | ⟨0, _⟩ => show win0_8.index t 0 * 512 + 1 * r.val = t.val / 4 * 512 + r.val; rw [hi.1] <;> omega
  | ⟨1, _⟩ => show win0_8.index t 1 * 2944 + 1 * n.val = t.val % 4 * 2944 + n.val; rw [hi.2] <;> omega

/-- An entry of the result lies in a point's block when its row and column do. -/
theorem mem_blk_8 (t : Fin cfg0.N) (i : S16384x11776.Idx) : i ∈ ((cfg0.win 8).blk t).view.set ↔ t.val / 4 = (i 0).val / 512 ∧ t.val % 4 = (i 1).val / 2944 := by
  show i ∈ ((View.whole main_v47_0).slice (win0_8.rect t)).set ↔ _
  rw [View.set_slice_whole, Rect.mem_set_unit]
  have hi := index_8 t
  have h0 : win0_8.index t 0 * win0_8.size 0 = t.val / 4 * 512 := by rw [hi.1]; rfl
  have h1 : win0_8.index t 1 * win0_8.size 1 = t.val % 4 * 2944 := by rw [hi.2]; rfl
  have x0 : ∀ t : Fin cfg0.N, win0_8.xsize (grid0.coords t) 0 = 512 := by decide +kernel
  have x1 : ∀ t : Fin cfg0.N, win0_8.xsize (grid0.coords t) 1 = 2944 := by decide +kernel
  constructor
  · intro h
    have a0 : win0_8.index t 0 * win0_8.size 0 ≤ (i 0).val ∧ (i 0).val < win0_8.index t 0 * win0_8.size 0 + win0_8.xsize (grid0.coords t) 0 := h 0
    have a1 : win0_8.index t 1 * win0_8.size 1 ≤ (i 1).val ∧ (i 1).val < win0_8.index t 1 * win0_8.size 1 + win0_8.xsize (grid0.coords t) 1 := h 1
    rw [h0, x0] at a0
    rw [h1, x1] at a1
    omega
  · intro h a
    have b1 : (i 1).val < 11776 := (i 1).isLt
    match a with
    | ⟨0, _⟩ =>
      show win0_8.index t 0 * win0_8.size 0 ≤ (i 0).val ∧ (i 0).val < win0_8.index t 0 * win0_8.size 0 + win0_8.xsize (grid0.coords t) 0
      rw [h0, x0]
      omega
    | ⟨1, _⟩ =>
      show win0_8.index t 1 * win0_8.size 1 ≤ (i 1).val ∧ (i 1).val < win0_8.index t 1 * win0_8.size 1 + win0_8.xsize (grid0.coords t) 1
      rw [h1, x1]
      omega

theorem index_9 : ∀ t : Fin cfg0.N, win0_9.index t 0 = t.val / 4 ∧ win0_9.index t 1 = 0 := by decide +kernel

theorem oblk_9 (G : Vec F S16384x128 .f32) (t : Fin cfg0.N) (r : Fin 512) (n : Fin 128) :
    ((win0_9.blk t).view.read (Elt F) G : Vec F S512x128 .f32) (ix2 r n) = G (ix2 ⟨t.val / 4 * 512 + r.val, by have := lt_128 t; omega⟩ n) := by
  have hi := index_9 t
  rw [View.read_apply]
  show G _ = _
  congr 1
  funext x
  apply Fin.ext
  match x with
  | ⟨0, _⟩ => show win0_9.index t 0 * 512 + 1 * r.val = t.val / 4 * 512 + r.val; rw [hi.1] <;> omega
  | ⟨1, _⟩ => show win0_9.index t 1 * 128 + 1 * n.val = n.val; rw [hi.2] <;> omega

/-- An entry of the result lies in a point's block when its row and column do. -/
theorem mem_blk_9 (t : Fin cfg0.N) (i : S16384x128.Idx) : i ∈ ((cfg0.win 9).blk t).view.set ↔ t.val / 4 = (i 0).val / 512 := by
  show i ∈ ((View.whole main_v47_1).slice (win0_9.rect t)).set ↔ _
  rw [View.set_slice_whole, Rect.mem_set_unit]
  have hi := index_9 t
  have h0 : win0_9.index t 0 * win0_9.size 0 = t.val / 4 * 512 := by rw [hi.1]; rfl
  have h1 : win0_9.index t 1 * win0_9.size 1 = 0 := by rw [hi.2]; rfl
  have x0 : ∀ t : Fin cfg0.N, win0_9.xsize (grid0.coords t) 0 = 512 := by decide +kernel
  have x1 : ∀ t : Fin cfg0.N, win0_9.xsize (grid0.coords t) 1 = 128 := by decide +kernel
  constructor
  · intro h
    have a0 : win0_9.index t 0 * win0_9.size 0 ≤ (i 0).val ∧ (i 0).val < win0_9.index t 0 * win0_9.size 0 + win0_9.xsize (grid0.coords t) 0 := h 0
    have a1 : win0_9.index t 1 * win0_9.size 1 ≤ (i 1).val ∧ (i 1).val < win0_9.index t 1 * win0_9.size 1 + win0_9.xsize (grid0.coords t) 1 := h 1
    rw [h0, x0] at a0
    rw [h1, x1] at a1
    omega
  · intro h a
    have b1 : (i 1).val < 128 := (i 1).isLt
    match a with
    | ⟨0, _⟩ =>
      show win0_9.index t 0 * win0_9.size 0 ≤ (i 0).val ∧ (i 0).val < win0_9.index t 0 * win0_9.size 0 + win0_9.xsize (grid0.coords t) 0
      rw [h0, x0]
      omega
    | ⟨1, _⟩ =>
      show win0_9.index t 1 * win0_9.size 1 ≤ (i 1).val ∧ (i 1).val < win0_9.index t 1 * win0_9.size 1 + win0_9.xsize (grid0.coords t) 1
      rw [h1, x1]
      omega

/-- Every entry of the wide result is written. -/
theorem cover_8 (i : S16384x11776.Idx) : ∃ t, (cfg0.win 8).flush t = true ∧ i ∈ ((cfg0.win 8).blk t).view.set := by
  have r : (i 0).val < 16384 := (i 0).isLt
  have q : (i 1).val < 11776 := (i 1).isLt
  refine ⟨⟨(i 0).val / 512 * 4 + (i 1).val / 2944, by rw [N_0]; omega⟩, flush0_8 _, (mem_blk_8 _ i).2 ?_⟩
  show ((i 0).val / 512 * 4 + (i 1).val / 2944) / 4 = (i 0).val / 512 ∧ ((i 0).val / 512 * 4 + (i 1).val / 2944) % 4 = (i 1).val / 2944
  omega

/-- Every entry of the narrow result is written. -/
theorem cover_9 (i : S16384x128.Idx) : ∃ t, (cfg0.win 9).flush t = true ∧ i ∈ ((cfg0.win 9).blk t).view.set := by
  have r : (i 0).val < 16384 := (i 0).isLt
  refine ⟨⟨(i 0).val / 512 * 4 + 3, by rw [N_0]; omega⟩, (flush0_9 _).2 ?_, (mem_blk_9 _ i).2 ?_⟩
  · show ((i 0).val / 512 * 4 + 3) % 4 = 3
    omega
  · show ((i 0).val / 512 * 4 + 3) / 4 = (i 0).val / 512
    omega

end Cert.Kernel2Ideal.Inproj

end
-- ==== Proof.Inproj.Spec.lean ====
/-
  The combined projection over the extended reals: the modulated norm of a row and its product with a column.
-/
module

public import Idealize.ShloMosaic.Lib.Pointwise
public import Mathlib.Analysis.SpecialFunctions.Log.Basic
public import Mathlib.Analysis.SpecialFunctions.Pow.Real

@[expose] public section

noncomputable section

namespace Cert.Inproj

open Idealize.ShloMosaic

abbrev SX : Shape := ⟨3, ![2, 8192, 2048]⟩
abbrev SG : Shape := ⟨1, ![2048]⟩
abbrev SM : Shape := ⟨3, ![2, 1, 2048]⟩
abbrev SW : Shape := ⟨3, ![2, 2048, 11800]⟩
abbrev SB : Shape := ⟨2, ![2, 11800]⟩

variable (X : SX.Idx → EReal) (G : SG.Idx → EReal) (SC SH : SM.Idx → EReal) (W : SW.Idx → EReal) (B : SB.Idx → EReal)

/-- The modulated norm of row `s` of batch `b`. -/
def hn (b : Fin 2) (s : Fin 8192) (k : Fin 2048) : EReal :=
  X (ix3 b s k) * Ideal.rsqrt (Ideal.div (∑ j : Fin 2048, X (ix3 b s j) * X (ix3 b s j)) (Ideal.ofBits .f32 0x45000000#32) + Ideal.ofBits .f32 0x358637BD#32)
    * G (ix1 k) * (Ideal.ofBits .f32 0x3F800000#32 + SC (ix3 b 0 k)) + SH (ix3 b 0 k)

/-- Column `j` of the projection of a row. -/
def z (b : Fin 2) (s : Fin 8192) (j : Fin 11800) : EReal := (∑ k : Fin 2048, hn X G SC SH b s k * W (ix3 0 k j)) + B (ix2 0 j)

/-- The column of the projection that column `n` of the kernel's result is. -/
def src (n : Fin 11776) : Fin 11800 :=
  ⟨if n.val < 6144 then 5656 + n.val else if n.val < 10240 then n.val - 6144 else n.val - 6136, by have h := n.isLt; split_ifs <;> omega⟩

/-- The scale of the attention's queries. -/
def scq : ℝ := 1 / Real.sqrt 128 * (Real.log 2)⁻¹

/-- The scale a column carries. -/
def fac (n : Fin 11776) : ℝ :=
  if 7168 ≤ n.val ∧ n.val < 8192 then scq else if 10240 ≤ n.val ∧ n.val < 10496 then 1 / 8 else 1

theorem fac_nonneg (n : Fin 11776) : 0 ≤ fac n := by
  unfold fac scq
  split_ifs
  · have := Real.log_nonneg (x := 2) (by norm_num); positivity
  · norm_num
  · norm_num

theorem fac_scq (n : Fin 11776) (h0 : 7168 ≤ n.val) (h1 : n.val < 8192) : fac n = scq := if_pos ⟨h0, h1⟩
theorem fac_eighth (n : Fin 11776) (h0 : 10240 ≤ n.val) (h1 : n.val < 10496) : fac n = 1 / 8 := by
  unfold fac
  rw [if_neg (by omega), if_pos ⟨h0, h1⟩]
theorem fac_one (n : Fin 11776) (h0 : n.val < 7168 ∨ 8192 ≤ n.val) (h1 : n.val < 10240 ∨ 10496 ≤ n.val) : fac n = 1 := by
  unfold fac
  rw [if_neg (by omega), if_neg (by omega)]

/-- A column under its scale, found at the column it comes from. -/
theorem at_src (w : Fin 11800 → EReal) (n : Fin 11776) (j : Fin 11800) (f : ℝ)
    (hj : j.val = if n.val < 6144 then 5656 + n.val else if n.val < 10240 then n.val - 6144 else n.val - 6136) (hf : fac n = f) :
    w j * (f : EReal) = w (src n) * ((fac n : ℝ) : EReal) := by
  rw [hf, show j = src n from Fin.ext hj]

/-- A column that carries no scale. -/
theorem at_src_one (w : Fin 11800 → EReal) (n : Fin 11776) (j : Fin 11800)
    (hj : j.val = if n.val < 6144 then 5656 + n.val else if n.val < 10240 then n.val - 6144 else n.val - 6136) (hf : fac n = 1) :
    w j = w (src n) * ((fac n : ℝ) : EReal) := by
  rw [hf, show j = src n from Fin.ext hj, EReal.coe_one, mul_one]

/-- The constants of the two scales. -/
theorem ofBits_eighth : Ideal.ofBits .f32 0x3E000000#32 = ((1 / 8 : ℝ) : EReal) := by
  simp [Ideal.ofBits, Ideal.ieee, -EReal.coe_mul]; norm_num
theorem ofBits_128 : Ideal.ofBits .f32 0x43000000#32 = ((128 : ℝ) : EReal) := by
  simp [Ideal.ofBits, Ideal.ieee, -EReal.coe_mul]; norm_num
theorem ofBits_2 : Ideal.ofBits .f32 0x40000000#32 = ((2 : ℝ) : EReal) := by
  simp [Ideal.ofBits, Ideal.ieee, -EReal.coe_mul]; norm_num
theorem sqrt_128 : Ideal.sqrt (Ideal.ofBits .f32 0x43000000#32) = ((Real.sqrt 128 : ℝ) : EReal) := by
  rw [ofBits_128, Ideal.sqrt_coe]; simp
theorem log_2 : Ideal.log (Ideal.ofBits .f32 0x40000000#32) = ((Real.log 2 : ℝ) : EReal) := by
  rw [ofBits_2, Ideal.log_coe, if_neg (by norm_num)]

theorem sqrt_ne : Real.sqrt 128 ≠ 0 := by positivity
theorem log_ne : Real.log 2 ≠ 0 := (Real.log_pos (by norm_num)).ne'

/-- The attention's scale as the kernel's host computes it. -/
theorem scq_host : @HMul.hMul EReal EReal EReal _ (Ideal.div 1 (Ideal.sqrt (Ideal.ofBits .f32 0x43000000#32))) (Ideal.div 1 (Ideal.log (Ideal.ofBits .f32 0x40000000#32)))
    = ((scq : ℝ) : EReal) := by
  rw [sqrt_128, log_2, Ideal.div_coe sqrt_ne, Ideal.div_coe log_ne, one_mul, one_mul, ← EReal.coe_mul]
  congr 1
  unfold scq
  rw [one_div (Real.log 2)]

/-- The attention's scale as the reference applies it. -/
theorem scq_ref (x : EReal) : Ideal.div (Ideal.div x (Ideal.sqrt (Ideal.ofBits .f32 0x43000000#32))) (Ideal.log (Ideal.ofBits .f32 0x40000000#32))
    = x * ((scq : ℝ) : EReal) := by
  rw [sqrt_128, log_2, Ideal.div_coe sqrt_ne, Ideal.div_coe log_ne, mul_assoc, ← EReal.coe_mul]
  congr 2
  unfold scq
  rw [one_div (Real.log 2)]

/-- The wide result. -/
def cols (r : Fin 16384) (n : Fin 11776) : EReal :=
  z X G SC SH W B ⟨r.val / 8192, by omega⟩ ⟨r.val % 8192, by omega⟩ (src n) * ((fac n : ℝ) : EReal)

/-- The narrow result: the forget gates' columns, the linear attention's, and zeros. -/
def small (r : Fin 16384) (n : Fin 128) : EReal :=
  if n.val < 8 then z X G SC SH W B ⟨r.val / 8192, by omega⟩ ⟨r.val % 8192, by omega⟩ ⟨4096 + n.val, by omega⟩
  else if n.val < 24 then z X G SC SH W B ⟨r.val / 8192, by omega⟩ ⟨r.val % 8192, by omega⟩ ⟨5632 + n.val, by omega⟩
  else 0

/-- A scale that every element of a column carries comes out of the column's product. -/
theorem scale_out {ι : Type} (S : Finset ι) (h w : ι → EReal) (b : EReal) (f : ℝ) (hf : 0 ≤ f) :
    (∑ k ∈ S, h k * (w k * (f : EReal))) + b * (f : EReal) = ((∑ k ∈ S, h k * w k) + b) * (f : EReal) := by
  have h0 : (0 : EReal) ≤ (f : EReal) := EReal.coe_nonneg.2 hf
  have dist : ∀ x y : EReal, (x + y) * (f : EReal) = x * (f : EReal) + y * (f : EReal) :=
    EReal.right_distrib_of_nonneg_of_ne_top h0 (EReal.coe_ne_top f)
  rw [dist]
  congr 1
  classical
  induction S using Finset.induction_on with
  | empty => simp
  | insert a T ha ih => rw [Finset.sum_insert ha, Finset.sum_insert ha, dist, ih, mul_assoc]

end Cert.Inproj

end
-- ==== Proof.Inproj.Pay.lean ====
/-
  The combined projection's arithmetic over the extended reals, read at an index.
-/
module

public import proofs.«01_k».proof.Proof.Gen.Kernel2Ideal.Skeleton
public import proofs.«01_k».proof.Proof.Inproj.Spec

@[expose] public section

set_option maxRecDepth 16384
set_option maxHeartbeats 1000000

noncomputable section

namespace Cert.Kernel2Ideal.Inproj

open Idealize.ShloMosaic Idealize.ShloMosaic.TcCoe Idealize.SL.Sem
open Cert.Kernel2Ideal.Gen Cert.Inproj

local notation "I" => Idealize.ShloMosaic.Ideal

theorem pay3_at (x : Vec I S512x2048 .f32) (g : Vec I S1x2048 .f32) (sc sh : Vec I S1x1x2048 .f32) (r : Fin 512) (k : Fin 2048) :
    k0_pay3 x g sc sh (ix2 r k)
      = x (ix2 r k) * Ideal.rsqrt (Ideal.div (∑ j : Fin 2048, @HMul.hMul EReal EReal EReal _ (x (ix2 r j)) (x (ix2 r j))) (Ideal.ofBits .f32 0x45000000#32) + Ideal.ofBits .f32 0x358637BD#32)
          * g (ix2 0 k) * (Ideal.ofBits .f32 0x3F800000#32 + sc (ix3 0 0 k)) + sh (ix3 0 0 k) := by
  pointwise [k0_pay3]

theorem pay4_at (x : Vec I S512x2048 .f32) (g : Vec I S1x2048 .f32) (sc sh : Vec I S1x1x2048 .f32) (r : Fin 512) (k : Fin 2048) :
    k0_pay4 x g sc sh (ix2 r k) = k0_pay3 x g sc sh (ix2 r k) := by
  unfold k0_pay4
  generalize k0_pay3 x g sc sh = y
  pointwise

theorem pay2_at (h : Vec I S512x2048 .bf16) (w : Vec I S1x2048x2944 .bf16) (b : Vec I S1x1x2944 .f32) (r : Fin 512) (n : Fin 2944) :
    k0_pay2 h w b (ix2 r n) = (∑ k : Fin 2048, h (ix2 r k) * w (ix3 0 k n)) + b (ix3 0 0 n) := by
  pointwise [k0_pay2]

theorem pay5_at (x : Vec I S512x2048 .f32) (g : Vec I S1x2048 .f32) (sc sh : Vec I S1x1x2048 .f32) (w : Vec I S1x2048x128 .bf16) (r : Fin 512) (n : Fin 128) :
    k0_pay5 x g sc sh w (ix2 r n) = ∑ k : Fin 2048, k0_pay3 x g sc sh (ix2 r k) * w (ix3 0 k n) := by
  unfold k0_pay5
  generalize k0_pay3 x g sc sh = y
  pointwise

theorem pay1_at (a : FVec I S512x128 .f32) (b : Vec I S1x1x128 .f32) (r : Fin 512) (n : Fin 128) :
    k0_pay1 a (k0_pay6 b) (ix2 r n) = a (ix2 r n) + b (ix3 0 0 n) := by
  pointwise [k0_pay1, k0_pay6]

end Cert.Kernel2Ideal.Inproj

end
-- ==== Proof.Inproj.Host.lean ====
/-
  The combined projection's operands: the weights and biases in the order of the kernel's columns, scaled, read at an index.
-/
module

public import proofs.«01_k».proof.Proof.Gen.Kernel2Ideal.Frame
public import proofs.«01_k».proof.Proof.Inproj.Spec
public import Idealize.ShloMosaic.Lib.StableHlo.ReadAt

@[expose] public section

set_option maxRecDepth 16384
set_option maxHeartbeats 1000000

noncomputable section

namespace Cert.Kernel2Ideal.Inproj

open Idealize.ShloMosaic Idealize.ShloMosaic.TcCoe Idealize.SL.Sem
open Cert.Kernel2Ideal.Gen Cert.Inproj

local notation "I" => Idealize.ShloMosaic.Ideal

variable (m : (ℓ : Loc nD τ sig) → Buf (Elt I) ℓ) (c : Dev nD)

/-- The arguments. -/
abbrev aX : S2x8192x2048.Idx → EReal := m ((c.tc : Thread nD τ).loc main_arg0)
abbrev aG : S2048.Idx → EReal := m ((c.tc : Thread nD τ).loc main_arg1)
abbrev aSC : S2x1x2048.Idx → EReal := m ((c.tc : Thread nD τ).loc main_arg2)
abbrev aSH : S2x1x2048.Idx → EReal := m ((c.tc : Thread nD τ).loc main_arg3)
abbrev aW : S2x2048x11800.Idx → EReal := m ((c.tc : Thread nD τ).loc main_arg4)
abbrev aB : S2x11800.Idx → EReal := m ((c.tc : Thread nD τ).loc main_arg5)

theorem v45_at (r : Fin 16384) (a : Fin 2048) :
    (V m c main_v45 : S16384x2048.Idx → EReal) (ix2 r a) = aX m c (ix3 ⟨r.val / 8192, by omega⟩ ⟨r.val % 8192, by omega⟩ a) := by
  unfold V
  after_reads_at

theorem v46_at (a : Fin 2048) : (V m c main_v46 : S1x2048.Idx → EReal) (ix2 0 a) = aG m c (ix1 a) := by
  unfold V
  after_reads_at

theorem arg2_at (b : Fin 2) (a : Fin 2048) : (V m c main_arg2 : S2x1x2048.Idx → EReal) (ix3 b 0 a) = aSC m c (ix3 b 0 a) := by
  rw [V_main_arg2]

theorem arg3_at (b : Fin 2) (a : Fin 2048) : (V m c main_arg3 : S2x1x2048.Idx → EReal) (ix3 b 0 a) = aSH m c (ix3 b 0 a) := by
  rw [V_main_arg3]

/-- The weights: each column the one it comes from, under its scale. -/
theorem v19_at (k : Fin 2048) (n : Fin 11776) :
    (V m c main_v19 : S2x2048x11776.Idx → EReal) (ix3 0 k n) = aW m c (ix3 0 k (src n)) * ((fac n : ℝ) : EReal) := by
  unfold V
  after_reads_at
  by_cases h0 : n.val < 6144
  · rw [dif_pos (by omega)]
    after_reads_at
    exact at_src_one (fun j => aW m c (ix3 0 k j)) n _ (by dsimp only; split_ifs <;> omega) (fac_one n (by omega) (by omega))
  rw [dif_neg (by omega)]
  by_cases h1 : n.val < 7168
  · rw [dif_pos (by omega)]
    after_reads_at
    exact at_src_one (fun j => aW m c (ix3 0 k j)) n _ (by dsimp only; split_ifs <;> omega) (fac_one n (by omega) (by omega))
  rw [dif_neg (by omega)]
  by_cases h2 : n.val < 8192
  · rw [dif_pos (by omega)]
    after_reads_at
    rw [scq_host]
    exact at_src (fun j => aW m c (ix3 0 k j)) n _ _ (by dsimp only; split_ifs <;> omega) (fac_scq n (by omega) (by omega))
  rw [dif_neg (by omega)]
  by_cases h3 : n.val < 9216
  · rw [dif_pos (by omega)]
    after_reads_at
    exact at_src_one (fun j => aW m c (ix3 0 k j)) n _ (by dsimp only; split_ifs <;> omega) (fac_one n (by omega) (by omega))
  rw [dif_neg (by omega)]
  by_cases h4 : n.val < 10240
  · rw [dif_pos (by omega)]
    after_reads_at
    exact at_src_one (fun j => aW m c (ix3 0 k j)) n _ (by dsimp only; split_ifs <;> omega) (fac_one n (by omega) (by omega))
  rw [dif_neg (by omega)]
  by_cases h5 : n.val < 10496
  · rw [dif_pos (by omega)]
    after_reads_at
    rw [ofBits_eighth]
    exact at_src (fun j => aW m c (ix3 0 k j)) n _ _ (by dsimp only; split_ifs <;> omega) (fac_eighth n (by omega) (by omega))
  rw [dif_neg (by omega)]
  by_cases h6 : n.val < 10752
  · rw [dif_pos (by omega)]
    after_reads_at
    exact at_src_one (fun j => aW m c (ix3 0 k j)) n _ (by dsimp only; split_ifs <;> omega) (fac_one n (by omega) (by omega))
  rw [dif_neg (by omega)]
  by_cases h7 : n.val < 11264
  · rw [dif_pos (by omega)]
    after_reads_at
    exact at_src_one (fun j => aW m c (ix3 0 k j)) n _ (by dsimp only; split_ifs <;> omega) (fac_one n (by omega) (by omega))
  rw [dif_neg (by omega)]
  after_reads_at
  exact at_src_one (fun j => aW m c (ix3 0 k j)) n _ (by dsimp only; split_ifs <;> omega) (fac_one n (by omega) (by omega))

/-- The biases likewise. -/
theorem v34_at (n : Fin 11776) :
    (V m c main_v34 : S2x1x11776.Idx → EReal) (ix3 0 0 n) = aB m c (ix2 0 (src n)) * ((fac n : ℝ) : EReal) := by
  unfold V
  after_reads_at
  by_cases h0 : n.val < 6144
  · rw [dif_pos (by omega)]
    after_reads_at
    exact at_src_one (fun j => aB m c (ix2 0 j)) n _ (by dsimp only; split_ifs <;> omega) (fac_one n (by omega) (by omega))
  rw [dif_neg (by omega)]
  by_cases h1 : n.val < 7168
  · rw [dif_pos (by omega)]
    after_reads_at
    exact at_src_one (fun j => aB m c (ix2 0 j)) n _ (by dsimp only; split_ifs <;> omega) (fac_one n (by omega) (by omega))
  rw [dif_neg (by omega)]
  by_cases h2 : n.val < 8192
  · rw [dif_pos (by omega)]
    after_reads_at
    rw [scq_host]
    exact at_src (fun j => aB m c (ix2 0 j)) n _ _ (by dsimp only; split_ifs <;> omega) (fac_scq n (by omega) (by omega))
  rw [dif_neg (by omega)]
  by_cases h3 : n.val < 9216
  · rw [dif_pos (by omega)]
    after_reads_at
    exact at_src_one (fun j => aB m c (ix2 0 j)) n _ (by dsimp only; split_ifs <;> omega) (fac_one n (by omega) (by omega))
  rw [dif_neg (by omega)]
  by_cases h4 : n.val < 10240
  · rw [dif_pos (by omega)]
    after_reads_at
    exact at_src_one (fun j => aB m c (ix2 0 j)) n _ (by dsimp only; split_ifs <;> omega) (fac_one n (by omega) (by omega))
  rw [dif_neg (by omega)]
  by_cases h5 : n.val < 10496
  · rw [dif_pos (by omega)]
    after_reads_at
    rw [ofBits_eighth]
    exact at_src (fun j => aB m c (ix2 0 j)) n _ _ (by dsimp only; split_ifs <;> omega) (fac_eighth n (by omega) (by omega))
  rw [dif_neg (by omega)]
  by_cases h6 : n.val < 10752
  · rw [dif_pos (by omega)]
    after_reads_at
    exact at_src_one (fun j => aB m c (ix2 0 j)) n _ (by dsimp only; split_ifs <;> omega) (fac_one n (by omega) (by omega))
  rw [dif_neg (by omega)]
  by_cases h7 : n.val < 11264
  · rw [dif_pos (by omega)]
    after_reads_at
    exact at_src_one (fun j => aB m c (ix2 0 j)) n _ (by dsimp only; split_ifs <;> omega) (fac_one n (by omega) (by omega))
  rw [dif_neg (by omega)]
  after_reads_at
  exact at_src_one (fun j => aB m c (ix2 0 j)) n _ (by dsimp only; split_ifs <;> omega) (fac_one n (by omega) (by omega))

/-- The narrow weights. -/
theorem v39_at (k : Fin 2048) (n : Fin 128) :
    (V m c main_v39 : S2x2048x128.Idx → EReal) (ix3 0 k n)
      = if h : n.val < 8 then aW m c (ix3 0 k ⟨4096 + n.val, by omega⟩) else if h : n.val < 24 then aW m c (ix3 0 k ⟨5632 + n.val, by omega⟩) else 0 := by
  unfold V
  after_reads_at
  by_cases h0 : n.val < 8
  · rw [dif_pos h0, dif_pos h0]
    after_reads_at
  · by_cases h1 : n.val < 24
    · rw [dif_neg h0, dif_neg h0, dif_pos (by omega), dif_pos h1]
      after_reads_at
      exact congrArg (fun z => aW m c (ix3 0 k z)) (Fin.ext (by show 5640 + (n.val - 8) = 5632 + n.val; omega))
    · rw [dif_neg h0, dif_neg h0, dif_neg (by omega), dif_neg h1]
      after_reads_at

/-- The narrow biases. -/
theorem v44_at (n : Fin 128) :
    (V m c main_v44 : S2x1x128.Idx → EReal) (ix3 0 0 n)
      = if h : n.val < 8 then aB m c (ix2 0 ⟨4096 + n.val, by omega⟩) else if h : n.val < 24 then aB m c (ix2 0 ⟨5632 + n.val, by omega⟩) else 0 := by
  unfold V
  after_reads_at
  by_cases h0 : n.val < 8
  · rw [dif_pos h0, dif_pos h0]
    after_reads_at
  · by_cases h1 : n.val < 24
    · rw [dif_neg h0, dif_neg h0, dif_pos (by omega), dif_pos h1]
      after_reads_at
      exact congrArg (fun z => aB m c (ix2 0 z)) (Fin.ext (by show 5640 + (n.val - 8) = 5632 + n.val; omega))
    · rw [dif_neg h0, dif_neg h0, dif_neg (by omega), dif_neg h1]
      after_reads_at

end Cert.Kernel2Ideal.Inproj

end
-- ==== Proof.Inproj.Arr.lean ====
/-
  The combined projection's result arrays: what the points leave, put together.
-/
module

public import proofs.«01_k».proof.Proof.Inproj.Run
public import proofs.«01_k».proof.Proof.Inproj.Blk
public import proofs.«01_k».proof.Proof.Inproj.Pay
public import proofs.«01_k».proof.Proof.Inproj.Host

@[expose] public section

set_option maxRecDepth 16384
set_option maxHeartbeats 1000000

noncomputable section

namespace Cert.Kernel2Ideal.Inproj

open Idealize.ShloMosaic Idealize.ShloMosaic.TcCoe Idealize.SL.Sem
open Cert.Kernel2Ideal.Gen Cert.Inproj

local notation "I" => Idealize.ShloMosaic.Ideal

variable (m : (ℓ : Loc nD τ sig) → Buf (Elt I) ℓ) (c : Dev nD)

/-- The norm of a block's row is the norm of the row of the input. -/
theorem norm_at (t : Fin cfg0.N) (r : Fin 512) (k : Fin 2048) :
    k0_pay3 (iblk m c 0 t) (iblk m c 1 t) (iblk m c 2 t) (iblk m c 3 t) (ix2 r k)
      = hn (aX m c) (aG m c) (aSC m c) (aSH m c) ⟨(t.val / 4 * 512 + r.val) / 8192, by have := lt_128 t; omega⟩ ⟨(t.val / 4 * 512 + r.val) % 8192, by omega⟩ k := by
  have ht := lt_128 t
  have eb : (⟨t.val / 64, by omega⟩ : Fin 2) = ⟨(t.val / 4 * 512 + r.val) / 8192, by omega⟩ := Fin.ext (by show t.val / 64 = (t.val / 4 * 512 + r.val) / 8192; omega)
  have ex : ∀ j : Fin 2048, (iblk m c 0 t : Vec I S512x2048 .f32) (ix2 r j)
      = aX m c (ix3 ⟨(t.val / 4 * 512 + r.val) / 8192, by omega⟩ ⟨(t.val / 4 * 512 + r.val) % 8192, by omega⟩ j) := fun j => by
    rw [iblk_0, v45_at]
  rw [pay3_at]
  simp only [ex]
  rw [iblk_1, v46_at, iblk_2, arg2_at, iblk_3, arg3_at, eb]
  rfl

theorem norm_base (t : Fin cfg0.N) (r : Fin 512) (k : Fin 2048) :
    k0_pay3 (iblk m c 0 (base t)) (iblk m c 1 (base t)) (iblk m c 2 (base t)) (iblk m c 3 (base t)) (ix2 r k)
      = hn (aX m c) (aG m c) (aSC m c) (aSH m c) ⟨(t.val / 4 * 512 + r.val) / 8192, by have := lt_128 t; omega⟩ ⟨(t.val / 4 * 512 + r.val) % 8192, by omega⟩ k := by
  have ht := lt_128 t
  have e : (base t).val / 4 = t.val / 4 := by show t.val / 4 * 4 / 4 = t.val / 4; omega
  rw [norm_at]
  congr 1
  · exact Fin.ext (by show ((base t).val / 4 * 512 + r.val) / 8192 = (t.val / 4 * 512 + r.val) / 8192; rw [e])
  · exact Fin.ext (by show ((base t).val / 4 * 512 + r.val) % 8192 = (t.val / 4 * 512 + r.val) % 8192; rw [e])

/-- The wide result of the kernel's arguments. -/
def GZ : Vec I S16384x11776 .bf16 := fun i => cols (aX m c) (aG m c) (aSC m c) (aSH m c) (aW m c) (aB m c) (i 0) (i 1)

/-- The narrow result of the kernel's arguments. -/
def GS : Vec I S16384x128 .f32 := fun i => small (aX m c) (aG m c) (aSC m c) (aSH m c) (aW m c) (aB m c) (i 0) (i 1)

/-- A product of a row and a column, plus a bias, term by term. -/
theorem dot_congr {h h' w w' : Fin 2048 → EReal} {b b' : EReal} (eh : ∀ k, h k = h' k) (ew : ∀ k, w k = w' k) (eb : b = b') :
    (∑ k, h k * w k) + b = (∑ k, h' k * w' k) + b' := by
  rw [funext eh, funext ew, eb]

theorem Zat_at (t : Fin cfg0.N) (r : Fin 512) (n : Fin 2944) :
    (Zat m c t : Vec I S512x2944 .bf16) (ix2 r n)
      = GZ m c (ix2 ⟨t.val / 4 * 512 + r.val, by have := lt_128 t; omega⟩ ⟨t.val % 4 * 2944 + n.val, by omega⟩) := by
  have ht := lt_128 t
  unfold Zat
  rw [pay2_at]
  refine (dot_congr (h' := fun k => hn (aX m c) (aG m c) (aSC m c) (aSH m c) ⟨(t.val / 4 * 512 + r.val) / 8192, by omega⟩ ⟨(t.val / 4 * 512 + r.val) % 8192, by omega⟩ k)
    (fun k => ?_) (fun k => (iblk_4 m c t k n).trans (v19_at m c k _)) ((iblk_5 m c t n).trans (v34_at m c _))).trans
    (scale_out Finset.univ _ (fun k => aW m c (ix3 0 k (src ⟨t.val % 4 * 2944 + n.val, by omega⟩))) _ _ (fac_nonneg _))
  unfold Hat
  exact (pay4_at _ _ _ _ r k).trans (norm_base m c t r k)

theorem Sat_at (t : Fin cfg0.N) (r : Fin 512) (n : Fin 128) :
    (Sat m c t : Vec I S512x128 .f32) (ix2 r n) = GS m c (ix2 ⟨t.val / 4 * 512 + r.val, by have := lt_128 t; omega⟩ n) := by
  have ht := lt_128 t
  unfold Sat
  rw [pay1_at, pay5_at]
  refine (dot_congr (fun k => norm_base m c t r k) (fun k => (iblk_6 m c (base t) k n).trans (v39_at m c k n)) ((iblk_7 m c (base t) n).trans (v44_at m c n))).trans ?_
  show _ = small (aX m c) (aG m c) (aSC m c) (aSH m c) (aW m c) (aB m c) ⟨t.val / 4 * 512 + r.val, by omega⟩ n
  unfold small
  by_cases h0 : n.val < 8
  · simp only [dif_pos h0, if_pos h0]
    rfl
  · by_cases h1 : n.val < 24
    · simp only [dif_neg h0, dif_pos h1, if_neg h0, if_pos h1]
      rfl
    · simp only [dif_neg h0, dif_neg h1, if_neg h0, if_neg h1, mul_zero, Finset.sum_const_zero, add_zero]

/-- The wide array at the end of the run. -/
theorem final_8 : (dats m 0 c).arrAt 8 cfg0.N = GZ m c := by
  refine (dats m 0 c).arrAt_eq_of_cover 8 (GZ m c) (fun t _ => ?_) cover_8
  show (cfg0.win 8).cut (grid0.coords t) ((dats m 0 c).after 8 t) = _
  rw [after_8]
  have key : (Zat m c t : Vec I S512x2944 .bf16) = ((win0_8.blk t).view.read (Elt I) (GZ m c) : Vec I S512x2944 .bf16) := by
    funext y
    obtain ⟨r, n, rfl⟩ : ∃ (r : Fin 512) (n : Fin 2944), y = ix2 r n := ⟨y 0, y 1, funext fun a => match a with | ⟨0, _⟩ => rfl | ⟨1, _⟩ => rfl⟩
    exact (Zat_at m c t r n).trans (oblk_8 (GZ m c) t r n).symm
  exact key

/-- The narrow array at the end of the run. -/
theorem final_9 : (dats m 0 c).arrAt 9 cfg0.N = GS m c := by
  refine (dats m 0 c).arrAt_eq_of_cover 9 (GS m c) (fun t _ => ?_) cover_9
  show (cfg0.win 9).cut (grid0.coords t) ((dats m 0 c).after 9 t) = _
  rw [after_9]
  have key : (Sat m c t : Vec I S512x128 .f32) = ((win0_9.blk t).view.read (Elt I) (GS m c) : Vec I S512x128 .f32) := by
    funext y
    obtain ⟨r, n, rfl⟩ : ∃ (r : Fin 512) (n : Fin 128), y = ix2 r n := ⟨y 0, y 1, funext fun a => match a with | ⟨0, _⟩ => rfl | ⟨1, _⟩ => rfl⟩
    exact (Sat_at m c t r n).trans (oblk_9 (GS m c) t r n).symm
  exact key

end Cert.Kernel2Ideal.Inproj

end
-- ==== Proof.Inproj.Word.lean ====
/-
  The printed projection and its reading over any float values are one text: the frame of the printed one, from that run.
-/
module

public import proofs.«01_k».proof.Defs
public import proofs.«01_k».proof.Proof.Gen.Kernel2
public import proofs.«01_k».proof.Proof.Inproj.Run

@[expose] public section

set_option maxRecDepth 65536

noncomputable section

namespace Cert.Kernel2.Inproj

open Idealize.ShloMosaic Idealize.SL.Sem

set_option maxHeartbeats 8000000 in
theorem defs_body : Cert.Kernel2.defs₀ (F := Bits) = Cert.Kernel2Ideal.defs₀ (F := Bits) := by
  unfold Cert.Kernel2.defs₀ Cert.Kernel2Ideal.defs₀
  refine congrArg Defs.onTc ?_
  funext l a
  match l, a with
  | 0, (t, s) => rfl

theorem defs_eq : Cert.Kernel2.defs (F := Bits) = Cert.Kernel2Ideal.defs (F := Bits) :=
  congrArg (Pipeline.defs Cert.Kernel2Ideal.pcfgs) defs_body

set_option maxHeartbeats 8000000 in
theorem main_eq : Cert.Kernel2.main (F := Bits) = Cert.Kernel2Ideal.main (F := Bits) := by
  unfold Cert.Kernel2.main Cert.Kernel2Ideal.main
  rfl

/-- The printed kernel leaves its arguments as they were and every counter zero. -/
theorem frame : Cert.quiescent_Kernel2 := by
  intro m ρ _
  have h := Cert.Kernel2Ideal.Inproj.frame (F := Bits) m ρ
  rw [← defs_eq, ← main_eq] at h
  exact h

end Cert.Kernel2.Inproj

end
-- ==== Proof.Inproj.Ref.lean ====
/-
  The combined projection's reference over the extended reals.
-/
module

public import proofs.«01_k».proof.Proof.Gen.Reference2Ideal.Read
public import proofs.«01_k».proof.Proof.Inproj.Spec

@[expose] public section

set_option maxRecDepth 16384
set_option maxHeartbeats 1000000

noncomputable section

namespace Cert.Reference2Ideal.Inproj

open Idealize.ShloMosaic Idealize.ShloMosaic.TcCoe
open Cert.Reference2Ideal.Gen Cert.Reference2Ideal.Read Cert.Inproj

local notation "I" => Idealize.ShloMosaic.Ideal

theorem ix1_eq {n0 : ℕ} (f : (⟨1, ![n0]⟩ : Shape).Idx) (a : Fin n0) (h0 : (f 0).val = a.val) : f = ix1 a :=
  funext fun i => match i with
    | ⟨0, _⟩ => Fin.ext h0

theorem ix2_eq {n0 n1 : ℕ} (f : (⟨2, ![n0, n1]⟩ : Shape).Idx) (a : Fin n0) (b : Fin n1)
    (h0 : (f 0).val = a.val) (h1 : (f 1).val = b.val) : f = ix2 a b :=
  funext fun i => match i with
    | ⟨0, _⟩ => Fin.ext h0
    | ⟨1, _⟩ => Fin.ext h1

theorem ix3_eq {n0 n1 n2 : ℕ} (f : (⟨3, ![n0, n1, n2]⟩ : Shape).Idx) (a : Fin n0) (b : Fin n1) (c : Fin n2)
    (h0 : (f 0).val = a.val) (h1 : (f 1).val = b.val) (h2 : (f 2).val = c.val) : f = ix3 a b c :=
  funext fun i => match i with
    | ⟨0, _⟩ => Fin.ext h0
    | ⟨1, _⟩ => Fin.ext h1
    | ⟨2, _⟩ => Fin.ext h2

variable (X : (⟨S2x8192x2048, .f32⟩ : BufTy).Contents (Elt I)) (G : (⟨S2048, .f32⟩ : BufTy).Contents (Elt I))
  (SC SH : (⟨S2x1x2048, .f32⟩ : BufTy).Contents (Elt I)) (W : (⟨S2x2048x11800, .f32⟩ : BufTy).Contents (Elt I)) (B : (⟨S2x11800, .f32⟩ : BufTy).Contents (Elt I))

theorem v18_at (b : Fin 2) (s : Fin 8192) (k : Fin 2048) : val_main_v18 (F := I) X G SC SH (ix3 b s k) = hn X G SC SH b s k := by
  rw [val_main_v18_apply, val_main_v17_apply, val_main_v16_apply, val_main_v15_apply, val_main_v14_apply, val_main_v13_apply, val_main_cst_2_apply,
    val_main_v12_apply, val_main_v11_apply, val_main_v10_apply, val_main_v9_apply, val_main_v8_apply, val_main_v7_apply, val_main_v6_apply,
    val_main_v5_apply, val_main_cst_1_apply, val_main_v4_apply, val_main_v3_apply, val_main_cst_0_apply, val_main_v2_apply, val_main_v1_apply, val_main_cst_apply]
  simp only [val_main_v0_apply]
  unfold hn
  rw [ix1_eq (idx_main_v10 _) k rfl, ix3_eq (idx_main_v15 _) b 0 k rfl rfl rfl, ix3_eq (idx_main_v17 _) b 0 k rfl rfl rfl]
  simp only [Ideal.addf_def, Ideal.mulf_def, Ideal.ofBits_def]
  have e : Ideal.ofBits .f32 0x00000000#32 = 0 := by simp [Ideal.ofBits, Ideal.ieee]
  have es : (∑ j : Fin 2048, X (idx_main_v1 (idx_main_v2 (idx_main_v8 (ix3 b s k))) j) * X (idx_main_v1 (idx_main_v2 (idx_main_v8 (ix3 b s k))) j) : EReal)
      = ∑ j : Fin 2048, X (ix3 b s j) * X (ix3 b s j) :=
    Finset.sum_congr rfl fun j _ => by rw [ix3_eq (idx_main_v1 _ j) b s j rfl rfl rfl]
  rw [e, zero_add, es]
  rfl

theorem v27_at (r : Fin 16384) (j : Fin 11800) :
    val_main_v27 (F := I) X G SC SH W B (ix2 r j) = z X G SC SH W B ⟨r.val / 8192, by omega⟩ ⟨r.val % 8192, by omega⟩ j := by
  rw [val_main_v27_apply, ix3_eq (idx_main_v27 (ix2 r j)) ⟨r.val / 8192, by omega⟩ ⟨r.val % 8192, by omega⟩ j
    (by show (r.val * 11800 + j.val) / 96665600 = r.val / 8192; omega) (by show (r.val * 11800 + j.val) / 11800 % 8192 = r.val % 8192; omega)
    (by show (r.val * 11800 + j.val) % 11800 = j.val; omega)]
  rw [val_main_v26_apply, val_main_v25_apply, val_main_v24_apply, val_main_v23_apply, val_main_v22_apply, val_main_v21_apply, Ideal.addf_def]
  unfold z
  congr 1
  · refine Finset.sum_congr rfl fun k _ => ?_
    rw [ix3_eq (lidx_main_v21 _ k) ⟨r.val / 8192, by omega⟩ ⟨r.val % 8192, by omega⟩ k rfl rfl rfl, v18_at, val_main_v20_apply, val_main_v19_apply]
    exact congrArg (_ * W ·) (ix3_eq _ _ _ _ rfl (by show (k.val * 11800 + j.val) / 11800 % 2048 = k.val; omega) (by show (k.val * 11800 + j.val) % 11800 = j.val; omega))
  · exact congrArg B (ix2_eq _ _ _ rfl (by show j.val % 11800 = j.val; omega))

/-- The wide result. -/
theorem v48_at (r : Fin 16384) (n : Fin 11776) : val_main_v48 (F := I) X G SC SH W B (ix2 r n) = cols X G SC SH W B r n := by
  rw [val_main_v48_apply]
  show val_main_v47 (F := I) X G SC SH W B (ix2 r n) = _
  unfold val_main_v47 cols
  generalize e38 : val_main_v38 (F := I) X G SC SH W B = y38
  generalize e28 : val_main_v28 (F := I) X G SC SH W B = y28
  generalize e44 : val_main_v44 (F := I) X G SC SH W B = y44
  generalize e30 : val_main_v30 (F := I) X G SC SH W B = y30
  generalize e31 : val_main_v31 (F := I) X G SC SH W B = y31
  generalize e46 : val_main_v46 (F := I) X G SC SH W B = y46
  generalize e34 : val_main_v34 (F := I) X G SC SH W B = y34
  generalize e35 : val_main_v35 (F := I) X G SC SH W B = y35
  generalize e36 : val_main_v36 (F := I) X G SC SH W B = y36
  pointwise
  by_cases h0 : n.val < 6144
  · rw [dif_pos (by omega), ← e38]
    rw [val_main_v38_apply, ix2_eq (idx_main_v38 _) r ⟨5656 + n.val, by omega⟩ rfl (by show 5656 + n.val = 5656 + n.val; omega), v27_at]
    exact at_src_one (fun j => z X G SC SH W B ⟨r.val / 8192, by omega⟩ ⟨r.val % 8192, by omega⟩ j) n _ (by dsimp only; split_ifs <;> omega) (fac_one n (by omega) (by omega))
  rw [dif_neg (by omega)]
  by_cases h1 : n.val < 7168
  · rw [dif_pos (by omega), ← e28]
    rw [val_main_v28_apply, ix2_eq (idx_main_v28 _) r ⟨n.val - 6144, by omega⟩ rfl (by show (n.val - 6144) = n.val - 6144; omega), v27_at]
    exact at_src_one (fun j => z X G SC SH W B ⟨r.val / 8192, by omega⟩ ⟨r.val % 8192, by omega⟩ j) n _ (by dsimp only; split_ifs <;> omega) (fac_one n (by omega) (by omega))
  rw [dif_neg (by omega)]
  by_cases h2 : n.val < 8192
  · rw [dif_pos (by omega), ← e44]
    rw [val_main_v44_apply, val_main_v43_apply, val_main_v42_apply, val_main_cst_4_apply, val_main_v41_apply, val_main_v40_apply, val_main_v39_apply, val_main_cst_3_apply]
    rw [val_main_v29_apply, ix2_eq (idx_main_v29 _) r ⟨n.val - 6144, by omega⟩ rfl (by show 1024 + (n.val - 6144 - 1024) = n.val - 6144; omega), v27_at]
    refine (scq_ref _).trans ?_
    exact at_src (fun j => z X G SC SH W B ⟨r.val / 8192, by omega⟩ ⟨r.val % 8192, by omega⟩ j) n _ _ (by dsimp only; split_ifs <;> omega) (fac_scq n (by omega) (by omega))
  rw [dif_neg (by omega)]
  by_cases h3 : n.val < 9216
  · rw [dif_pos (by omega), ← e30]
    rw [val_main_v30_apply, ix2_eq (idx_main_v30 _) r ⟨n.val - 6144, by omega⟩ rfl (by show 2048 + (n.val - 6144 - 1024 - 1024) = n.val - 6144; omega), v27_at]
    exact at_src_one (fun j => z X G SC SH W B ⟨r.val / 8192, by omega⟩ ⟨r.val % 8192, by omega⟩ j) n _ (by dsimp only; split_ifs <;> omega) (fac_one n (by omega) (by omega))
  rw [dif_neg (by omega)]
  by_cases h4 : n.val < 10240
  · rw [dif_pos (by omega), ← e31]
    rw [val_main_v31_apply, ix2_eq (idx_main_v31 _) r ⟨n.val - 6144, by omega⟩ rfl (by show 3072 + (n.val - 6144 - 1024 - 1024 - 1024) = n.val - 6144; omega), v27_at]
    exact at_src_one (fun j => z X G SC SH W B ⟨r.val / 8192, by omega⟩ ⟨r.val % 8192, by omega⟩ j) n _ (by dsimp only; split_ifs <;> omega) (fac_one n (by omega) (by omega))
  rw [dif_neg (by omega)]
  by_cases h5 : n.val < 10496
  · rw [dif_pos (by omega), ← e46]
    rw [val_main_v46_apply, val_main_v45_apply, val_main_cst_5_apply]
    rw [val_main_v33_apply, ix2_eq (idx_main_v33 _) r ⟨n.val - 6136, by omega⟩ rfl (by show 4104 + (n.val - 6144 - 1024 - 1024 - 1024 - 1024) = n.val - 6136; omega), v27_at]
    simp only [Ideal.mulf_def, Ideal.ofBits_def]
    rw [ofBits_eighth]
    exact at_src (fun j => z X G SC SH W B ⟨r.val / 8192, by omega⟩ ⟨r.val % 8192, by omega⟩ j) n _ _ (by dsimp only; split_ifs <;> omega) (fac_eighth n (by omega) (by omega))
  rw [dif_neg (by omega)]
  by_cases h6 : n.val < 10752
  · rw [dif_pos (by omega), ← e34]
    rw [val_main_v34_apply, ix2_eq (idx_main_v34 _) r ⟨n.val - 6136, by omega⟩ rfl (by show 4360 + (n.val - 6144 - 1024 - 1024 - 1024 - 1024 - 256) = n.val - 6136; omega), v27_at]
    exact at_src_one (fun j => z X G SC SH W B ⟨r.val / 8192, by omega⟩ ⟨r.val % 8192, by omega⟩ j) n _ (by dsimp only; split_ifs <;> omega) (fac_one n (by omega) (by omega))
  rw [dif_neg (by omega)]
  by_cases h7 : n.val < 11264
  · rw [dif_pos (by omega), ← e35]
    rw [val_main_v35_apply, ix2_eq (idx_main_v35 _) r ⟨n.val - 6136, by omega⟩ rfl (by show 4616 + (n.val - 6144 - 1024 - 1024 - 1024 - 1024 - 256 - 256) = n.val - 6136; omega), v27_at]
    exact at_src_one (fun j => z X G SC SH W B ⟨r.val / 8192, by omega⟩ ⟨r.val % 8192, by omega⟩ j) n _ (by dsimp only; split_ifs <;> omega) (fac_one n (by omega) (by omega))
  rw [dif_neg (by omega)]
  rw [← e36]
  rw [val_main_v36_apply, ix2_eq (idx_main_v36 _) r ⟨n.val - 6136, by omega⟩ rfl (by show 5128 + (n.val - 6144 - 1024 - 1024 - 1024 - 1024 - 256 - 256 - 512) = n.val - 6136; omega), v27_at]
  exact at_src_one (fun j => z X G SC SH W B ⟨r.val / 8192, by omega⟩ ⟨r.val % 8192, by omega⟩ j) n _ (by dsimp only; split_ifs <;> omega) (fac_one n (by omega) (by omega))

/-- The narrow result. -/
theorem v50_at (r : Fin 16384) (n : Fin 128) : val_main_v50 (F := I) X G SC SH W B (ix2 r n) = small X G SC SH W B r n := by
  have e : val_main_v49 (F := I) = fun _ => (0 : EReal) := by
    funext i
    rw [val_main_v49_apply]
    show Ideal.ofBits .f32 0x00000000#32 = 0
    simp [Ideal.ofBits, Ideal.ieee]
  unfold val_main_v50 small
  rw [e]
  generalize h32 : val_main_v32 (F := I) X G SC SH W B = y32
  generalize h37 : val_main_v37 (F := I) X G SC SH W B = y37
  pointwise
  by_cases h0 : n.val < 8
  · rw [dif_pos h0, if_pos h0, ← h32, val_main_v32_apply, ← v27_at]
    exact congrArg _ (ix2_eq _ _ _ rfl rfl)
  rw [dif_neg h0, if_neg h0]
  by_cases h1 : n.val < 24
  · rw [dif_pos (by omega), if_pos h1, ← h37, val_main_v37_apply, ← v27_at]
    exact congrArg _ (ix2_eq _ _ _ rfl (by show 5640 + (n.val - 8) = 5632 + n.val; omega))
  rw [dif_neg (by omega), if_neg h1]

theorem wide_eq : val_main_v48 (F := I) X G SC SH W B = fun i => cols X G SC SH W B (i 0) (i 1) := by
  funext i
  obtain ⟨r, n, rfl⟩ : ∃ (r : Fin 16384) (n : Fin 11776), i = ix2 r n := ⟨i 0, i 1, funext fun a => match a with | ⟨0, _⟩ => rfl | ⟨1, _⟩ => rfl⟩
  exact v48_at X G SC SH W B r n

theorem narrow_eq : val_main_v50 (F := I) X G SC SH W B = fun i => small X G SC SH W B (i 0) (i 1) := by
  funext i
  obtain ⟨r, n, rfl⟩ : ∃ (r : Fin 16384) (n : Fin 128), i = ix2 r n := ⟨i 0, i 1, funext fun a => match a with | ⟨0, _⟩ => rfl | ⟨1, _⟩ => rfl⟩
  exact v50_at X G SC SH W B r n

end Cert.Reference2Ideal.Inproj

end
-- ==== Proof.Merge.Spec.lean ====
/-
  The merge of the branches as a function of the layer's arguments.
-/
module

public import Idealize.ShloMosaic.PureOps.Ideal
public import Idealize.ShloMosaic.Lib.Pointwise

@[expose] public section

noncomputable section

namespace Cert.Merge

open Idealize.ShloMosaic

/-- The gated sum of the three branches' projections. -/
def gated (YA : (⟨3, ![2, 8192, 512]⟩ : Shape).Idx → EReal) (YB : (⟨3, ![2, 8192, 1024]⟩ : Shape).Idx → EReal) (YC : (⟨3, ![2, 8192, 512]⟩ : Shape).Idx → EReal)
    (Z : (⟨3, ![2, 8192, 6144]⟩ : Shape).Idx → EReal)
    (WA : (⟨2, ![512, 2048]⟩ : Shape).Idx → EReal) (WB : (⟨2, ![1024, 2048]⟩ : Shape).Idx → EReal) (WC : (⟨2, ![512, 2048]⟩ : Shape).Idx → EReal)
    (b : Fin 2) (s : Fin 8192) (n : Fin 2048) : EReal :=
  Ideal.logistic (Z (ix3 b s ⟨n.val, by omega⟩)) * (∑ k : Fin 512, YA (ix3 b s k) * WA (ix2 k n))
    + Ideal.logistic (Z (ix3 b s ⟨2048 + n.val, by omega⟩)) * (∑ k : Fin 1024, YB (ix3 b s k) * WB (ix2 k n))
    + Ideal.logistic (Z (ix3 b s ⟨4096 + n.val, by omega⟩)) * (∑ k : Fin 512, YC (ix3 b s k) * WC (ix2 k n))

/-- The layer's input plus the gated output projection. -/
def merge (X : (⟨3, ![2, 8192, 2048]⟩ : Shape).Idx → EReal) (G : (⟨3, ![2, 1, 2048]⟩ : Shape).Idx → EReal)
    (YA : (⟨3, ![2, 8192, 512]⟩ : Shape).Idx → EReal) (YB : (⟨3, ![2, 8192, 1024]⟩ : Shape).Idx → EReal) (YC : (⟨3, ![2, 8192, 512]⟩ : Shape).Idx → EReal)
    (Z : (⟨3, ![2, 8192, 6144]⟩ : Shape).Idx → EReal)
    (WA : (⟨2, ![512, 2048]⟩ : Shape).Idx → EReal) (WB : (⟨2, ![1024, 2048]⟩ : Shape).Idx → EReal) (WC : (⟨2, ![512, 2048]⟩ : Shape).Idx → EReal)
    (WO : (⟨2, ![2048, 2048]⟩ : Shape).Idx → EReal) (b : Fin 2) (s : Fin 8192) (n : Fin 2048) : EReal :=
  X (ix3 b s n) + G (ix3 b 0 n) * (∑ k : Fin 2048, gated YA YB YC Z WA WB WC b s k * WO (ix2 k n))

end Cert.Merge

end
-- ==== Proof.Merge.Val.lean ====
/-
  The merge's kernel over the extended reals: its arithmetic, its operands and its blocks, read at an index.
-/
module

public import proofs.«01_k».proof.Proof.Gen.Kernel3Ideal.Value
public import proofs.«01_k».proof.Proof.Merge.Spec
public import Idealize.ShloMosaic.Lib.StableHlo.ReadAt
public import Idealize.ShloMosaic.Lib.VecWindow

@[expose] public section

set_option maxRecDepth 16384
set_option maxHeartbeats 1000000

noncomputable section

namespace Cert.Kernel3Ideal.Merge

open Idealize.ShloMosaic Idealize.ShloMosaic.TcCoe Idealize.SL.Sem
open Cert.Kernel3Ideal.Gen Cert.Merge

local notation "I" => Idealize.ShloMosaic.Ideal

/-! ### The arithmetic -/

theorem pay2_at (za : Vec I S256x2048 .bf16) (ya : Vec I S256x512 .bf16) (wa : Vec I S512x2048 .bf16) (zb : Vec I S256x2048 .bf16) (yb : Vec I S256x1024 .bf16)
    (wb : Vec I S1024x2048 .bf16) (zc : Vec I S256x2048 .bf16) (yc : Vec I S256x512 .bf16) (wc : Vec I S512x2048 .bf16) (r : Fin 256) (n : Fin 2048) :
    k0_pay2 za ya wa zb yb wb zc yc wc (ix2 r n)
      = Ideal.logistic (za (ix2 r n)) * (∑ k : Fin 512, ya (ix2 r k) * wa (ix2 k n))
        + Ideal.logistic (zb (ix2 r n)) * (∑ k : Fin 1024, yb (ix2 r k) * wb (ix2 k n))
        + Ideal.logistic (zc (ix2 r n)) * (∑ k : Fin 512, yc (ix2 r k) * wc (ix2 k n)) := by
  pointwise [k0_pay2]

theorem pay1_at (h : FVec I S256x2048 .f32) (x : FVec I S256x2048 .f32) (g : Vec I S1x1x2048 .f32) (wo : Vec I S2048x2048 .bf16) (r : Fin 256) (n : Fin 2048) :
    k0_pay1 h (k0_pay3 x) g wo (ix2 r n) = x (ix2 r n) + g (ix3 0 0 n) * (∑ k : Fin 2048, h (ix2 r k) * wo (ix2 k n)) := by
  pointwise [k0_pay1, k0_pay3]

/-! ### The operands -/

variable (m : (ℓ : Loc nD τ sig) → Buf (Elt I) ℓ) (c : Dev nD)

abbrev aX : S2x8192x2048.Idx → EReal := m ((c.tc : Thread nD τ).loc main_arg0)
abbrev aG : S2x1x2048.Idx → EReal := m ((c.tc : Thread nD τ).loc main_arg1)
abbrev aYA : S2x8192x512.Idx → EReal := m ((c.tc : Thread nD τ).loc main_arg2)
abbrev aYB : S2x8192x1024.Idx → EReal := m ((c.tc : Thread nD τ).loc main_arg3)
abbrev aYC : S2x8192x512.Idx → EReal := m ((c.tc : Thread nD τ).loc main_arg4)
abbrev aZ : S2x8192x6144.Idx → EReal := m ((c.tc : Thread nD τ).loc main_arg5)
abbrev aWA : S512x2048.Idx → EReal := m ((c.tc : Thread nD τ).loc main_arg6)
abbrev aWB : S1024x2048.Idx → EReal := m ((c.tc : Thread nD τ).loc main_arg7)
abbrev aWC : S512x2048.Idx → EReal := m ((c.tc : Thread nD τ).loc main_arg8)
abbrev aWO : S2048x2048.Idx → EReal := m ((c.tc : Thread nD τ).loc main_arg9)

theorem v4_at (r : Fin 16384) (a : Fin 2048) :
    (V m c main_v4 : S16384x2048.Idx → EReal) (ix2 r a) = aX m c (ix3 ⟨r.val / 8192, by omega⟩ ⟨r.val % 8192, by omega⟩ a) := by
  unfold V
  after_reads_at

theorem arg1_at (b : Fin 2) (a : Fin 2048) : (V m c main_arg1 : S2x1x2048.Idx → EReal) (ix3 b 0 a) = aG m c (ix3 b 0 a) := by
  rw [V_main_arg1]

theorem v6_at (r : Fin 16384) (a : Fin 512) :
    (V m c main_v6 : S16384x512.Idx → EReal) (ix2 r a) = aYA m c (ix3 ⟨r.val / 8192, by omega⟩ ⟨r.val % 8192, by omega⟩ a) := by
  unfold V
  after_reads_at

theorem v8_at (r : Fin 16384) (a : Fin 1024) :
    (V m c main_v8 : S16384x1024.Idx → EReal) (ix2 r a) = aYB m c (ix3 ⟨r.val / 8192, by omega⟩ ⟨r.val % 8192, by omega⟩ a) := by
  unfold V
  after_reads_at

theorem v10_at (r : Fin 16384) (a : Fin 512) :
    (V m c main_v10 : S16384x512.Idx → EReal) (ix2 r a) = aYC m c (ix3 ⟨r.val / 8192, by omega⟩ ⟨r.val % 8192, by omega⟩ a) := by
  unfold V
  after_reads_at

theorem v11_at (k : Fin 512) (a : Fin 2048) : (V m c main_v11 : S512x2048.Idx → EReal) (ix2 k a) = aWA m c (ix2 k a) := by
  unfold V
  after_reads_at

theorem v12_at (k : Fin 1024) (a : Fin 2048) : (V m c main_v12 : S1024x2048.Idx → EReal) (ix2 k a) = aWB m c (ix2 k a) := by
  unfold V
  after_reads_at

theorem v13_at (k : Fin 512) (a : Fin 2048) : (V m c main_v13 : S512x2048.Idx → EReal) (ix2 k a) = aWC m c (ix2 k a) := by
  unfold V
  after_reads_at

theorem v14_at (k : Fin 2048) (a : Fin 2048) : (V m c main_v14 : S2048x2048.Idx → EReal) (ix2 k a) = aWO m c (ix2 k a) := by
  unfold V
  after_reads_at

theorem v3_at (r : Fin 16384) (a : Fin 6144) :
    (V m c main_v3 : S16384x11776.Idx → EReal) (ix2 r ⟨a.val, by omega⟩) = aZ m c (ix3 ⟨r.val / 8192, by omega⟩ ⟨r.val % 8192, by omega⟩ a) := by
  unfold V
  after_reads_at
  after_reads_at

end Cert.Kernel3Ideal.Merge

end
-- ==== Proof.Merge.Blk.lean ====
/-
  The merge's blocks, read in the arrays they are blocks of.
-/
module

public import proofs.«01_k».proof.Proof.Merge.Val

@[expose] public section

set_option maxRecDepth 16384
set_option maxHeartbeats 1000000

noncomputable section

namespace Cert.Kernel3Ideal.Merge

open Idealize.ShloMosaic Idealize.ShloMosaic.TcCoe Idealize.SL.Sem
open Cert.Kernel3Ideal.Gen

variable {F : FTy → Type} [FloatOps F] (m : (ℓ : Loc nD τ sig) → Buf (Elt F) ℓ)

/-- A point of the grid is below sixty-four. -/
theorem lt_64 (t : Fin cfg0.N) : t.val < 64 := Nat.lt_of_lt_of_eq t.isLt N_0

theorem index_0 : ∀ t : Fin cfg0.N, win0_0.index t 0 = t.val ∧ win0_0.index t 1 = 0 := by decide +kernel

theorem iblk_0 (c : Dev nD) (t : Fin cfg0.N) (r : Fin 256) (a : Fin 2048) :
    (iblk m c 0 t : Vec F S256x2048 .f32) (ix2 r a)
      = (V m c main_v4 : Vec F S16384x2048 .f32) (ix2 ⟨t.val * 256 + r.val, by have := lt_64 t; omega⟩ a) := by
  have hi := index_0 t
  unfold iblk
  rw [View.read_apply]
  show (V m c main_v4 : Vec F S16384x2048 .f32) _ = _
  congr 1
  funext x
  apply Fin.ext
  match x with
  | ⟨0, _⟩ => show win0_0.index t 0 * 256 + 1 * r.val = _; rw [hi.1, Nat.one_mul]; first | rfl | (show _ = r.val; omega)
  | ⟨1, _⟩ => show win0_0.index t 1 * 2048 + 1 * a.val = _; rw [hi.2, Nat.one_mul]; first | rfl | (show _ = a.val; omega)

theorem index_1 : ∀ t : Fin cfg0.N, win0_1.index t 0 = t.val / 32 ∧ win0_1.index t 1 = 0 ∧ win0_1.index t 2 = 0 := by decide +kernel

theorem iblk_1 (c : Dev nD) (t : Fin cfg0.N) (a : Fin 2048) :
    (iblk m c 1 t : Vec F S1x1x2048 .f32) (ix3 0 0 a)
      = (V m c main_arg1 : Vec F S2x1x2048 .f32) (ix3 ⟨t.val / 32, by have := lt_64 t; omega⟩ 0 a) := by
  have hi := index_1 t
  unfold iblk
  rw [View.read_apply]
  show (V m c main_arg1 : Vec F S2x1x2048 .f32) _ = _
  congr 1
  funext x
  apply Fin.ext
  match x with
  | ⟨0, _⟩ => show win0_1.index t 0 * 1 + 1 * 0 = t.val / 32; rw [hi.1]; omega
  | ⟨1, _⟩ => show win0_1.index t 1 * 1 + 1 * 0 = 0; rw [hi.2.1]
  | ⟨2, _⟩ => show win0_1.index t 2 * 2048 + 1 * a.val = a.val; rw [hi.2.2]; omega

theorem index_2 : ∀ t : Fin cfg0.N, win0_2.index t 0 = t.val ∧ win0_2.index t 1 = 0 := by decide +kernel

theorem iblk_2 (c : Dev nD) (t : Fin cfg0.N) (r : Fin 256) (a : Fin 512) :
    (iblk m c 2 t : Vec F S256x512 .bf16) (ix2 r a)
      = (V m c main_v6 : Vec F S16384x512 .bf16) (ix2 ⟨t.val * 256 + r.val, by have := lt_64 t; omega⟩ a) := by
  have hi := index_2 t
  unfold iblk
  rw [View.read_apply]
  show (V m c main_v6 : Vec F S16384x512 .bf16) _ = _
  congr 1
  funext x
  apply Fin.ext
  match x with
  | ⟨0, _⟩ => show win0_2.index t 0 * 256 + 1 * r.val = _; rw [hi.1, Nat.one_mul]; first | rfl | (show _ = r.val; omega)
  | ⟨1, _⟩ => show win0_2.index t 1 * 512 + 1 * a.val = _; rw [hi.2, Nat.one_mul]; first | rfl | (show _ = a.val; omega)

theorem index_3 : ∀ t : Fin cfg0.N, win0_3.index t 0 = t.val ∧ win0_3.index t 1 = 0 := by decide +kernel

theorem iblk_3 (c : Dev nD) (t : Fin cfg0.N) (r : Fin 256) (a : Fin 1024) :
    (iblk m c 3 t : Vec F S256x1024 .bf16) (ix2 r a)
      = (V m c main_v8 : Vec F S16384x1024 .bf16) (ix2 ⟨t.val * 256 + r.val, by have := lt_64 t; omega⟩ a) := by
  have hi := index_3 t
  unfold iblk
  rw [View.read_apply]
  show (V m c main_v8 : Vec F S16384x1024 .bf16) _ = _
  congr 1
  funext x
  apply Fin.ext
  match x with
  | ⟨0, _⟩ => show win0_3.index t 0 * 256 + 1 * r.val = _; rw [hi.1, Nat.one_mul]; first | rfl | (show _ = r.val; omega)
  | ⟨1, _⟩ => show win0_3.index t 1 * 1024 + 1 * a.val = _; rw [hi.2, Nat.one_mul]; first | rfl | (show _ = a.val; omega)

theorem index_4 : ∀ t : Fin cfg0.N, win0_4.index t 0 = t.val ∧ win0_4.index t 1 = 0 := by decide +kernel

theorem iblk_4 (c : Dev nD) (t : Fin cfg0.N) (r : Fin 256) (a : Fin 512) :
    (iblk m c 4 t : Vec F S256x512 .bf16) (ix2 r a)
      = (V m c main_v10 : Vec F S16384x512 .bf16) (ix2 ⟨t.val * 256 + r.val, by have := lt_64 t; omega⟩ a) := by
  have hi := index_4 t
  unfold iblk
  rw [View.read_apply]
  show (V m c main_v10 : Vec F S16384x512 .bf16) _ = _
  congr 1
  funext x
  apply Fin.ext
  match x with
  | ⟨0, _⟩ => show win0_4.index t 0 * 256 + 1 * r.val = _; rw [hi.1, Nat.one_mul]; first | rfl | (show _ = r.val; omega)
  | ⟨1, _⟩ => show win0_4.index t 1 * 512 + 1 * a.val = _; rw [hi.2, Nat.one_mul]; first | rfl | (show _ = a.val; omega)

theorem index_5 : ∀ t : Fin cfg0.N, win0_5.index t 0 = t.val ∧ win0_5.index t 1 = 0 := by decide +kernel

theorem iblk_5 (c : Dev nD) (t : Fin cfg0.N) (r : Fin 256) (a : Fin 2048) :
    (X0_5 m c t : Vec F S256x2048 .bf16) (ix2 r a)
      = (V m c main_v3 : Vec F S16384x11776 .bf16) (ix2 ⟨t.val * 256 + r.val, by have := lt_64 t; omega⟩ ⟨0 * 2048 + a.val, by omega⟩) := by
  have hi := index_5 t
  unfold X0_5 Pipeline.Window.fill
  rw [dif_pos (moved0_5 t _)]
  unfold iblk
  rw [View.read_apply]
  show (V m c main_v3 : Vec F S16384x11776 .bf16) _ = _
  congr 1
  funext x
  apply Fin.ext
  match x with
  | ⟨0, _⟩ => show win0_5.index t 0 * 256 + 1 * r.val = _; rw [hi.1, Nat.one_mul]; first | rfl | (show _ = r.val; omega)
  | ⟨1, _⟩ => show win0_5.index t 1 * 2048 + 1 * a.val = _; rw [hi.2, Nat.one_mul]; first | rfl | (show _ = a.val; omega)

theorem index_6 : ∀ t : Fin cfg0.N, win0_6.index t 0 = t.val ∧ win0_6.index t 1 = 1 := by decide +kernel

theorem iblk_6 (c : Dev nD) (t : Fin cfg0.N) (r : Fin 256) (a : Fin 2048) :
    (X0_6 m c t : Vec F S256x2048 .bf16) (ix2 r a)
      = (V m c main_v3 : Vec F S16384x11776 .bf16) (ix2 ⟨t.val * 256 + r.val, by have := lt_64 t; omega⟩ ⟨1 * 2048 + a.val, by omega⟩) := by
  have hi := index_6 t
  unfold X0_6 Pipeline.Window.fill
  rw [dif_pos (moved0_6 t _)]
  unfold iblk
  rw [View.read_apply]
  show (V m c main_v3 : Vec F S16384x11776 .bf16) _ = _
  congr 1
  funext x
  apply Fin.ext
  match x with
  | ⟨0, _⟩ => show win0_6.index t 0 * 256 + 1 * r.val = _; rw [hi.1, Nat.one_mul]; first | rfl | (show _ = r.val; omega)
  | ⟨1, _⟩ => show win0_6.index t 1 * 2048 + 1 * a.val = 1 * 2048 + a.val; rw [hi.2]; omega

theorem index_7 : ∀ t : Fin cfg0.N, win0_7.index t 0 = t.val ∧ win0_7.index t 1 = 2 := by decide +kernel

theorem iblk_7 (c : Dev nD) (t : Fin cfg0.N) (r : Fin 256) (a : Fin 2048) :
    (X0_7 m c t : Vec F S256x2048 .bf16) (ix2 r a)
      = (V m c main_v3 : Vec F S16384x11776 .bf16) (ix2 ⟨t.val * 256 + r.val, by have := lt_64 t; omega⟩ ⟨2 * 2048 + a.val, by omega⟩) := by
  have hi := index_7 t
  unfold X0_7 Pipeline.Window.fill
  rw [dif_pos (moved0_7 t _)]
  unfold iblk
  rw [View.read_apply]
  show (V m c main_v3 : Vec F S16384x11776 .bf16) _ = _
  congr 1
  funext x
  apply Fin.ext
  match x with
  | ⟨0, _⟩ => show win0_7.index t 0 * 256 + 1 * r.val = _; rw [hi.1, Nat.one_mul]; first | rfl | (show _ = r.val; omega)
  | ⟨1, _⟩ => show win0_7.index t 1 * 2048 + 1 * a.val = 2 * 2048 + a.val; rw [hi.2]; omega

theorem index_8 : ∀ t : Fin cfg0.N, win0_8.index t 0 = 0 ∧ win0_8.index t 1 = 0 := by decide +kernel

theorem iblk_8 (c : Dev nD) (t : Fin cfg0.N) (r : Fin 512) (a : Fin 2048) :
    (iblk m c 8 t : Vec F S512x2048 .bf16) (ix2 r a)
      = (V m c main_v11 : Vec F S512x2048 .bf16) (ix2 r a) := by
  have hi := index_8 t
  unfold iblk
  rw [View.read_apply]
  show (V m c main_v11 : Vec F S512x2048 .bf16) _ = _
  congr 1
  funext x
  apply Fin.ext
  match x with
  | ⟨0, _⟩ => show win0_8.index t 0 * 512 + 1 * r.val = _; rw [hi.1, Nat.one_mul]; first | rfl | (show _ = r.val; omega)
  | ⟨1, _⟩ => show win0_8.index t 1 * 2048 + 1 * a.val = _; rw [hi.2, Nat.one_mul]; first | rfl | (show _ = a.val; omega)

theorem index_9 : ∀ t : Fin cfg0.N, win0_9.index t 0 = 0 ∧ win0_9.index t 1 = 0 := by decide +kernel

theorem iblk_9 (c : Dev nD) (t : Fin cfg0.N) (r : Fin 1024) (a : Fin 2048) :
    (iblk m c 9 t : Vec F S1024x2048 .bf16) (ix2 r a)
      = (V m c main_v12 : Vec F S1024x2048 .bf16) (ix2 r a) := by
  have hi := index_9 t
  unfold iblk
  rw [View.read_apply]
  show (V m c main_v12 : Vec F S1024x2048 .bf16) _ = _
  congr 1
  funext x
  apply Fin.ext
  match x with
  | ⟨0, _⟩ => show win0_9.index t 0 * 1024 + 1 * r.val = _; rw [hi.1, Nat.one_mul]; first | rfl | (show _ = r.val; omega)
  | ⟨1, _⟩ => show win0_9.index t 1 * 2048 + 1 * a.val = _; rw [hi.2, Nat.one_mul]; first | rfl | (show _ = a.val; omega)

theorem index_10 : ∀ t : Fin cfg0.N, win0_10.index t 0 = 0 ∧ win0_10.index t 1 = 0 := by decide +kernel

theorem iblk_10 (c : Dev nD) (t : Fin cfg0.N) (r : Fin 512) (a : Fin 2048) :
    (iblk m c 10 t : Vec F S512x2048 .bf16) (ix2 r a)
      = (V m c main_v13 : Vec F S512x2048 .bf16) (ix2 r a) := by
  have hi := index_10 t
  unfold iblk
  rw [View.read_apply]
  show (V m c main_v13 : Vec F S512x2048 .bf16) _ = _
  congr 1
  funext x
  apply Fin.ext
  match x with
  | ⟨0, _⟩ => show win0_10.index t 0 * 512 + 1 * r.val = _; rw [hi.1, Nat.one_mul]; first | rfl | (show _ = r.val; omega)
  | ⟨1, _⟩ => show win0_10.index t 1 * 2048 + 1 * a.val = _; rw [hi.2, Nat.one_mul]; first | rfl | (show _ = a.val; omega)

theorem index_11 : ∀ t : Fin cfg0.N, win0_11.index t 0 = 0 ∧ win0_11.index t 1 = 0 := by decide +kernel

theorem iblk_11 (c : Dev nD) (t : Fin cfg0.N) (r : Fin 2048) (a : Fin 2048) :
    (iblk m c 11 t : Vec F S2048x2048 .bf16) (ix2 r a)
      = (V m c main_v14 : Vec F S2048x2048 .bf16) (ix2 r a) := by
  have hi := index_11 t
  unfold iblk
  rw [View.read_apply]
  show (V m c main_v14 : Vec F S2048x2048 .bf16) _ = _
  congr 1
  funext x
  apply Fin.ext
  match x with
  | ⟨0, _⟩ => show win0_11.index t 0 * 2048 + 1 * r.val = _; rw [hi.1, Nat.one_mul]; first | rfl | (show _ = r.val; omega)
  | ⟨1, _⟩ => show win0_11.index t 1 * 2048 + 1 * a.val = _; rw [hi.2, Nat.one_mul]; first | rfl | (show _ = a.val; omega)

theorem index_12 : ∀ t : Fin cfg0.N, win0_12.index t 0 = t.val ∧ win0_12.index t 1 = 0 := by decide +kernel

/-- The result's block, read in a result array. -/
theorem oblk (G : Vec F S16384x2048 .f32) (t : Fin cfg0.N) (r : Fin 256) (a : Fin 2048) :
    ((win0_12.blk t).view.read (Elt F) G : Vec F S256x2048 .f32) (ix2 r a) = G (ix2 ⟨t.val * 256 + r.val, by have := lt_64 t; omega⟩ a) := by
  have hi := index_12 t
  rw [View.read_apply]
  show G _ = _
  congr 1
  funext x
  apply Fin.ext
  match x with
  | ⟨0, _⟩ => show win0_12.index t 0 * 256 + 1 * r.val = _; rw [hi.1, Nat.one_mul]; rfl
  | ⟨1, _⟩ => show win0_12.index t 1 * 2048 + 1 * a.val = a.val; rw [hi.2]; omega

/-- An entry of the result lies in a point's block when its row does. -/
theorem mem_blk (t : Fin cfg0.N) (i : S16384x2048.Idx) : i ∈ ((cfg0.win 12).blk t).view.set ↔ t.val = (i 0).val / 256 := by
  show i ∈ ((View.whole main_v15).slice (win0_12.rect t)).set ↔ _
  rw [View.set_slice_whole, Rect.mem_set_unit]
  have hi := index_12 t
  have h0 : win0_12.index t 0 * win0_12.size 0 = t.val * 256 := by rw [hi.1]; rfl
  have h1 : win0_12.index t 1 * win0_12.size 1 = 0 := by rw [hi.2]; rfl
  have x0 : ∀ t : Fin cfg0.N, win0_12.xsize (grid0.coords t) 0 = 256 := by decide +kernel
  have x1 : ∀ t : Fin cfg0.N, win0_12.xsize (grid0.coords t) 1 = 2048 := by decide +kernel
  constructor
  · intro h
    have a0 : win0_12.index t 0 * win0_12.size 0 ≤ (i 0).val ∧ (i 0).val < win0_12.index t 0 * win0_12.size 0 + win0_12.xsize (grid0.coords t) 0 := h 0
    rw [h0, x0] at a0
    omega
  · intro h a
    have hc : (i 1).val < 2048 := (i 1).isLt
    match a with
    | ⟨0, _⟩ =>
      show win0_12.index t 0 * win0_12.size 0 ≤ (i 0).val ∧ (i 0).val < win0_12.index t 0 * win0_12.size 0 + win0_12.xsize (grid0.coords t) 0
      rw [h0, x0]; omega
    | ⟨1, _⟩ =>
      show win0_12.index t 1 * win0_12.size 1 ≤ (i 1).val ∧ (i 1).val < win0_12.index t 1 * win0_12.size 1 + win0_12.xsize (grid0.coords t) 1
      rw [h1, x1]; omega

/-- Every entry of the result is in a block written back. -/
theorem cover (i : S16384x2048.Idx) : ∃ t, (cfg0.win 12).flush t = true ∧ i ∈ ((cfg0.win 12).blk t).view.set := by
  have r : (i 0).val < 16384 := (i 0).isLt
  exact ⟨⟨(i 0).val / 256, by rw [N_0]; omega⟩, flush0_12 _, (mem_blk _ i).2 rfl⟩

end Cert.Kernel3Ideal.Merge

end
-- ==== Proof.Merge.Arr.lean ====
/-
  The array the merge's kernel leaves.
-/
module

public import proofs.«01_k».proof.Proof.Merge.Blk

@[expose] public section

set_option maxRecDepth 16384
set_option maxHeartbeats 1000000

noncomputable section

namespace Cert.Kernel3Ideal.Merge

open Idealize.ShloMosaic Idealize.ShloMosaic.TcCoe Idealize.SL.Sem
open Idealize.ShloMosaic.Pipeline (Dat)
open Cert.Kernel3Ideal.Gen Cert.Merge

section

variable {F : FTy → Type} [FloatOps F]

/-- A load of a whole buffer reads what is in it. -/
theorem ld {s : Shape} {e : EltTy} (a : Memref sig .tc .vmem s e) (h : a.IsWhole) (x : s.Idx → Elt F e) {off : Fin s.rank → ℕ} (inb : ∀ k, off k + s.size k ≤ s.size k) :
    a.view.readAt (Elt F) (Rect.unit off s.size inb).toLoadRect (h.unread x) = x :=
  (View.readAt_full _ _ inb).trans (h.read_unread _)

theorem pay2_congr {a a' : Vec F S256x2048 .bf16} {b b' : Vec F S256x512 .bf16} {d d' : Vec F S512x2048 .bf16} {e e' : Vec F S256x2048 .bf16} {f f' : Vec F S256x1024 .bf16}
    {g g' : Vec F S1024x2048 .bf16} {h h' : Vec F S256x2048 .bf16} {k k' : Vec F S256x512 .bf16} {l l' : Vec F S512x2048 .bf16}
    (ea : a = a') (eb : b = b') (ed : d = d') (ee : e = e') (ef : f = f') (eg : g = g') (eh : h = h') (ek : k = k') (el : l = l') :
    k0_pay2 a b d e f g h k l = k0_pay2 a' b' d' e' f' g' h' k' l' := by rw [ea, eb, ed, ee, ef, eg, eh, ek, el]

theorem pay1_congr {a a' : FVec F S256x2048 .f32} {b b' : Vec F S256x2048 .f32} {d d' : Vec F S1x1x2048 .f32} {e e' : Vec F S2048x2048 .bf16}
    (ea : a = a') (eb : b = b') (ed : d = d') (ee : e = e') : k0_pay1 a (k0_pay3 b) d e = k0_pay1 a' (k0_pay3 b') d' e' := by rw [ea, eb, ed, ee]

variable (m : (ℓ : Loc nD τ sig) → Buf (Elt F) ℓ) (c : Dev nD)

/-- What a point leaves in its block. -/
theorem outs_eq (t : Fin cfg0.N) : outsAt0 m c t
    = k0_pay1 (k0_pay2 (X0_5 m c t) (iblk m c 2 t) (iblk m c 8 t) (X0_6 m c t) (iblk m c 3 t) (iblk m c 9 t) (X0_7 m c t) (iblk m c 4 t) (iblk m c 10 t))
        (k0_pay3 (iblk m c 0 t)) (iblk m c 1 t) (iblk m c 11 t) := by
  unfold outsAt0 out0_A_12 kernelRun0_A
  refine (View.read_writes_full _ _ _ _ _).trans ?_
  exact pay1_congr (pay2_congr (ld _ _ _ _) (ld _ _ _ _) (ld _ _ _ _) (ld _ _ _ _) (ld _ _ _ _) (ld _ _ _ _) (ld _ _ _ _) (ld _ _ _ _) (ld _ _ _ _)) (ld _ _ _ _) (ld _ _ _ _) (ld _ _ _ _)

end

local notation "I" => Idealize.ShloMosaic.Ideal

variable (m : (ℓ : Loc nD τ sig) → Buf (Elt I) ℓ) (c : Dev nD)

/-- The merge of the kernel's arguments. -/
def G : Vec I S16384x2048 .f32 := fun i =>
  merge (aX m c) (aG m c) (aYA m c) (aYB m c) (aYC m c) (aZ m c) (aWA m c) (aWB m c) (aWC m c) (aWO m c)
    ⟨(i 0).val / 8192, by have h : (i 0).val < 16384 := (i 0).isLt; omega⟩ ⟨(i 0).val % 8192, by omega⟩ (i 1)

theorem z0_at (r : Fin 16384) (a : Fin 2048) :
    (V m c main_v3 : S16384x11776.Idx → EReal) (ix2 r ⟨0 * 2048 + a.val, by omega⟩)
      = aZ m c (ix3 ⟨r.val / 8192, by omega⟩ ⟨r.val % 8192, by omega⟩ ⟨a.val, by omega⟩) := by
  have h := v3_at m c r ⟨a.val, by omega⟩
  rw [← h]
  exact congrArg (fun z => (V m c main_v3 : S16384x11776.Idx → EReal) (ix2 r z)) (Fin.ext (by show 0 * 2048 + a.val = a.val; omega))

theorem z1_at (r : Fin 16384) (a : Fin 2048) :
    (V m c main_v3 : S16384x11776.Idx → EReal) (ix2 r ⟨1 * 2048 + a.val, by omega⟩)
      = aZ m c (ix3 ⟨r.val / 8192, by omega⟩ ⟨r.val % 8192, by omega⟩ ⟨2048 + a.val, by omega⟩) := by
  have h := v3_at m c r ⟨2048 + a.val, by omega⟩
  rw [← h]

theorem z2_at (r : Fin 16384) (a : Fin 2048) :
    (V m c main_v3 : S16384x11776.Idx → EReal) (ix2 r ⟨2 * 2048 + a.val, by omega⟩)
      = aZ m c (ix3 ⟨r.val / 8192, by omega⟩ ⟨r.val % 8192, by omega⟩ ⟨4096 + a.val, by omega⟩) := by
  have h := v3_at m c r ⟨4096 + a.val, by omega⟩
  rw [← h]

theorem outs_at (t : Fin cfg0.N) (r : Fin 256) (n : Fin 2048) :
    (outsAt0 m c t : Vec I S256x2048 .f32) (ix2 r n) = G m c (ix2 ⟨t.val * 256 + r.val, by have := lt_64 t; omega⟩ n) := by
  have ht := lt_64 t
  rw [outs_eq, pay1_at]
  show _ = merge (aX m c) (aG m c) (aYA m c) (aYB m c) (aYC m c) (aZ m c) (aWA m c) (aWB m c) (aWC m c) (aWO m c)
    ⟨(t.val * 256 + r.val) / 8192, by omega⟩ ⟨(t.val * 256 + r.val) % 8192, by omega⟩ n
  unfold merge
  rw [iblk_0, v4_at, iblk_1, arg1_at]
  congr 1
  have eb : (⟨t.val / 32, by omega⟩ : Fin 2) = ⟨(t.val * 256 + r.val) / 8192, by omega⟩ := Fin.ext (by show t.val / 32 = (t.val * 256 + r.val) / 8192; omega)
  rw [eb]
  congr 1
  refine Finset.sum_congr rfl fun k _ => ?_
  rw [iblk_11, v14_at, pay2_at]
  congr 1
  unfold gated
  rw [iblk_5, iblk_6, iblk_7, z0_at, z1_at, z2_at]
  congr 1
  · congr 1
    · congr 1
      refine Finset.sum_congr rfl fun j _ => ?_
      rw [iblk_2, v6_at, iblk_8, v11_at]
    · congr 1
      refine Finset.sum_congr rfl fun j _ => ?_
      rw [iblk_3, v8_at, iblk_9, v12_at]
  · congr 1
    refine Finset.sum_congr rfl fun j _ => ?_
    rw [iblk_4, v10_at, iblk_10, v13_at]

/-- The result array at the end of the run. -/
theorem final : (dats m 0 c).arrAt 12 cfg0.N = G m c := by
  refine (dats m 0 c).arrAt_eq_of_cover 12 (G m c) (fun t _ => ?_) cover
  show (cfg0.win 12).cut (grid0.coords t) ((dats m 0 c).after 12 t) = _
  rw [after0_12]
  have key : (outsAt0 m c t : Vec I S256x2048 .f32) = ((win0_12.blk t).view.read (Elt I) (G m c) : Vec I S256x2048 .f32) := by
    funext y
    obtain ⟨r, n, rfl⟩ : ∃ (r : Fin 256) (n : Fin 2048), y = ix2 r n := ⟨y 0, y 1, funext fun a => match a with | ⟨0, _⟩ => rfl | ⟨1, _⟩ => rfl⟩
    exact (outs_at m c t r n).trans (oblk (G m c) t r n).symm
  exact key

end Cert.Kernel3Ideal.Merge

end
-- ==== Proof.Merge.Ref.lean ====
/-
  The merge's reference over the extended reals.
-/
module

public import proofs.«01_k».proof.Proof.Gen.Reference3Ideal.Read
public import proofs.«01_k».proof.Proof.Merge.Spec

@[expose] public section

set_option maxRecDepth 16384
set_option maxHeartbeats 1000000

noncomputable section

namespace Cert.Reference3Ideal.Merge

open Idealize.ShloMosaic Idealize.ShloMosaic.TcCoe
open Cert.Reference3Ideal.Gen Cert.Reference3Ideal.Read Cert.Merge

local notation "I" => Idealize.ShloMosaic.Ideal

theorem ix2_eq {n0 n1 : ℕ} (f : (⟨2, ![n0, n1]⟩ : Shape).Idx) (a : Fin n0) (b : Fin n1)
    (h0 : (f 0).val = a.val) (h1 : (f 1).val = b.val) : f = ix2 a b :=
  funext fun i => match i with
    | ⟨0, _⟩ => Fin.ext h0
    | ⟨1, _⟩ => Fin.ext h1

theorem ix3_eq {n0 n1 n2 : ℕ} (f : (⟨3, ![n0, n1, n2]⟩ : Shape).Idx) (a : Fin n0) (b : Fin n1) (c : Fin n2)
    (h0 : (f 0).val = a.val) (h1 : (f 1).val = b.val) (h2 : (f 2).val = c.val) : f = ix3 a b c :=
  funext fun i => match i with
    | ⟨0, _⟩ => Fin.ext h0
    | ⟨1, _⟩ => Fin.ext h1
    | ⟨2, _⟩ => Fin.ext h2

theorem ofBits_1 : Ideal.ofBits .f32 0x3F800000#32 = 1 := by
  simp [Ideal.ofBits, Ideal.ieee, -EReal.coe_mul]; norm_num

variable (X : (⟨S2x8192x2048, .f32⟩ : BufTy).Contents (Elt I)) (G : (⟨S2x1x2048, .f32⟩ : BufTy).Contents (Elt I))
  (YA : (⟨S2x8192x512, .f32⟩ : BufTy).Contents (Elt I)) (YB : (⟨S2x8192x1024, .f32⟩ : BufTy).Contents (Elt I)) (YC : (⟨S2x8192x512, .f32⟩ : BufTy).Contents (Elt I))
  (Z : (⟨S2x8192x6144, .f32⟩ : BufTy).Contents (Elt I))
  (WA : (⟨S512x2048, .f32⟩ : BufTy).Contents (Elt I)) (WB : (⟨S1024x2048, .f32⟩ : BufTy).Contents (Elt I)) (WC : (⟨S512x2048, .f32⟩ : BufTy).Contents (Elt I))
  (WO : (⟨S2048x2048, .f32⟩ : BufTy).Contents (Elt I))

/-- The gates. -/
theorem v5_at (i : S2x8192x6144.Idx) : val_main_v5 (F := I) Z i = Ideal.logistic (Z i) := by
  rw [val_main_v5_apply, val_main_v4_apply, val_main_cst_0_apply, val_main_v3_apply, val_main_v2_apply, val_main_cst_apply, val_main_v1_apply,
    val_main_v0_apply, Ideal.ofBits_def, ofBits_1]
  rfl

theorem v16_at (b : Fin 2) (s : Fin 8192) (n : Fin 2048) :
    val_main_v16 (F := I) YA YB YC Z WA WB WC (ix3 b s n) = gated YA YB YC Z WA WB WC b s n := by
  rw [val_main_v16_apply, val_main_v13_apply, val_main_v10_apply, val_main_v12_apply, val_main_v15_apply, val_main_v6_apply, val_main_v7_apply, val_main_v8_apply,
    val_main_v9_apply, val_main_v11_apply, val_main_v14_apply, v5_at, v5_at, v5_at]
  simp only [Ideal.addf_def, Ideal.mulf_def]
  unfold gated
  rw [ix3_eq (idx_main_v6 (ix3 b s n)) b s ⟨n.val, by omega⟩ rfl rfl rfl, ix3_eq (idx_main_v7 (ix3 b s n)) b s ⟨2048 + n.val, by omega⟩ rfl rfl rfl,
    ix3_eq (idx_main_v8 (ix3 b s n)) b s ⟨4096 + n.val, by omega⟩ rfl rfl rfl]
  congr 1
  · congr 1
    · congr 1
      refine Finset.sum_congr rfl fun k _ => ?_
      rw [ix3_eq (lidx_main_v9 (ix3 b s n) k) b s k rfl rfl rfl, ix2_eq (ridx_main_v9 (ix3 b s n) k) k n rfl rfl]
    · congr 1
      refine Finset.sum_congr rfl fun k _ => ?_
      rw [ix3_eq (lidx_main_v11 (ix3 b s n) k) b s k rfl rfl rfl, ix2_eq (ridx_main_v11 (ix3 b s n) k) k n rfl rfl]
  · congr 1
    refine Finset.sum_congr rfl fun k _ => ?_
    rw [ix3_eq (lidx_main_v14 (ix3 b s n) k) b s k rfl rfl rfl, ix2_eq (ridx_main_v14 (ix3 b s n) k) k n rfl rfl]

/-- The result, row by row. -/
theorem result_at (r : Fin 16384) (n : Fin 2048) :
    val_main_v21 (F := I) X G YA YB YC Z WA WB WC WO (ix2 r n)
      = merge X G YA YB YC Z WA WB WC WO ⟨r.val / 8192, by omega⟩ ⟨r.val % 8192, by omega⟩ n := by
  rw [val_main_v21_apply, ix3_eq (idx_main_v21 (ix2 r n)) ⟨r.val / 8192, by omega⟩ ⟨r.val % 8192, by omega⟩ n
    (by show (r.val * 2048 + n.val) / 16777216 = r.val / 8192; omega) (by show (r.val * 2048 + n.val) / 2048 % 8192 = r.val % 8192; omega)
    (by show (r.val * 2048 + n.val) % 2048 = n.val; omega)]
  rw [val_main_v20_apply, val_main_v19_apply, val_main_v18_apply, val_main_v17_apply]
  simp only [Ideal.addf_def, Ideal.mulf_def]
  unfold merge
  congr 1
  congr 1
  · exact congrArg G (ix3_eq _ _ _ _ rfl rfl rfl)
  · refine Finset.sum_congr rfl fun k _ => ?_
    rw [ix3_eq (lidx_main_v17 _ k) ⟨r.val / 8192, by omega⟩ ⟨r.val % 8192, by omega⟩ k rfl rfl rfl, ix2_eq (ridx_main_v17 _ k) k n rfl rfl, v16_at]

theorem result_eq : val_main_v21 (F := I) X G YA YB YC Z WA WB WC WO = fun i : S16384x2048.Idx =>
    merge X G YA YB YC Z WA WB WC WO ⟨(i 0).val / 8192, by have h : (i 0).val < 16384 := (i 0).isLt; omega⟩ ⟨(i 0).val % 8192, by omega⟩ (i 1) := by
  funext i
  obtain ⟨r, n, rfl⟩ : ∃ (r : Fin 16384) (n : Fin 2048), i = ix2 r n := ⟨i 0, i 1, funext fun a => match a with | ⟨0, _⟩ => rfl | ⟨1, _⟩ => rfl⟩
  exact result_at X G YA YB YC Z WA WB WC WO r n

end Cert.Reference3Ideal.Merge

end
-- ==== Proof.Conv.Reads.lean ====
/-
  What the convolution kernel's loads and stores read.
-/
module

public import proofs.«01_k».proof.Proof.Gen.Kernel4Ideal.Value
public import Idealize.ShloMosaic.Lib.StableHlo.ReadAt
public import Idealize.ShloMosaic.Lib.VecWindow

@[expose] public section

set_option maxRecDepth 16384
set_option maxHeartbeats 1000000

noncomputable section

namespace Cert.Kernel4Ideal.Conv

open Idealize.ShloMosaic Idealize.ShloMosaic.TcCoe Idealize.SL.Sem
open Cert.Kernel4Ideal.Gen

variable {F : FTy → Type} [FloatOps F]

/-- A block with the rows before it: thirty-two of them. -/
def joined (H : Vec F S32x512 .f32) (X : Vec F S512x512 .f32) : Vec F S544x512 .f32 := fun y =>
  if h : (y 0).val < 32 then H (ix2 ⟨(y 0).val, h⟩ (y 1))
  else X (ix2 ⟨(y 0).val - 32, by have h0 : (y 0).val < 544 := (y 0).isLt; omega⟩ (y 1))

/-- A row of the joined rows. -/
def row (Y : Vec F S544x512 .f32) (k : ℕ) (n : Fin 512) : Elt F .f32 := Y (ix2 ⟨k % 544, Nat.mod_lt _ (by decide)⟩ n)

/-- Rows from a row on, as a block. -/
def rows (Y : Vec F S544x512 .f32) (k : ℕ) : Vec F S512x512 .f32 := fun y => row Y (k + (y 0).val) (y 1)

/-- The same with a leading axis. -/
def rows1 (Y : Vec F S544x512 .f32) (k : ℕ) : Vec F S1x512x512 .f32 := fun y => row Y (k + (y 1).val) (y 2)

/-- Rows from a row on, as one of the shifted copies. -/
def rowsL (Y : Vec F S544x512 .f32) (k : ℕ) : Vec F S536x512 .f32 := fun y => row Y (k + (y 0).val) (y 1)

/-- The last thirty-two rows. -/
def last (Y : Vec F S544x512 .f32) : Vec F S32x512 .f32 := fun y => row Y (512 + (y 0).val) (y 1)

/-- The first thirty-two rows. -/
def first32 (Y : Vec F S544x512 .f32) : Vec F S32x512 .f32 := fun y => row Y (y 0).val (y 1)

/-- The seven shifted copies. -/
def shifted (Y : Vec F S544x512 .f32) : Vec F S7x536x512 .f32 := fun y => row Y ((y 0).val + 1 + (y 1).val) (y 2)

/-- A row of taps. -/
def tapRow (W : Vec F S31x512 .f32) (j : ℕ) : Vec F S1x512 .f32 := fun y => W (ix2 ⟨j % 31, Nat.mod_lt _ (by decide)⟩ (y 1))

theorem row_congr (Y : Vec F S544x512 .f32) {k k' : ℕ} {n n' : Fin 512} (hk : k = k') (hn : n = n') : row Y k n = row Y k' n' := by rw [hk, hn]

theorem row_at (Y : Vec F S544x512 .f32) (y : S544x512.Idx) (k : ℕ) (n : Fin 512) (hk : (y 0).val = k) (hn : (y 1).val = n.val) : Y y = row Y k n := by
  have h0 : (y 0).val < 544 := (y 0).isLt
  refine congrArg Y (funext fun a => Fin.ext ?_)
  match a with
  | ⟨0, _⟩ => show (y 0).val = k % 544; omega
  | ⟨1, _⟩ => exact hn

/-- A load of a whole buffer reads what is in it. -/
theorem ld {s : Shape} {e : EltTy} (a : Memref sig .tc .vmem s e) (h : a.IsWhole) (x : s.Idx → Elt F e) {off : Fin s.rank → ℕ} (inb : ∀ k, off k + s.size k ≤ s.size k) :
    a.view.readAt (Elt F) (Rect.unit off s.size inb).toLoadRect (h.unread x) = x :=
  (View.readAt_full _ _ inb).trans (h.read_unread _)

/-- A load of a row of taps. -/
theorem ld_tap (a : Memref sig .tc .vmem S31x512 .f32) (h : a.IsWhole) (x : Vec F S31x512 .f32) (j : ℕ) (inb : ∀ k, (![j, 0] : Fin 2 → ℕ) k + S1x512.size k ≤ S31x512.size k) :
    a.view.readAt (Elt F) (Rect.unit (s := S31x512) ![j, 0] S1x512.size inb).toLoadRect (h.unread x) = tapRow x j := by
  have hj : j + 1 ≤ 31 := inb 0
  funext y
  rw [View.readAt_apply, h.read_unread]
  have h0 : (y 0).val < 1 := (y 0).isLt
  refine congrArg x (funext fun b => Fin.ext ?_)
  match b with
  | ⟨0, _⟩ => show j + 1 * (y 0).val = j % 31; omega
  | ⟨1, _⟩ => show 0 + 1 * (y 1).val = (y 1).val; omega

/-- Where the joined rows' stores agree with them. -/
theorem agree_low (H : Vec F S32x512 .f32) (X : Vec F S512x512 .f32) (inb : ∀ k, (![0, 0] : Fin 2 → ℕ) k + S32x512.size k ≤ S544x512.size k) (x : S32x512.Idx) :
    H x = joined H X ((Rect.unit (s := S544x512) ![0, 0] S32x512.size inb).emb x) := by
  have h0 : (x 0).val < 32 := (x 0).isLt
  have e : (((Rect.unit (s := S544x512) ![0, 0] S32x512.size inb).emb x) 0).val = (x 0).val := by show 0 + 1 * (x 0).val = _; omega
  unfold joined
  rw [dif_pos (by rw [e]; exact h0)]
  refine congrArg H (funext fun a => Fin.ext ?_)
  match a with
  | ⟨0, _⟩ => exact e.symm
  | ⟨1, _⟩ => show (x 1).val = 0 + 1 * (x 1).val; omega

theorem agree_high (H : Vec F S32x512 .f32) (X : Vec F S512x512 .f32) (inb : ∀ k, (![32, 0] : Fin 2 → ℕ) k + S512x512.size k ≤ S544x512.size k) (x : S512x512.Idx) :
    X x = joined H X ((Rect.unit (s := S544x512) ![32, 0] S512x512.size inb).emb x) := by
  have h0 : (x 0).val < 512 := (x 0).isLt
  have e : (((Rect.unit (s := S544x512) ![32, 0] S512x512.size inb).emb x) 0).val = 32 + (x 0).val := by show 32 + 1 * (x 0).val = _; omega
  unfold joined
  rw [dif_neg (by rw [e]; omega)]
  refine congrArg X (funext fun a => Fin.ext ?_)
  match a with
  | ⟨0, _⟩ => show (x 0).val = (((Rect.unit (s := S544x512) ![32, 0] S512x512.size inb).emb x) 0).val - 32; rw [e]; omega
  | ⟨1, _⟩ => show (x 1).val = 0 + 1 * (x 1).val; omega

theorem mem_low (inb : ∀ k, (![0, 0] : Fin 2 → ℕ) k + S32x512.size k ≤ S544x512.size k) (y : S544x512.Idx) (h : (y 0).val < 32) :
    y ∈ (Rect.unit (s := S544x512) ![0, 0] S32x512.size inb).set := by
  rw [Rect.mem_set_unit]
  have h1 : (y 1).val < 512 := (y 1).isLt
  intro a
  match a with
  | ⟨0, _⟩ => exact ⟨Nat.zero_le _, by show (y 0).val < 0 + 32; omega⟩
  | ⟨1, _⟩ => exact ⟨Nat.zero_le _, by show (y 1).val < 0 + 512; omega⟩

theorem mem_high (inb : ∀ k, (![32, 0] : Fin 2 → ℕ) k + S512x512.size k ≤ S544x512.size k) (y : S544x512.Idx) (h : 32 ≤ (y 0).val) :
    y ∈ (Rect.unit (s := S544x512) ![32, 0] S512x512.size inb).set := by
  rw [Rect.mem_set_unit]
  have h0 : (y 0).val < 544 := (y 0).isLt
  have h1 : (y 1).val < 512 := (y 1).isLt
  intro a
  match a with
  | ⟨0, _⟩ => exact ⟨h, by show (y 0).val < 32 + 512; omega⟩
  | ⟨1, _⟩ => exact ⟨Nat.zero_le _, by show (y 1).val < 0 + 512; omega⟩

/-- The buffer after both stores. -/
theorem canon_both (H : Vec F S32x512 .f32) (X : Vec F S512x512 .f32) (i0 i1) :
    View.canon (Val := Elt F) [(⟨Rect.unit (s := S544x512) ![32, 0] S512x512.size i1, X⟩ : View.Piece (Elt F) S544x512 .f32), ⟨Rect.unit (s := S544x512) ![0, 0] S32x512.size i0, H⟩]
      = joined H X := by
  funext y
  refine View.canon_apply_of_pieces (joined H X) _ ?_ y ?_
  · intro p hp x
    simp only [List.mem_cons, List.not_mem_nil, or_false] at hp
    rcases hp with rfl | rfl
    · exact agree_high H X i1 x
    · exact agree_low H X i0 x
  · by_cases h : (y 0).val < 32
    · exact ⟨_, List.Mem.tail _ (List.Mem.head _), mem_low i0 y h⟩
    · exact ⟨_, List.Mem.head _, mem_high i1 y (by omega)⟩

/-- The buffer after the block's store alone, in the block. -/
theorem canon_one (H : Vec F S32x512 .f32) (X : Vec F S512x512 .f32) (i1) (y : S544x512.Idx) (h : 32 ≤ (y 0).val) :
    View.canon (Val := Elt F) [(⟨Rect.unit (s := S544x512) ![32, 0] S512x512.size i1, X⟩ : View.Piece (Elt F) S544x512 .f32)] y = joined H X y := by
  refine View.canon_apply_of_pieces (joined H X) _ ?_ y ⟨_, List.Mem.head _, mem_high i1 y h⟩
  intro p hp x
  simp only [List.mem_cons, List.not_mem_nil, or_false] at hp
  subst hp
  exact agree_high H X i1 x

/-- The buffer after the block's store over what the point before left. -/
theorem read_over (a : Memref sig .tc .vmem S544x512 .f32) (ha : a.IsWhole) (S : Vec F S544x512 .f32) (X : Vec F S512x512 .f32) (i1) :
    a.view.read (Elt F) (a.view.writes (Elt F) (ha.unread S) [(⟨Rect.unit (s := S544x512) ![32, 0] S512x512.size i1, X⟩ : View.Piece (Elt F) S544x512 .f32)])
      = joined (first32 S) X := by
  funext y
  by_cases h : (y 0).val < 32
  · rw [View.read_writes_cons_put _ _ _ _ _ rfl]
    unfold VecWindow.put
    rw [dif_neg (fun h' => by have h0 : 32 ≤ (y 0).val := (h' 0).1; omega)]
    show a.view.read (Elt F) (ha.unread S) y = _
    rw [ha.read_unread]
    unfold joined first32
    rw [dif_pos h]
    exact row_at S y _ _ rfl rfl
  · have h' : 32 ≤ (y 0).val := Nat.le_of_not_lt h
    refine (View.read_writes_apply_eq_canon _ _ y _ ?_).trans (canon_one (first32 S) X i1 y h')
    exact ⟨_, List.Mem.head _, mem_high i1 y h'⟩

theorem copy_at (v : Vec F S536x512 .f32) (y : S1x536x512.Idx) : k0_pay4 v y = v (ix2 (y 1) (y 2)) := by
  pointwise [k0_pay4]

theorem mem_copy (k : ℕ) (inb : ∀ a, (![k, 0, 0] : Fin 3 → ℕ) a + S1x536x512.size a ≤ S7x536x512.size a) (y : S7x536x512.Idx) (h : (y 0).val = k) :
    y ∈ (Rect.unit (s := S7x536x512) ![k, 0, 0] S1x536x512.size inb).set := by
  rw [Rect.mem_set_unit]
  have h1 : (y 1).val < 536 := (y 1).isLt
  have h2 : (y 2).val < 512 := (y 2).isLt
  intro a
  match a with
  | ⟨0, _⟩ => exact ⟨by show k ≤ (y 0).val; omega, by show (y 0).val < k + 1; omega⟩
  | ⟨1, _⟩ => exact ⟨Nat.zero_le _, by show (y 1).val < 0 + 536; omega⟩
  | ⟨2, _⟩ => exact ⟨Nat.zero_le _, by show (y 2).val < 0 + 512; omega⟩

theorem agree_copy (Y : Vec F S544x512 .f32) (k q : ℕ) (hq : q = k + 1) (inb : ∀ a, (![k, 0, 0] : Fin 3 → ℕ) a + S1x536x512.size a ≤ S7x536x512.size a) (x : S1x536x512.Idx) :
    k0_pay4 (rowsL Y q) x = shifted Y ((Rect.unit (s := S7x536x512) ![k, 0, 0] S1x536x512.size inb).emb x) := by
  subst hq
  rw [copy_at]
  have h0 : (x 0).val < 1 := (x 0).isLt
  refine row_congr Y ?_ (Fin.ext ?_)
  · show k + 1 + (x 1).val = k + 1 * (x 0).val + 1 + (0 + 1 * (x 1).val); omega
  · show (x 2).val = 0 + 1 * (x 2).val; omega

/-- The seven copies' stores. -/
abbrev copies (u0 u1 u2 u3 u4 u5 u6 : Vec F S536x512 .f32) (i0 : ∀ a, (![0, 0, 0] : Fin 3 → ℕ) a + S1x536x512.size a ≤ S7x536x512.size a)
    (i1 : ∀ a, (![1, 0, 0] : Fin 3 → ℕ) a + S1x536x512.size a ≤ S7x536x512.size a)
    (i2 : ∀ a, (![2, 0, 0] : Fin 3 → ℕ) a + S1x536x512.size a ≤ S7x536x512.size a)
    (i3 : ∀ a, (![3, 0, 0] : Fin 3 → ℕ) a + S1x536x512.size a ≤ S7x536x512.size a)
    (i4 : ∀ a, (![4, 0, 0] : Fin 3 → ℕ) a + S1x536x512.size a ≤ S7x536x512.size a)
    (i5 : ∀ a, (![5, 0, 0] : Fin 3 → ℕ) a + S1x536x512.size a ≤ S7x536x512.size a)
    (i6 : ∀ a, (![6, 0, 0] : Fin 3 → ℕ) a + S1x536x512.size a ≤ S7x536x512.size a) :
    List (View.Piece (Elt F) S7x536x512 .f32) :=
  [⟨Rect.unit (s := S7x536x512) ![6, 0, 0] S1x536x512.size i6, k0_pay10 u6⟩, ⟨Rect.unit (s := S7x536x512) ![5, 0, 0] S1x536x512.size i5, k0_pay9 u5⟩,
    ⟨Rect.unit (s := S7x536x512) ![4, 0, 0] S1x536x512.size i4, k0_pay8 u4⟩, ⟨Rect.unit (s := S7x536x512) ![3, 0, 0] S1x536x512.size i3, k0_pay7 u3⟩,
    ⟨Rect.unit (s := S7x536x512) ![2, 0, 0] S1x536x512.size i2, k0_pay6 u2⟩, ⟨Rect.unit (s := S7x536x512) ![1, 0, 0] S1x536x512.size i1, k0_pay5 u1⟩,
    ⟨Rect.unit (s := S7x536x512) ![0, 0, 0] S1x536x512.size i0, k0_pay4 u0⟩]

theorem canon_copies (Y : Vec F S544x512 .f32) (i0 i1 i2 i3 i4 i5 i6) :
    View.canon (Val := Elt F) (copies (rowsL Y 1) (rowsL Y 2) (rowsL Y 3) (rowsL Y 4) (rowsL Y 5) (rowsL Y 6) (rowsL Y 7) i0 i1 i2 i3 i4 i5 i6) = shifted Y := by
  funext y
  refine View.canon_apply_of_pieces (shifted Y) _ ?_ y ?_
  · intro p hp x
    simp only [List.mem_cons, List.not_mem_nil, or_false] at hp
    rcases hp with rfl | rfl | rfl | rfl | rfl | rfl | rfl
    · exact agree_copy Y 6 7 rfl i6 x
    · exact agree_copy Y 5 6 rfl i5 x
    · exact agree_copy Y 4 5 rfl i4 x
    · exact agree_copy Y 3 4 rfl i3 x
    · exact agree_copy Y 2 3 rfl i2 x
    · exact agree_copy Y 1 2 rfl i1 x
    · exact agree_copy Y 0 1 rfl i0 x
  · have h0 : (y 0).val < 7 := (y 0).isLt
    have c : (y 0).val = 6 ∨ (y 0).val = 5 ∨ (y 0).val = 4 ∨ (y 0).val = 3 ∨ (y 0).val = 2 ∨ (y 0).val = 1 ∨ (y 0).val = 0 := by omega
    rcases c with h | h | h | h | h | h | h
    · exact ⟨_, List.Mem.head _, mem_copy 6 i6 y h⟩
    · exact ⟨_, List.Mem.tail _ (List.Mem.head _), mem_copy 5 i5 y h⟩
    · exact ⟨_, List.Mem.tail _ (List.Mem.tail _ (List.Mem.head _)), mem_copy 4 i4 y h⟩
    · exact ⟨_, List.Mem.tail _ (List.Mem.tail _ (List.Mem.tail _ (List.Mem.head _))), mem_copy 3 i3 y h⟩
    · exact ⟨_, List.Mem.tail _ (List.Mem.tail _ (List.Mem.tail _ (List.Mem.tail _ (List.Mem.head _)))), mem_copy 2 i2 y h⟩
    · exact ⟨_, List.Mem.tail _ (List.Mem.tail _ (List.Mem.tail _ (List.Mem.tail _ (List.Mem.tail _ (List.Mem.head _))))), mem_copy 1 i1 y h⟩
    · exact ⟨_, List.Mem.tail _ (List.Mem.tail _ (List.Mem.tail _ (List.Mem.tail _ (List.Mem.tail _ (List.Mem.tail _ (List.Mem.head _)))))), mem_copy 0 i0 y h⟩

/-- The copies' buffer, when each store is of the rows it should be. -/
theorem canon_copies' (Y : Vec F S544x512 .f32) {u0 u1 u2 u3 u4 u5 u6 : Vec F S536x512 .f32} (e0 : u0 = rowsL Y 1) (e1 : u1 = rowsL Y 2) (e2 : u2 = rowsL Y 3)
    (e3 : u3 = rowsL Y 4) (e4 : u4 = rowsL Y 5) (e5 : u5 = rowsL Y 6) (e6 : u6 = rowsL Y 7) (i0 i1 i2 i3 i4 i5 i6) :
    View.canon (Val := Elt F) (copies u0 u1 u2 u3 u4 u5 u6 i0 i1 i2 i3 i4 i5 i6) = shifted Y := by
  subst e0 e1 e2 e3 e4 e5 e6
  exact canon_copies Y i0 i1 i2 i3 i4 i5 i6

/-- A load from the copies. -/
theorem cov_copies {κ : Kind} {sp : Space} (V : View sig κ sp S7x536x512 .f32) (Y : Vec F S544x512 .f32) (L : List (View.Piece (Elt F) S7x536x512 .f32))
    (hL : View.canon (Val := Elt F) L = shifted Y) (a b : ℕ) (inb : ∀ k, (![a, b, 0] : Fin 3 → ℕ) k + S1x512x512.size k ≤ S7x536x512.size k) :
    V.readCov (Val := Elt F) L (Rect.unit (s := S7x536x512) ![a, b, 0] S1x512x512.size inb).toLoadRect = rows1 Y (a + 1 + b) := by
  rw [View.readCov_eq_canon', hL]
  funext y
  have h0 : (y 0).val < 1 := (y 0).isLt
  refine row_congr Y ?_ (Fin.ext ?_)
  · show a + 1 * (y 0).val + 1 + (b + 1 * (y 1).val) = a + 1 + b + (y 1).val; omega
  · show 0 + 1 * (y 2).val = (y 2).val; omega

/-- A load of rows, however many. -/
theorem idx_rows (Y : Vec F S544x512 .f32) (k B : ℕ) (inb : ∀ x, (![k, 0] : Fin 2 → ℕ) x + (![B, 512] : Fin 2 → ℕ) x ≤ S544x512.size x) (y : (⟨2, ![B, 512]⟩ : Shape).Idx) :
    Y ((Rect.unit (s := S544x512) ![k, 0] ![B, 512] inb).toLoadRect.idx y) = row Y (k + (y 0).val) (y 1) :=
  row_at Y _ _ _ (by show k + 1 * (y 0).val = k + (y 0).val; omega) (by show 0 + 1 * (y 1).val = (y 1).val; omega)

end Cert.Kernel4Ideal.Conv

end
-- ==== Proof.Conv.Point.lean ====
/-
  One point of the convolution kernel: its sums and what it carries.
-/
module

public import proofs.«01_k».proof.Proof.Conv.Reads

@[expose] public section

set_option maxRecDepth 16384
set_option maxHeartbeats 1000000

noncomputable section

namespace Cert.Kernel4Ideal.Conv

open Idealize.ShloMosaic Idealize.ShloMosaic.TcCoe Idealize.SL.Sem
open Cert.Kernel4Ideal.Gen

variable {F : FTy → Type} [FloatOps F]

/-- The taps' products summed, in the kernel's order. -/
def taps1 (Y : Vec F S544x512 .f32) (W : Vec F S31x512 .f32) (B : Vec F S1x512 .f32) : Vec F S512x512 .f32 := k0_pay11 B (rows1 Y 2) (tapRow W 0)
def taps2 (Y : Vec F S544x512 .f32) (W : Vec F S31x512 .f32) (B : Vec F S1x512 .f32) : Vec F S512x512 .f32 :=
  k0_pay13 (taps1 Y W B) (k0_pay12 (rows1 Y 3)) (tapRow W 1) (rows1 Y 4) (tapRow W 2) (rows1 Y 5) (tapRow W 3) (rows1 Y 6) (tapRow W 4) (rows1 Y 7) (tapRow W 5)
def taps3 (Y : Vec F S544x512 .f32) (W : Vec F S31x512 .f32) (B : Vec F S1x512 .f32) : Vec F S512x512 .f32 :=
  k0_pay15 (taps2 Y W B) (rows Y 8) (k0_pay14 (tapRow W 6)) (rows1 Y 9) (tapRow W 7) (rows1 Y 10) (tapRow W 8) (rows1 Y 11) (tapRow W 9) (rows1 Y 12) (tapRow W 10)
def taps4 (Y : Vec F S544x512 .f32) (W : Vec F S31x512 .f32) (B : Vec F S1x512 .f32) : Vec F S512x512 .f32 :=
  k0_pay18 (taps3 Y W B) (k0_pay16 (rows1 Y 13)) (k0_pay17 (tapRow W 11)) (rows1 Y 14) (tapRow W 12) (rows1 Y 15) (tapRow W 13) (rows Y 16) (tapRow W 14) (rows1 Y 17) (tapRow W 15)
def taps5 (Y : Vec F S544x512 .f32) (W : Vec F S31x512 .f32) (B : Vec F S1x512 .f32) : Vec F S512x512 .f32 :=
  k0_pay20 (taps4 Y W B) (k0_pay19 (rows1 Y 18) (tapRow W 16)) (rows1 Y 19) (tapRow W 17) (rows1 Y 20) (tapRow W 18) (rows1 Y 21) (tapRow W 19) (rows1 Y 22) (tapRow W 20)
def taps6 (Y : Vec F S544x512 .f32) (W : Vec F S31x512 .f32) (B : Vec F S1x512 .f32) : Vec F S512x512 .f32 :=
  k0_pay22 (taps5 Y W B) (k0_pay21 (rows1 Y 23) (tapRow W 21)) (rows Y 24) (tapRow W 22) (rows1 Y 25) (tapRow W 23) (rows1 Y 26) (tapRow W 24) (rows1 Y 27) (tapRow W 25) (rows1 Y 28) (tapRow W 26)
def taps7 (Y : Vec F S544x512 .f32) (W : Vec F S31x512 .f32) (B : Vec F S1x512 .f32) : Vec F S512x512 .f32 :=
  k0_pay23 (taps6 Y W B) (rows1 Y 29) (tapRow W 27) (rows1 Y 30) (tapRow W 28) (rows1 Y 31) (tapRow W 29) (rows Y 32) (tapRow W 30)
/-- The mean of each row of them. -/
def mean (Y : Vec F S544x512 .f32) (W : Vec F S31x512 .f32) (B : Vec F S1x512 .f32) : Vec F S512x1 .f32 :=
  k0_pay25 (taps6 Y W B) (rows1 Y 29) (tapRow W 27) (rows1 Y 30) (tapRow W 28) (rows1 Y 31) (tapRow W 29) (rows Y 32) (tapRow W 30)

variable (c : Dev nD) (arg2 : Memref sig .tc .vmem S512x1024 .bf16) (harg2 : arg2.IsWhole) (arg3 : Memref sig .tc .vmem S31x512 .f32) (harg3 : arg3.IsWhole) (arg4 : Memref sig .tc .vmem S1x512 .f32)
  (harg4 : arg4.IsWhole) (arg8 : Memref sig .tc .vmem S544x512 .f32) (harg8 : arg8.IsWhole) (arg9 : Memref sig .tc .vmem S7x536x512 .f32)
  (x0 : Vec F S512x1024 .bf16) (x1 : Vec F S31x512 .f32) (x2 : Vec F S1x512 .f32) (xs0 : Vec F S544x512 .f32)

/-- The joined rows of a batch's first point. -/
abbrev YA : Vec F S544x512 .f32 := joined k0_pay2 (k0_pay3 x0)
/-- The joined rows of a later point. -/
abbrev YB : Vec F S544x512 .f32 := joined (first32 xs0) (k0_pay3 x0)

theorem canonA : View.canon (Val := Elt F) (kernelRun0_A.sl.HS0_2 c arg2 harg2 x0) = YA x0 := by
  unfold kernelRun0_A.sl.HS0_2
  rw [ld arg2 harg2 x0]
  exact canon_both _ _ _ _

theorem ldA (B k : ℕ) (inb : ∀ x, (![k, 0] : Fin 2 → ℕ) x + (![B, 512] : Fin 2 → ℕ) x ≤ S544x512.size x) :
    arg8.view.readCov (Val := Elt F) (kernelRun0_A.sl.HS0_2 c arg2 harg2 x0) (Rect.unit (s := S544x512) ![k, 0] ![B, 512] inb).toLoadRect
      = fun y : (⟨2, ![B, 512]⟩ : Shape).Idx => row (YA x0) (k + (y 0).val) (y 1) := by
  rw [View.readCov_eq_canon', canonA]
  funext y
  exact idx_rows (YA x0) k B inb y

theorem copiesA : View.canon (Val := Elt F) (kernelRun0_A.sl.HS1_7 c arg2 harg2 arg8 x0) = shifted (YA x0) := by
  unfold kernelRun0_A.sl.HS1_7
  exact canon_copies' (YA x0) (ldA c arg2 harg2 arg8 x0 536 1 _) (ldA c arg2 harg2 arg8 x0 536 2 _) (ldA c arg2 harg2 arg8 x0 536 3 _) (ldA c arg2 harg2 arg8 x0 536 4 _)
    (ldA c arg2 harg2 arg8 x0 536 5 _) (ldA c arg2 harg2 arg8 x0 536 6 _) (ldA c arg2 harg2 arg8 x0 536 7 _) _ _ _ _ _ _ _

theorem ld_tap' (j : ℕ) (inb : ∀ k, (![j, 0] : Fin 2 → ℕ) k + (![1, 512] : Fin 2 → ℕ) k ≤ S31x512.size k) :
    arg3.view.readAt (Elt F) (Rect.unit (s := S31x512) ![j, 0] ![1, 512] inb).toLoadRect (harg3.unread x1) = tapRow x1 j :=
  ld_tap arg3 harg3 x1 j inb

theorem ldA_rows (k : ℕ) (inb : ∀ x, (![k, 0] : Fin 2 → ℕ) x + (![512, 512] : Fin 2 → ℕ) x ≤ S544x512.size x) :
    arg8.view.readCov (Val := Elt F) (kernelRun0_A.sl.HS0_2 c arg2 harg2 x0) (Rect.unit (s := S544x512) ![k, 0] ![512, 512] inb).toLoadRect = rows (YA x0) k :=
  ldA c arg2 harg2 arg8 x0 512 k inb

theorem ldA_copy (a b : ℕ) (inb : ∀ k, (![a, b, 0] : Fin 3 → ℕ) k + (![1, 512, 512] : Fin 3 → ℕ) k ≤ S7x536x512.size k) :
    arg9.view.readCov (Val := Elt F) (kernelRun0_A.sl.HS1_7 c arg2 harg2 arg8 x0) (Rect.unit (s := S7x536x512) ![a, b, 0] ![1, 512, 512] inb).toLoadRect
      = rows1 (YA x0) (a + 1 + b) :=
  cov_copies arg9.view (YA x0) _ (copiesA c arg2 harg2 arg8 x0) a b inb

theorem taps1A : kernelRun0_A.sl.r c arg2 harg2 arg3 harg3 arg4 harg4 arg8 arg9 x0 x1 x2 = taps1 (YA x0) x1 x2 := by
  unfold kernelRun0_A.sl.r
  rw [ld arg4 harg4 x2]
  simp only [kernelRun0_A.sl.v46, kernelRun0_A.sl.v53, kernelRun0_A.sl.v60, kernelRun0_A.sl.v67, kernelRun0_A.sl.v74, kernelRun0_A.sl.v81, kernelRun0_A.sl.v88, kernelRun0_A.sl.v94, kernelRun0_A.sl.v101, kernelRun0_A.sl.v108, kernelRun0_A.sl.v115, kernelRun0_A.sl.v122, kernelRun0_A.sl.v129, kernelRun0_A.sl.v136, kernelRun0_A.sl.v143, kernelRun0_A.sl.v149, kernelRun0_A.sl.v156, kernelRun0_A.sl.v163, kernelRun0_A.sl.v170, kernelRun0_A.sl.v177, kernelRun0_A.sl.v184, kernelRun0_A.sl.v191, kernelRun0_A.sl.v198, kernelRun0_A.sl.v204, kernelRun0_A.sl.v211, kernelRun0_A.sl.v218, kernelRun0_A.sl.v225, kernelRun0_A.sl.v232, kernelRun0_A.sl.v239, kernelRun0_A.sl.v246, kernelRun0_A.sl.v253, kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, ldA_rows, ldA_copy, ld_tap', ld]
  rfl

theorem taps2A : kernelRun0_A.sl.r_2 c arg2 harg2 arg3 harg3 arg4 harg4 arg8 arg9 x0 x1 x2 = taps2 (YA x0) x1 x2 := by
  unfold kernelRun0_A.sl.r_2
  rw [taps1A]
  simp only [kernelRun0_A.sl.v46, kernelRun0_A.sl.v53, kernelRun0_A.sl.v60, kernelRun0_A.sl.v67, kernelRun0_A.sl.v74, kernelRun0_A.sl.v81, kernelRun0_A.sl.v88, kernelRun0_A.sl.v94, kernelRun0_A.sl.v101, kernelRun0_A.sl.v108, kernelRun0_A.sl.v115, kernelRun0_A.sl.v122, kernelRun0_A.sl.v129, kernelRun0_A.sl.v136, kernelRun0_A.sl.v143, kernelRun0_A.sl.v149, kernelRun0_A.sl.v156, kernelRun0_A.sl.v163, kernelRun0_A.sl.v170, kernelRun0_A.sl.v177, kernelRun0_A.sl.v184, kernelRun0_A.sl.v191, kernelRun0_A.sl.v198, kernelRun0_A.sl.v204, kernelRun0_A.sl.v211, kernelRun0_A.sl.v218, kernelRun0_A.sl.v225, kernelRun0_A.sl.v232, kernelRun0_A.sl.v239, kernelRun0_A.sl.v246, kernelRun0_A.sl.v253, kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, ldA_rows, ldA_copy, ld_tap', ld]
  rfl

theorem taps3A : kernelRun0_A.sl.r_4 c arg2 harg2 arg3 harg3 arg4 harg4 arg8 arg9 x0 x1 x2 = taps3 (YA x0) x1 x2 := by
  unfold kernelRun0_A.sl.r_4
  rw [taps2A]
  simp only [kernelRun0_A.sl.v46, kernelRun0_A.sl.v53, kernelRun0_A.sl.v60, kernelRun0_A.sl.v67, kernelRun0_A.sl.v74, kernelRun0_A.sl.v81, kernelRun0_A.sl.v88, kernelRun0_A.sl.v94, kernelRun0_A.sl.v101, kernelRun0_A.sl.v108, kernelRun0_A.sl.v115, kernelRun0_A.sl.v122, kernelRun0_A.sl.v129, kernelRun0_A.sl.v136, kernelRun0_A.sl.v143, kernelRun0_A.sl.v149, kernelRun0_A.sl.v156, kernelRun0_A.sl.v163, kernelRun0_A.sl.v170, kernelRun0_A.sl.v177, kernelRun0_A.sl.v184, kernelRun0_A.sl.v191, kernelRun0_A.sl.v198, kernelRun0_A.sl.v204, kernelRun0_A.sl.v211, kernelRun0_A.sl.v218, kernelRun0_A.sl.v225, kernelRun0_A.sl.v232, kernelRun0_A.sl.v239, kernelRun0_A.sl.v246, kernelRun0_A.sl.v253, kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, ldA_rows, ldA_copy, ld_tap', ld]
  rfl

theorem taps4A : kernelRun0_A.sl.r_7 c arg2 harg2 arg3 harg3 arg4 harg4 arg8 arg9 x0 x1 x2 = taps4 (YA x0) x1 x2 := by
  unfold kernelRun0_A.sl.r_7
  rw [taps3A]
  simp only [kernelRun0_A.sl.v46, kernelRun0_A.sl.v53, kernelRun0_A.sl.v60, kernelRun0_A.sl.v67, kernelRun0_A.sl.v74, kernelRun0_A.sl.v81, kernelRun0_A.sl.v88, kernelRun0_A.sl.v94, kernelRun0_A.sl.v101, kernelRun0_A.sl.v108, kernelRun0_A.sl.v115, kernelRun0_A.sl.v122, kernelRun0_A.sl.v129, kernelRun0_A.sl.v136, kernelRun0_A.sl.v143, kernelRun0_A.sl.v149, kernelRun0_A.sl.v156, kernelRun0_A.sl.v163, kernelRun0_A.sl.v170, kernelRun0_A.sl.v177, kernelRun0_A.sl.v184, kernelRun0_A.sl.v191, kernelRun0_A.sl.v198, kernelRun0_A.sl.v204, kernelRun0_A.sl.v211, kernelRun0_A.sl.v218, kernelRun0_A.sl.v225, kernelRun0_A.sl.v232, kernelRun0_A.sl.v239, kernelRun0_A.sl.v246, kernelRun0_A.sl.v253, kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, ldA_rows, ldA_copy, ld_tap', ld]
  rfl

theorem taps5A : kernelRun0_A.sl.r_9 c arg2 harg2 arg3 harg3 arg4 harg4 arg8 arg9 x0 x1 x2 = taps5 (YA x0) x1 x2 := by
  unfold kernelRun0_A.sl.r_9
  rw [taps4A]
  simp only [kernelRun0_A.sl.v46, kernelRun0_A.sl.v53, kernelRun0_A.sl.v60, kernelRun0_A.sl.v67, kernelRun0_A.sl.v74, kernelRun0_A.sl.v81, kernelRun0_A.sl.v88, kernelRun0_A.sl.v94, kernelRun0_A.sl.v101, kernelRun0_A.sl.v108, kernelRun0_A.sl.v115, kernelRun0_A.sl.v122, kernelRun0_A.sl.v129, kernelRun0_A.sl.v136, kernelRun0_A.sl.v143, kernelRun0_A.sl.v149, kernelRun0_A.sl.v156, kernelRun0_A.sl.v163, kernelRun0_A.sl.v170, kernelRun0_A.sl.v177, kernelRun0_A.sl.v184, kernelRun0_A.sl.v191, kernelRun0_A.sl.v198, kernelRun0_A.sl.v204, kernelRun0_A.sl.v211, kernelRun0_A.sl.v218, kernelRun0_A.sl.v225, kernelRun0_A.sl.v232, kernelRun0_A.sl.v239, kernelRun0_A.sl.v246, kernelRun0_A.sl.v253, kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, ldA_rows, ldA_copy, ld_tap', ld]
  rfl

theorem taps6A : kernelRun0_A.sl.r_11 c arg2 harg2 arg3 harg3 arg4 harg4 arg8 arg9 x0 x1 x2 = taps6 (YA x0) x1 x2 := by
  unfold kernelRun0_A.sl.r_11
  rw [taps5A]
  simp only [kernelRun0_A.sl.v46, kernelRun0_A.sl.v53, kernelRun0_A.sl.v60, kernelRun0_A.sl.v67, kernelRun0_A.sl.v74, kernelRun0_A.sl.v81, kernelRun0_A.sl.v88, kernelRun0_A.sl.v94, kernelRun0_A.sl.v101, kernelRun0_A.sl.v108, kernelRun0_A.sl.v115, kernelRun0_A.sl.v122, kernelRun0_A.sl.v129, kernelRun0_A.sl.v136, kernelRun0_A.sl.v143, kernelRun0_A.sl.v149, kernelRun0_A.sl.v156, kernelRun0_A.sl.v163, kernelRun0_A.sl.v170, kernelRun0_A.sl.v177, kernelRun0_A.sl.v184, kernelRun0_A.sl.v191, kernelRun0_A.sl.v198, kernelRun0_A.sl.v204, kernelRun0_A.sl.v211, kernelRun0_A.sl.v218, kernelRun0_A.sl.v225, kernelRun0_A.sl.v232, kernelRun0_A.sl.v239, kernelRun0_A.sl.v246, kernelRun0_A.sl.v253, kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, ldA_rows, ldA_copy, ld_tap', ld]
  rfl

theorem taps7A : kernelRun0_A.sl.r_12 c arg2 harg2 arg3 harg3 arg4 harg4 arg8 arg9 x0 x1 x2 = taps7 (YA x0) x1 x2 := by
  unfold kernelRun0_A.sl.r_12
  rw [taps6A]
  simp only [kernelRun0_A.sl.v46, kernelRun0_A.sl.v53, kernelRun0_A.sl.v60, kernelRun0_A.sl.v67, kernelRun0_A.sl.v74, kernelRun0_A.sl.v81, kernelRun0_A.sl.v88, kernelRun0_A.sl.v94, kernelRun0_A.sl.v101, kernelRun0_A.sl.v108, kernelRun0_A.sl.v115, kernelRun0_A.sl.v122, kernelRun0_A.sl.v129, kernelRun0_A.sl.v136, kernelRun0_A.sl.v143, kernelRun0_A.sl.v149, kernelRun0_A.sl.v156, kernelRun0_A.sl.v163, kernelRun0_A.sl.v170, kernelRun0_A.sl.v177, kernelRun0_A.sl.v184, kernelRun0_A.sl.v191, kernelRun0_A.sl.v198, kernelRun0_A.sl.v204, kernelRun0_A.sl.v211, kernelRun0_A.sl.v218, kernelRun0_A.sl.v225, kernelRun0_A.sl.v232, kernelRun0_A.sl.v239, kernelRun0_A.sl.v246, kernelRun0_A.sl.v253, kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, ldA_rows, ldA_copy, ld_tap', ld]
  rfl

theorem meanA : kernelRun0_A.sl.r_13 c arg2 harg2 arg3 harg3 arg4 harg4 arg8 arg9 x0 x1 x2 = mean (YA x0) x1 x2 := by
  unfold kernelRun0_A.sl.r_13
  rw [taps6A]
  simp only [kernelRun0_A.sl.v46, kernelRun0_A.sl.v53, kernelRun0_A.sl.v60, kernelRun0_A.sl.v67, kernelRun0_A.sl.v74, kernelRun0_A.sl.v81, kernelRun0_A.sl.v88, kernelRun0_A.sl.v94, kernelRun0_A.sl.v101, kernelRun0_A.sl.v108, kernelRun0_A.sl.v115, kernelRun0_A.sl.v122, kernelRun0_A.sl.v129, kernelRun0_A.sl.v136, kernelRun0_A.sl.v143, kernelRun0_A.sl.v149, kernelRun0_A.sl.v156, kernelRun0_A.sl.v163, kernelRun0_A.sl.v170, kernelRun0_A.sl.v177, kernelRun0_A.sl.v184, kernelRun0_A.sl.v191, kernelRun0_A.sl.v198, kernelRun0_A.sl.v204, kernelRun0_A.sl.v211, kernelRun0_A.sl.v218, kernelRun0_A.sl.v225, kernelRun0_A.sl.v232, kernelRun0_A.sl.v239, kernelRun0_A.sl.v246, kernelRun0_A.sl.v253, kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, ldA_rows, ldA_copy, ld_tap', ld]
  rfl

theorem overB : arg8.view.read (Elt F) (arg8.view.writes (Elt F) (harg8.unread xs0) (kernelRun0_B.sl.HS0_1 c arg2 harg2 x0)) = YB x0 xs0 := by
  unfold kernelRun0_B.sl.HS0_1
  rw [ld arg2 harg2 x0]
  exact read_over arg8 harg8 xs0 _ _

theorem ldB (B k : ℕ) (inb : ∀ x, (![k, 0] : Fin 2 → ℕ) x + (![B, 512] : Fin 2 → ℕ) x ≤ S544x512.size x) :
    arg8.view.readAt (Elt F) (Rect.unit (s := S544x512) ![k, 0] ![B, 512] inb).toLoadRect (arg8.view.writes (Elt F) (harg8.unread xs0) (kernelRun0_B.sl.HS0_1 c arg2 harg2 x0))
      = fun y : (⟨2, ![B, 512]⟩ : Shape).Idx => row (YB x0 xs0) (k + (y 0).val) (y 1) := by
  funext y
  rw [View.readAt_apply, overB]
  exact idx_rows (YB x0 xs0) k B inb y

theorem ldB' (B k : ℕ) (hk : 32 ≤ k) (inb : ∀ x, (![k, 0] : Fin 2 → ℕ) x + (![B, 512] : Fin 2 → ℕ) x ≤ S544x512.size x) :
    arg8.view.readCov (Val := Elt F) (kernelRun0_B.sl.HS0_1 c arg2 harg2 x0) (Rect.unit (s := S544x512) ![k, 0] ![B, 512] inb).toLoadRect
      = fun y : (⟨2, ![B, 512]⟩ : Shape).Idx => row (YB x0 xs0) (k + (y 0).val) (y 1) := by
  rw [View.readCov_eq_canon']
  funext y
  unfold kernelRun0_B.sl.HS0_1
  rw [ld arg2 harg2 x0]
  refine (canon_one (first32 xs0) (k0_pay3 x0) _ _ ?_).trans (idx_rows (YB x0 xs0) k B inb y)
  show 32 ≤ k + 1 * (y 0).val
  omega

theorem copiesB : View.canon (Val := Elt F) (kernelRun0_B.sl.HS1_7 c arg2 harg2 arg8 harg8 x0 xs0) = shifted (YB x0 xs0) := by
  unfold kernelRun0_B.sl.HS1_7
  exact canon_copies' (YB x0 xs0) (ldB c arg2 harg2 arg8 harg8 x0 xs0 536 1 _) (ldB c arg2 harg2 arg8 harg8 x0 xs0 536 2 _) (ldB c arg2 harg2 arg8 harg8 x0 xs0 536 3 _)
    (ldB c arg2 harg2 arg8 harg8 x0 xs0 536 4 _) (ldB c arg2 harg2 arg8 harg8 x0 xs0 536 5 _) (ldB c arg2 harg2 arg8 harg8 x0 xs0 536 6 _)
    (ldB c arg2 harg2 arg8 harg8 x0 xs0 536 7 _) _ _ _ _ _ _ _

theorem ldB_rows (k : ℕ) (inb : ∀ x, (![k, 0] : Fin 2 → ℕ) x + (![512, 512] : Fin 2 → ℕ) x ≤ S544x512.size x) :
    arg8.view.readAt (Elt F) (Rect.unit (s := S544x512) ![k, 0] ![512, 512] inb).toLoadRect (arg8.view.writes (Elt F) (harg8.unread xs0) (kernelRun0_B.sl.HS0_1 c arg2 harg2 x0))
      = rows (YB x0 xs0) k :=
  ldB c arg2 harg2 arg8 harg8 x0 xs0 512 k inb

theorem ldB_block (inb : ∀ x, (![32, 0] : Fin 2 → ℕ) x + (![512, 512] : Fin 2 → ℕ) x ≤ S544x512.size x) :
    arg8.view.readCov (Val := Elt F) (kernelRun0_B.sl.HS0_1 c arg2 harg2 x0) (Rect.unit (s := S544x512) ![32, 0] ![512, 512] inb).toLoadRect = rows (YB x0 xs0) 32 :=
  ldB' c arg2 harg2 arg8 x0 xs0 512 32 (Nat.le_refl _) inb

theorem ldB_copy (a b : ℕ) (inb : ∀ k, (![a, b, 0] : Fin 3 → ℕ) k + (![1, 512, 512] : Fin 3 → ℕ) k ≤ S7x536x512.size k) :
    arg9.view.readCov (Val := Elt F) (kernelRun0_B.sl.HS1_7 c arg2 harg2 arg8 harg8 x0 xs0) (Rect.unit (s := S7x536x512) ![a, b, 0] ![1, 512, 512] inb).toLoadRect
      = rows1 (YB x0 xs0) (a + 1 + b) :=
  cov_copies arg9.view (YB x0 xs0) _ (copiesB c arg2 harg2 arg8 harg8 x0 xs0) a b inb

theorem taps1B : kernelRun0_B.sl.r_1 c arg2 harg2 arg3 harg3 arg4 harg4 arg8 harg8 arg9 x0 x1 x2 xs0 = taps1 (YB x0 xs0) x1 x2 := by
  unfold kernelRun0_B.sl.r_1
  rw [ld arg4 harg4 x2]
  simp only [kernelRun0_B.sl.v46, kernelRun0_B.sl.v53, kernelRun0_B.sl.v60, kernelRun0_B.sl.v67, kernelRun0_B.sl.v74, kernelRun0_B.sl.v81, kernelRun0_B.sl.v94, kernelRun0_B.sl.v101, kernelRun0_B.sl.v108, kernelRun0_B.sl.v115, kernelRun0_B.sl.v122, kernelRun0_B.sl.v129, kernelRun0_B.sl.v136, kernelRun0_B.sl.v149, kernelRun0_B.sl.v156, kernelRun0_B.sl.v163, kernelRun0_B.sl.v170, kernelRun0_B.sl.v177, kernelRun0_B.sl.v184, kernelRun0_B.sl.v191, kernelRun0_B.sl.v204, kernelRun0_B.sl.v211, kernelRun0_B.sl.v218, kernelRun0_B.sl.v225, kernelRun0_B.sl.v232, kernelRun0_B.sl.v239, kernelRun0_B.sl.v246, kernelRun0_B.sl.v253, kernelRun0_B.sl.r, kernelRun0_B.sl.r_1, kernelRun0_B.sl.r_2, kernelRun0_B.sl.r_3, kernelRun0_B.sl.r_4, kernelRun0_B.sl.r_5, kernelRun0_B.sl.r_6, kernelRun0_B.sl.r_7, kernelRun0_B.sl.r_8, kernelRun0_B.sl.r_9, kernelRun0_B.sl.r_10, kernelRun0_B.sl.r_11, kernelRun0_B.sl.r_12, kernelRun0_B.sl.r_13, ldB_rows, ldB_copy, ld_tap', ld]
  rfl

theorem taps2B : kernelRun0_B.sl.r_3 c arg2 harg2 arg3 harg3 arg4 harg4 arg8 harg8 arg9 x0 x1 x2 xs0 = taps2 (YB x0 xs0) x1 x2 := by
  unfold kernelRun0_B.sl.r_3
  rw [taps1B]
  simp only [kernelRun0_B.sl.v46, kernelRun0_B.sl.v53, kernelRun0_B.sl.v60, kernelRun0_B.sl.v67, kernelRun0_B.sl.v74, kernelRun0_B.sl.v81, kernelRun0_B.sl.v94, kernelRun0_B.sl.v101, kernelRun0_B.sl.v108, kernelRun0_B.sl.v115, kernelRun0_B.sl.v122, kernelRun0_B.sl.v129, kernelRun0_B.sl.v136, kernelRun0_B.sl.v149, kernelRun0_B.sl.v156, kernelRun0_B.sl.v163, kernelRun0_B.sl.v170, kernelRun0_B.sl.v177, kernelRun0_B.sl.v184, kernelRun0_B.sl.v191, kernelRun0_B.sl.v204, kernelRun0_B.sl.v211, kernelRun0_B.sl.v218, kernelRun0_B.sl.v225, kernelRun0_B.sl.v232, kernelRun0_B.sl.v239, kernelRun0_B.sl.v246, kernelRun0_B.sl.v253, kernelRun0_B.sl.r, kernelRun0_B.sl.r_1, kernelRun0_B.sl.r_2, kernelRun0_B.sl.r_3, kernelRun0_B.sl.r_4, kernelRun0_B.sl.r_5, kernelRun0_B.sl.r_6, kernelRun0_B.sl.r_7, kernelRun0_B.sl.r_8, kernelRun0_B.sl.r_9, kernelRun0_B.sl.r_10, kernelRun0_B.sl.r_11, kernelRun0_B.sl.r_12, kernelRun0_B.sl.r_13, ldB_rows, ldB_copy, ld_tap', ld]
  rfl

theorem taps3B : kernelRun0_B.sl.r_6 c arg2 harg2 arg3 harg3 arg4 harg4 arg8 harg8 arg9 x0 x1 x2 xs0 = taps3 (YB x0 xs0) x1 x2 := by
  unfold kernelRun0_B.sl.r_6
  rw [taps2B]
  simp only [kernelRun0_B.sl.v46, kernelRun0_B.sl.v53, kernelRun0_B.sl.v60, kernelRun0_B.sl.v67, kernelRun0_B.sl.v74, kernelRun0_B.sl.v81, kernelRun0_B.sl.v94, kernelRun0_B.sl.v101, kernelRun0_B.sl.v108, kernelRun0_B.sl.v115, kernelRun0_B.sl.v122, kernelRun0_B.sl.v129, kernelRun0_B.sl.v136, kernelRun0_B.sl.v149, kernelRun0_B.sl.v156, kernelRun0_B.sl.v163, kernelRun0_B.sl.v170, kernelRun0_B.sl.v177, kernelRun0_B.sl.v184, kernelRun0_B.sl.v191, kernelRun0_B.sl.v204, kernelRun0_B.sl.v211, kernelRun0_B.sl.v218, kernelRun0_B.sl.v225, kernelRun0_B.sl.v232, kernelRun0_B.sl.v239, kernelRun0_B.sl.v246, kernelRun0_B.sl.v253, kernelRun0_B.sl.r, kernelRun0_B.sl.r_1, kernelRun0_B.sl.r_2, kernelRun0_B.sl.r_3, kernelRun0_B.sl.r_4, kernelRun0_B.sl.r_5, kernelRun0_B.sl.r_6, kernelRun0_B.sl.r_7, kernelRun0_B.sl.r_8, kernelRun0_B.sl.r_9, kernelRun0_B.sl.r_10, kernelRun0_B.sl.r_11, kernelRun0_B.sl.r_12, kernelRun0_B.sl.r_13, ldB_rows, ldB_copy, ld_tap', ld]
  rfl

theorem taps4B : kernelRun0_B.sl.r_9 c arg2 harg2 arg3 harg3 arg4 harg4 arg8 harg8 arg9 x0 x1 x2 xs0 = taps4 (YB x0 xs0) x1 x2 := by
  unfold kernelRun0_B.sl.r_9
  rw [taps3B]
  simp only [kernelRun0_B.sl.v46, kernelRun0_B.sl.v53, kernelRun0_B.sl.v60, kernelRun0_B.sl.v67, kernelRun0_B.sl.v74, kernelRun0_B.sl.v81, kernelRun0_B.sl.v94, kernelRun0_B.sl.v101, kernelRun0_B.sl.v108, kernelRun0_B.sl.v115, kernelRun0_B.sl.v122, kernelRun0_B.sl.v129, kernelRun0_B.sl.v136, kernelRun0_B.sl.v149, kernelRun0_B.sl.v156, kernelRun0_B.sl.v163, kernelRun0_B.sl.v170, kernelRun0_B.sl.v177, kernelRun0_B.sl.v184, kernelRun0_B.sl.v191, kernelRun0_B.sl.v204, kernelRun0_B.sl.v211, kernelRun0_B.sl.v218, kernelRun0_B.sl.v225, kernelRun0_B.sl.v232, kernelRun0_B.sl.v239, kernelRun0_B.sl.v246, kernelRun0_B.sl.v253, kernelRun0_B.sl.r, kernelRun0_B.sl.r_1, kernelRun0_B.sl.r_2, kernelRun0_B.sl.r_3, kernelRun0_B.sl.r_4, kernelRun0_B.sl.r_5, kernelRun0_B.sl.r_6, kernelRun0_B.sl.r_7, kernelRun0_B.sl.r_8, kernelRun0_B.sl.r_9, kernelRun0_B.sl.r_10, kernelRun0_B.sl.r_11, kernelRun0_B.sl.r_12, kernelRun0_B.sl.r_13, ldB_rows, ldB_copy, ld_tap', ld]
  rfl

theorem taps5B : kernelRun0_B.sl.r_11 c arg2 harg2 arg3 harg3 arg4 harg4 arg8 harg8 arg9 x0 x1 x2 xs0 = taps5 (YB x0 xs0) x1 x2 := by
  unfold kernelRun0_B.sl.r_11
  rw [taps4B]
  simp only [kernelRun0_B.sl.v46, kernelRun0_B.sl.v53, kernelRun0_B.sl.v60, kernelRun0_B.sl.v67, kernelRun0_B.sl.v74, kernelRun0_B.sl.v81, kernelRun0_B.sl.v94, kernelRun0_B.sl.v101, kernelRun0_B.sl.v108, kernelRun0_B.sl.v115, kernelRun0_B.sl.v122, kernelRun0_B.sl.v129, kernelRun0_B.sl.v136, kernelRun0_B.sl.v149, kernelRun0_B.sl.v156, kernelRun0_B.sl.v163, kernelRun0_B.sl.v170, kernelRun0_B.sl.v177, kernelRun0_B.sl.v184, kernelRun0_B.sl.v191, kernelRun0_B.sl.v204, kernelRun0_B.sl.v211, kernelRun0_B.sl.v218, kernelRun0_B.sl.v225, kernelRun0_B.sl.v232, kernelRun0_B.sl.v239, kernelRun0_B.sl.v246, kernelRun0_B.sl.v253, kernelRun0_B.sl.r, kernelRun0_B.sl.r_1, kernelRun0_B.sl.r_2, kernelRun0_B.sl.r_3, kernelRun0_B.sl.r_4, kernelRun0_B.sl.r_5, kernelRun0_B.sl.r_6, kernelRun0_B.sl.r_7, kernelRun0_B.sl.r_8, kernelRun0_B.sl.r_9, kernelRun0_B.sl.r_10, kernelRun0_B.sl.r_11, kernelRun0_B.sl.r_12, kernelRun0_B.sl.r_13, ldB_rows, ldB_copy, ld_tap', ld]
  rfl

theorem taps6B : kernelRun0_B.sl.r_13 c arg2 harg2 arg3 harg3 arg4 harg4 arg8 harg8 arg9 x0 x1 x2 xs0 = taps6 (YB x0 xs0) x1 x2 := by
  unfold kernelRun0_B.sl.r_13
  rw [taps5B]
  simp only [kernelRun0_B.sl.v46, kernelRun0_B.sl.v53, kernelRun0_B.sl.v60, kernelRun0_B.sl.v67, kernelRun0_B.sl.v74, kernelRun0_B.sl.v81, kernelRun0_B.sl.v94, kernelRun0_B.sl.v101, kernelRun0_B.sl.v108, kernelRun0_B.sl.v115, kernelRun0_B.sl.v122, kernelRun0_B.sl.v129, kernelRun0_B.sl.v136, kernelRun0_B.sl.v149, kernelRun0_B.sl.v156, kernelRun0_B.sl.v163, kernelRun0_B.sl.v170, kernelRun0_B.sl.v177, kernelRun0_B.sl.v184, kernelRun0_B.sl.v191, kernelRun0_B.sl.v204, kernelRun0_B.sl.v211, kernelRun0_B.sl.v218, kernelRun0_B.sl.v225, kernelRun0_B.sl.v232, kernelRun0_B.sl.v239, kernelRun0_B.sl.v246, kernelRun0_B.sl.v253, kernelRun0_B.sl.r, kernelRun0_B.sl.r_1, kernelRun0_B.sl.r_2, kernelRun0_B.sl.r_3, kernelRun0_B.sl.r_4, kernelRun0_B.sl.r_5, kernelRun0_B.sl.r_6, kernelRun0_B.sl.r_7, kernelRun0_B.sl.r_8, kernelRun0_B.sl.r_9, kernelRun0_B.sl.r_10, kernelRun0_B.sl.r_11, kernelRun0_B.sl.r_12, kernelRun0_B.sl.r_13, ldB_rows, ldB_copy, ld_tap', ld]
  rfl

theorem taps7B : kernelRun0_B.sl.r_14 c arg2 harg2 arg3 harg3 arg4 harg4 arg8 harg8 arg9 x0 x1 x2 xs0 = taps7 (YB x0 xs0) x1 x2 := by
  unfold kernelRun0_B.sl.r_14 kernelRun0_B.sl.v253
  rw [taps6B, ldB_block c arg2 harg2 arg8 x0 xs0]
  simp only [kernelRun0_B.sl.v46, kernelRun0_B.sl.v53, kernelRun0_B.sl.v60, kernelRun0_B.sl.v67, kernelRun0_B.sl.v74, kernelRun0_B.sl.v81, kernelRun0_B.sl.v94, kernelRun0_B.sl.v101, kernelRun0_B.sl.v108, kernelRun0_B.sl.v115, kernelRun0_B.sl.v122, kernelRun0_B.sl.v129, kernelRun0_B.sl.v136, kernelRun0_B.sl.v149, kernelRun0_B.sl.v156, kernelRun0_B.sl.v163, kernelRun0_B.sl.v170, kernelRun0_B.sl.v177, kernelRun0_B.sl.v184, kernelRun0_B.sl.v191, kernelRun0_B.sl.v204, kernelRun0_B.sl.v211, kernelRun0_B.sl.v218, kernelRun0_B.sl.v225, kernelRun0_B.sl.v232, kernelRun0_B.sl.v239, kernelRun0_B.sl.v246, kernelRun0_B.sl.v253, kernelRun0_B.sl.r, kernelRun0_B.sl.r_1, kernelRun0_B.sl.r_2, kernelRun0_B.sl.r_3, kernelRun0_B.sl.r_4, kernelRun0_B.sl.r_5, kernelRun0_B.sl.r_6, kernelRun0_B.sl.r_7, kernelRun0_B.sl.r_8, kernelRun0_B.sl.r_9, kernelRun0_B.sl.r_10, kernelRun0_B.sl.r_11, kernelRun0_B.sl.r_12, kernelRun0_B.sl.r_13, ldB_copy, ld_tap', ld]
  rfl

theorem meanB : kernelRun0_B.sl.r_15 c arg2 harg2 arg3 harg3 arg4 harg4 arg8 harg8 arg9 x0 x1 x2 xs0 = mean (YB x0 xs0) x1 x2 := by
  unfold kernelRun0_B.sl.r_15 kernelRun0_B.sl.v253
  rw [taps6B, ldB_block c arg2 harg2 arg8 x0 xs0]
  simp only [kernelRun0_B.sl.v46, kernelRun0_B.sl.v53, kernelRun0_B.sl.v60, kernelRun0_B.sl.v67, kernelRun0_B.sl.v74, kernelRun0_B.sl.v81, kernelRun0_B.sl.v94, kernelRun0_B.sl.v101, kernelRun0_B.sl.v108, kernelRun0_B.sl.v115, kernelRun0_B.sl.v122, kernelRun0_B.sl.v129, kernelRun0_B.sl.v136, kernelRun0_B.sl.v149, kernelRun0_B.sl.v156, kernelRun0_B.sl.v163, kernelRun0_B.sl.v170, kernelRun0_B.sl.v177, kernelRun0_B.sl.v184, kernelRun0_B.sl.v191, kernelRun0_B.sl.v204, kernelRun0_B.sl.v211, kernelRun0_B.sl.v218, kernelRun0_B.sl.v225, kernelRun0_B.sl.v232, kernelRun0_B.sl.v239, kernelRun0_B.sl.v246, kernelRun0_B.sl.v253, kernelRun0_B.sl.r, kernelRun0_B.sl.r_1, kernelRun0_B.sl.r_2, kernelRun0_B.sl.r_3, kernelRun0_B.sl.r_4, kernelRun0_B.sl.r_5, kernelRun0_B.sl.r_6, kernelRun0_B.sl.r_7, kernelRun0_B.sl.r_8, kernelRun0_B.sl.r_9, kernelRun0_B.sl.r_10, kernelRun0_B.sl.r_11, kernelRun0_B.sl.r_12, kernelRun0_B.sl.r_13, ldB_copy, ld_tap', ld]
  rfl

end Cert.Kernel4Ideal.Conv

end
-- ==== Proof.Conv.Spec.lean ====
/-
  The convolution branch as a function of the layer's arguments.
-/
module

public import Idealize.ShloMosaic.PureOps.Ideal
public import Idealize.ShloMosaic.Lib.Pointwise

@[expose] public section

noncomputable section

namespace Cert.Conv

open Idealize.ShloMosaic

/-- The gated linear unit of a row. -/
def glu (U : (⟨3, ![2, 8192, 1024]⟩ : Shape).Idx → EReal) (b : Fin 2) (s : Fin 8192) (n : Fin 512) : EReal :=
  U (ix3 b s ⟨n.val, by omega⟩) * Ideal.logistic (U (ix3 b s ⟨512 + n.val, by omega⟩))

/-- The unit's rows after thirty-two rows of zeros. -/
def hist (U : (⟨3, ![2, 8192, 1024]⟩ : Shape).Idx → EReal) (b : Fin 2) (q : ℕ) (n : Fin 512) : EReal :=
  if h : 32 ≤ q ∧ q < 8224 then glu U b ⟨q - 32, by omega⟩ n else 0

/-- The causal depthwise convolution of thirty-one taps, with its bias. -/
def conv (U : (⟨3, ![2, 8192, 1024]⟩ : Shape).Idx → EReal) (W : (⟨3, ![31, 1, 512]⟩ : Shape).Idx → EReal) (B : (⟨1, ![512]⟩ : Shape).Idx → EReal)
    (b : Fin 2) (s : ℕ) (n : Fin 512) : EReal :=
  (∑ j ∈ Finset.range 31, W (ix3 ⟨j % 31, Nat.mod_lt _ (by decide)⟩ 0 n) * hist U b (2 + j + s) n) + B (ix1 n)

/-- The mean of a row. -/
def mean512 (x : Fin 512 → EReal) : EReal := Ideal.div (∑ k : Fin 512, x k) (Ideal.ofBits .f32 0x44000000#32)

/-- A centred row over its deviation, scaled and shifted. -/
def scaled (x : Fin 512 → EReal) (g b : EReal) (n : Fin 512) : EReal :=
  x n * Ideal.rsqrt (mean512 (fun k => x k * x k) + Ideal.ofBits .f32 0x358637BD#32) * g + b

/-- A value times its logistic. -/
def silu (x : EReal) : EReal := x * Ideal.logistic x

/-- The branch: convolution, layer norm, and the last activation. -/
def branch (U : (⟨3, ![2, 8192, 1024]⟩ : Shape).Idx → EReal) (W : (⟨3, ![31, 1, 512]⟩ : Shape).Idx → EReal) (B G A : (⟨1, ![512]⟩ : Shape).Idx → EReal)
    (b : Fin 2) (s : ℕ) (n : Fin 512) : EReal :=
  silu (scaled (fun k => conv U W B b s k - mean512 (fun l => conv U W B b s l)) (G (ix1 n)) (A (ix1 n)) n)

end Cert.Conv

end
-- ==== Proof.Conv.Pay.lean ====
/-
  The convolution kernel's arithmetic over the extended reals, read at an index.
-/
module

public import proofs.«01_k».proof.Proof.Conv.Point
public import proofs.«01_k».proof.Proof.Conv.Spec

@[expose] public section

set_option maxRecDepth 16384
set_option maxHeartbeats 1000000

noncomputable section

namespace Cert.Kernel4Ideal.Conv

open Idealize.ShloMosaic Idealize.ShloMosaic.TcCoe Idealize.SL.Sem
open Cert.Kernel4Ideal.Gen Cert.Conv

local notation "I" => Idealize.ShloMosaic.Ideal

theorem pay2_at (r : Fin 32) (n : Fin 512) : k0_pay2 (F := I) (ix2 r n) = 0 := by
  pointwise [k0_pay2]

theorem pay3_at (x : Vec I S512x1024 .bf16) (r : Fin 512) (n : Fin 512) :
    k0_pay3 (F := I) x (ix2 r n) = x (ix2 r ⟨n.val, by omega⟩) * Ideal.logistic (x (ix2 r ⟨512 + n.val, by omega⟩)) := by
  pointwise [k0_pay3]

theorem pay24_eq (x : Vec I S32x512 .f32) : k0_pay24 (F := I) x = x := by
  funext y
  obtain ⟨r, n, rfl⟩ : ∃ (r : Fin 32) (n : Fin 512), y = ix2 r n := ⟨y 0, y 1, funext fun a => match a with | ⟨0, _⟩ => rfl | ⟨1, _⟩ => rfl⟩
  pointwise [k0_pay24]

theorem pay1_at (x : FVec I S512x512 .f32) (mu : FVec I S512x1 .f32) (g b : Vec I S1x512 .f32) (r : Fin 512) (n : Fin 512) :
    k0_pay1 (F := I) x mu g b (ix2 r n)
      = silu (scaled (fun k => x (ix2 r k) - mu (ix2 r 0)) (g (ix2 0 n)) (b (ix2 0 n)) n) := by
  unfold silu scaled mean512
  pointwise [k0_pay1]

theorem pay11_at (v42 : Vec I S1x512 .f32) (v46 : Vec I S1x512x512 .f32) (v48 : Vec I S1x512 .f32) (r n : Fin 512) :
    k0_pay11 (F := I) v42 v46 v48 (ix2 r n) = 0 + v42 (ix2 0 n) + v48 (ix2 0 n) * v46 (ix3 0 r n) := by
  pointwise [k0_pay11]

theorem pay12_at (v53 : Vec I S1x512x512 .f32) (r n : Fin 512) :
    k0_pay12 (F := I) v53 (ix2 r n) = v53 (ix3 0 r n) := by
  pointwise [k0_pay12]

theorem pay13_at (v52 : FVec I S512x512 .f32) (v54 : FVec I S512x512 .f32) (v55 : Vec I S1x512 .f32) (v60 : Vec I S1x512x512 .f32) (v62 : Vec I S1x512 .f32) (v67 : Vec I S1x512x512 .f32) (v69 : Vec I S1x512 .f32) (v74 : Vec I S1x512x512 .f32) (v76 : Vec I S1x512 .f32) (v81 : Vec I S1x512x512 .f32) (v83 : Vec I S1x512 .f32) (r n : Fin 512) :
    k0_pay13 (F := I) v52 v54 v55 v60 v62 v67 v69 v74 v76 v81 v83 (ix2 r n) = v52 (ix2 r n) + v55 (ix2 0 n) * v54 (ix2 r n) + v62 (ix2 0 n) * v60 (ix3 0 r n) + v69 (ix2 0 n) * v67 (ix3 0 r n) + v76 (ix2 0 n) * v74 (ix3 0 r n) + v83 (ix2 0 n) * v81 (ix3 0 r n) := by
  pointwise [k0_pay13]

theorem pay14_at (v89 : Vec I S1x512 .f32) (n : Fin 512) : k0_pay14 (F := I) v89 (ix2 0 n) = v89 (ix2 0 n) := by
  pointwise [k0_pay14]

theorem pay15_at (v87 : FVec I S512x512 .f32) (v88 : Vec I S512x512 .f32) (v90 : FVec I S1x512 .f32) (v94 : Vec I S1x512x512 .f32) (v96 : Vec I S1x512 .f32) (v101 : Vec I S1x512x512 .f32) (v103 : Vec I S1x512 .f32) (v108 : Vec I S1x512x512 .f32) (v110 : Vec I S1x512 .f32) (v115 : Vec I S1x512x512 .f32) (v117 : Vec I S1x512 .f32) (r n : Fin 512) :
    k0_pay15 (F := I) v87 v88 v90 v94 v96 v101 v103 v108 v110 v115 v117 (ix2 r n) = v87 (ix2 r n) + v90 (ix2 0 n) * v88 (ix2 r n) + v96 (ix2 0 n) * v94 (ix3 0 r n) + v103 (ix2 0 n) * v101 (ix3 0 r n) + v110 (ix2 0 n) * v108 (ix3 0 r n) + v117 (ix2 0 n) * v115 (ix3 0 r n) := by
  pointwise [k0_pay15]

theorem pay16_at (v122 : Vec I S1x512x512 .f32) (r n : Fin 512) :
    k0_pay16 (F := I) v122 (ix2 r n) = v122 (ix3 0 r n) := by
  pointwise [k0_pay16]

theorem pay17_at (v124 : Vec I S1x512 .f32) (n : Fin 512) : k0_pay17 (F := I) v124 (ix2 0 n) = v124 (ix2 0 n) := by
  pointwise [k0_pay17]

theorem pay18_at (v121 : FVec I S512x512 .f32) (v123 : FVec I S512x512 .f32) (v125 : FVec I S1x512 .f32) (v129 : Vec I S1x512x512 .f32) (v131 : Vec I S1x512 .f32) (v136 : Vec I S1x512x512 .f32) (v138 : Vec I S1x512 .f32) (v143 : Vec I S512x512 .f32) (v144 : Vec I S1x512 .f32) (v149 : Vec I S1x512x512 .f32) (v151 : Vec I S1x512 .f32) (r n : Fin 512) :
    k0_pay18 (F := I) v121 v123 v125 v129 v131 v136 v138 v143 v144 v149 v151 (ix2 r n) = v121 (ix2 r n) + v125 (ix2 0 n) * v123 (ix2 r n) + v131 (ix2 0 n) * v129 (ix3 0 r n) + v138 (ix2 0 n) * v136 (ix3 0 r n) + v144 (ix2 0 n) * v143 (ix2 r n) + v151 (ix2 0 n) * v149 (ix3 0 r n) := by
  pointwise [k0_pay18]

theorem pay19_at (v156 : Vec I S1x512x512 .f32) (v158 : Vec I S1x512 .f32) (r n : Fin 512) :
    k0_pay19 (F := I) v156 v158 (ix2 r n) = v158 (ix2 0 n) * v156 (ix3 0 r n) := by
  pointwise [k0_pay19]

theorem pay20_at (v155 : FVec I S512x512 .f32) (v161 : FVec I S512x512 .f32) (v163 : Vec I S1x512x512 .f32) (v165 : Vec I S1x512 .f32) (v170 : Vec I S1x512x512 .f32) (v172 : Vec I S1x512 .f32) (v177 : Vec I S1x512x512 .f32) (v179 : Vec I S1x512 .f32) (v184 : Vec I S1x512x512 .f32) (v186 : Vec I S1x512 .f32) (r n : Fin 512) :
    k0_pay20 (F := I) v155 v161 v163 v165 v170 v172 v177 v179 v184 v186 (ix2 r n) = v155 (ix2 r n) + v161 (ix2 r n) + v165 (ix2 0 n) * v163 (ix3 0 r n) + v172 (ix2 0 n) * v170 (ix3 0 r n) + v179 (ix2 0 n) * v177 (ix3 0 r n) + v186 (ix2 0 n) * v184 (ix3 0 r n) := by
  pointwise [k0_pay20]

theorem pay21_at (v191 : Vec I S1x512x512 .f32) (v193 : Vec I S1x512 .f32) (r n : Fin 512) :
    k0_pay21 (F := I) v191 v193 (ix2 r n) = v193 (ix2 0 n) * v191 (ix3 0 r n) := by
  pointwise [k0_pay21]

theorem pay22_at (v190 : FVec I S512x512 .f32) (v196 : FVec I S512x512 .f32) (v198 : Vec I S512x512 .f32) (v199 : Vec I S1x512 .f32) (v204 : Vec I S1x512x512 .f32) (v206 : Vec I S1x512 .f32) (v211 : Vec I S1x512x512 .f32) (v213 : Vec I S1x512 .f32) (v218 : Vec I S1x512x512 .f32) (v220 : Vec I S1x512 .f32) (v225 : Vec I S1x512x512 .f32) (v227 : Vec I S1x512 .f32) (r n : Fin 512) :
    k0_pay22 (F := I) v190 v196 v198 v199 v204 v206 v211 v213 v218 v220 v225 v227 (ix2 r n) = v190 (ix2 r n) + v196 (ix2 r n) + v199 (ix2 0 n) * v198 (ix2 r n) + v206 (ix2 0 n) * v204 (ix3 0 r n) + v213 (ix2 0 n) * v211 (ix3 0 r n) + v220 (ix2 0 n) * v218 (ix3 0 r n) + v227 (ix2 0 n) * v225 (ix3 0 r n) := by
  pointwise [k0_pay22]

theorem pay23_at (v231 : FVec I S512x512 .f32) (v232 : Vec I S1x512x512 .f32) (v234 : Vec I S1x512 .f32) (v239 : Vec I S1x512x512 .f32) (v241 : Vec I S1x512 .f32) (v246 : Vec I S1x512x512 .f32) (v248 : Vec I S1x512 .f32) (v253 : Vec I S512x512 .f32) (v254 : Vec I S1x512 .f32) (r n : Fin 512) :
    k0_pay23 (F := I) v231 v232 v234 v239 v241 v246 v248 v253 v254 (ix2 r n) = v231 (ix2 r n) + v234 (ix2 0 n) * v232 (ix3 0 r n) + v241 (ix2 0 n) * v239 (ix3 0 r n) + v248 (ix2 0 n) * v246 (ix3 0 r n) + v254 (ix2 0 n) * v253 (ix2 r n) := by
  pointwise [k0_pay23]

theorem pay25_at (v231 : FVec I S512x512 .f32) (v232 : Vec I S1x512x512 .f32) (v234 : Vec I S1x512 .f32) (v239 : Vec I S1x512x512 .f32) (v241 : Vec I S1x512 .f32) (v246 : Vec I S1x512x512 .f32) (v248 : Vec I S1x512 .f32) (v253 : Vec I S512x512 .f32) (v254 : Vec I S1x512 .f32) (r : Fin 512) :
    k0_pay25 (F := I) v231 v232 v234 v239 v241 v246 v248 v253 v254 (ix2 r 0) = mean512 (fun k => k0_pay23 (F := I) v231 v232 v234 v239 v241 v246 v248 v253 v254 (ix2 r k)) := by
  unfold mean512
  pointwise [k0_pay25]

variable (Y : Vec I S544x512 .f32) (W : Vec I S31x512 .f32) (B : Vec I S1x512 .f32)

/-- The bias and the taps' products, in any order. -/
theorem taps7_at (r n : Fin 512) :
    taps7 (F := I) Y W B (ix2 r n) = (∑ j ∈ Finset.range 31, tapRow W j (ix2 0 n) * row Y (2 + j + r.val) n) + B (ix2 0 n) := by
  rw [add_comm]
  simp only [Finset.sum_range_succ, Finset.sum_range_zero, zero_add, ← add_assoc]
  unfold taps7
  rw [pay23_at]
  unfold taps6
  rw [pay22_at, pay21_at]
  unfold taps5
  rw [pay20_at, pay19_at]
  unfold taps4
  rw [pay18_at, pay17_at, pay16_at]
  unfold taps3
  rw [pay15_at, pay14_at]
  unfold taps2
  rw [pay13_at, pay12_at]
  unfold taps1
  rw [pay11_at, zero_add]
  rfl

theorem mean_at (r : Fin 512) : mean (F := I) Y W B (ix2 r 0) = mean512 (fun k => taps7 (F := I) Y W B (ix2 r k)) := by
  unfold mean
  rw [pay25_at]
  rfl

end Cert.Kernel4Ideal.Conv

end
-- ==== Proof.Conv.Blk.lean ====
/-
  The convolution's blocks and operands, read in the layer's arguments.
-/
module

public import proofs.«01_k».proof.Proof.Conv.Pay

@[expose] public section

set_option maxRecDepth 16384
set_option maxHeartbeats 1000000

noncomputable section

namespace Cert.Kernel4Ideal.Conv

open Idealize.ShloMosaic Idealize.ShloMosaic.TcCoe Idealize.SL.Sem
open Cert.Kernel4Ideal.Gen Cert.Conv

section

variable {F : FTy → Type} [FloatOps F] (m : (ℓ : Loc nD τ sig) → Buf (Elt F) ℓ)

/-- A point of the grid is below thirty-two. -/
theorem lt_32 (t : Fin cfg0.N) : t.val < 32 := Nat.lt_of_lt_of_eq t.isLt N_0

theorem index_0 : ∀ t : Fin cfg0.N, win0_0.index t 0 = t.val ∧ win0_0.index t 1 = 6 := by decide +kernel

theorem iblk_0 (c : Dev nD) (t : Fin cfg0.N) (r : Fin 512) (a : Fin 1024) :
    (X0_0 m c t : Vec F S512x1024 .bf16) (ix2 r a)
      = (V m c main_v4 : Vec F S16384x11776 .bf16) (ix2 ⟨t.val * 512 + r.val, by have := lt_32 t; omega⟩ ⟨6144 + a.val, by omega⟩) := by
  have hi := index_0 t
  unfold X0_0 Pipeline.Window.fill
  rw [dif_pos (moved0_0 t _)]
  unfold iblk
  rw [View.read_apply]
  show (V m c main_v4 : Vec F S16384x11776 .bf16) _ = _
  congr 1
  funext x
  apply Fin.ext
  match x with
  | ⟨0, _⟩ => show win0_0.index t 0 * 512 + 1 * r.val = t.val * 512 + r.val; rw [hi.1]; omega
  | ⟨1, _⟩ => show win0_0.index t 1 * 1024 + 1 * a.val = 6144 + a.val; rw [hi.2]; omega

theorem index_1 : ∀ t : Fin cfg0.N, win0_1.index t 0 = 0 ∧ win0_1.index t 1 = 0 := by decide +kernel

theorem iblk_1 (c : Dev nD) (t : Fin cfg0.N) : (iblk m c 1 t : Vec F S31x512 .f32) = (V m c main_v5 : Vec F S31x512 .f32) := by
  have hi := index_1 t
  unfold iblk
  funext y
  rw [View.read_apply]
  show (V m c main_v5 : Vec F S31x512 .f32) _ = _
  congr 1
  funext x
  apply Fin.ext
  match x with
  | ⟨0, _⟩ => show win0_1.index t 0 * 31 + 1 * (y 0).val = (y 0).val; rw [hi.1]; omega
  | ⟨1, _⟩ => show win0_1.index t 1 * 512 + 1 * (y 1).val = (y 1).val; rw [hi.2]; omega

theorem index_2 : ∀ t : Fin cfg0.N, win0_2.index t 0 = 0 ∧ win0_2.index t 1 = 0 := by decide +kernel

theorem iblk_2 (c : Dev nD) (t : Fin cfg0.N) : (iblk m c 2 t : Vec F S1x512 .f32) = (V m c main_v6 : Vec F S1x512 .f32) := by
  have hi := index_2 t
  unfold iblk
  funext y
  rw [View.read_apply]
  show (V m c main_v6 : Vec F S1x512 .f32) _ = _
  congr 1
  funext x
  apply Fin.ext
  match x with
  | ⟨0, _⟩ => show win0_2.index t 0 * 1 + 1 * (y 0).val = (y 0).val; rw [hi.1]; omega
  | ⟨1, _⟩ => show win0_2.index t 1 * 512 + 1 * (y 1).val = (y 1).val; rw [hi.2]; omega

theorem index_3 : ∀ t : Fin cfg0.N, win0_3.index t 0 = 0 ∧ win0_3.index t 1 = 0 := by decide +kernel

theorem iblk_3 (c : Dev nD) (t : Fin cfg0.N) : (iblk m c 3 t : Vec F S1x512 .f32) = (V m c main_v7 : Vec F S1x512 .f32) := by
  have hi := index_3 t
  unfold iblk
  funext y
  rw [View.read_apply]
  show (V m c main_v7 : Vec F S1x512 .f32) _ = _
  congr 1
  funext x
  apply Fin.ext
  match x with
  | ⟨0, _⟩ => show win0_3.index t 0 * 1 + 1 * (y 0).val = (y 0).val; rw [hi.1]; omega
  | ⟨1, _⟩ => show win0_3.index t 1 * 512 + 1 * (y 1).val = (y 1).val; rw [hi.2]; omega

theorem index_4 : ∀ t : Fin cfg0.N, win0_4.index t 0 = 0 ∧ win0_4.index t 1 = 0 := by decide +kernel

theorem iblk_4 (c : Dev nD) (t : Fin cfg0.N) : (iblk m c 4 t : Vec F S1x512 .f32) = (V m c main_v8 : Vec F S1x512 .f32) := by
  have hi := index_4 t
  unfold iblk
  funext y
  rw [View.read_apply]
  show (V m c main_v8 : Vec F S1x512 .f32) _ = _
  congr 1
  funext x
  apply Fin.ext
  match x with
  | ⟨0, _⟩ => show win0_4.index t 0 * 1 + 1 * (y 0).val = (y 0).val; rw [hi.1]; omega
  | ⟨1, _⟩ => show win0_4.index t 1 * 512 + 1 * (y 1).val = (y 1).val; rw [hi.2]; omega

theorem index_5 : ∀ t : Fin cfg0.N, win0_5.index t 0 = t.val ∧ win0_5.index t 1 = 0 := by decide +kernel

/-- The result's block, read in a result array. -/
theorem oblk (G : Vec F S16384x512 .bf16) (t : Fin cfg0.N) (r : Fin 512) (a : Fin 512) :
    ((win0_5.blk t).view.read (Elt F) G : Vec F S512x512 .bf16) (ix2 r a) = G (ix2 ⟨t.val * 512 + r.val, by have := lt_32 t; omega⟩ a) := by
  have hi := index_5 t
  rw [View.read_apply]
  show G _ = _
  congr 1
  funext x
  apply Fin.ext
  match x with
  | ⟨0, _⟩ => show win0_5.index t 0 * 512 + 1 * r.val = t.val * 512 + r.val; rw [hi.1]; omega
  | ⟨1, _⟩ => show win0_5.index t 1 * 512 + 1 * a.val = a.val; rw [hi.2]; omega

/-- Every entry of the result is in a block written back. -/
theorem cover (i : S16384x512.Idx) : ∃ t, (cfg0.win 5).flush t = true ∧ i ∈ ((cfg0.win 5).blk t).view.set :=
  (Value.covered_iff5 i).2 ⟨Nat.zero_le _, (i 0).isLt, Nat.zero_le _, (i 1).isLt⟩

end

local notation "I" => Idealize.ShloMosaic.Ideal

variable (m : (ℓ : Loc nD τ sig) → Buf (Elt I) ℓ) (c : Dev nD)

abbrev aU : S2x8192x1024.Idx → EReal := m ((c.tc : Thread nD τ).loc main_arg0)
abbrev aW : S31x1x512.Idx → EReal := m ((c.tc : Thread nD τ).loc main_arg1)
abbrev aB : S512.Idx → EReal := m ((c.tc : Thread nD τ).loc main_arg2)
abbrev aG : S512.Idx → EReal := m ((c.tc : Thread nD τ).loc main_arg3)
abbrev aA : S512.Idx → EReal := m ((c.tc : Thread nD τ).loc main_arg4)

theorem v4_at (r : Fin 16384) (a : Fin 1024) :
    (V m c main_v4 : S16384x11776.Idx → EReal) (ix2 r ⟨6144 + a.val, by omega⟩) = aU m c (ix3 ⟨r.val / 8192, by omega⟩ ⟨r.val % 8192, by omega⟩ a) := by
  unfold V
  after_reads_at
  after_reads_at

theorem v5_at (j : Fin 31) (n : Fin 512) : (V m c main_v5 : S31x512.Idx → EReal) (ix2 j n) = aW m c (ix3 j 0 n) := by
  unfold V
  after_reads_at

theorem v6_at (n : Fin 512) : (V m c main_v6 : S1x512.Idx → EReal) (ix2 0 n) = aB m c (ix1 n) := by
  unfold V
  after_reads_at

theorem v7_at (n : Fin 512) : (V m c main_v7 : S1x512.Idx → EReal) (ix2 0 n) = aG m c (ix1 n) := by
  unfold V
  after_reads_at

theorem v8_at (n : Fin 512) : (V m c main_v8 : S1x512.Idx → EReal) (ix2 0 n) = aA m c (ix1 n) := by
  unfold V
  after_reads_at

end Cert.Kernel4Ideal.Conv

end
-- ==== Proof.Conv.Arr.lean ====
/-
  The array the convolution kernel leaves.
-/
module

public import proofs.«01_k».proof.Proof.Conv.Blk

@[expose] public section

set_option maxRecDepth 16384
set_option maxHeartbeats 1000000

noncomputable section

namespace Cert.Kernel4Ideal.Conv

open Idealize.ShloMosaic Idealize.ShloMosaic.TcCoe Idealize.SL.Sem
open Idealize.ShloMosaic.Pipeline (Dat)
open Cert.Kernel4Ideal.Gen Cert.Conv

local notation "I" => Idealize.ShloMosaic.Ideal

theorem pay1_congr {a a' : FVec I S512x512 .f32} {b b' : FVec I S512x1 .f32} {d d' e e' : Vec I S1x512 .f32}
    (ea : a = a') (eb : b = b') (ed : d = d') (ee : e = e') : k0_pay1 a b d e = k0_pay1 a' b' d' e' := by rw [ea, eb, ed, ee]

section

variable (c : Dev nD) (i : grid0.Coords) (arg2 : Memref sig .tc .vmem S512x1024 .bf16) (harg2 : arg2.IsWhole) (arg3 : Memref sig .tc .vmem S31x512 .f32) (harg3 : arg3.IsWhole)
  (arg4 : Memref sig .tc .vmem S1x512 .f32) (harg4 : arg4.IsWhole) (arg5 : Memref sig .tc .vmem S1x512 .f32) (harg5 : arg5.IsWhole) (arg6 : Memref sig .tc .vmem S1x512 .f32)
  (harg6 : arg6.IsWhole) (arg7 : Memref sig .tc .vmem S512x512 .bf16) (harg7 : arg7.IsWhole) (arg8 : Memref sig .tc .vmem S544x512 .f32) (harg8 : arg8.IsWhole)
  (arg9 : Memref sig .tc .vmem S7x536x512 .f32) (harg9 : arg9.IsWhole)
  (x0 : Vec I S512x1024 .bf16) (x1 : Vec I S31x512 .f32) (x2 : Vec I S1x512 .f32) (x3 : Vec I S1x512 .f32) (x4 : Vec I S1x512 .f32) (xs0 : Vec I S544x512 .f32)

/-- The block a point leaves, of its joined rows. -/
def block (Y : Vec I S544x512 .f32) : Vec I S512x512 .bf16 := k0_pay1 (taps7 Y x1 x2) (mean Y x1 x2) x3 x4

theorem outA (hc0 : cond0_0 i) : out0_A_5 (F := I) c i arg2 harg2 arg3 harg3 arg4 harg4 arg5 harg5 arg6 harg6 arg7 harg7 arg8 harg8 arg9 harg9 hc0 x0 x1 x2 x3 x4 = block x1 x2 x3 x4 (YA x0) := by
  unfold out0_A_5 kernelRun0_A
  refine (View.read_writes_full _ _ _ _ _).trans ?_
  exact pay1_congr (taps7A c arg2 harg2 arg3 harg3 arg4 harg4 arg8 arg9 x0 x1 x2) (meanA c arg2 harg2 arg3 harg3 arg4 harg4 arg8 arg9 x0 x1 x2) (ld _ _ _ _) (ld _ _ _ _)

theorem outB (hc0 : ¬cond0_0 i) : out0_B_5 (F := I) c i arg2 harg2 arg3 harg3 arg4 harg4 arg5 harg5 arg6 harg6 arg7 harg7 arg8 harg8 arg9 harg9 hc0 x0 x1 x2 x3 x4 xs0 = block x1 x2 x3 x4 (YB x0 xs0) := by
  unfold out0_B_5 kernelRun0_B
  refine (View.read_writes_full _ _ _ _ _).trans ?_
  exact pay1_congr (taps7B c arg2 harg2 arg3 harg3 arg4 harg4 arg8 harg8 arg9 x0 x1 x2 xs0) (meanB c arg2 harg2 arg3 harg3 arg4 harg4 arg8 harg8 arg9 x0 x1 x2 xs0) (ld _ _ _ _) (ld _ _ _ _)

/-- The first rows of what is left, when the newest store is of the first rows. -/
theorem first_of (i0) (u w : Vec I S32x512 .f32) (L : List (View.Piece (Elt I) S544x512 .f32)) (h : u = w) :
    first32 (VS0_0.read (Elt I) (VS0_0.writes (Elt I) VS0_0.junk (⟨Rect.unit (s := S544x512) ![0, 0] S32x512.size i0, k0_pay24 u⟩ :: L))) = w := by
  rw [pay24_eq, h]
  funext y
  have h0 : (y 0).val < 32 := (y 0).isLt
  unfold first32
  refine (View.read_writes_junk_apply_eq_canon (Val := Elt I) VS0_0 _ _).trans ?_
  refine (congrArg (View.canon (Val := Elt I) _) (funext fun a => Fin.ext ?_)).trans
    (View.canon_cons_emb (Rect.unit (s := S544x512) ![0, 0] S32x512.size i0) w L y)
  match a with
  | ⟨0, _⟩ => show (y 0).val % 544 = 0 + 1 * (y 0).val; omega
  | ⟨1, _⟩ => show (y 1).val = 0 + 1 * (y 1).val; omega

theorem soutA (hc0 : cond0_0 i) : first32 (sout0_A_0 (F := I) c i arg2 harg2 arg3 harg3 arg4 harg4 arg5 harg5 arg6 harg6 arg7 harg7 arg8 harg8 arg9 harg9 hc0 x0 x1 x2 x3 x4) = last (YA x0) := by
  unfold sout0_A_0 kernelRun0_A
  exact first_of _ _ _ _ (ldA c arg2 harg2 arg8 x0 32 512 _)

theorem soutB (hc0 : ¬cond0_0 i) : first32 (sout0_B_0 (F := I) c i arg2 harg2 arg3 harg3 arg4 harg4 arg5 harg5 arg6 harg6 arg7 harg7 arg8 harg8 arg9 harg9 hc0 x0 x1 x2 x3 x4 xs0) = last (YB x0 xs0) := by
  unfold sout0_B_0 kernelRun0_B
  exact first_of _ _ _ _ (ldB' c arg2 harg2 arg8 x0 xs0 32 512 (by decide) _)

end

/-- Rows of the history from a row on. -/
def histRows (U : (⟨3, ![2, 8192, 1024]⟩ : Shape).Idx → EReal) (b : Fin 2) (q : ℕ) : Vec I S544x512 .f32 := fun y => hist U b (q + (y 0).val) (y 1)

theorem row_hist (U : (⟨3, ![2, 8192, 1024]⟩ : Shape).Idx → EReal) (b : Fin 2) (q k : ℕ) (n : Fin 512) (hk : k < 544) : row (histRows U b q) k n = hist U b (q + k) n := by
  show hist U b (q + k % 544) n = _
  rw [Nat.mod_eq_of_lt hk]

variable (m : (ℓ : Loc nD τ sig) → Buf (Elt I) ℓ) (c : Dev nD)

/-- A point's batch. -/
def bat (t : Fin cfg0.N) : Fin 2 := ⟨t.val / 16, by have := lt_32 t; omega⟩

/-- A point's gated rows are its rows of the history. -/
theorem glu_at (t : Fin cfg0.N) (r n : Fin 512) : k0_pay3 (F := I) (X0_0 m c t) (ix2 r n) = hist (aU m c) (bat t) (t.val % 16 * 512 + (32 + r.val)) n := by
  have ht := lt_32 t
  rw [pay3_at, iblk_0, iblk_0, v4_at, v4_at]
  unfold hist glu
  rw [dif_pos ⟨by omega, by omega⟩]
  have eb : (⟨(t.val * 512 + r.val) / 8192, by omega⟩ : Fin 2) = bat t := Fin.ext (by show (t.val * 512 + r.val) / 8192 = t.val / 16; omega)
  have es : (⟨(t.val * 512 + r.val) % 8192, by omega⟩ : Fin 8192) = ⟨t.val % 16 * 512 + (32 + r.val) - 32, by omega⟩ :=
    Fin.ext (by show (t.val * 512 + r.val) % 8192 = t.val % 16 * 512 + (32 + r.val) - 32; omega)
  exact congrArg₂ (fun (b : Fin 2) (s : Fin 8192) => aU m c (ix3 b s ⟨n.val, by omega⟩) * Ideal.logistic (aU m c (ix3 b s ⟨512 + n.val, by omega⟩))) eb es

/-- The joined rows are the history's when the rows before the block are. -/
theorem joined_hist (t : Fin cfg0.N) (H : Vec I S32x512 .f32)
    (h : ∀ (r : Fin 32) (n : Fin 512), H (ix2 r n) = hist (aU m c) (bat t) (t.val % 16 * 512 + r.val) n) :
    joined H (k0_pay3 (F := I) (X0_0 m c t)) = histRows (aU m c) (bat t) (t.val % 16 * 512) := by
  funext y
  have h0 : (y 0).val < 544 := (y 0).isLt
  unfold joined histRows
  by_cases hy : (y 0).val < 32
  · rw [dif_pos hy]
    exact h ⟨(y 0).val, hy⟩ (y 1)
  · rw [dif_neg hy]
    refine (glu_at m c t ⟨(y 0).val - 32, by omega⟩ (y 1)).trans (congrArg (fun q => hist (aU m c) (bat t) q (y 1)) ?_)
    show t.val % 16 * 512 + (32 + ((y 0).val - 32)) = t.val % 16 * 512 + (y 0).val
    omega

theorem YA_hist (t : Fin cfg0.N) (h0 : t.val % 16 = 0) : YA (F := I) (X0_0 m c t) = histRows (aU m c) (bat t) (t.val % 16 * 512) := by
  refine joined_hist m c t _ fun r n => ?_
  rw [pay2_at]
  unfold hist
  rw [dif_neg (by omega)]

theorem YB_hist (t : Fin cfg0.N) (h0 : ¬t.val % 16 = 0) (b : Fin 2) (q : ℕ) (hb : b = bat t) (hq : q = (t.val - 1) % 16 * 512) (S : Vec I S544x512 .f32)
    (hS : first32 S = last (histRows (aU m c) b q)) : YB (F := I) (X0_0 m c t) S = histRows (aU m c) (bat t) (t.val % 16 * 512) := by
  refine joined_hist m c t _ fun r n => ?_
  rw [hS]
  refine (row_hist (aU m c) b q (512 + r.val) n (by omega)).trans ?_
  rw [hb]
  exact congrArg (fun q => hist (aU m c) (bat t) q n) (by omega)

theorem stepA (t : Fin cfg0.N) (h0 : t.val % 16 = 0) :
    (outsAt0 m c t.val t.isLt).1 = block (iblk m c 1 t) (iblk m c 2 t) (iblk m c 3 t) (iblk m c 4 t) (histRows (aU m c) (bat t) (t.val % 16 * 512))
      ∧ first32 (outsAt0 m c t.val t.isLt).2 = last (histRows (aU m c) (bat t) (t.val % 16 * 512)) := by
  rw [outsAt0_A m c t h0]
  dsimp only
  rw [outA, soutA, YA_hist m c t h0]
  exact ⟨rfl, rfl⟩

theorem stepB (t : Fin cfg0.N) (h0 : ¬t.val % 16 = 0) (b : Fin 2) (q : ℕ) (hb : b = bat t) (hq : q = (t.val - 1) % 16 * 512)
    (hS : first32 (outsAt0 m c (t.val - 1) (Nat.lt_of_le_of_lt (Nat.sub_le _ _) t.isLt)).2 = last (histRows (aU m c) b q)) :
    (outsAt0 m c t.val t.isLt).1 = block (iblk m c 1 t) (iblk m c 2 t) (iblk m c 3 t) (iblk m c 4 t) (histRows (aU m c) (bat t) (t.val % 16 * 512))
      ∧ first32 (outsAt0 m c t.val t.isLt).2 = last (histRows (aU m c) (bat t) (t.val % 16 * 512)) := by
  rw [outsAt0_B m c t h0]
  dsimp only
  rw [outB, soutB, YB_hist m c t h0 b q hb hq _ hS]
  exact ⟨rfl, rfl⟩

/-- What the points leave: a block of the history's rows, and the last of them. -/
theorem points (n : ℕ) : ∀ hn : n < cfg0.N,
    (outsAt0 m c n hn).1 = block (iblk m c 1 ⟨n, hn⟩) (iblk m c 2 ⟨n, hn⟩) (iblk m c 3 ⟨n, hn⟩) (iblk m c 4 ⟨n, hn⟩) (histRows (aU m c) (bat ⟨n, hn⟩) (n % 16 * 512))
      ∧ first32 (outsAt0 m c n hn).2 = last (histRows (aU m c) (bat ⟨n, hn⟩) (n % 16 * 512)) := by
  induction n with
  | zero => exact fun hn => stepA m c ⟨0, hn⟩ rfl
  | succ k ih =>
    intro hn
    by_cases h0 : (k + 1) % 16 = 0
    · exact stepA m c ⟨k + 1, hn⟩ h0
    · have hk : k < cfg0.N := Nat.lt_of_succ_lt hn
      exact stepB m c ⟨k + 1, hn⟩ h0 (bat ⟨k, hk⟩) (k % 16 * 512) (Fin.ext (by show k / 16 = (k + 1) / 16; omega)) rfl (ih hk).2

/-- The branch of the kernel's arguments. -/
def G : Vec I S16384x512 .bf16 := fun i =>
  branch (aU m c) (aW m c) (aB m c) (aG m c) (aA m c) ⟨(i 0).val / 8192, by have h : (i 0).val < 16384 := (i 0).isLt; omega⟩ ((i 0).val % 8192) (i 1)

theorem taps_conv (t : Fin cfg0.N) (r n : Fin 512) :
    taps7 (F := I) (histRows (aU m c) (bat t) (t.val % 16 * 512)) (iblk m c 1 t) (iblk m c 2 t) (ix2 r n)
      = conv (aU m c) (aW m c) (aB m c) (bat t) (t.val % 16 * 512 + r.val) n := by
  rw [taps7_at, iblk_2, v6_at, iblk_1]
  unfold conv
  congr 1
  refine Finset.sum_congr rfl fun j hj => ?_
  have hj' : j < 31 := Finset.mem_range.1 hj
  refine congrArg₂ (fun (a b : EReal) => a * b) (v5_at m c ⟨j % 31, Nat.mod_lt _ (by decide)⟩ n) ?_
  rw [row_hist _ _ _ _ _ (by omega)]
  exact congrArg (fun q => hist (aU m c) (bat t) q n) (by omega)

theorem outs_at (t : Fin cfg0.N) (r n : Fin 512) :
    ((outsAt0 m c t.val t.isLt).1 : Vec I S512x512 .bf16) (ix2 r n) = G m c (ix2 ⟨t.val * 512 + r.val, by have := lt_32 t; omega⟩ n) := by
  have ht := lt_32 t
  rw [(points m c t.val t.isLt).1]
  unfold block
  rw [pay1_at, mean_at]
  simp only [taps_conv m c t]
  rw [iblk_3, iblk_4, v7_at, v8_at]
  show _ = branch (aU m c) (aW m c) (aB m c) (aG m c) (aA m c) ⟨(t.val * 512 + r.val) / 8192, by omega⟩ ((t.val * 512 + r.val) % 8192) n
  have eb : bat t = (⟨(t.val * 512 + r.val) / 8192, by omega⟩ : Fin 2) := Fin.ext (by show t.val / 16 = (t.val * 512 + r.val) / 8192; omega)
  have es : t.val % 16 * 512 + r.val = (t.val * 512 + r.val) % 8192 := by omega
  rw [← eb, ← es]
  rfl

/-- The result array at the end of the run. -/
theorem final : (dats m 0 c).arrAt 5 cfg0.N = G m c := by
  refine (dats m 0 c).arrAt_eq_of_cover 5 (G m c) (fun t _ => ?_) cover
  show (cfg0.win 5).cut (grid0.coords t) ((dats m 0 c).after 5 t) = _
  rw [after0_5]
  have key : ((outsAt0 m c t.val t.isLt).1 : Vec I S512x512 .bf16) = ((win0_5.blk t).view.read (Elt I) (G m c) : Vec I S512x512 .bf16) := by
    funext y
    obtain ⟨r, n, rfl⟩ : ∃ (r : Fin 512) (n : Fin 512), y = ix2 r n := ⟨y 0, y 1, funext fun a => match a with | ⟨0, _⟩ => rfl | ⟨1, _⟩ => rfl⟩
    exact (outs_at m c t r n).trans (oblk (G m c) t r n).symm
  exact key

end Cert.Kernel4Ideal.Conv

end
-- ==== Proof.Conv.Ref.lean ====
/-
  The convolution's reference over the extended reals.
-/
module

public import proofs.«01_k».proof.Proof.Gen.Reference4Ideal.Read
public import proofs.«01_k».proof.Proof.Conv.Spec
public import Idealize.ShloMosaic.Lib.KernelVsHost

@[expose] public section

set_option maxRecDepth 16384
set_option maxHeartbeats 1000000

noncomputable section

namespace Cert.Reference4Ideal.Conv

open Idealize.ShloMosaic Idealize.ShloMosaic.TcCoe
open Cert.Reference4Ideal.Gen Cert.Reference4Ideal.Read Cert.Conv

local notation "I" => Idealize.ShloMosaic.Ideal

theorem ix1_eq {n0 : ℕ} (f : (⟨1, ![n0]⟩ : Shape).Idx) (a : Fin n0) (h0 : (f 0).val = a.val) : f = ix1 a :=
  funext fun i => match i with
    | ⟨0, _⟩ => Fin.ext h0

theorem ix3_eq {n0 n1 n2 : ℕ} (f : (⟨3, ![n0, n1, n2]⟩ : Shape).Idx) (a : Fin n0) (b : Fin n1) (c : Fin n2)
    (h0 : (f 0).val = a.val) (h1 : (f 1).val = b.val) (h2 : (f 2).val = c.val) : f = ix3 a b c :=
  funext fun i => match i with
    | ⟨0, _⟩ => Fin.ext h0
    | ⟨1, _⟩ => Fin.ext h1
    | ⟨2, _⟩ => Fin.ext h2

theorem ofBits_1 : Ideal.ofBits .f32 0x3F800000#32 = 1 := by
  simp [Ideal.ofBits, Ideal.ieee, -EReal.coe_mul]; norm_num

theorem ofBits_0 : Ideal.ofBits .f32 0x00000000#32 = 0 := by
  simp [Ideal.ofBits, Ideal.ieee, -EReal.coe_mul]

variable (U : (⟨S2x8192x1024, .f32⟩ : BufTy).Contents (Elt I)) (W : (⟨S31x1x512, .f32⟩ : BufTy).Contents (Elt I))
  (B G A : (⟨S512, .f32⟩ : BufTy).Contents (Elt I))

theorem v8_at (b : Fin 2) (s : Fin 8192) (n : Fin 512) : val_main_v8 (F := I) U (ix3 b s n) = glu U b s n := by
  rw [val_main_v8_apply, val_main_v7_apply, val_main_v6_apply, val_main_v5_apply, val_main_v4_apply, val_main_v3_apply, val_main_v2_apply, val_main_v1_apply,
    val_main_v0_apply, val_main_cst_0_apply, val_main_cst_apply, Ideal.ofBits_def, ofBits_1]
  unfold glu
  rw [ix3_eq (idx_main_v0 (ix3 b s n)) b s ⟨n.val, by omega⟩ rfl rfl rfl, ix3_eq (idx_main_v1 (ix3 b s n)) b s ⟨512 + n.val, by omega⟩ rfl rfl rfl]
  rfl

/-- The unit with thirty rows of zeros before it. -/
theorem v9_at (b : Fin 2) (p : Fin 8222) (n : Fin 512) : val_main_v9 (F := I) U (ix3 b p n) = hist U b (2 + p.val) n := by
  have hp := p.isLt
  unfold val_main_v9 hist
  by_cases h : 30 ≤ p.val
  · rw [dif_pos ⟨by omega, by omega⟩]
    refine (pad_apply_of_inside _ _ _ _ _ _ _ _ (ix3 b (⟨2 + p.val - 32, by omega⟩ : Fin 8192) n) (fun a => ?_)).trans (v8_at U b _ n)
    match a with
    | ⟨0, _⟩ => show b.val = 0 + b.val * (0 + 1); omega
    | ⟨1, _⟩ => show p.val = 30 + (2 + p.val - 32) * (0 + 1); omega
    | ⟨2, _⟩ => show n.val = 0 + n.val * (0 + 1); omega
  · rw [dif_neg (by omega)]
    refine (pad_apply_of_not_inside _ _ _ _ _ _ _ _ (1 : Fin 3) (fun hh => h hh.1)).trans ?_
    rw [val_main_call0_v0_apply, val_main_c_apply]
    show (((0#32 : BitVec 32).toInt : ℝ) : EReal) = 0
    simp

/-- One tap's product. -/
theorem tap_at (j : ℕ) (h1 : S31x1x512.Slices ![j, 0, 0] S1x1x512) (h2 : S2x8222x512.Slices ![0, j, 0] S2x8192x512) (b : Fin 2) (s : Fin 8192) (n : Fin 512) :
    FloatOps.mulf (F := I) (φ := .f32)
        (broadcastInDim S2x8192x512 ![0, 1, 2] bcast_S1x1x512_S2x8192x512_0_1_2
          (broadcastInDim S1x1x512 ![2] bcast_S512_S1x1x512_2 (shapeCast S512 (extractStridedSlice S1x1x512 ![j, 0, 0] W h1) shapeCasts_S1x1x512_S512)) (ix3 b s n))
        (extractStridedSlice S2x8192x512 ![0, j, 0] (val_main_v9 (F := I) U) h2 (ix3 b s n))
      = W (ix3 ⟨j % 31, Nat.mod_lt _ (by decide)⟩ 0 n) * hist U b (2 + j + s.val) n := by
  have hj : j + 1 ≤ 31 := h1.2 0
  have hs := s.isLt
  rw [Ideal.mulf_def]
  congr 1
  · refine (broadcastInDim_apply _ _ _ (ix3 b s n) (ix3 0 0 n) (fun a => ?_)).trans ((broadcastInDim_apply _ _ _ (ix3 0 0 n) (ix1 n) (fun a => ?_)).trans
      ((shapeCast_apply _ _ (ix1 n) (ix3 0 0 n) ?_).trans (extractStridedSlice_apply _ W h1 (ix3 0 0 n) (ix3 ⟨j % 31, Nat.mod_lt _ (by decide)⟩ 0 n) (fun a => ?_))))
    · match a with
      | ⟨0, _⟩ => rfl
      | ⟨1, _⟩ => rfl
      | ⟨2, _⟩ => rfl
    · match a with
      | ⟨0, _⟩ => rfl
    · rw [Shape.rowMajor_val_three, Shape.rowMajor_val_one]
      show (0 * 1 + 0) * 512 + n.val = n.val
      omega
    · match a with
      | ⟨0, _⟩ => show j % 31 = j + 0; omega
      | ⟨1, _⟩ => rfl
      | ⟨2, _⟩ => show n.val = 0 + n.val; omega
  · refine (extractStridedSlice_apply _ _ h2 (ix3 b s n) (ix3 b (⟨j + s.val, by omega⟩ : Fin 8222) n) (fun a => ?_)).trans ((v9_at U b _ n).trans ?_)
    · match a with
      | ⟨0, _⟩ => show b.val = 0 + b.val; omega
      | ⟨1, _⟩ => rfl
      | ⟨2, _⟩ => show n.val = 0 + n.val; omega
    · rw [Nat.add_assoc]

theorem v230_at (b : Fin 2) (s : Fin 8192) (n : Fin 512) : val_main_v230 (F := I) U W B (ix3 b s n) = conv U W B b s.val n := by
  rw [val_main_v230_apply, val_main_v227_apply, val_main_v220_apply, val_main_v213_apply, val_main_v206_apply, val_main_v199_apply, val_main_v192_apply, val_main_v185_apply, val_main_v178_apply, val_main_v171_apply, val_main_v164_apply, val_main_v157_apply, val_main_v150_apply, val_main_v143_apply, val_main_v136_apply, val_main_v129_apply, val_main_v122_apply, val_main_v115_apply, val_main_v108_apply, val_main_v101_apply, val_main_v94_apply, val_main_v87_apply, val_main_v80_apply, val_main_v73_apply, val_main_v66_apply, val_main_v59_apply, val_main_v52_apply, val_main_v45_apply, val_main_v38_apply, val_main_v31_apply, val_main_v24_apply, val_main_v17_apply, val_main_v229_apply, val_main_v228_apply, val_main_v16_apply, val_main_cst_1_apply, Ideal.ofBits_def, ofBits_0]
  simp only [Ideal.addf_def]
  unfold conv
  simp only [Finset.sum_range_succ, Finset.sum_range_zero]
  refine congrArg₂ (· + ·) ?_ (congrArg B (ix1_eq _ _ rfl))
  repeat refine congrArg₂ (· + ·) ?_ (tap_at U W _ _ _ b s n)
  rfl

/-- The mean of a row of it. -/
theorem v234_at (b : Fin 2) (s : Fin 8192) : val_main_v234 (F := I) U W B (ix3 b s 0) = mean512 (fun k => conv U W B b s.val k) := by
  rw [val_main_v234_apply, val_main_v232_apply, val_main_v233_apply, val_main_v231_apply, val_main_cst_2_apply, val_main_cst_3_apply, Ideal.ofBits_def, Ideal.ofBits_def,
    ofBits_0, zero_add]
  refine congrArg (fun z => Ideal.div z (Ideal.ofBits .f32 0x44000000#32)) (Finset.sum_congr rfl fun k _ => ?_)
  exact (congrArg _ (ix3_eq _ b s k rfl rfl rfl)).trans (v230_at U W B b s k)

theorem v236_at (b : Fin 2) (s : Fin 8192) (n : Fin 512) :
    val_main_v236 (F := I) U W B (ix3 b s n) = conv U W B b s.val n - mean512 (fun k => conv U W B b s.val k) := by
  rw [val_main_v236_apply, val_main_v235_apply, ix3_eq (idx_main_v235 (ix3 b s n)) b s 0 rfl rfl rfl, v234_at, v230_at]
  rfl

theorem v243_at (b : Fin 2) (s : Fin 8192) (n : Fin 512) :
    val_main_v243 (F := I) U W B (ix3 b s n) = conv U W B b s.val n - mean512 (fun k => conv U W B b s.val k) := by
  rw [val_main_v243_apply, val_main_v242_apply, ix3_eq (idx_main_v242 (ix3 b s n)) b s 0 rfl rfl rfl, v234_at, v230_at]
  rfl

/-- The mean square of the centred row. -/
theorem v241_at (b : Fin 2) (s : Fin 8192) : val_main_v241 (F := I) U W B (ix3 b s 0)
    = mean512 (fun k => (conv U W B b s.val k - mean512 (fun l => conv U W B b s.val l)) * (conv U W B b s.val k - mean512 (fun l => conv U W B b s.val l))) := by
  rw [val_main_v241_apply, val_main_v239_apply, val_main_v240_apply, val_main_v238_apply, val_main_cst_4_apply, val_main_cst_5_apply, Ideal.ofBits_def, Ideal.ofBits_def,
    ofBits_0, zero_add]
  refine congrArg (fun z => Ideal.div z (Ideal.ofBits .f32 0x44000000#32)) (Finset.sum_congr rfl fun k _ => ?_)
  rw [val_main_v237_apply, ix3_eq (idx_main_v238 _ k) b s k rfl rfl rfl, v236_at]
  rfl

theorem v254_at (b : Fin 2) (s : Fin 8192) (n : Fin 512) : val_main_v254 (F := I) U W B G A (ix3 b s n)
    = scaled (fun k => conv U W B b s.val k - mean512 (fun l => conv U W B b s.val l)) (G (ix1 n)) (A (ix1 n)) n := by
  rw [val_main_v254_apply, val_main_v251_apply, val_main_v253_apply, val_main_v252_apply, val_main_v250_apply, val_main_v249_apply, val_main_v248_apply, v243_at,
    val_main_v247_apply, val_main_v246_apply, val_main_v245_apply, val_main_v244_apply, val_main_cst_6_apply, ix3_eq (idx_main_v247 (ix3 b s n)) b s 0 rfl rfl rfl, v241_at]
  unfold scaled
  rw [ix1_eq (idx_main_v249 _) n rfl, ix1_eq (idx_main_v252 _) n rfl]
  rfl

theorem v255_at (b : Fin 2) (s : Fin 8192) (n : Fin 512) : val_main_v255 (F := I) U W B G A (ix3 b s n) = branch U W B G A b s.val n := by
  rw [val_main_v255_apply, val_main_call1_v5_apply, val_main_call1_v4_apply, val_main_call1_v3_apply, val_main_call1_v2_apply, val_main_call1_v1_apply,
    val_main_call1_v0_apply, val_main_call1_cst_0_apply, val_main_call1_cst_apply, Ideal.ofBits_def, ofBits_1, v254_at]
  rfl

theorem result_eq : val_main_v257 (F := I) U W B G A = fun i : S16384x512.Idx =>
    branch U W B G A ⟨(i 0).val / 8192, by have h : (i 0).val < 16384 := (i 0).isLt; omega⟩ ((i 0).val % 8192) (i 1) := by
  funext i
  obtain ⟨r, n, rfl⟩ : ∃ (r : Fin 16384) (n : Fin 512), i = ix2 r n := ⟨i 0, i 1, funext fun a => match a with | ⟨0, _⟩ => rfl | ⟨1, _⟩ => rfl⟩
  rw [val_main_v257_apply, val_main_v256_apply, ix3_eq (idx_main_v256 (ix2 r n)) ⟨r.val / 8192, by omega⟩ ⟨r.val % 8192, by omega⟩ n
    (by show (r.val * 512 + n.val) / 4194304 = r.val / 8192; omega) (by show (r.val * 512 + n.val) / 512 % 8192 = r.val % 8192; omega)
    (by show (r.val * 512 + n.val) % 512 = n.val; omega), v255_at]
  rfl

end Cert.Reference4Ideal.Conv

end
-- ==== Proof.lean ====
/-
  The certificate's claims, put together: the frames of the programs, the one named constant, and the attention, the
  combined projection and the merge of the branches equal to their references.
-/
module

public import proofs.«01_k».proof.Defs
public import proofs.«01_k».proof.Proof.Gen.Kernel
public import proofs.«01_k».proof.Proof.Word.Run
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_finite
public import proofs.«01_k».proof.Proof.Fox.Run
public import proofs.«01_k».proof.Proof.Fox.Arr
public import proofs.«01_k».proof.Proof.Fox.Ref
public import proofs.«01_k».proof.Proof.Fox.Pre
public import proofs.«01_k».proof.Proof.Gen.Kernel2
public import proofs.«01_k».proof.Proof.Gen.Kernel2Ideal
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Frame
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Inproj.Arr
public import proofs.«01_k».proof.Proof.Inproj.Word
public import proofs.«01_k».proof.Proof.Inproj.Ref
public import proofs.«01_k».proof.Proof.Merge.Arr
public import proofs.«01_k».proof.Proof.Merge.Ref
public import proofs.«01_k».proof.Proof.Gen.Kernel4
public import proofs.«01_k».proof.Proof.Gen.Kernel4.Frame
public import proofs.«01_k».proof.Proof.Gen.Kernel4Ideal.Frame
public import proofs.«01_k».proof.Proof.Gen.Kernel4Ideal.Value
public import proofs.«01_k».proof.Proof.Gen.Kernel4Ideal
public import proofs.«01_k».proof.Proof.Gen.Reference4Ideal
public import proofs.«01_k».proof.Proof.Gen.Reference4Ideal.Run
public import proofs.«01_k».proof.Proof.Gen.Reference4Ideal.Read
public import proofs.«01_k».proof.Proof.Conv.Arr
public import proofs.«01_k».proof.Proof.Conv.Ref
public import Idealize.ShloMosaic.Lib.Quiescent
public import Idealize.ShloMosaic.Adequacy
public import Idealize.ShloMosaic.Init

@[expose] public section

noncomputable section

namespace Cert.Proof

open Idealize.ShloMosaic Idealize.SL.Sem

/-- The reference leaves its arguments as they were, and has no counter. -/
theorem frame_reference : Cert.quiescent_ReferenceIdeal := fun m ρ _ =>
  (θ_run Cert.ReferenceIdeal.defs _ _).mono (fun r h => ⟨fun c => (h c).2,
      Idealize.ShloMosaic.sem_eq_zero_of_no_sems (by decide) r.2⟩)
    (Cert.ReferenceIdeal.Value.run (F := Ideal) m ρ)

/-- The one named constant stands for minus infinity. -/
theorem preserves : Cert.preserves_Kernel_KernelIdeal :=
  IdealRules.named_const.statement Cert.KernelIdeal.κ "mask" .f32 0xF149F2CA#32 ⊥ rfl

/-- The kernel and the reference leave the same attention, given real queries, keys and gates. -/
theorem algebraic : Cert.algebraic_KernelIdeal_ReferenceIdeal_pre_finite := by
  intro m ρ m' ρ' hpre hm
  refine ⟨fun c => Cert.ReferenceIdeal.Read.val_main_v38 (F := Ideal)
    (Cert.KernelIdeal.Fox.aQ m c) (Cert.KernelIdeal.Fox.aK m c) (Cert.KernelIdeal.Fox.aV m c) (Cert.KernelIdeal.Fox.aC m c), ?_, ?_⟩
  · refine (θ_run Cert.KernelIdeal.defs _ _).mono (fun r h c => ?_)
      (θ_run_and (Cert.KernelIdeal.Fox.run_main m ρ) (Cert.KernelIdeal.Fox.frame m ρ))
    obtain ⟨hQ, hK, hC⟩ := Cert.Pre_finite.Fox.reals _ _ _ _ (hpre c)
    exact ⟨((h.1.1 c).1 5).trans (Cert.KernelIdeal.Fox.final m c hQ hK hC _
      fun b i h d => Cert.ReferenceIdeal.Fox.v38_at _ _ _ _ b h i d), h.2.1 c⟩
  · refine (θ_run Cert.ReferenceIdeal.defs _ _).mono (fun r h c => ⟨(h c).1.trans ?_, (h c).2⟩)
      (Cert.ReferenceIdeal.Value.run (F := Ideal) m' ρ')
    obtain ⟨h0, h1, h2, h3⟩ := hm c
    refine (Cert.ReferenceIdeal.Read.val_main_v38_eq m' c).trans ?_
    rw [h0, h1, h2, h3]

/-! ### The combined projection -/

/-- The projection's kernel and its reading over the extended reals are one text, run once. -/
theorem frame_kernel2 : Cert.quiescent_Kernel2 := Cert.Kernel2.Inproj.frame

theorem frame_kernel2Ideal : Cert.quiescent_Kernel2Ideal := fun m ρ _ => Cert.Kernel2Ideal.Inproj.frame m ρ

theorem frame_reference2 : Cert.quiescent_Reference2Ideal := fun m ρ _ =>
  (θ_run Cert.Reference2Ideal.defs _ _).mono (fun r h => ⟨fun c => (h c).2.2,
      Idealize.ShloMosaic.sem_eq_zero_of_no_sems (by decide) r.2⟩)
    (Cert.Reference2Ideal.Value.run (F := Ideal) m ρ)

/-- The kernel and the reference leave the same columns. -/
theorem algebraic2 : Cert.algebraic_Kernel2Ideal_Reference2Ideal := by
  intro m ρ m' ρ' _ hm
  refine ⟨fun c => Cert.Kernel2Ideal.Inproj.GZ m c, fun c => Cert.Kernel2Ideal.Inproj.GS m c, ?_, ?_⟩
  · refine (θ_run Cert.Kernel2Ideal.defs _ _).mono (fun r h c => ?_)
      (θ_run_and (Cert.Kernel2Ideal.Inproj.run_main m ρ) (Cert.Kernel2Ideal.Inproj.frame m ρ))
    exact ⟨((h.1.1 c).1 8).trans (Cert.Kernel2Ideal.Inproj.final_8 m c), ((h.1.1 c).1 9).trans (Cert.Kernel2Ideal.Inproj.final_9 m c), h.2.1 c⟩
  · refine (θ_run Cert.Reference2Ideal.defs _ _).mono (fun r h c => ⟨(h c).1.trans ?_, (h c).2.1.trans ?_, (h c).2.2⟩)
      (Cert.Reference2Ideal.Value.run (F := Ideal) m' ρ')
    · obtain ⟨h0, h1, h2, h3, h4, h5⟩ := hm c
      refine (Cert.Reference2Ideal.Read.val_main_v48_eq m' c).trans ?_
      rw [h0, h1, h2, h3, h4, h5]
      exact Cert.Reference2Ideal.Inproj.wide_eq _ _ _ _ _ _
    · obtain ⟨h0, h1, h2, h3, h4, h5⟩ := hm c
      refine (Cert.Reference2Ideal.Read.val_main_v50_eq _ _ _ _ _ _).trans ?_
      rw [h0, h1, h2, h3, h4, h5]
      exact Cert.Reference2Ideal.Inproj.narrow_eq _ _ _ _ _ _

/-! ### The merge of the branches -/

theorem frame_reference3 : Cert.quiescent_Reference3Ideal := fun m ρ _ =>
  (θ_run Cert.Reference3Ideal.defs _ _).mono (fun r h => ⟨fun c => (h c).2,
      Idealize.ShloMosaic.sem_eq_zero_of_no_sems (by decide) r.2⟩)
    (Cert.Reference3Ideal.Value.run (F := Ideal) m ρ)

/-- The kernel and the reference leave the same merge. -/
theorem algebraic3 : Cert.algebraic_Kernel3Ideal_Reference3Ideal := by
  intro m ρ m' ρ' _ hm
  refine ⟨fun c => Cert.Kernel3Ideal.Merge.G m c, ?_, ?_⟩
  · exact (θ_run Cert.Kernel3Ideal.defs _ _).mono (fun r h c => ⟨(h c).1.trans (Cert.Kernel3Ideal.Merge.final m c), (h c).2⟩)
      (Cert.Kernel3Ideal.Value.run_blocks m ρ)
  · refine (θ_run Cert.Reference3Ideal.defs _ _).mono (fun r h c => ⟨(h c).1.trans ?_, (h c).2⟩)
      (Cert.Reference3Ideal.Value.run (F := Ideal) m' ρ')
    obtain ⟨h0, h1, h2, h3, h4, h5, h6, h7, h8, h9⟩ := hm c
    refine (Cert.Reference3Ideal.Read.val_main_v21_eq _ _ _ _ _ _ _ _ _ _).trans ?_
    rw [h0, h1, h2, h3, h4, h5, h6, h7, h8, h9]
    exact Cert.Reference3Ideal.Merge.result_eq _ _ _ _ _ _ _ _ _ _

/-! ### The convolution branch -/

theorem frame_reference4 : Cert.quiescent_Reference4Ideal := fun m ρ _ =>
  (θ_run Cert.Reference4Ideal.defs _ _).mono (fun r h => ⟨fun c => (h c).2,
      Idealize.ShloMosaic.sem_eq_zero_of_no_sems (by decide) r.2⟩)
    (Cert.Reference4Ideal.Value.run (F := Ideal) m ρ)

/-- The kernel and the reference leave the same branch. -/
theorem algebraic4 : Cert.algebraic_Kernel4Ideal_Reference4Ideal := by
  intro m ρ m' ρ' _ hm
  refine ⟨fun c => Cert.Kernel4Ideal.Conv.G m c, ?_, ?_⟩
  · exact (θ_run Cert.Kernel4Ideal.defs _ _).mono (fun r h c => ⟨(h c).1.trans (Cert.Kernel4Ideal.Conv.final m c), (h c).2⟩)
      (Cert.Kernel4Ideal.Value.run_blocks m ρ)
  · refine (θ_run Cert.Reference4Ideal.defs _ _).mono (fun r h c => ⟨(h c).1.trans ?_, (h c).2⟩)
      (Cert.Reference4Ideal.Value.run (F := Ideal) m' ρ')
    obtain ⟨h0, h1, h2, h3, h4⟩ := hm c
    refine (Cert.Reference4Ideal.Read.val_main_v257_eq _).trans ?_
    show Cert.Reference4Ideal.Read.val_main_v257 (F := Ideal) (m' ((c.tc : Thread Cert.Reference4Ideal.nD Cert.Reference4Ideal.τ).loc Cert.Reference4Ideal.main_arg0)) (m' ((c.tc : Thread Cert.Reference4Ideal.nD Cert.Reference4Ideal.τ).loc Cert.Reference4Ideal.main_arg1))
      (m' ((c.tc : Thread Cert.Reference4Ideal.nD Cert.Reference4Ideal.τ).loc Cert.Reference4Ideal.main_arg2)) (m' ((c.tc : Thread Cert.Reference4Ideal.nD Cert.Reference4Ideal.τ).loc Cert.Reference4Ideal.main_arg3))
      (m' ((c.tc : Thread Cert.Reference4Ideal.nD Cert.Reference4Ideal.τ).loc Cert.Reference4Ideal.main_arg4)) = _
    rw [h0, h1, h2, h3, h4]
    exact Cert.Reference4Ideal.Conv.result_eq _ _ _ _ _

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts, Cert.Pre_finite.Gen.facts,
  fun m ρ _ => Cert.Kernel.Fox.frame m ρ, fun m ρ _ => Cert.KernelIdeal.Fox.frame m ρ, fun m ρ _ => Cert.KernelIdeal.Fox.frame m ρ,
  frame_reference, fun m ρ _ => frame_reference m ρ trivial,
  frame_kernel2, frame_kernel2Ideal, frame_reference2,
  fun m ρ _ => Cert.Kernel3.Gen.frame m ρ, fun m ρ _ => Cert.Kernel3Ideal.Gen.frame m ρ, frame_reference3,
  fun m ρ _ => Cert.Kernel4.Gen.frame m ρ, fun m ρ _ => Cert.Kernel4Ideal.Gen.frame m ρ, frame_reference4,
  preserves, algebraic, trivial, algebraic2, trivial, algebraic3, trivial, algebraic4⟩

end Cert.Proof

end
